-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S20000x5 : Shape := ⟨2, ![20000, 5]⟩
abbrev S_ : Shape := ⟨0, ![]⟩
abbrev S1x5 : Shape := ⟨2, ![1, 5]⟩
abbrev S20000x1 : Shape := ⟨2, ![20000, 1]⟩
abbrev S20000 : Shape := ⟨1, ![20000]⟩
abbrev S224 : Shape := ⟨1, ![224]⟩
abbrev S20224 : Shape := ⟨1, ![20224]⟩
abbrev S20000x128 : Shape := ⟨2, ![20000, 128]⟩
abbrev S20224x128 : Shape := ⟨2, ![20224, 128]⟩
abbrev S632 : Shape := ⟨1, ![632]⟩
abbrev S632x128 : Shape := ⟨2, ![632, 128]⟩
abbrev S480x5 : Shape := ⟨2, ![480, 5]⟩
abbrev S20480x5 : Shape := ⟨2, ![20480, 5]⟩
abbrev S1 : Shape := ⟨1, ![1]⟩
abbrev S2 : Shape := ⟨1, ![2]⟩
abbrev S20x1x1024x5 : Shape := ⟨4, ![20, 1, 1024, 5]⟩
abbrev S5x20x1x1024 : Shape := ⟨4, ![5, 20, 1, 1024]⟩
abbrev S20480x4 : Shape := ⟨2, ![20480, 4]⟩
abbrev S20x1024x4 : Shape := ⟨3, ![20, 1024, 4]⟩
abbrev S4x1024x20 : Shape := ⟨3, ![4, 1024, 20]⟩
abbrev S4x1024x128 : Shape := ⟨3, ![4, 1024, 128]⟩
abbrev S5x1024x128 : Shape := ⟨3, ![5, 1024, 128]⟩
abbrev S20x1x1024 : Shape := ⟨3, ![20, 1, 1024]⟩
abbrev S5x80x1x256 : Shape := ⟨4, ![5, 80, 1, 256]⟩
abbrev S1x20x1x1024 : Shape := ⟨4, ![1, 20, 1, 1024]⟩
abbrev S1x1024x128 : Shape := ⟨3, ![1, 1024, 128]⟩
abbrev S1024x128 : Shape := ⟨2, ![1024, 128]⟩
abbrev S1x1x1x1 : Shape := ⟨4, ![1, 1, 1, 1]⟩
abbrev S1024x1024 : Shape := ⟨2, ![1024, 1024]⟩
abbrev S1024x256 : Shape := ⟨2, ![1024, 256]⟩
abbrev S1x128 : Shape := ⟨2, ![1, 128]⟩
abbrev S1024 : Shape := ⟨1, ![1024]⟩
abbrev S1024x1 : Shape := ⟨2, ![1024, 1]⟩
abbrev S1x1x1x256 : Shape := ⟨4, ![1, 1, 1, 256]⟩
abbrev S1x1x256 : Shape := ⟨3, ![1, 1, 256]⟩
abbrev S1x256 : Shape := ⟨2, ![1, 256]⟩
abbrev S1x1024 : Shape := ⟨2, ![1, 1024]⟩
abbrev S1x1x1x1024 : Shape := ⟨4, ![1, 1, 1, 1024]⟩
abbrev S1x1x1024 : Shape := ⟨3, ![1, 1, 1024]⟩
abbrev S1x1x1 : Shape := ⟨3, ![1, 1, 1]⟩
abbrev S256 : Shape := ⟨1, ![256]⟩
abbrev S5x20480 : Shape := ⟨2, ![5, 20480]⟩

abbrev nBuf : Table → Nat
  | .hbm => 35
  | .local .tc .vmem => 7
  | .local .tc .smem => 2
  | .local .scVector .vmem => 2
  | _ => 0

abbrev bufTy : (tb : Table) → Fin (nBuf tb) → BufTy
  | .hbm, ⟨0, _⟩ => ⟨S20000x5, .f32⟩
  | .hbm, ⟨1, _⟩ => ⟨S_, .f32⟩
  | .hbm, ⟨2, _⟩ => ⟨S_, .f32⟩
  | .hbm, ⟨3, _⟩ => ⟨S1x5, .f32⟩
  | .hbm, ⟨4, _⟩ => ⟨S20000x1, .f32⟩
  | .hbm, ⟨5, _⟩ => ⟨S20000, .f32⟩
  | .hbm, ⟨6, _⟩ => ⟨S20000, .f32⟩
  | .hbm, ⟨7, _⟩ => ⟨S20000, .i32⟩
  | .hbm, ⟨8, _⟩ => ⟨S20000, .f32⟩
  | .hbm, ⟨9, _⟩ => ⟨S20000, .i32⟩
  | .hbm, ⟨10, _⟩ => ⟨S_, .i32⟩
  | .hbm, ⟨11, _⟩ => ⟨S224, .i32⟩
  | .hbm, ⟨12, _⟩ => ⟨S20224, .i32⟩
  | .hbm, ⟨13, _⟩ => ⟨S_, .i32⟩
  | .hbm, ⟨14, _⟩ => ⟨S_, .f32⟩
  | .hbm, ⟨15, _⟩ => ⟨S20000x128, .f32⟩
  | .hbm, ⟨16, _⟩ => ⟨S20224x128, .f32⟩
  | .hbm, ⟨17, _⟩ => ⟨S20000x5, .f32⟩
  | .hbm, ⟨18, _⟩ => ⟨S480x5, .f32⟩
  | .hbm, ⟨19, _⟩ => ⟨S20480x5, .f32⟩
  | .hbm, ⟨20, _⟩ => ⟨S1, .f32⟩
  | .hbm, ⟨21, _⟩ => ⟨S1, .f32⟩
  | .hbm, ⟨22, _⟩ => ⟨S2, .f32⟩
  | .hbm, ⟨23, _⟩ => ⟨S20x1x1024x5, .f32⟩
  | .hbm, ⟨24, _⟩ => ⟨S5x20x1x1024, .f32⟩
  | .hbm, ⟨25, _⟩ => ⟨S20480x4, .f32⟩
  | .hbm, ⟨26, _⟩ => ⟨S20x1024x4, .f32⟩
  | .hbm, ⟨27, _⟩ => ⟨S4x1024x20, .f32⟩
  | .hbm, ⟨28, _⟩ => ⟨S_, .i32⟩
  | .hbm, ⟨29, _⟩ => ⟨S_, .f32⟩
  | .hbm, ⟨30, _⟩ => ⟨S4x1024x128, .f32⟩
  | .hbm, ⟨31, _⟩ => ⟨S5x20x1x1024, .f32⟩
  | .hbm, ⟨32, _⟩ => ⟨S5x20480, .f32⟩
  | .hbm, ⟨33, _⟩ => ⟨S20480x5, .f32⟩
  | .hbm, ⟨34, _⟩ => ⟨S20000x5, .f32⟩
  | .local .tc .vmem, ⟨0, _⟩ => ⟨S5x20x1x1024, .f32⟩
  | .local .tc .vmem, ⟨1, _⟩ => ⟨S4x1024x128, .f32⟩
  | .local .tc .vmem, ⟨2, _⟩ => ⟨S5x20x1x1024, .f32⟩
  | .local .tc .vmem, ⟨3, _⟩ => ⟨S5x20x1x1024, .f32⟩
  | .local .tc .vmem, ⟨4, _⟩ => ⟨S5x1024x128, .f32⟩
  | .local .tc .vmem, ⟨5, _⟩ => ⟨S20x1x1024, .f32⟩
  | .local .tc .vmem, ⟨6, _⟩ => ⟨S5x80x1x256, .f32⟩
  | .local .tc .smem, ⟨0, _⟩ => ⟨S2, .f32⟩
  | .local .tc .smem, ⟨1, _⟩ => ⟨S1, .i32⟩
  | .local .scVector .vmem, ⟨0, _⟩ => ⟨S632, .i32⟩
  | .local .scVector .vmem, ⟨1, _⟩ => ⟨S632x128, .f32⟩
  | _, _ => ⟨S20000x5, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => true
  | ⟨4, _⟩ => true
  | ⟨5, _⟩ => true
  | ⟨6, _⟩ => true
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1_0 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_call1_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_1 : Ref sig .tc := ⟨.hbm, 28, rfl⟩
abbrev main_call2_v0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v6_scv : Ref sig .scVector := ⟨.hbm, 15, rfl⟩
abbrev main_v5_scv : Ref sig .scVector := ⟨.hbm, 12, rfl⟩
abbrev main_v7_scv : Ref sig .scVector := ⟨.hbm, 16, rfl⟩
abbrev cc1_stg1_0 : Ref sig .tc := ⟨.vmem, 0, rfl⟩
abbrev cc1_stg2_0 : Ref sig .tc := ⟨.vmem, 1, rfl⟩
abbrev cc1_stg3_0 : Ref sig .tc := ⟨.vmem, 2, rfl⟩
abbrev cc1_scratch0 : Ref sig .tc := ⟨.vmem, 3, rfl⟩
abbrev cc1_scratch1 : Ref sig .tc := ⟨.vmem, 4, rfl⟩
abbrev cc1_scratch2 : Ref sig .tc := ⟨.vmem, 5, rfl⟩
abbrev cc1_scratch3 : Ref sig .tc := ⟨.vmem, 6, rfl⟩
abbrev cc1_stg0_0 : Ref sig .tc := ⟨.smem, 0, rfl⟩
abbrev cc1_scratch4 : Ref sig .tc := ⟨.smem, 1, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem1_0 : DmaSem sig := 4
abbrev cc1_sem2_0 : DmaSem sig := 5
abbrev cc1_sem3_0 : DmaSem sig := 6
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c632_i32 : BitVec 32 := 632#32
  let v2 : BitVec 32 := Scalar.muli v1 c632_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c632_i32 : BitVec 32 := 632#32
  let v2 : BitVec 32 := Scalar.muli v1 c632_i32
  let c0_i32_3_r1 : BitVec 32 := 0#32
  ![v2.toNat, 0]
abbrev grid1 : Pipeline.Grid := .none

@[reducible] def k1_t1_loop (v126 : BitVec 32) : Scf.Loop 32 :=
  let c0_i32_94 : BitVec 32 := 0#32
  let v142 : BitVec 32 := Scalar.subi v126 c0_i32_94
  let c1_i32_96 : BitVec 32 := 1#32
  let v144 : BitVec 32 := Scalar.divsi v142 c1_i32_96
  let v145 : BitVec 32 := Scalar.muli v144 c1_i32_96
  let v146 : BitVec 32 := Scalar.addi c0_i32_94 v145
  let c1_i32_97 : BitVec 32 := 1#32
  ⟨c0_i32_94, v146, c1_i32_97⟩

@[reducible] def k1_t2_loop (v214 : BitVec 32) : Scf.Loop 32 :=
  let c0_i32_169 : BitVec 32 := 0#32
  let c256_i32 : BitVec 32 := 256#32
  let v215 : BitVec 32 := Scalar.addi v214 c256_i32
  let c1_i32_160 : BitVec 32 := 1#32
  let v216 : BitVec 32 := Scalar.subi v215 c1_i32_160
  let c0_i32_162 : BitVec 32 := 0#32
  let v218 : BitVec 1 := Scalar.cmpi .sgt v216 c0_i32_162
  let v219 : BitVec 32 := Scalar.extui v218
  let c0_i32_163 : BitVec 32 := 0#32
  let v220 : BitVec 1 := Scalar.cmpi .slt v216 c0_i32_163
  let v221 : BitVec 32 := Scalar.extui v220
  let v222 : BitVec 32 := Scalar.subi v219 v221
  let c256_i32_161 : BitVec 32 := 256#32
  let c0_i32_164 : BitVec 32 := 0#32
  let v223 : BitVec 1 := Scalar.cmpi .sgt c256_i32_161 c0_i32_164
  let v224 : BitVec 32 := Scalar.extui v223
  let c0_i32_165 : BitVec 32 := 0#32
  let v225 : BitVec 1 := Scalar.cmpi .slt c256_i32_161 c0_i32_165
  let v226 : BitVec 32 := Scalar.extui v225
  let v227 : BitVec 32 := Scalar.subi v224 v226
  let v228 : BitVec 1 := Scalar.cmpi .ne v222 v227
  let v229 : BitVec 32 := Scalar.remsi v216 c256_i32_161
  let c0_i32_166 : BitVec 32 := 0#32
  let v230 : BitVec 1 := Scalar.cmpi .ne v229 c0_i32_166
  let v231 : BitVec 1 := Scalar.andi v228 v230
  let v217 : BitVec 32 := Scalar.divsi v216 c256_i32_161
  let c1_i32_167 : BitVec 32 := 1#32
  let v232 : BitVec 32 := Scalar.subi v217 c1_i32_167
  let v233 : BitVec 32 := Scalar.select v231 v232 v217
  let v235 : BitVec 32 := Scalar.subi v233 c0_i32_169
  let c1_i32_170 : BitVec 32 := 1#32
  let v237 : BitVec 32 := Scalar.divsi v235 c1_i32_170
  let v238 : BitVec 32 := Scalar.muli v237 c1_i32_170
  let v239 : BitVec 32 := Scalar.addi c0_i32_169 v238
  let c1_i32_171 : BitVec 32 := 1#32
  ⟨c0_i32_169, v239, c1_i32_171⟩

def k1_off1 (v214 : BitVec 32) (k1_t2 : Fin (k1_t2_loop v214).trips) : Fin 4 → Nat :=
  let c0_226 : Index := 0#32
  let c0_i32_169 : BitVec 32 := 0#32
  let c1_i32_171 : BitVec 32 := 1#32
  let arg11 : BitVec 32 := Scf.iv c0_i32_169 c1_i32_171 k1_t2
  let v371 : Index := Scalar.indexCast arg11
  let c0_227 : Index := 0#32
  let c0_228 : Index := 0#32
  ![0, v371.toNat, 0, 0]
def k1_off2 (v214 : BitVec 32) (k1_t2 : Fin (k1_t2_loop v214).trips) : Fin 4 → Nat :=
  let c1_229 : Index := 1#32
  let c0_i32_169 : BitVec 32 := 0#32
  let c1_i32_171 : BitVec 32 := 1#32
  let arg11 : BitVec 32 := Scf.iv c0_i32_169 c1_i32_171 k1_t2
  let v375 : Index := Scalar.indexCast arg11
  let c0_230 : Index := 0#32
  let c0_231 : Index := 0#32
  ![1, v375.toNat, 0, 0]
def k1_off3 (v214 : BitVec 32) (k1_t2 : Fin (k1_t2_loop v214).trips) : Fin 4 → Nat :=
  let c2_232 : Index := 2#32
  let c0_i32_169 : BitVec 32 := 0#32
  let c1_i32_171 : BitVec 32 := 1#32
  let arg11 : BitVec 32 := Scf.iv c0_i32_169 c1_i32_171 k1_t2
  let v379 : Index := Scalar.indexCast arg11
  let c0_233 : Index := 0#32
  let c0_234 : Index := 0#32
  ![2, v379.toNat, 0, 0]
def k1_off4 (v214 : BitVec 32) (k1_t2 : Fin (k1_t2_loop v214).trips) : Fin 4 → Nat :=
  let c3_235 : Index := 3#32
  let c0_i32_169 : BitVec 32 := 0#32
  let c1_i32_171 : BitVec 32 := 1#32
  let arg11 : BitVec 32 := Scf.iv c0_i32_169 c1_i32_171 k1_t2
  let v383 : Index := Scalar.indexCast arg11
  let c0_236 : Index := 0#32
  let c0_237 : Index := 0#32
  ![3, v383.toNat, 0, 0]
def k1_off5 (v214 : BitVec 32) (k1_t2 : Fin (k1_t2_loop v214).trips) : Fin 4 → Nat :=
  let c4_238 : Index := 4#32
  let c0_i32_169 : BitVec 32 := 0#32
  let c1_i32_171 : BitVec 32 := 1#32
  let arg11 : BitVec 32 := Scf.iv c0_i32_169 c1_i32_171 k1_t2
  let v387 : Index := Scalar.indexCast arg11
  let c0_239 : Index := 0#32
  let c0_240 : Index := 0#32
  ![4, v387.toNat, 0, 0]
@[reducible] def k1_t3_loop (v214 : BitVec 32) : Scf.Loop 32 :=
  let c0_i32_169 : BitVec 32 := 0#32
  let c256_i32 : BitVec 32 := 256#32
  let v215 : BitVec 32 := Scalar.addi v214 c256_i32
  let c1_i32_160 : BitVec 32 := 1#32
  let v216 : BitVec 32 := Scalar.subi v215 c1_i32_160
  let c0_i32_162 : BitVec 32 := 0#32
  let v218 : BitVec 1 := Scalar.cmpi .sgt v216 c0_i32_162
  let v219 : BitVec 32 := Scalar.extui v218
  let c0_i32_163 : BitVec 32 := 0#32
  let v220 : BitVec 1 := Scalar.cmpi .slt v216 c0_i32_163
  let v221 : BitVec 32 := Scalar.extui v220
  let v222 : BitVec 32 := Scalar.subi v219 v221
  let c256_i32_161 : BitVec 32 := 256#32
  let c0_i32_164 : BitVec 32 := 0#32
  let v223 : BitVec 1 := Scalar.cmpi .sgt c256_i32_161 c0_i32_164
  let v224 : BitVec 32 := Scalar.extui v223
  let c0_i32_165 : BitVec 32 := 0#32
  let v225 : BitVec 1 := Scalar.cmpi .slt c256_i32_161 c0_i32_165
  let v226 : BitVec 32 := Scalar.extui v225
  let v227 : BitVec 32 := Scalar.subi v224 v226
  let v228 : BitVec 1 := Scalar.cmpi .ne v222 v227
  let v229 : BitVec 32 := Scalar.remsi v216 c256_i32_161
  let c0_i32_166 : BitVec 32 := 0#32
  let v230 : BitVec 1 := Scalar.cmpi .ne v229 c0_i32_166
  let v231 : BitVec 1 := Scalar.andi v228 v230
  let v217 : BitVec 32 := Scalar.divsi v216 c256_i32_161
  let c1_i32_167 : BitVec 32 := 1#32
  let v232 : BitVec 32 := Scalar.subi v217 c1_i32_167
  let v233 : BitVec 32 := Scalar.select v231 v232 v217
  let v235 : BitVec 32 := Scalar.subi v233 c0_i32_169
  let c1_i32_170 : BitVec 32 := 1#32
  let v237 : BitVec 32 := Scalar.divsi v235 c1_i32_170
  let v238 : BitVec 32 := Scalar.muli v237 c1_i32_170
  let v239 : BitVec 32 := Scalar.addi c0_i32_169 v238
  let v236 : BitVec 32 := Scalar.addi c0_i32_169 v235
  let c1_i32_172 : BitVec 32 := 1#32
  ⟨v239, v236, c1_i32_172⟩
def k1_off6 (v214 : BitVec 32) (k1_t3 : Fin (k1_t3_loop v214).trips) : Fin 4 → Nat :=
  let c0_226 : Index := 0#32
  let c0_i32_169 : BitVec 32 := 0#32
  let c256_i32 : BitVec 32 := 256#32
  let v215 : BitVec 32 := Scalar.addi v214 c256_i32
  let c1_i32_160 : BitVec 32 := 1#32
  let v216 : BitVec 32 := Scalar.subi v215 c1_i32_160
  let c0_i32_162 : BitVec 32 := 0#32
  let v218 : BitVec 1 := Scalar.cmpi .sgt v216 c0_i32_162
  let v219 : BitVec 32 := Scalar.extui v218
  let c0_i32_163 : BitVec 32 := 0#32
  let v220 : BitVec 1 := Scalar.cmpi .slt v216 c0_i32_163
  let v221 : BitVec 32 := Scalar.extui v220
  let v222 : BitVec 32 := Scalar.subi v219 v221
  let c256_i32_161 : BitVec 32 := 256#32
  let c0_i32_164 : BitVec 32 := 0#32
  let v223 : BitVec 1 := Scalar.cmpi .sgt c256_i32_161 c0_i32_164
  let v224 : BitVec 32 := Scalar.extui v223
  let c0_i32_165 : BitVec 32 := 0#32
  let v225 : BitVec 1 := Scalar.cmpi .slt c256_i32_161 c0_i32_165
  let v226 : BitVec 32 := Scalar.extui v225
  let v227 : BitVec 32 := Scalar.subi v224 v226
  let v228 : BitVec 1 := Scalar.cmpi .ne v222 v227
  let v229 : BitVec 32 := Scalar.remsi v216 c256_i32_161
  let c0_i32_166 : BitVec 32 := 0#32
  let v230 : BitVec 1 := Scalar.cmpi .ne v229 c0_i32_166
  let v231 : BitVec 1 := Scalar.andi v228 v230
  let v217 : BitVec 32 := Scalar.divsi v216 c256_i32_161
  let c1_i32_167 : BitVec 32 := 1#32
  let v232 : BitVec 32 := Scalar.subi v217 c1_i32_167
  let v233 : BitVec 32 := Scalar.select v231 v232 v217
  let v235 : BitVec 32 := Scalar.subi v233 c0_i32_169
  let c1_i32_170 : BitVec 32 := 1#32
  let v237 : BitVec 32 := Scalar.divsi v235 c1_i32_170
  let v238 : BitVec 32 := Scalar.muli v237 c1_i32_170
  let v239 : BitVec 32 := Scalar.addi c0_i32_169 v238
  let c1_i32_172 : BitVec 32 := 1#32
  let arg11 : BitVec 32 := Scf.iv v239 c1_i32_172 k1_t3
  let v371 : Index := Scalar.indexCast arg11
  let c0_227 : Index := 0#32
  let c0_228 : Index := 0#32
  ![0, v371.toNat, 0, 0]
def k1_off7 (v214 : BitVec 32) (k1_t3 : Fin (k1_t3_loop v214).trips) : Fin 4 → Nat :=
  let c1_229 : Index := 1#32
  let c0_i32_169 : BitVec 32 := 0#32
  let c256_i32 : BitVec 32 := 256#32
  let v215 : BitVec 32 := Scalar.addi v214 c256_i32
  let c1_i32_160 : BitVec 32 := 1#32
  let v216 : BitVec 32 := Scalar.subi v215 c1_i32_160
  let c0_i32_162 : BitVec 32 := 0#32
  let v218 : BitVec 1 := Scalar.cmpi .sgt v216 c0_i32_162
  let v219 : BitVec 32 := Scalar.extui v218
  let c0_i32_163 : BitVec 32 := 0#32
  let v220 : BitVec 1 := Scalar.cmpi .slt v216 c0_i32_163
  let v221 : BitVec 32 := Scalar.extui v220
  let v222 : BitVec 32 := Scalar.subi v219 v221
  let c256_i32_161 : BitVec 32 := 256#32
  let c0_i32_164 : BitVec 32 := 0#32
  let v223 : BitVec 1 := Scalar.cmpi .sgt c256_i32_161 c0_i32_164
  let v224 : BitVec 32 := Scalar.extui v223
  let c0_i32_165 : BitVec 32 := 0#32
  let v225 : BitVec 1 := Scalar.cmpi .slt c256_i32_161 c0_i32_165
  let v226 : BitVec 32 := Scalar.extui v225
  let v227 : BitVec 32 := Scalar.subi v224 v226
  let v228 : BitVec 1 := Scalar.cmpi .ne v222 v227
  let v229 : BitVec 32 := Scalar.remsi v216 c256_i32_161
  let c0_i32_166 : BitVec 32 := 0#32
  let v230 : BitVec 1 := Scalar.cmpi .ne v229 c0_i32_166
  let v231 : BitVec 1 := Scalar.andi v228 v230
  let v217 : BitVec 32 := Scalar.divsi v216 c256_i32_161
  let c1_i32_167 : BitVec 32 := 1#32
  let v232 : BitVec 32 := Scalar.subi v217 c1_i32_167
  let v233 : BitVec 32 := Scalar.select v231 v232 v217
  let v235 : BitVec 32 := Scalar.subi v233 c0_i32_169
  let c1_i32_170 : BitVec 32 := 1#32
  let v237 : BitVec 32 := Scalar.divsi v235 c1_i32_170
  let v238 : BitVec 32 := Scalar.muli v237 c1_i32_170
  let v239 : BitVec 32 := Scalar.addi c0_i32_169 v238
  let c1_i32_172 : BitVec 32 := 1#32
  let arg11 : BitVec 32 := Scf.iv v239 c1_i32_172 k1_t3
  let v375 : Index := Scalar.indexCast arg11
  let c0_230 : Index := 0#32
  let c0_231 : Index := 0#32
  ![1, v375.toNat, 0, 0]
def k1_off8 (v214 : BitVec 32) (k1_t3 : Fin (k1_t3_loop v214).trips) : Fin 4 → Nat :=
  let c2_232 : Index := 2#32
  let c0_i32_169 : BitVec 32 := 0#32
  let c256_i32 : BitVec 32 := 256#32
  let v215 : BitVec 32 := Scalar.addi v214 c256_i32
  let c1_i32_160 : BitVec 32 := 1#32
  let v216 : BitVec 32 := Scalar.subi v215 c1_i32_160
  let c0_i32_162 : BitVec 32 := 0#32
  let v218 : BitVec 1 := Scalar.cmpi .sgt v216 c0_i32_162
  let v219 : BitVec 32 := Scalar.extui v218
  let c0_i32_163 : BitVec 32 := 0#32
  let v220 : BitVec 1 := Scalar.cmpi .slt v216 c0_i32_163
  let v221 : BitVec 32 := Scalar.extui v220
  let v222 : BitVec 32 := Scalar.subi v219 v221
  let c256_i32_161 : BitVec 32 := 256#32
  let c0_i32_164 : BitVec 32 := 0#32
  let v223 : BitVec 1 := Scalar.cmpi .sgt c256_i32_161 c0_i32_164
  let v224 : BitVec 32 := Scalar.extui v223
  let c0_i32_165 : BitVec 32 := 0#32
  let v225 : BitVec 1 := Scalar.cmpi .slt c256_i32_161 c0_i32_165
  let v226 : BitVec 32 := Scalar.extui v225
  let v227 : BitVec 32 := Scalar.subi v224 v226
  let v228 : BitVec 1 := Scalar.cmpi .ne v222 v227
  let v229 : BitVec 32 := Scalar.remsi v216 c256_i32_161
  let c0_i32_166 : BitVec 32 := 0#32
  let v230 : BitVec 1 := Scalar.cmpi .ne v229 c0_i32_166
  let v231 : BitVec 1 := Scalar.andi v228 v230
  let v217 : BitVec 32 := Scalar.divsi v216 c256_i32_161
  let c1_i32_167 : BitVec 32 := 1#32
  let v232 : BitVec 32 := Scalar.subi v217 c1_i32_167
  let v233 : BitVec 32 := Scalar.select v231 v232 v217
  let v235 : BitVec 32 := Scalar.subi v233 c0_i32_169
  let c1_i32_170 : BitVec 32 := 1#32
  let v237 : BitVec 32 := Scalar.divsi v235 c1_i32_170
  let v238 : BitVec 32 := Scalar.muli v237 c1_i32_170
  let v239 : BitVec 32 := Scalar.addi c0_i32_169 v238
  let c1_i32_172 : BitVec 32 := 1#32
  let arg11 : BitVec 32 := Scf.iv v239 c1_i32_172 k1_t3
  let v379 : Index := Scalar.indexCast arg11
  let c0_233 : Index := 0#32
  let c0_234 : Index := 0#32
  ![2, v379.toNat, 0, 0]
def k1_off9 (v214 : BitVec 32) (k1_t3 : Fin (k1_t3_loop v214).trips) : Fin 4 → Nat :=
  let c3_235 : Index := 3#32
  let c0_i32_169 : BitVec 32 := 0#32
  let c256_i32 : BitVec 32 := 256#32
  let v215 : BitVec 32 := Scalar.addi v214 c256_i32
  let c1_i32_160 : BitVec 32 := 1#32
  let v216 : BitVec 32 := Scalar.subi v215 c1_i32_160
  let c0_i32_162 : BitVec 32 := 0#32
  let v218 : BitVec 1 := Scalar.cmpi .sgt v216 c0_i32_162
  let v219 : BitVec 32 := Scalar.extui v218
  let c0_i32_163 : BitVec 32 := 0#32
  let v220 : BitVec 1 := Scalar.cmpi .slt v216 c0_i32_163
  let v221 : BitVec 32 := Scalar.extui v220
  let v222 : BitVec 32 := Scalar.subi v219 v221
  let c256_i32_161 : BitVec 32 := 256#32
  let c0_i32_164 : BitVec 32 := 0#32
  let v223 : BitVec 1 := Scalar.cmpi .sgt c256_i32_161 c0_i32_164
  let v224 : BitVec 32 := Scalar.extui v223
  let c0_i32_165 : BitVec 32 := 0#32
  let v225 : BitVec 1 := Scalar.cmpi .slt c256_i32_161 c0_i32_165
  let v226 : BitVec 32 := Scalar.extui v225
  let v227 : BitVec 32 := Scalar.subi v224 v226
  let v228 : BitVec 1 := Scalar.cmpi .ne v222 v227
  let v229 : BitVec 32 := Scalar.remsi v216 c256_i32_161
  let c0_i32_166 : BitVec 32 := 0#32
  let v230 : BitVec 1 := Scalar.cmpi .ne v229 c0_i32_166
  let v231 : BitVec 1 := Scalar.andi v228 v230
  let v217 : BitVec 32 := Scalar.divsi v216 c256_i32_161
  let c1_i32_167 : BitVec 32 := 1#32
  let v232 : BitVec 32 := Scalar.subi v217 c1_i32_167
  let v233 : BitVec 32 := Scalar.select v231 v232 v217
  let v235 : BitVec 32 := Scalar.subi v233 c0_i32_169
  let c1_i32_170 : BitVec 32 := 1#32
  let v237 : BitVec 32 := Scalar.divsi v235 c1_i32_170
  let v238 : BitVec 32 := Scalar.muli v237 c1_i32_170
  let v239 : BitVec 32 := Scalar.addi c0_i32_169 v238
  let c1_i32_172 : BitVec 32 := 1#32
  let arg11 : BitVec 32 := Scf.iv v239 c1_i32_172 k1_t3
  let v383 : Index := Scalar.indexCast arg11
  let c0_236 : Index := 0#32
  let c0_237 : Index := 0#32
  ![3, v383.toNat, 0, 0]
def k1_off10 (v214 : BitVec 32) (k1_t3 : Fin (k1_t3_loop v214).trips) : Fin 4 → Nat :=
  let c4_238 : Index := 4#32
  let c0_i32_169 : BitVec 32 := 0#32
  let c256_i32 : BitVec 32 := 256#32
  let v215 : BitVec 32 := Scalar.addi v214 c256_i32
  let c1_i32_160 : BitVec 32 := 1#32
  let v216 : BitVec 32 := Scalar.subi v215 c1_i32_160
  let c0_i32_162 : BitVec 32 := 0#32
  let v218 : BitVec 1 := Scalar.cmpi .sgt v216 c0_i32_162
  let v219 : BitVec 32 := Scalar.extui v218
  let c0_i32_163 : BitVec 32 := 0#32
  let v220 : BitVec 1 := Scalar.cmpi .slt v216 c0_i32_163
  let v221 : BitVec 32 := Scalar.extui v220
  let v222 : BitVec 32 := Scalar.subi v219 v221
  let c256_i32_161 : BitVec 32 := 256#32
  let c0_i32_164 : BitVec 32 := 0#32
  let v223 : BitVec 1 := Scalar.cmpi .sgt c256_i32_161 c0_i32_164
  let v224 : BitVec 32 := Scalar.extui v223
  let c0_i32_165 : BitVec 32 := 0#32
  let v225 : BitVec 1 := Scalar.cmpi .slt c256_i32_161 c0_i32_165
  let v226 : BitVec 32 := Scalar.extui v225
  let v227 : BitVec 32 := Scalar.subi v224 v226
  let v228 : BitVec 1 := Scalar.cmpi .ne v222 v227
  let v229 : BitVec 32 := Scalar.remsi v216 c256_i32_161
  let c0_i32_166 : BitVec 32 := 0#32
  let v230 : BitVec 1 := Scalar.cmpi .ne v229 c0_i32_166
  let v231 : BitVec 1 := Scalar.andi v228 v230
  let v217 : BitVec 32 := Scalar.divsi v216 c256_i32_161
  let c1_i32_167 : BitVec 32 := 1#32
  let v232 : BitVec 32 := Scalar.subi v217 c1_i32_167
  let v233 : BitVec 32 := Scalar.select v231 v232 v217
  let v235 : BitVec 32 := Scalar.subi v233 c0_i32_169
  let c1_i32_170 : BitVec 32 := 1#32
  let v237 : BitVec 32 := Scalar.divsi v235 c1_i32_170
  let v238 : BitVec 32 := Scalar.muli v237 c1_i32_170
  let v239 : BitVec 32 := Scalar.addi c0_i32_169 v238
  let c1_i32_172 : BitVec 32 := 1#32
  let arg11 : BitVec 32 := Scf.iv v239 c1_i32_172 k1_t3
  let v387 : Index := Scalar.indexCast arg11
  let c0_239 : Index := 0#32
  let c0_240 : Index := 0#32
  ![4, v387.toNat, 0, 0]

def k1_chk2 (v214 : BitVec 32) : Prop :=
  ((k1_t2_loop v214).OK) ∧
  (∀ k1_t2 : Fin (k1_t2_loop v214).trips, ∀ a, (k1_off1 v214 k1_t2) a + S1x1x1x256.size a ≤ S5x80x1x256.size a) ∧
  (∀ k1_t2 : Fin (k1_t2_loop v214).trips, ∀ a, (k1_off2 v214 k1_t2) a + S1x1x1x256.size a ≤ S5x80x1x256.size a) ∧
  (∀ k1_t2 : Fin (k1_t2_loop v214).trips, ∀ a, (k1_off3 v214 k1_t2) a + S1x1x1x256.size a ≤ S5x80x1x256.size a) ∧
  (∀ k1_t2 : Fin (k1_t2_loop v214).trips, ∀ a, (k1_off4 v214 k1_t2) a + S1x1x1x256.size a ≤ S5x80x1x256.size a) ∧
  (∀ k1_t2 : Fin (k1_t2_loop v214).trips, ∀ a, (k1_off5 v214 k1_t2) a + S1x1x1x256.size a ≤ S5x80x1x256.size a) ∧
  ((k1_t3_loop v214).OK) ∧
  (∀ k1_t3 : Fin (k1_t3_loop v214).trips, ∀ a, (k1_off6 v214 k1_t3) a + S1x1x1x256.size a ≤ S5x80x1x256.size a) ∧
  (∀ k1_t3 : Fin (k1_t3_loop v214).trips, ∀ a, (k1_off7 v214 k1_t3) a + S1x1x1x256.size a ≤ S5x80x1x256.size a) ∧
  (∀ k1_t3 : Fin (k1_t3_loop v214).trips, ∀ a, (k1_off8 v214 k1_t3) a + S1x1x1x256.size a ≤ S5x80x1x256.size a) ∧
  (∀ k1_t3 : Fin (k1_t3_loop v214).trips, ∀ a, (k1_off9 v214 k1_t3) a + S1x1x1x256.size a ≤ S5x80x1x256.size a) ∧
  (∀ k1_t3 : Fin (k1_t3_loop v214).trips, ∀ a, (k1_off10 v214 k1_t3) a + S1x1x1x256.size a ≤ S5x80x1x256.size a)
theorem k1_t2_ok : ∀ (v214 : BitVec 32) (k1_hw2 : k1_chk2 v214), (k1_t2_loop v214).OK := fun v214 k1_hw2 => k1_hw2.1
theorem k1_off1_inb : ∀ (v214 : BitVec 32) (k1_hw2 : k1_chk2 v214) (k1_t2 : Fin (k1_t2_loop v214).trips), ∀ a, (k1_off1 v214 k1_t2) a + S1x1x1x256.size a ≤ S5x80x1x256.size a := fun v214 k1_hw2 k1_t2 => k1_hw2.2.1 k1_t2
theorem k1_off2_inb : ∀ (v214 : BitVec 32) (k1_hw2 : k1_chk2 v214) (k1_t2 : Fin (k1_t2_loop v214).trips), ∀ a, (k1_off2 v214 k1_t2) a + S1x1x1x256.size a ≤ S5x80x1x256.size a := fun v214 k1_hw2 k1_t2 => k1_hw2.2.2.1 k1_t2
theorem k1_off3_inb : ∀ (v214 : BitVec 32) (k1_hw2 : k1_chk2 v214) (k1_t2 : Fin (k1_t2_loop v214).trips), ∀ a, (k1_off3 v214 k1_t2) a + S1x1x1x256.size a ≤ S5x80x1x256.size a := fun v214 k1_hw2 k1_t2 => k1_hw2.2.2.2.1 k1_t2
theorem k1_off4_inb : ∀ (v214 : BitVec 32) (k1_hw2 : k1_chk2 v214) (k1_t2 : Fin (k1_t2_loop v214).trips), ∀ a, (k1_off4 v214 k1_t2) a + S1x1x1x256.size a ≤ S5x80x1x256.size a := fun v214 k1_hw2 k1_t2 => k1_hw2.2.2.2.2.1 k1_t2
theorem k1_off5_inb : ∀ (v214 : BitVec 32) (k1_hw2 : k1_chk2 v214) (k1_t2 : Fin (k1_t2_loop v214).trips), ∀ a, (k1_off5 v214 k1_t2) a + S1x1x1x256.size a ≤ S5x80x1x256.size a := fun v214 k1_hw2 k1_t2 => k1_hw2.2.2.2.2.2.1 k1_t2
theorem k1_t3_ok : ∀ (v214 : BitVec 32) (k1_hw2 : k1_chk2 v214), (k1_t3_loop v214).OK := fun v214 k1_hw2 => k1_hw2.2.2.2.2.2.2.1
theorem k1_off6_inb : ∀ (v214 : BitVec 32) (k1_hw2 : k1_chk2 v214) (k1_t3 : Fin (k1_t3_loop v214).trips), ∀ a, (k1_off6 v214 k1_t3) a + S1x1x1x256.size a ≤ S5x80x1x256.size a := fun v214 k1_hw2 k1_t3 => k1_hw2.2.2.2.2.2.2.2.1 k1_t3
theorem k1_off7_inb : ∀ (v214 : BitVec 32) (k1_hw2 : k1_chk2 v214) (k1_t3 : Fin (k1_t3_loop v214).trips), ∀ a, (k1_off7 v214 k1_t3) a + S1x1x1x256.size a ≤ S5x80x1x256.size a := fun v214 k1_hw2 k1_t3 => k1_hw2.2.2.2.2.2.2.2.2.1 k1_t3
theorem k1_off8_inb : ∀ (v214 : BitVec 32) (k1_hw2 : k1_chk2 v214) (k1_t3 : Fin (k1_t3_loop v214).trips), ∀ a, (k1_off8 v214 k1_t3) a + S1x1x1x256.size a ≤ S5x80x1x256.size a := fun v214 k1_hw2 k1_t3 => k1_hw2.2.2.2.2.2.2.2.2.2.1 k1_t3
theorem k1_off9_inb : ∀ (v214 : BitVec 32) (k1_hw2 : k1_chk2 v214) (k1_t3 : Fin (k1_t3_loop v214).trips), ∀ a, (k1_off9 v214 k1_t3) a + S1x1x1x256.size a ≤ S5x80x1x256.size a := fun v214 k1_hw2 k1_t3 => k1_hw2.2.2.2.2.2.2.2.2.2.2.1 k1_t3
theorem k1_off10_inb : ∀ (v214 : BitVec 32) (k1_hw2 : k1_chk2 v214) (k1_t3 : Fin (k1_t3_loop v214).trips), ∀ a, (k1_off10 v214 k1_t3) a + S1x1x1x256.size a ≤ S5x80x1x256.size a := fun v214 k1_hw2 k1_t3 => k1_hw2.2.2.2.2.2.2.2.2.2.2.2 k1_t3

def k1_off11 (v126 : BitVec 32) (k1_t1 : Fin (k1_t1_loop v126).trips) : Fin 4 → Nat :=
  let c0_175 : Index := 0#32
  let c0_i32_94 : BitVec 32 := 0#32
  let c1_i32_97 : BitVec 32 := 1#32
  let arg9 : BitVec 32 := Scf.iv c0_i32_94 c1_i32_97 k1_t1
  let v247 : Index := Scalar.indexCast arg9
  let c0_176 : Index := 0#32
  let c0_177 : Index := 0#32
  ![0, v247.toNat, 0, 0]
def k1_off12 (v126 : BitVec 32) (k1_t1 : Fin (k1_t1_loop v126).trips) : Fin 4 → Nat :=
  let c1_178 : Index := 1#32
  let c0_i32_94 : BitVec 32 := 0#32
  let c1_i32_97 : BitVec 32 := 1#32
  let arg9 : BitVec 32 := Scf.iv c0_i32_94 c1_i32_97 k1_t1
  let v251 : Index := Scalar.indexCast arg9
  let c0_179 : Index := 0#32
  let c0_180 : Index := 0#32
  ![1, v251.toNat, 0, 0]
def k1_off13 (v126 : BitVec 32) (k1_t1 : Fin (k1_t1_loop v126).trips) : Fin 4 → Nat :=
  let c2_181 : Index := 2#32
  let c0_i32_94 : BitVec 32 := 0#32
  let c1_i32_97 : BitVec 32 := 1#32
  let arg9 : BitVec 32 := Scf.iv c0_i32_94 c1_i32_97 k1_t1
  let v255 : Index := Scalar.indexCast arg9
  let c0_182 : Index := 0#32
  let c0_183 : Index := 0#32
  ![2, v255.toNat, 0, 0]
def k1_off14 (v126 : BitVec 32) (k1_t1 : Fin (k1_t1_loop v126).trips) : Fin 4 → Nat :=
  let c3_184 : Index := 3#32
  let c0_i32_94 : BitVec 32 := 0#32
  let c1_i32_97 : BitVec 32 := 1#32
  let arg9 : BitVec 32 := Scf.iv c0_i32_94 c1_i32_97 k1_t1
  let v259 : Index := Scalar.indexCast arg9
  let c0_185 : Index := 0#32
  let c0_186 : Index := 0#32
  ![3, v259.toNat, 0, 0]
def k1_off15 (v126 : BitVec 32) (k1_t1 : Fin (k1_t1_loop v126).trips) : Fin 4 → Nat :=
  let c4_187 : Index := 4#32
  let c0_i32_94 : BitVec 32 := 0#32
  let c1_i32_97 : BitVec 32 := 1#32
  let arg9 : BitVec 32 := Scf.iv c0_i32_94 c1_i32_97 k1_t1
  let v263 : Index := Scalar.indexCast arg9
  let c0_188 : Index := 0#32
  let c0_189 : Index := 0#32
  ![4, v263.toNat, 0, 0]
def k1_off16 (v126 : BitVec 32) (k1_t1 : Fin (k1_t1_loop v126).trips) : Fin 3 → Nat :=
  let c0_i32_94 : BitVec 32 := 0#32
  let c1_i32_97 : BitVec 32 := 1#32
  let arg9 : BitVec 32 := Scf.iv c0_i32_94 c1_i32_97 k1_t1
  let v298 : Index := Scalar.indexCast arg9
  let c0_193 : Index := 0#32
  let c0_194 : Index := 0#32
  ![v298.toNat, 0, 0]
@[reducible] def k1_t4_loop (v214 : BitVec 32) (v315 : BitVec 32) : Scf.Loop 32 :=
  let c0_i32_205 : BitVec 32 := 0#32
  let v326 : BitVec 1 := Scalar.cmpi .sgt v214 c0_i32_205
  let v327 : BitVec 32 := Scalar.extui v326
  let c0_i32_206 : BitVec 32 := 0#32
  let v328 : BitVec 1 := Scalar.cmpi .slt v214 c0_i32_206
  let v329 : BitVec 32 := Scalar.extui v328
  let v330 : BitVec 32 := Scalar.subi v327 v329
  let c256_i32_204 : BitVec 32 := 256#32
  let c0_i32_207 : BitVec 32 := 0#32
  let v331 : BitVec 1 := Scalar.cmpi .sgt c256_i32_204 c0_i32_207
  let v332 : BitVec 32 := Scalar.extui v331
  let c0_i32_208 : BitVec 32 := 0#32
  let v333 : BitVec 1 := Scalar.cmpi .slt c256_i32_204 c0_i32_208
  let v334 : BitVec 32 := Scalar.extui v333
  let v335 : BitVec 32 := Scalar.subi v332 v334
  let v336 : BitVec 1 := Scalar.cmpi .ne v330 v335
  let v337 : BitVec 32 := Scalar.remsi v214 c256_i32_204
  let c0_i32_209 : BitVec 32 := 0#32
  let v338 : BitVec 1 := Scalar.cmpi .ne v337 c0_i32_209
  let v339 : BitVec 1 := Scalar.andi v336 v338
  let v325 : BitVec 32 := Scalar.divsi v214 c256_i32_204
  let c1_i32_210 : BitVec 32 := 1#32
  let v340 : BitVec 32 := Scalar.subi v325 c1_i32_210
  let v341 : BitVec 32 := Scalar.select v339 v340 v325
  let v342 : BitVec 32 := Scalar.addi v214 v315
  let c256_i32_211 : BitVec 32 := 256#32
  let v343 : BitVec 32 := Scalar.addi v342 c256_i32_211
  let c1_i32_212 : BitVec 32 := 1#32
  let v344 : BitVec 32 := Scalar.subi v343 c1_i32_212
  let c0_i32_214 : BitVec 32 := 0#32
  let v346 : BitVec 1 := Scalar.cmpi .sgt v344 c0_i32_214
  let v347 : BitVec 32 := Scalar.extui v346
  let c0_i32_215 : BitVec 32 := 0#32
  let v348 : BitVec 1 := Scalar.cmpi .slt v344 c0_i32_215
  let v349 : BitVec 32 := Scalar.extui v348
  let v350 : BitVec 32 := Scalar.subi v347 v349
  let c256_i32_213 : BitVec 32 := 256#32
  let c0_i32_216 : BitVec 32 := 0#32
  let v351 : BitVec 1 := Scalar.cmpi .sgt c256_i32_213 c0_i32_216
  let v352 : BitVec 32 := Scalar.extui v351
  let c0_i32_217 : BitVec 32 := 0#32
  let v353 : BitVec 1 := Scalar.cmpi .slt c256_i32_213 c0_i32_217
  let v354 : BitVec 32 := Scalar.extui v353
  let v355 : BitVec 32 := Scalar.subi v352 v354
  let v356 : BitVec 1 := Scalar.cmpi .ne v350 v355
  let v357 : BitVec 32 := Scalar.remsi v344 c256_i32_213
  let c0_i32_218 : BitVec 32 := 0#32
  let v358 : BitVec 1 := Scalar.cmpi .ne v357 c0_i32_218
  let v359 : BitVec 1 := Scalar.andi v356 v358
  let v345 : BitVec 32 := Scalar.divsi v344 c256_i32_213
  let c1_i32_219 : BitVec 32 := 1#32
  let v360 : BitVec 32 := Scalar.subi v345 c1_i32_219
  let v361 : BitVec 32 := Scalar.select v359 v360 v345
  let v362 : BitVec 32 := Scalar.subi v361 v341
  let c1_i32_221 : BitVec 32 := 1#32
  let v364 : BitVec 32 := Scalar.divsi v362 c1_i32_221
  let v365 : BitVec 32 := Scalar.muli v364 c1_i32_221
  let v366 : BitVec 32 := Scalar.addi v341 v365
  let c1_i32_222 : BitVec 32 := 1#32
  ⟨v341, v366, c1_i32_222⟩

def k1_off17 (v214 : BitVec 32) (v315 : BitVec 32) (k1_t4 : Fin (k1_t4_loop v214 v315).trips) : Fin 4 → Nat :=
  let c0_228 : Index := 0#32
  let c0_i32_205 : BitVec 32 := 0#32
  let v326 : BitVec 1 := Scalar.cmpi .sgt v214 c0_i32_205
  let v327 : BitVec 32 := Scalar.extui v326
  let c0_i32_206 : BitVec 32 := 0#32
  let v328 : BitVec 1 := Scalar.cmpi .slt v214 c0_i32_206
  let v329 : BitVec 32 := Scalar.extui v328
  let v330 : BitVec 32 := Scalar.subi v327 v329
  let c256_i32_204 : BitVec 32 := 256#32
  let c0_i32_207 : BitVec 32 := 0#32
  let v331 : BitVec 1 := Scalar.cmpi .sgt c256_i32_204 c0_i32_207
  let v332 : BitVec 32 := Scalar.extui v331
  let c0_i32_208 : BitVec 32 := 0#32
  let v333 : BitVec 1 := Scalar.cmpi .slt c256_i32_204 c0_i32_208
  let v334 : BitVec 32 := Scalar.extui v333
  let v335 : BitVec 32 := Scalar.subi v332 v334
  let v336 : BitVec 1 := Scalar.cmpi .ne v330 v335
  let v337 : BitVec 32 := Scalar.remsi v214 c256_i32_204
  let c0_i32_209 : BitVec 32 := 0#32
  let v338 : BitVec 1 := Scalar.cmpi .ne v337 c0_i32_209
  let v339 : BitVec 1 := Scalar.andi v336 v338
  let v325 : BitVec 32 := Scalar.divsi v214 c256_i32_204
  let c1_i32_210 : BitVec 32 := 1#32
  let v340 : BitVec 32 := Scalar.subi v325 c1_i32_210
  let v341 : BitVec 32 := Scalar.select v339 v340 v325
  let c1_i32_222 : BitVec 32 := 1#32
  let arg11 : BitVec 32 := Scf.iv v341 c1_i32_222 k1_t4
  let v384 : Index := Scalar.indexCast arg11
  let c0_229 : Index := 0#32
  let c0_230 : Index := 0#32
  ![0, v384.toNat, 0, 0]
def k1_off18 (v214 : BitVec 32) (v315 : BitVec 32) (k1_t4 : Fin (k1_t4_loop v214 v315).trips) : Fin 4 → Nat :=
  let c1_235 : Index := 1#32
  let c0_i32_205 : BitVec 32 := 0#32
  let v326 : BitVec 1 := Scalar.cmpi .sgt v214 c0_i32_205
  let v327 : BitVec 32 := Scalar.extui v326
  let c0_i32_206 : BitVec 32 := 0#32
  let v328 : BitVec 1 := Scalar.cmpi .slt v214 c0_i32_206
  let v329 : BitVec 32 := Scalar.extui v328
  let v330 : BitVec 32 := Scalar.subi v327 v329
  let c256_i32_204 : BitVec 32 := 256#32
  let c0_i32_207 : BitVec 32 := 0#32
  let v331 : BitVec 1 := Scalar.cmpi .sgt c256_i32_204 c0_i32_207
  let v332 : BitVec 32 := Scalar.extui v331
  let c0_i32_208 : BitVec 32 := 0#32
  let v333 : BitVec 1 := Scalar.cmpi .slt c256_i32_204 c0_i32_208
  let v334 : BitVec 32 := Scalar.extui v333
  let v335 : BitVec 32 := Scalar.subi v332 v334
  let v336 : BitVec 1 := Scalar.cmpi .ne v330 v335
  let v337 : BitVec 32 := Scalar.remsi v214 c256_i32_204
  let c0_i32_209 : BitVec 32 := 0#32
  let v338 : BitVec 1 := Scalar.cmpi .ne v337 c0_i32_209
  let v339 : BitVec 1 := Scalar.andi v336 v338
  let v325 : BitVec 32 := Scalar.divsi v214 c256_i32_204
  let c1_i32_210 : BitVec 32 := 1#32
  let v340 : BitVec 32 := Scalar.subi v325 c1_i32_210
  let v341 : BitVec 32 := Scalar.select v339 v340 v325
  let c1_i32_222 : BitVec 32 := 1#32
  let arg11 : BitVec 32 := Scf.iv v341 c1_i32_222 k1_t4
  let v397 : Index := Scalar.indexCast arg11
  let c0_236 : Index := 0#32
  let c0_237 : Index := 0#32
  ![1, v397.toNat, 0, 0]
def k1_off19 (v214 : BitVec 32) (v315 : BitVec 32) (k1_t4 : Fin (k1_t4_loop v214 v315).trips) : Fin 4 → Nat :=
  let c2_242 : Index := 2#32
  let c0_i32_205 : BitVec 32 := 0#32
  let v326 : BitVec 1 := Scalar.cmpi .sgt v214 c0_i32_205
  let v327 : BitVec 32 := Scalar.extui v326
  let c0_i32_206 : BitVec 32 := 0#32
  let v328 : BitVec 1 := Scalar.cmpi .slt v214 c0_i32_206
  let v329 : BitVec 32 := Scalar.extui v328
  let v330 : BitVec 32 := Scalar.subi v327 v329
  let c256_i32_204 : BitVec 32 := 256#32
  let c0_i32_207 : BitVec 32 := 0#32
  let v331 : BitVec 1 := Scalar.cmpi .sgt c256_i32_204 c0_i32_207
  let v332 : BitVec 32 := Scalar.extui v331
  let c0_i32_208 : BitVec 32 := 0#32
  let v333 : BitVec 1 := Scalar.cmpi .slt c256_i32_204 c0_i32_208
  let v334 : BitVec 32 := Scalar.extui v333
  let v335 : BitVec 32 := Scalar.subi v332 v334
  let v336 : BitVec 1 := Scalar.cmpi .ne v330 v335
  let v337 : BitVec 32 := Scalar.remsi v214 c256_i32_204
  let c0_i32_209 : BitVec 32 := 0#32
  let v338 : BitVec 1 := Scalar.cmpi .ne v337 c0_i32_209
  let v339 : BitVec 1 := Scalar.andi v336 v338
  let v325 : BitVec 32 := Scalar.divsi v214 c256_i32_204
  let c1_i32_210 : BitVec 32 := 1#32
  let v340 : BitVec 32 := Scalar.subi v325 c1_i32_210
  let v341 : BitVec 32 := Scalar.select v339 v340 v325
  let c1_i32_222 : BitVec 32 := 1#32
  let arg11 : BitVec 32 := Scf.iv v341 c1_i32_222 k1_t4
  let v410 : Index := Scalar.indexCast arg11
  let c0_243 : Index := 0#32
  let c0_244 : Index := 0#32
  ![2, v410.toNat, 0, 0]
def k1_off20 (v214 : BitVec 32) (v315 : BitVec 32) (k1_t4 : Fin (k1_t4_loop v214 v315).trips) : Fin 4 → Nat :=
  let c3_249 : Index := 3#32
  let c0_i32_205 : BitVec 32 := 0#32
  let v326 : BitVec 1 := Scalar.cmpi .sgt v214 c0_i32_205
  let v327 : BitVec 32 := Scalar.extui v326
  let c0_i32_206 : BitVec 32 := 0#32
  let v328 : BitVec 1 := Scalar.cmpi .slt v214 c0_i32_206
  let v329 : BitVec 32 := Scalar.extui v328
  let v330 : BitVec 32 := Scalar.subi v327 v329
  let c256_i32_204 : BitVec 32 := 256#32
  let c0_i32_207 : BitVec 32 := 0#32
  let v331 : BitVec 1 := Scalar.cmpi .sgt c256_i32_204 c0_i32_207
  let v332 : BitVec 32 := Scalar.extui v331
  let c0_i32_208 : BitVec 32 := 0#32
  let v333 : BitVec 1 := Scalar.cmpi .slt c256_i32_204 c0_i32_208
  let v334 : BitVec 32 := Scalar.extui v333
  let v335 : BitVec 32 := Scalar.subi v332 v334
  let v336 : BitVec 1 := Scalar.cmpi .ne v330 v335
  let v337 : BitVec 32 := Scalar.remsi v214 c256_i32_204
  let c0_i32_209 : BitVec 32 := 0#32
  let v338 : BitVec 1 := Scalar.cmpi .ne v337 c0_i32_209
  let v339 : BitVec 1 := Scalar.andi v336 v338
  let v325 : BitVec 32 := Scalar.divsi v214 c256_i32_204
  let c1_i32_210 : BitVec 32 := 1#32
  let v340 : BitVec 32 := Scalar.subi v325 c1_i32_210
  let v341 : BitVec 32 := Scalar.select v339 v340 v325
  let c1_i32_222 : BitVec 32 := 1#32
  let arg11 : BitVec 32 := Scf.iv v341 c1_i32_222 k1_t4
  let v423 : Index := Scalar.indexCast arg11
  let c0_250 : Index := 0#32
  let c0_251 : Index := 0#32
  ![3, v423.toNat, 0, 0]
def k1_off21 (v214 : BitVec 32) (v315 : BitVec 32) (k1_t4 : Fin (k1_t4_loop v214 v315).trips) : Fin 4 → Nat :=
  let c4_256 : Index := 4#32
  let c0_i32_205 : BitVec 32 := 0#32
  let v326 : BitVec 1 := Scalar.cmpi .sgt v214 c0_i32_205
  let v327 : BitVec 32 := Scalar.extui v326
  let c0_i32_206 : BitVec 32 := 0#32
  let v328 : BitVec 1 := Scalar.cmpi .slt v214 c0_i32_206
  let v329 : BitVec 32 := Scalar.extui v328
  let v330 : BitVec 32 := Scalar.subi v327 v329
  let c256_i32_204 : BitVec 32 := 256#32
  let c0_i32_207 : BitVec 32 := 0#32
  let v331 : BitVec 1 := Scalar.cmpi .sgt c256_i32_204 c0_i32_207
  let v332 : BitVec 32 := Scalar.extui v331
  let c0_i32_208 : BitVec 32 := 0#32
  let v333 : BitVec 1 := Scalar.cmpi .slt c256_i32_204 c0_i32_208
  let v334 : BitVec 32 := Scalar.extui v333
  let v335 : BitVec 32 := Scalar.subi v332 v334
  let v336 : BitVec 1 := Scalar.cmpi .ne v330 v335
  let v337 : BitVec 32 := Scalar.remsi v214 c256_i32_204
  let c0_i32_209 : BitVec 32 := 0#32
  let v338 : BitVec 1 := Scalar.cmpi .ne v337 c0_i32_209
  let v339 : BitVec 1 := Scalar.andi v336 v338
  let v325 : BitVec 32 := Scalar.divsi v214 c256_i32_204
  let c1_i32_210 : BitVec 32 := 1#32
  let v340 : BitVec 32 := Scalar.subi v325 c1_i32_210
  let v341 : BitVec 32 := Scalar.select v339 v340 v325
  let c1_i32_222 : BitVec 32 := 1#32
  let arg11 : BitVec 32 := Scf.iv v341 c1_i32_222 k1_t4
  let v436 : Index := Scalar.indexCast arg11
  let c0_257 : Index := 0#32
  let c0_258 : Index := 0#32
  ![4, v436.toNat, 0, 0]
@[reducible] def k1_t5_loop (v214 : BitVec 32) (v315 : BitVec 32) : Scf.Loop 32 :=
  let c0_i32_205 : BitVec 32 := 0#32
  let v326 : BitVec 1 := Scalar.cmpi .sgt v214 c0_i32_205
  let v327 : BitVec 32 := Scalar.extui v326
  let c0_i32_206 : BitVec 32 := 0#32
  let v328 : BitVec 1 := Scalar.cmpi .slt v214 c0_i32_206
  let v329 : BitVec 32 := Scalar.extui v328
  let v330 : BitVec 32 := Scalar.subi v327 v329
  let c256_i32_204 : BitVec 32 := 256#32
  let c0_i32_207 : BitVec 32 := 0#32
  let v331 : BitVec 1 := Scalar.cmpi .sgt c256_i32_204 c0_i32_207
  let v332 : BitVec 32 := Scalar.extui v331
  let c0_i32_208 : BitVec 32 := 0#32
  let v333 : BitVec 1 := Scalar.cmpi .slt c256_i32_204 c0_i32_208
  let v334 : BitVec 32 := Scalar.extui v333
  let v335 : BitVec 32 := Scalar.subi v332 v334
  let v336 : BitVec 1 := Scalar.cmpi .ne v330 v335
  let v337 : BitVec 32 := Scalar.remsi v214 c256_i32_204
  let c0_i32_209 : BitVec 32 := 0#32
  let v338 : BitVec 1 := Scalar.cmpi .ne v337 c0_i32_209
  let v339 : BitVec 1 := Scalar.andi v336 v338
  let v325 : BitVec 32 := Scalar.divsi v214 c256_i32_204
  let c1_i32_210 : BitVec 32 := 1#32
  let v340 : BitVec 32 := Scalar.subi v325 c1_i32_210
  let v341 : BitVec 32 := Scalar.select v339 v340 v325
  let v342 : BitVec 32 := Scalar.addi v214 v315
  let c256_i32_211 : BitVec 32 := 256#32
  let v343 : BitVec 32 := Scalar.addi v342 c256_i32_211
  let c1_i32_212 : BitVec 32 := 1#32
  let v344 : BitVec 32 := Scalar.subi v343 c1_i32_212
  let c0_i32_214 : BitVec 32 := 0#32
  let v346 : BitVec 1 := Scalar.cmpi .sgt v344 c0_i32_214
  let v347 : BitVec 32 := Scalar.extui v346
  let c0_i32_215 : BitVec 32 := 0#32
  let v348 : BitVec 1 := Scalar.cmpi .slt v344 c0_i32_215
  let v349 : BitVec 32 := Scalar.extui v348
  let v350 : BitVec 32 := Scalar.subi v347 v349
  let c256_i32_213 : BitVec 32 := 256#32
  let c0_i32_216 : BitVec 32 := 0#32
  let v351 : BitVec 1 := Scalar.cmpi .sgt c256_i32_213 c0_i32_216
  let v352 : BitVec 32 := Scalar.extui v351
  let c0_i32_217 : BitVec 32 := 0#32
  let v353 : BitVec 1 := Scalar.cmpi .slt c256_i32_213 c0_i32_217
  let v354 : BitVec 32 := Scalar.extui v353
  let v355 : BitVec 32 := Scalar.subi v352 v354
  let v356 : BitVec 1 := Scalar.cmpi .ne v350 v355
  let v357 : BitVec 32 := Scalar.remsi v344 c256_i32_213
  let c0_i32_218 : BitVec 32 := 0#32
  let v358 : BitVec 1 := Scalar.cmpi .ne v357 c0_i32_218
  let v359 : BitVec 1 := Scalar.andi v356 v358
  let v345 : BitVec 32 := Scalar.divsi v344 c256_i32_213
  let c1_i32_219 : BitVec 32 := 1#32
  let v360 : BitVec 32 := Scalar.subi v345 c1_i32_219
  let v361 : BitVec 32 := Scalar.select v359 v360 v345
  let v362 : BitVec 32 := Scalar.subi v361 v341
  let c1_i32_221 : BitVec 32 := 1#32
  let v364 : BitVec 32 := Scalar.divsi v362 c1_i32_221
  let v365 : BitVec 32 := Scalar.muli v364 c1_i32_221
  let v366 : BitVec 32 := Scalar.addi v341 v365
  let v363 : BitVec 32 := Scalar.addi v341 v362
  let c1_i32_223 : BitVec 32 := 1#32
  ⟨v366, v363, c1_i32_223⟩
def k1_off22 (v214 : BitVec 32) (v315 : BitVec 32) (k1_t5 : Fin (k1_t5_loop v214 v315).trips) : Fin 4 → Nat :=
  let c0_228 : Index := 0#32
  let c0_i32_205 : BitVec 32 := 0#32
  let v326 : BitVec 1 := Scalar.cmpi .sgt v214 c0_i32_205
  let v327 : BitVec 32 := Scalar.extui v326
  let c0_i32_206 : BitVec 32 := 0#32
  let v328 : BitVec 1 := Scalar.cmpi .slt v214 c0_i32_206
  let v329 : BitVec 32 := Scalar.extui v328
  let v330 : BitVec 32 := Scalar.subi v327 v329
  let c256_i32_204 : BitVec 32 := 256#32
  let c0_i32_207 : BitVec 32 := 0#32
  let v331 : BitVec 1 := Scalar.cmpi .sgt c256_i32_204 c0_i32_207
  let v332 : BitVec 32 := Scalar.extui v331
  let c0_i32_208 : BitVec 32 := 0#32
  let v333 : BitVec 1 := Scalar.cmpi .slt c256_i32_204 c0_i32_208
  let v334 : BitVec 32 := Scalar.extui v333
  let v335 : BitVec 32 := Scalar.subi v332 v334
  let v336 : BitVec 1 := Scalar.cmpi .ne v330 v335
  let v337 : BitVec 32 := Scalar.remsi v214 c256_i32_204
  let c0_i32_209 : BitVec 32 := 0#32
  let v338 : BitVec 1 := Scalar.cmpi .ne v337 c0_i32_209
  let v339 : BitVec 1 := Scalar.andi v336 v338
  let v325 : BitVec 32 := Scalar.divsi v214 c256_i32_204
  let c1_i32_210 : BitVec 32 := 1#32
  let v340 : BitVec 32 := Scalar.subi v325 c1_i32_210
  let v341 : BitVec 32 := Scalar.select v339 v340 v325
  let v342 : BitVec 32 := Scalar.addi v214 v315
  let c256_i32_211 : BitVec 32 := 256#32
  let v343 : BitVec 32 := Scalar.addi v342 c256_i32_211
  let c1_i32_212 : BitVec 32 := 1#32
  let v344 : BitVec 32 := Scalar.subi v343 c1_i32_212
  let c0_i32_214 : BitVec 32 := 0#32
  let v346 : BitVec 1 := Scalar.cmpi .sgt v344 c0_i32_214
  let v347 : BitVec 32 := Scalar.extui v346
  let c0_i32_215 : BitVec 32 := 0#32
  let v348 : BitVec 1 := Scalar.cmpi .slt v344 c0_i32_215
  let v349 : BitVec 32 := Scalar.extui v348
  let v350 : BitVec 32 := Scalar.subi v347 v349
  let c256_i32_213 : BitVec 32 := 256#32
  let c0_i32_216 : BitVec 32 := 0#32
  let v351 : BitVec 1 := Scalar.cmpi .sgt c256_i32_213 c0_i32_216
  let v352 : BitVec 32 := Scalar.extui v351
  let c0_i32_217 : BitVec 32 := 0#32
  let v353 : BitVec 1 := Scalar.cmpi .slt c256_i32_213 c0_i32_217
  let v354 : BitVec 32 := Scalar.extui v353
  let v355 : BitVec 32 := Scalar.subi v352 v354
  let v356 : BitVec 1 := Scalar.cmpi .ne v350 v355
  let v357 : BitVec 32 := Scalar.remsi v344 c256_i32_213
  let c0_i32_218 : BitVec 32 := 0#32
  let v358 : BitVec 1 := Scalar.cmpi .ne v357 c0_i32_218
  let v359 : BitVec 1 := Scalar.andi v356 v358
  let v345 : BitVec 32 := Scalar.divsi v344 c256_i32_213
  let c1_i32_219 : BitVec 32 := 1#32
  let v360 : BitVec 32 := Scalar.subi v345 c1_i32_219
  let v361 : BitVec 32 := Scalar.select v359 v360 v345
  let v362 : BitVec 32 := Scalar.subi v361 v341
  let c1_i32_221 : BitVec 32 := 1#32
  let v364 : BitVec 32 := Scalar.divsi v362 c1_i32_221
  let v365 : BitVec 32 := Scalar.muli v364 c1_i32_221
  let v366 : BitVec 32 := Scalar.addi v341 v365
  let c1_i32_223 : BitVec 32 := 1#32
  let arg11 : BitVec 32 := Scf.iv v366 c1_i32_223 k1_t5
  let v384 : Index := Scalar.indexCast arg11
  let c0_229 : Index := 0#32
  let c0_230 : Index := 0#32
  ![0, v384.toNat, 0, 0]
def k1_off23 (v214 : BitVec 32) (v315 : BitVec 32) (k1_t5 : Fin (k1_t5_loop v214 v315).trips) : Fin 4 → Nat :=
  let c1_235 : Index := 1#32
  let c0_i32_205 : BitVec 32 := 0#32
  let v326 : BitVec 1 := Scalar.cmpi .sgt v214 c0_i32_205
  let v327 : BitVec 32 := Scalar.extui v326
  let c0_i32_206 : BitVec 32 := 0#32
  let v328 : BitVec 1 := Scalar.cmpi .slt v214 c0_i32_206
  let v329 : BitVec 32 := Scalar.extui v328
  let v330 : BitVec 32 := Scalar.subi v327 v329
  let c256_i32_204 : BitVec 32 := 256#32
  let c0_i32_207 : BitVec 32 := 0#32
  let v331 : BitVec 1 := Scalar.cmpi .sgt c256_i32_204 c0_i32_207
  let v332 : BitVec 32 := Scalar.extui v331
  let c0_i32_208 : BitVec 32 := 0#32
  let v333 : BitVec 1 := Scalar.cmpi .slt c256_i32_204 c0_i32_208
  let v334 : BitVec 32 := Scalar.extui v333
  let v335 : BitVec 32 := Scalar.subi v332 v334
  let v336 : BitVec 1 := Scalar.cmpi .ne v330 v335
  let v337 : BitVec 32 := Scalar.remsi v214 c256_i32_204
  let c0_i32_209 : BitVec 32 := 0#32
  let v338 : BitVec 1 := Scalar.cmpi .ne v337 c0_i32_209
  let v339 : BitVec 1 := Scalar.andi v336 v338
  let v325 : BitVec 32 := Scalar.divsi v214 c256_i32_204
  let c1_i32_210 : BitVec 32 := 1#32
  let v340 : BitVec 32 := Scalar.subi v325 c1_i32_210
  let v341 : BitVec 32 := Scalar.select v339 v340 v325
  let v342 : BitVec 32 := Scalar.addi v214 v315
  let c256_i32_211 : BitVec 32 := 256#32
  let v343 : BitVec 32 := Scalar.addi v342 c256_i32_211
  let c1_i32_212 : BitVec 32 := 1#32
  let v344 : BitVec 32 := Scalar.subi v343 c1_i32_212
  let c0_i32_214 : BitVec 32 := 0#32
  let v346 : BitVec 1 := Scalar.cmpi .sgt v344 c0_i32_214
  let v347 : BitVec 32 := Scalar.extui v346
  let c0_i32_215 : BitVec 32 := 0#32
  let v348 : BitVec 1 := Scalar.cmpi .slt v344 c0_i32_215
  let v349 : BitVec 32 := Scalar.extui v348
  let v350 : BitVec 32 := Scalar.subi v347 v349
  let c256_i32_213 : BitVec 32 := 256#32
  let c0_i32_216 : BitVec 32 := 0#32
  let v351 : BitVec 1 := Scalar.cmpi .sgt c256_i32_213 c0_i32_216
  let v352 : BitVec 32 := Scalar.extui v351
  let c0_i32_217 : BitVec 32 := 0#32
  let v353 : BitVec 1 := Scalar.cmpi .slt c256_i32_213 c0_i32_217
  let v354 : BitVec 32 := Scalar.extui v353
  let v355 : BitVec 32 := Scalar.subi v352 v354
  let v356 : BitVec 1 := Scalar.cmpi .ne v350 v355
  let v357 : BitVec 32 := Scalar.remsi v344 c256_i32_213
  let c0_i32_218 : BitVec 32 := 0#32
  let v358 : BitVec 1 := Scalar.cmpi .ne v357 c0_i32_218
  let v359 : BitVec 1 := Scalar.andi v356 v358
  let v345 : BitVec 32 := Scalar.divsi v344 c256_i32_213
  let c1_i32_219 : BitVec 32 := 1#32
  let v360 : BitVec 32 := Scalar.subi v345 c1_i32_219
  let v361 : BitVec 32 := Scalar.select v359 v360 v345
  let v362 : BitVec 32 := Scalar.subi v361 v341
  let c1_i32_221 : BitVec 32 := 1#32
  let v364 : BitVec 32 := Scalar.divsi v362 c1_i32_221
  let v365 : BitVec 32 := Scalar.muli v364 c1_i32_221
  let v366 : BitVec 32 := Scalar.addi v341 v365
  let c1_i32_223 : BitVec 32 := 1#32
  let arg11 : BitVec 32 := Scf.iv v366 c1_i32_223 k1_t5
  let v397 : Index := Scalar.indexCast arg11
  let c0_236 : Index := 0#32
  let c0_237 : Index := 0#32
  ![1, v397.toNat, 0, 0]
def k1_off24 (v214 : BitVec 32) (v315 : BitVec 32) (k1_t5 : Fin (k1_t5_loop v214 v315).trips) : Fin 4 → Nat :=
  let c2_242 : Index := 2#32
  let c0_i32_205 : BitVec 32 := 0#32
  let v326 : BitVec 1 := Scalar.cmpi .sgt v214 c0_i32_205
  let v327 : BitVec 32 := Scalar.extui v326
  let c0_i32_206 : BitVec 32 := 0#32
  let v328 : BitVec 1 := Scalar.cmpi .slt v214 c0_i32_206
  let v329 : BitVec 32 := Scalar.extui v328
  let v330 : BitVec 32 := Scalar.subi v327 v329
  let c256_i32_204 : BitVec 32 := 256#32
  let c0_i32_207 : BitVec 32 := 0#32
  let v331 : BitVec 1 := Scalar.cmpi .sgt c256_i32_204 c0_i32_207
  let v332 : BitVec 32 := Scalar.extui v331
  let c0_i32_208 : BitVec 32 := 0#32
  let v333 : BitVec 1 := Scalar.cmpi .slt c256_i32_204 c0_i32_208
  let v334 : BitVec 32 := Scalar.extui v333
  let v335 : BitVec 32 := Scalar.subi v332 v334
  let v336 : BitVec 1 := Scalar.cmpi .ne v330 v335
  let v337 : BitVec 32 := Scalar.remsi v214 c256_i32_204
  let c0_i32_209 : BitVec 32 := 0#32
  let v338 : BitVec 1 := Scalar.cmpi .ne v337 c0_i32_209
  let v339 : BitVec 1 := Scalar.andi v336 v338
  let v325 : BitVec 32 := Scalar.divsi v214 c256_i32_204
  let c1_i32_210 : BitVec 32 := 1#32
  let v340 : BitVec 32 := Scalar.subi v325 c1_i32_210
  let v341 : BitVec 32 := Scalar.select v339 v340 v325
  let v342 : BitVec 32 := Scalar.addi v214 v315
  let c256_i32_211 : BitVec 32 := 256#32
  let v343 : BitVec 32 := Scalar.addi v342 c256_i32_211
  let c1_i32_212 : BitVec 32 := 1#32
  let v344 : BitVec 32 := Scalar.subi v343 c1_i32_212
  let c0_i32_214 : BitVec 32 := 0#32
  let v346 : BitVec 1 := Scalar.cmpi .sgt v344 c0_i32_214
  let v347 : BitVec 32 := Scalar.extui v346
  let c0_i32_215 : BitVec 32 := 0#32
  let v348 : BitVec 1 := Scalar.cmpi .slt v344 c0_i32_215
  let v349 : BitVec 32 := Scalar.extui v348
  let v350 : BitVec 32 := Scalar.subi v347 v349
  let c256_i32_213 : BitVec 32 := 256#32
  let c0_i32_216 : BitVec 32 := 0#32
  let v351 : BitVec 1 := Scalar.cmpi .sgt c256_i32_213 c0_i32_216
  let v352 : BitVec 32 := Scalar.extui v351
  let c0_i32_217 : BitVec 32 := 0#32
  let v353 : BitVec 1 := Scalar.cmpi .slt c256_i32_213 c0_i32_217
  let v354 : BitVec 32 := Scalar.extui v353
  let v355 : BitVec 32 := Scalar.subi v352 v354
  let v356 : BitVec 1 := Scalar.cmpi .ne v350 v355
  let v357 : BitVec 32 := Scalar.remsi v344 c256_i32_213
  let c0_i32_218 : BitVec 32 := 0#32
  let v358 : BitVec 1 := Scalar.cmpi .ne v357 c0_i32_218
  let v359 : BitVec 1 := Scalar.andi v356 v358
  let v345 : BitVec 32 := Scalar.divsi v344 c256_i32_213
  let c1_i32_219 : BitVec 32 := 1#32
  let v360 : BitVec 32 := Scalar.subi v345 c1_i32_219
  let v361 : BitVec 32 := Scalar.select v359 v360 v345
  let v362 : BitVec 32 := Scalar.subi v361 v341
  let c1_i32_221 : BitVec 32 := 1#32
  let v364 : BitVec 32 := Scalar.divsi v362 c1_i32_221
  let v365 : BitVec 32 := Scalar.muli v364 c1_i32_221
  let v366 : BitVec 32 := Scalar.addi v341 v365
  let c1_i32_223 : BitVec 32 := 1#32
  let arg11 : BitVec 32 := Scf.iv v366 c1_i32_223 k1_t5
  let v410 : Index := Scalar.indexCast arg11
  let c0_243 : Index := 0#32
  let c0_244 : Index := 0#32
  ![2, v410.toNat, 0, 0]
def k1_off25 (v214 : BitVec 32) (v315 : BitVec 32) (k1_t5 : Fin (k1_t5_loop v214 v315).trips) : Fin 4 → Nat :=
  let c3_249 : Index := 3#32
  let c0_i32_205 : BitVec 32 := 0#32
  let v326 : BitVec 1 := Scalar.cmpi .sgt v214 c0_i32_205
  let v327 : BitVec 32 := Scalar.extui v326
  let c0_i32_206 : BitVec 32 := 0#32
  let v328 : BitVec 1 := Scalar.cmpi .slt v214 c0_i32_206
  let v329 : BitVec 32 := Scalar.extui v328
  let v330 : BitVec 32 := Scalar.subi v327 v329
  let c256_i32_204 : BitVec 32 := 256#32
  let c0_i32_207 : BitVec 32 := 0#32
  let v331 : BitVec 1 := Scalar.cmpi .sgt c256_i32_204 c0_i32_207
  let v332 : BitVec 32 := Scalar.extui v331
  let c0_i32_208 : BitVec 32 := 0#32
  let v333 : BitVec 1 := Scalar.cmpi .slt c256_i32_204 c0_i32_208
  let v334 : BitVec 32 := Scalar.extui v333
  let v335 : BitVec 32 := Scalar.subi v332 v334
  let v336 : BitVec 1 := Scalar.cmpi .ne v330 v335
  let v337 : BitVec 32 := Scalar.remsi v214 c256_i32_204
  let c0_i32_209 : BitVec 32 := 0#32
  let v338 : BitVec 1 := Scalar.cmpi .ne v337 c0_i32_209
  let v339 : BitVec 1 := Scalar.andi v336 v338
  let v325 : BitVec 32 := Scalar.divsi v214 c256_i32_204
  let c1_i32_210 : BitVec 32 := 1#32
  let v340 : BitVec 32 := Scalar.subi v325 c1_i32_210
  let v341 : BitVec 32 := Scalar.select v339 v340 v325
  let v342 : BitVec 32 := Scalar.addi v214 v315
  let c256_i32_211 : BitVec 32 := 256#32
  let v343 : BitVec 32 := Scalar.addi v342 c256_i32_211
  let c1_i32_212 : BitVec 32 := 1#32
  let v344 : BitVec 32 := Scalar.subi v343 c1_i32_212
  let c0_i32_214 : BitVec 32 := 0#32
  let v346 : BitVec 1 := Scalar.cmpi .sgt v344 c0_i32_214
  let v347 : BitVec 32 := Scalar.extui v346
  let c0_i32_215 : BitVec 32 := 0#32
  let v348 : BitVec 1 := Scalar.cmpi .slt v344 c0_i32_215
  let v349 : BitVec 32 := Scalar.extui v348
  let v350 : BitVec 32 := Scalar.subi v347 v349
  let c256_i32_213 : BitVec 32 := 256#32
  let c0_i32_216 : BitVec 32 := 0#32
  let v351 : BitVec 1 := Scalar.cmpi .sgt c256_i32_213 c0_i32_216
  let v352 : BitVec 32 := Scalar.extui v351
  let c0_i32_217 : BitVec 32 := 0#32
  let v353 : BitVec 1 := Scalar.cmpi .slt c256_i32_213 c0_i32_217
  let v354 : BitVec 32 := Scalar.extui v353
  let v355 : BitVec 32 := Scalar.subi v352 v354
  let v356 : BitVec 1 := Scalar.cmpi .ne v350 v355
  let v357 : BitVec 32 := Scalar.remsi v344 c256_i32_213
  let c0_i32_218 : BitVec 32 := 0#32
  let v358 : BitVec 1 := Scalar.cmpi .ne v357 c0_i32_218
  let v359 : BitVec 1 := Scalar.andi v356 v358
  let v345 : BitVec 32 := Scalar.divsi v344 c256_i32_213
  let c1_i32_219 : BitVec 32 := 1#32
  let v360 : BitVec 32 := Scalar.subi v345 c1_i32_219
  let v361 : BitVec 32 := Scalar.select v359 v360 v345
  let v362 : BitVec 32 := Scalar.subi v361 v341
  let c1_i32_221 : BitVec 32 := 1#32
  let v364 : BitVec 32 := Scalar.divsi v362 c1_i32_221
  let v365 : BitVec 32 := Scalar.muli v364 c1_i32_221
  let v366 : BitVec 32 := Scalar.addi v341 v365
  let c1_i32_223 : BitVec 32 := 1#32
  let arg11 : BitVec 32 := Scf.iv v366 c1_i32_223 k1_t5
  let v423 : Index := Scalar.indexCast arg11
  let c0_250 : Index := 0#32
  let c0_251 : Index := 0#32
  ![3, v423.toNat, 0, 0]
def k1_off26 (v214 : BitVec 32) (v315 : BitVec 32) (k1_t5 : Fin (k1_t5_loop v214 v315).trips) : Fin 4 → Nat :=
  let c4_256 : Index := 4#32
  let c0_i32_205 : BitVec 32 := 0#32
  let v326 : BitVec 1 := Scalar.cmpi .sgt v214 c0_i32_205
  let v327 : BitVec 32 := Scalar.extui v326
  let c0_i32_206 : BitVec 32 := 0#32
  let v328 : BitVec 1 := Scalar.cmpi .slt v214 c0_i32_206
  let v329 : BitVec 32 := Scalar.extui v328
  let v330 : BitVec 32 := Scalar.subi v327 v329
  let c256_i32_204 : BitVec 32 := 256#32
  let c0_i32_207 : BitVec 32 := 0#32
  let v331 : BitVec 1 := Scalar.cmpi .sgt c256_i32_204 c0_i32_207
  let v332 : BitVec 32 := Scalar.extui v331
  let c0_i32_208 : BitVec 32 := 0#32
  let v333 : BitVec 1 := Scalar.cmpi .slt c256_i32_204 c0_i32_208
  let v334 : BitVec 32 := Scalar.extui v333
  let v335 : BitVec 32 := Scalar.subi v332 v334
  let v336 : BitVec 1 := Scalar.cmpi .ne v330 v335
  let v337 : BitVec 32 := Scalar.remsi v214 c256_i32_204
  let c0_i32_209 : BitVec 32 := 0#32
  let v338 : BitVec 1 := Scalar.cmpi .ne v337 c0_i32_209
  let v339 : BitVec 1 := Scalar.andi v336 v338
  let v325 : BitVec 32 := Scalar.divsi v214 c256_i32_204
  let c1_i32_210 : BitVec 32 := 1#32
  let v340 : BitVec 32 := Scalar.subi v325 c1_i32_210
  let v341 : BitVec 32 := Scalar.select v339 v340 v325
  let v342 : BitVec 32 := Scalar.addi v214 v315
  let c256_i32_211 : BitVec 32 := 256#32
  let v343 : BitVec 32 := Scalar.addi v342 c256_i32_211
  let c1_i32_212 : BitVec 32 := 1#32
  let v344 : BitVec 32 := Scalar.subi v343 c1_i32_212
  let c0_i32_214 : BitVec 32 := 0#32
  let v346 : BitVec 1 := Scalar.cmpi .sgt v344 c0_i32_214
  let v347 : BitVec 32 := Scalar.extui v346
  let c0_i32_215 : BitVec 32 := 0#32
  let v348 : BitVec 1 := Scalar.cmpi .slt v344 c0_i32_215
  let v349 : BitVec 32 := Scalar.extui v348
  let v350 : BitVec 32 := Scalar.subi v347 v349
  let c256_i32_213 : BitVec 32 := 256#32
  let c0_i32_216 : BitVec 32 := 0#32
  let v351 : BitVec 1 := Scalar.cmpi .sgt c256_i32_213 c0_i32_216
  let v352 : BitVec 32 := Scalar.extui v351
  let c0_i32_217 : BitVec 32 := 0#32
  let v353 : BitVec 1 := Scalar.cmpi .slt c256_i32_213 c0_i32_217
  let v354 : BitVec 32 := Scalar.extui v353
  let v355 : BitVec 32 := Scalar.subi v352 v354
  let v356 : BitVec 1 := Scalar.cmpi .ne v350 v355
  let v357 : BitVec 32 := Scalar.remsi v344 c256_i32_213
  let c0_i32_218 : BitVec 32 := 0#32
  let v358 : BitVec 1 := Scalar.cmpi .ne v357 c0_i32_218
  let v359 : BitVec 1 := Scalar.andi v356 v358
  let v345 : BitVec 32 := Scalar.divsi v344 c256_i32_213
  let c1_i32_219 : BitVec 32 := 1#32
  let v360 : BitVec 32 := Scalar.subi v345 c1_i32_219
  let v361 : BitVec 32 := Scalar.select v359 v360 v345
  let v362 : BitVec 32 := Scalar.subi v361 v341
  let c1_i32_221 : BitVec 32 := 1#32
  let v364 : BitVec 32 := Scalar.divsi v362 c1_i32_221
  let v365 : BitVec 32 := Scalar.muli v364 c1_i32_221
  let v366 : BitVec 32 := Scalar.addi v341 v365
  let c1_i32_223 : BitVec 32 := 1#32
  let arg11 : BitVec 32 := Scf.iv v366 c1_i32_223 k1_t5
  let v436 : Index := Scalar.indexCast arg11
  let c0_257 : Index := 0#32
  let c0_258 : Index := 0#32
  ![4, v436.toNat, 0, 0]

def k1_chk3 (v214 : BitVec 32) (v315 : BitVec 32) : Prop :=
  ((k1_t4_loop v214 v315).OK) ∧
  (∀ k1_t4 : Fin (k1_t4_loop v214 v315).trips, ∀ a, (k1_off17 v214 v315 k1_t4) a + S1x1x1x256.size a ≤ S5x80x1x256.size a) ∧
  (∀ k1_t4 : Fin (k1_t4_loop v214 v315).trips, ∀ a, (k1_off18 v214 v315 k1_t4) a + S1x1x1x256.size a ≤ S5x80x1x256.size a) ∧
  (∀ k1_t4 : Fin (k1_t4_loop v214 v315).trips, ∀ a, (k1_off19 v214 v315 k1_t4) a + S1x1x1x256.size a ≤ S5x80x1x256.size a) ∧
  (∀ k1_t4 : Fin (k1_t4_loop v214 v315).trips, ∀ a, (k1_off20 v214 v315 k1_t4) a + S1x1x1x256.size a ≤ S5x80x1x256.size a) ∧
  (∀ k1_t4 : Fin (k1_t4_loop v214 v315).trips, ∀ a, (k1_off21 v214 v315 k1_t4) a + S1x1x1x256.size a ≤ S5x80x1x256.size a) ∧
  ((k1_t5_loop v214 v315).OK) ∧
  (∀ k1_t5 : Fin (k1_t5_loop v214 v315).trips, ∀ a, (k1_off22 v214 v315 k1_t5) a + S1x1x1x256.size a ≤ S5x80x1x256.size a) ∧
  (∀ k1_t5 : Fin (k1_t5_loop v214 v315).trips, ∀ a, (k1_off23 v214 v315 k1_t5) a + S1x1x1x256.size a ≤ S5x80x1x256.size a) ∧
  (∀ k1_t5 : Fin (k1_t5_loop v214 v315).trips, ∀ a, (k1_off24 v214 v315 k1_t5) a + S1x1x1x256.size a ≤ S5x80x1x256.size a) ∧
  (∀ k1_t5 : Fin (k1_t5_loop v214 v315).trips, ∀ a, (k1_off25 v214 v315 k1_t5) a + S1x1x1x256.size a ≤ S5x80x1x256.size a) ∧
  (∀ k1_t5 : Fin (k1_t5_loop v214 v315).trips, ∀ a, (k1_off26 v214 v315 k1_t5) a + S1x1x1x256.size a ≤ S5x80x1x256.size a)
theorem k1_t4_ok : ∀ (v214 : BitVec 32) (v315 : BitVec 32) (k1_hw3 : k1_chk3 v214 v315), (k1_t4_loop v214 v315).OK := fun v214 v315 k1_hw3 => k1_hw3.1
theorem k1_off17_inb : ∀ (v214 : BitVec 32) (v315 : BitVec 32) (k1_hw3 : k1_chk3 v214 v315) (k1_t4 : Fin (k1_t4_loop v214 v315).trips), ∀ a, (k1_off17 v214 v315 k1_t4) a + S1x1x1x256.size a ≤ S5x80x1x256.size a := fun v214 v315 k1_hw3 k1_t4 => k1_hw3.2.1 k1_t4
theorem k1_off18_inb : ∀ (v214 : BitVec 32) (v315 : BitVec 32) (k1_hw3 : k1_chk3 v214 v315) (k1_t4 : Fin (k1_t4_loop v214 v315).trips), ∀ a, (k1_off18 v214 v315 k1_t4) a + S1x1x1x256.size a ≤ S5x80x1x256.size a := fun v214 v315 k1_hw3 k1_t4 => k1_hw3.2.2.1 k1_t4
theorem k1_off19_inb : ∀ (v214 : BitVec 32) (v315 : BitVec 32) (k1_hw3 : k1_chk3 v214 v315) (k1_t4 : Fin (k1_t4_loop v214 v315).trips), ∀ a, (k1_off19 v214 v315 k1_t4) a + S1x1x1x256.size a ≤ S5x80x1x256.size a := fun v214 v315 k1_hw3 k1_t4 => k1_hw3.2.2.2.1 k1_t4
theorem k1_off20_inb : ∀ (v214 : BitVec 32) (v315 : BitVec 32) (k1_hw3 : k1_chk3 v214 v315) (k1_t4 : Fin (k1_t4_loop v214 v315).trips), ∀ a, (k1_off20 v214 v315 k1_t4) a + S1x1x1x256.size a ≤ S5x80x1x256.size a := fun v214 v315 k1_hw3 k1_t4 => k1_hw3.2.2.2.2.1 k1_t4
theorem k1_off21_inb : ∀ (v214 : BitVec 32) (v315 : BitVec 32) (k1_hw3 : k1_chk3 v214 v315) (k1_t4 : Fin (k1_t4_loop v214 v315).trips), ∀ a, (k1_off21 v214 v315 k1_t4) a + S1x1x1x256.size a ≤ S5x80x1x256.size a := fun v214 v315 k1_hw3 k1_t4 => k1_hw3.2.2.2.2.2.1 k1_t4
theorem k1_t5_ok : ∀ (v214 : BitVec 32) (v315 : BitVec 32) (k1_hw3 : k1_chk3 v214 v315), (k1_t5_loop v214 v315).OK := fun v214 v315 k1_hw3 => k1_hw3.2.2.2.2.2.2.1
theorem k1_off22_inb : ∀ (v214 : BitVec 32) (v315 : BitVec 32) (k1_hw3 : k1_chk3 v214 v315) (k1_t5 : Fin (k1_t5_loop v214 v315).trips), ∀ a, (k1_off22 v214 v315 k1_t5) a + S1x1x1x256.size a ≤ S5x80x1x256.size a := fun v214 v315 k1_hw3 k1_t5 => k1_hw3.2.2.2.2.2.2.2.1 k1_t5
theorem k1_off23_inb : ∀ (v214 : BitVec 32) (v315 : BitVec 32) (k1_hw3 : k1_chk3 v214 v315) (k1_t5 : Fin (k1_t5_loop v214 v315).trips), ∀ a, (k1_off23 v214 v315 k1_t5) a + S1x1x1x256.size a ≤ S5x80x1x256.size a := fun v214 v315 k1_hw3 k1_t5 => k1_hw3.2.2.2.2.2.2.2.2.1 k1_t5
theorem k1_off24_inb : ∀ (v214 : BitVec 32) (v315 : BitVec 32) (k1_hw3 : k1_chk3 v214 v315) (k1_t5 : Fin (k1_t5_loop v214 v315).trips), ∀ a, (k1_off24 v214 v315 k1_t5) a + S1x1x1x256.size a ≤ S5x80x1x256.size a := fun v214 v315 k1_hw3 k1_t5 => k1_hw3.2.2.2.2.2.2.2.2.2.1 k1_t5
theorem k1_off25_inb : ∀ (v214 : BitVec 32) (v315 : BitVec 32) (k1_hw3 : k1_chk3 v214 v315) (k1_t5 : Fin (k1_t5_loop v214 v315).trips), ∀ a, (k1_off25 v214 v315 k1_t5) a + S1x1x1x256.size a ≤ S5x80x1x256.size a := fun v214 v315 k1_hw3 k1_t5 => k1_hw3.2.2.2.2.2.2.2.2.2.2.1 k1_t5
theorem k1_off26_inb : ∀ (v214 : BitVec 32) (v315 : BitVec 32) (k1_hw3 : k1_chk3 v214 v315) (k1_t5 : Fin (k1_t5_loop v214 v315).trips), ∀ a, (k1_off26 v214 v315 k1_t5) a + S1x1x1x256.size a ≤ S5x80x1x256.size a := fun v214 v315 k1_hw3 k1_t5 => k1_hw3.2.2.2.2.2.2.2.2.2.2.2 k1_t5

@[reducible] def k1_t6_loop (v126 : BitVec 32) : Scf.Loop 32 :=
  let c0_i32_94 : BitVec 32 := 0#32
  let v142 : BitVec 32 := Scalar.subi v126 c0_i32_94
  let c1_i32_96 : BitVec 32 := 1#32
  let v144 : BitVec 32 := Scalar.divsi v142 c1_i32_96
  let v145 : BitVec 32 := Scalar.muli v144 c1_i32_96
  let v146 : BitVec 32 := Scalar.addi c0_i32_94 v145
  let v143 : BitVec 32 := Scalar.addi c0_i32_94 v142
  let c1_i32_98 : BitVec 32 := 1#32
  ⟨v146, v143, c1_i32_98⟩
@[reducible] def k1_t7_loop (v214 : BitVec 32) : Scf.Loop 32 :=
  let c0_i32_169 : BitVec 32 := 0#32
  let c256_i32 : BitVec 32 := 256#32
  let v215 : BitVec 32 := Scalar.addi v214 c256_i32
  let c1_i32_160 : BitVec 32 := 1#32
  let v216 : BitVec 32 := Scalar.subi v215 c1_i32_160
  let c0_i32_162 : BitVec 32 := 0#32
  let v218 : BitVec 1 := Scalar.cmpi .sgt v216 c0_i32_162
  let v219 : BitVec 32 := Scalar.extui v218
  let c0_i32_163 : BitVec 32 := 0#32
  let v220 : BitVec 1 := Scalar.cmpi .slt v216 c0_i32_163
  let v221 : BitVec 32 := Scalar.extui v220
  let v222 : BitVec 32 := Scalar.subi v219 v221
  let c256_i32_161 : BitVec 32 := 256#32
  let c0_i32_164 : BitVec 32 := 0#32
  let v223 : BitVec 1 := Scalar.cmpi .sgt c256_i32_161 c0_i32_164
  let v224 : BitVec 32 := Scalar.extui v223
  let c0_i32_165 : BitVec 32 := 0#32
  let v225 : BitVec 1 := Scalar.cmpi .slt c256_i32_161 c0_i32_165
  let v226 : BitVec 32 := Scalar.extui v225
  let v227 : BitVec 32 := Scalar.subi v224 v226
  let v228 : BitVec 1 := Scalar.cmpi .ne v222 v227
  let v229 : BitVec 32 := Scalar.remsi v216 c256_i32_161
  let c0_i32_166 : BitVec 32 := 0#32
  let v230 : BitVec 1 := Scalar.cmpi .ne v229 c0_i32_166
  let v231 : BitVec 1 := Scalar.andi v228 v230
  let v217 : BitVec 32 := Scalar.divsi v216 c256_i32_161
  let c1_i32_167 : BitVec 32 := 1#32
  let v232 : BitVec 32 := Scalar.subi v217 c1_i32_167
  let v233 : BitVec 32 := Scalar.select v231 v232 v217
  let v235 : BitVec 32 := Scalar.subi v233 c0_i32_169
  let c1_i32_170 : BitVec 32 := 1#32
  let v237 : BitVec 32 := Scalar.divsi v235 c1_i32_170
  let v238 : BitVec 32 := Scalar.muli v237 c1_i32_170
  let v239 : BitVec 32 := Scalar.addi c0_i32_169 v238
  let c1_i32_171 : BitVec 32 := 1#32
  ⟨c0_i32_169, v239, c1_i32_171⟩

def k1_off27 (v214 : BitVec 32) (k1_t7 : Fin (k1_t7_loop v214).trips) : Fin 4 → Nat :=
  let c0_226 : Index := 0#32
  let c0_i32_169 : BitVec 32 := 0#32
  let c1_i32_171 : BitVec 32 := 1#32
  let arg11 : BitVec 32 := Scf.iv c0_i32_169 c1_i32_171 k1_t7
  let v371 : Index := Scalar.indexCast arg11
  let c0_227 : Index := 0#32
  let c0_228 : Index := 0#32
  ![0, v371.toNat, 0, 0]
def k1_off28 (v214 : BitVec 32) (k1_t7 : Fin (k1_t7_loop v214).trips) : Fin 4 → Nat :=
  let c1_229 : Index := 1#32
  let c0_i32_169 : BitVec 32 := 0#32
  let c1_i32_171 : BitVec 32 := 1#32
  let arg11 : BitVec 32 := Scf.iv c0_i32_169 c1_i32_171 k1_t7
  let v375 : Index := Scalar.indexCast arg11
  let c0_230 : Index := 0#32
  let c0_231 : Index := 0#32
  ![1, v375.toNat, 0, 0]
def k1_off29 (v214 : BitVec 32) (k1_t7 : Fin (k1_t7_loop v214).trips) : Fin 4 → Nat :=
  let c2_232 : Index := 2#32
  let c0_i32_169 : BitVec 32 := 0#32
  let c1_i32_171 : BitVec 32 := 1#32
  let arg11 : BitVec 32 := Scf.iv c0_i32_169 c1_i32_171 k1_t7
  let v379 : Index := Scalar.indexCast arg11
  let c0_233 : Index := 0#32
  let c0_234 : Index := 0#32
  ![2, v379.toNat, 0, 0]
def k1_off30 (v214 : BitVec 32) (k1_t7 : Fin (k1_t7_loop v214).trips) : Fin 4 → Nat :=
  let c3_235 : Index := 3#32
  let c0_i32_169 : BitVec 32 := 0#32
  let c1_i32_171 : BitVec 32 := 1#32
  let arg11 : BitVec 32 := Scf.iv c0_i32_169 c1_i32_171 k1_t7
  let v383 : Index := Scalar.indexCast arg11
  let c0_236 : Index := 0#32
  let c0_237 : Index := 0#32
  ![3, v383.toNat, 0, 0]
def k1_off31 (v214 : BitVec 32) (k1_t7 : Fin (k1_t7_loop v214).trips) : Fin 4 → Nat :=
  let c4_238 : Index := 4#32
  let c0_i32_169 : BitVec 32 := 0#32
  let c1_i32_171 : BitVec 32 := 1#32
  let arg11 : BitVec 32 := Scf.iv c0_i32_169 c1_i32_171 k1_t7
  let v387 : Index := Scalar.indexCast arg11
  let c0_239 : Index := 0#32
  let c0_240 : Index := 0#32
  ![4, v387.toNat, 0, 0]
@[reducible] def k1_t8_loop (v214 : BitVec 32) : Scf.Loop 32 :=
  let c0_i32_169 : BitVec 32 := 0#32
  let c256_i32 : BitVec 32 := 256#32
  let v215 : BitVec 32 := Scalar.addi v214 c256_i32
  let c1_i32_160 : BitVec 32 := 1#32
  let v216 : BitVec 32 := Scalar.subi v215 c1_i32_160
  let c0_i32_162 : BitVec 32 := 0#32
  let v218 : BitVec 1 := Scalar.cmpi .sgt v216 c0_i32_162
  let v219 : BitVec 32 := Scalar.extui v218
  let c0_i32_163 : BitVec 32 := 0#32
  let v220 : BitVec 1 := Scalar.cmpi .slt v216 c0_i32_163
  let v221 : BitVec 32 := Scalar.extui v220
  let v222 : BitVec 32 := Scalar.subi v219 v221
  let c256_i32_161 : BitVec 32 := 256#32
  let c0_i32_164 : BitVec 32 := 0#32
  let v223 : BitVec 1 := Scalar.cmpi .sgt c256_i32_161 c0_i32_164
  let v224 : BitVec 32 := Scalar.extui v223
  let c0_i32_165 : BitVec 32 := 0#32
  let v225 : BitVec 1 := Scalar.cmpi .slt c256_i32_161 c0_i32_165
  let v226 : BitVec 32 := Scalar.extui v225
  let v227 : BitVec 32 := Scalar.subi v224 v226
  let v228 : BitVec 1 := Scalar.cmpi .ne v222 v227
  let v229 : BitVec 32 := Scalar.remsi v216 c256_i32_161
  let c0_i32_166 : BitVec 32 := 0#32
  let v230 : BitVec 1 := Scalar.cmpi .ne v229 c0_i32_166
  let v231 : BitVec 1 := Scalar.andi v228 v230
  let v217 : BitVec 32 := Scalar.divsi v216 c256_i32_161
  let c1_i32_167 : BitVec 32 := 1#32
  let v232 : BitVec 32 := Scalar.subi v217 c1_i32_167
  let v233 : BitVec 32 := Scalar.select v231 v232 v217
  let v235 : BitVec 32 := Scalar.subi v233 c0_i32_169
  let c1_i32_170 : BitVec 32 := 1#32
  let v237 : BitVec 32 := Scalar.divsi v235 c1_i32_170
  let v238 : BitVec 32 := Scalar.muli v237 c1_i32_170
  let v239 : BitVec 32 := Scalar.addi c0_i32_169 v238
  let v236 : BitVec 32 := Scalar.addi c0_i32_169 v235
  let c1_i32_172 : BitVec 32 := 1#32
  ⟨v239, v236, c1_i32_172⟩
def k1_off32 (v214 : BitVec 32) (k1_t8 : Fin (k1_t8_loop v214).trips) : Fin 4 → Nat :=
  let c0_226 : Index := 0#32
  let c0_i32_169 : BitVec 32 := 0#32
  let c256_i32 : BitVec 32 := 256#32
  let v215 : BitVec 32 := Scalar.addi v214 c256_i32
  let c1_i32_160 : BitVec 32 := 1#32
  let v216 : BitVec 32 := Scalar.subi v215 c1_i32_160
  let c0_i32_162 : BitVec 32 := 0#32
  let v218 : BitVec 1 := Scalar.cmpi .sgt v216 c0_i32_162
  let v219 : BitVec 32 := Scalar.extui v218
  let c0_i32_163 : BitVec 32 := 0#32
  let v220 : BitVec 1 := Scalar.cmpi .slt v216 c0_i32_163
  let v221 : BitVec 32 := Scalar.extui v220
  let v222 : BitVec 32 := Scalar.subi v219 v221
  let c256_i32_161 : BitVec 32 := 256#32
  let c0_i32_164 : BitVec 32 := 0#32
  let v223 : BitVec 1 := Scalar.cmpi .sgt c256_i32_161 c0_i32_164
  let v224 : BitVec 32 := Scalar.extui v223
  let c0_i32_165 : BitVec 32 := 0#32
  let v225 : BitVec 1 := Scalar.cmpi .slt c256_i32_161 c0_i32_165
  let v226 : BitVec 32 := Scalar.extui v225
  let v227 : BitVec 32 := Scalar.subi v224 v226
  let v228 : BitVec 1 := Scalar.cmpi .ne v222 v227
  let v229 : BitVec 32 := Scalar.remsi v216 c256_i32_161
  let c0_i32_166 : BitVec 32 := 0#32
  let v230 : BitVec 1 := Scalar.cmpi .ne v229 c0_i32_166
  let v231 : BitVec 1 := Scalar.andi v228 v230
  let v217 : BitVec 32 := Scalar.divsi v216 c256_i32_161
  let c1_i32_167 : BitVec 32 := 1#32
  let v232 : BitVec 32 := Scalar.subi v217 c1_i32_167
  let v233 : BitVec 32 := Scalar.select v231 v232 v217
  let v235 : BitVec 32 := Scalar.subi v233 c0_i32_169
  let c1_i32_170 : BitVec 32 := 1#32
  let v237 : BitVec 32 := Scalar.divsi v235 c1_i32_170
  let v238 : BitVec 32 := Scalar.muli v237 c1_i32_170
  let v239 : BitVec 32 := Scalar.addi c0_i32_169 v238
  let c1_i32_172 : BitVec 32 := 1#32
  let arg11 : BitVec 32 := Scf.iv v239 c1_i32_172 k1_t8
  let v371 : Index := Scalar.indexCast arg11
  let c0_227 : Index := 0#32
  let c0_228 : Index := 0#32
  ![0, v371.toNat, 0, 0]
def k1_off33 (v214 : BitVec 32) (k1_t8 : Fin (k1_t8_loop v214).trips) : Fin 4 → Nat :=
  let c1_229 : Index := 1#32
  let c0_i32_169 : BitVec 32 := 0#32
  let c256_i32 : BitVec 32 := 256#32
  let v215 : BitVec 32 := Scalar.addi v214 c256_i32
  let c1_i32_160 : BitVec 32 := 1#32
  let v216 : BitVec 32 := Scalar.subi v215 c1_i32_160
  let c0_i32_162 : BitVec 32 := 0#32
  let v218 : BitVec 1 := Scalar.cmpi .sgt v216 c0_i32_162
  let v219 : BitVec 32 := Scalar.extui v218
  let c0_i32_163 : BitVec 32 := 0#32
  let v220 : BitVec 1 := Scalar.cmpi .slt v216 c0_i32_163
  let v221 : BitVec 32 := Scalar.extui v220
  let v222 : BitVec 32 := Scalar.subi v219 v221
  let c256_i32_161 : BitVec 32 := 256#32
  let c0_i32_164 : BitVec 32 := 0#32
  let v223 : BitVec 1 := Scalar.cmpi .sgt c256_i32_161 c0_i32_164
  let v224 : BitVec 32 := Scalar.extui v223
  let c0_i32_165 : BitVec 32 := 0#32
  let v225 : BitVec 1 := Scalar.cmpi .slt c256_i32_161 c0_i32_165
  let v226 : BitVec 32 := Scalar.extui v225
  let v227 : BitVec 32 := Scalar.subi v224 v226
  let v228 : BitVec 1 := Scalar.cmpi .ne v222 v227
  let v229 : BitVec 32 := Scalar.remsi v216 c256_i32_161
  let c0_i32_166 : BitVec 32 := 0#32
  let v230 : BitVec 1 := Scalar.cmpi .ne v229 c0_i32_166
  let v231 : BitVec 1 := Scalar.andi v228 v230
  let v217 : BitVec 32 := Scalar.divsi v216 c256_i32_161
  let c1_i32_167 : BitVec 32 := 1#32
  let v232 : BitVec 32 := Scalar.subi v217 c1_i32_167
  let v233 : BitVec 32 := Scalar.select v231 v232 v217
  let v235 : BitVec 32 := Scalar.subi v233 c0_i32_169
  let c1_i32_170 : BitVec 32 := 1#32
  let v237 : BitVec 32 := Scalar.divsi v235 c1_i32_170
  let v238 : BitVec 32 := Scalar.muli v237 c1_i32_170
  let v239 : BitVec 32 := Scalar.addi c0_i32_169 v238
  let c1_i32_172 : BitVec 32 := 1#32
  let arg11 : BitVec 32 := Scf.iv v239 c1_i32_172 k1_t8
  let v375 : Index := Scalar.indexCast arg11
  let c0_230 : Index := 0#32
  let c0_231 : Index := 0#32
  ![1, v375.toNat, 0, 0]
def k1_off34 (v214 : BitVec 32) (k1_t8 : Fin (k1_t8_loop v214).trips) : Fin 4 → Nat :=
  let c2_232 : Index := 2#32
  let c0_i32_169 : BitVec 32 := 0#32
  let c256_i32 : BitVec 32 := 256#32
  let v215 : BitVec 32 := Scalar.addi v214 c256_i32
  let c1_i32_160 : BitVec 32 := 1#32
  let v216 : BitVec 32 := Scalar.subi v215 c1_i32_160
  let c0_i32_162 : BitVec 32 := 0#32
  let v218 : BitVec 1 := Scalar.cmpi .sgt v216 c0_i32_162
  let v219 : BitVec 32 := Scalar.extui v218
  let c0_i32_163 : BitVec 32 := 0#32
  let v220 : BitVec 1 := Scalar.cmpi .slt v216 c0_i32_163
  let v221 : BitVec 32 := Scalar.extui v220
  let v222 : BitVec 32 := Scalar.subi v219 v221
  let c256_i32_161 : BitVec 32 := 256#32
  let c0_i32_164 : BitVec 32 := 0#32
  let v223 : BitVec 1 := Scalar.cmpi .sgt c256_i32_161 c0_i32_164
  let v224 : BitVec 32 := Scalar.extui v223
  let c0_i32_165 : BitVec 32 := 0#32
  let v225 : BitVec 1 := Scalar.cmpi .slt c256_i32_161 c0_i32_165
  let v226 : BitVec 32 := Scalar.extui v225
  let v227 : BitVec 32 := Scalar.subi v224 v226
  let v228 : BitVec 1 := Scalar.cmpi .ne v222 v227
  let v229 : BitVec 32 := Scalar.remsi v216 c256_i32_161
  let c0_i32_166 : BitVec 32 := 0#32
  let v230 : BitVec 1 := Scalar.cmpi .ne v229 c0_i32_166
  let v231 : BitVec 1 := Scalar.andi v228 v230
  let v217 : BitVec 32 := Scalar.divsi v216 c256_i32_161
  let c1_i32_167 : BitVec 32 := 1#32
  let v232 : BitVec 32 := Scalar.subi v217 c1_i32_167
  let v233 : BitVec 32 := Scalar.select v231 v232 v217
  let v235 : BitVec 32 := Scalar.subi v233 c0_i32_169
  let c1_i32_170 : BitVec 32 := 1#32
  let v237 : BitVec 32 := Scalar.divsi v235 c1_i32_170
  let v238 : BitVec 32 := Scalar.muli v237 c1_i32_170
  let v239 : BitVec 32 := Scalar.addi c0_i32_169 v238
  let c1_i32_172 : BitVec 32 := 1#32
  let arg11 : BitVec 32 := Scf.iv v239 c1_i32_172 k1_t8
  let v379 : Index := Scalar.indexCast arg11
  let c0_233 : Index := 0#32
  let c0_234 : Index := 0#32
  ![2, v379.toNat, 0, 0]
def k1_off35 (v214 : BitVec 32) (k1_t8 : Fin (k1_t8_loop v214).trips) : Fin 4 → Nat :=
  let c3_235 : Index := 3#32
  let c0_i32_169 : BitVec 32 := 0#32
  let c256_i32 : BitVec 32 := 256#32
  let v215 : BitVec 32 := Scalar.addi v214 c256_i32
  let c1_i32_160 : BitVec 32 := 1#32
  let v216 : BitVec 32 := Scalar.subi v215 c1_i32_160
  let c0_i32_162 : BitVec 32 := 0#32
  let v218 : BitVec 1 := Scalar.cmpi .sgt v216 c0_i32_162
  let v219 : BitVec 32 := Scalar.extui v218
  let c0_i32_163 : BitVec 32 := 0#32
  let v220 : BitVec 1 := Scalar.cmpi .slt v216 c0_i32_163
  let v221 : BitVec 32 := Scalar.extui v220
  let v222 : BitVec 32 := Scalar.subi v219 v221
  let c256_i32_161 : BitVec 32 := 256#32
  let c0_i32_164 : BitVec 32 := 0#32
  let v223 : BitVec 1 := Scalar.cmpi .sgt c256_i32_161 c0_i32_164
  let v224 : BitVec 32 := Scalar.extui v223
  let c0_i32_165 : BitVec 32 := 0#32
  let v225 : BitVec 1 := Scalar.cmpi .slt c256_i32_161 c0_i32_165
  let v226 : BitVec 32 := Scalar.extui v225
  let v227 : BitVec 32 := Scalar.subi v224 v226
  let v228 : BitVec 1 := Scalar.cmpi .ne v222 v227
  let v229 : BitVec 32 := Scalar.remsi v216 c256_i32_161
  let c0_i32_166 : BitVec 32 := 0#32
  let v230 : BitVec 1 := Scalar.cmpi .ne v229 c0_i32_166
  let v231 : BitVec 1 := Scalar.andi v228 v230
  let v217 : BitVec 32 := Scalar.divsi v216 c256_i32_161
  let c1_i32_167 : BitVec 32 := 1#32
  let v232 : BitVec 32 := Scalar.subi v217 c1_i32_167
  let v233 : BitVec 32 := Scalar.select v231 v232 v217
  let v235 : BitVec 32 := Scalar.subi v233 c0_i32_169
  let c1_i32_170 : BitVec 32 := 1#32
  let v237 : BitVec 32 := Scalar.divsi v235 c1_i32_170
  let v238 : BitVec 32 := Scalar.muli v237 c1_i32_170
  let v239 : BitVec 32 := Scalar.addi c0_i32_169 v238
  let c1_i32_172 : BitVec 32 := 1#32
  let arg11 : BitVec 32 := Scf.iv v239 c1_i32_172 k1_t8
  let v383 : Index := Scalar.indexCast arg11
  let c0_236 : Index := 0#32
  let c0_237 : Index := 0#32
  ![3, v383.toNat, 0, 0]
def k1_off36 (v214 : BitVec 32) (k1_t8 : Fin (k1_t8_loop v214).trips) : Fin 4 → Nat :=
  let c4_238 : Index := 4#32
  let c0_i32_169 : BitVec 32 := 0#32
  let c256_i32 : BitVec 32 := 256#32
  let v215 : BitVec 32 := Scalar.addi v214 c256_i32
  let c1_i32_160 : BitVec 32 := 1#32
  let v216 : BitVec 32 := Scalar.subi v215 c1_i32_160
  let c0_i32_162 : BitVec 32 := 0#32
  let v218 : BitVec 1 := Scalar.cmpi .sgt v216 c0_i32_162
  let v219 : BitVec 32 := Scalar.extui v218
  let c0_i32_163 : BitVec 32 := 0#32
  let v220 : BitVec 1 := Scalar.cmpi .slt v216 c0_i32_163
  let v221 : BitVec 32 := Scalar.extui v220
  let v222 : BitVec 32 := Scalar.subi v219 v221
  let c256_i32_161 : BitVec 32 := 256#32
  let c0_i32_164 : BitVec 32 := 0#32
  let v223 : BitVec 1 := Scalar.cmpi .sgt c256_i32_161 c0_i32_164
  let v224 : BitVec 32 := Scalar.extui v223
  let c0_i32_165 : BitVec 32 := 0#32
  let v225 : BitVec 1 := Scalar.cmpi .slt c256_i32_161 c0_i32_165
  let v226 : BitVec 32 := Scalar.extui v225
  let v227 : BitVec 32 := Scalar.subi v224 v226
  let v228 : BitVec 1 := Scalar.cmpi .ne v222 v227
  let v229 : BitVec 32 := Scalar.remsi v216 c256_i32_161
  let c0_i32_166 : BitVec 32 := 0#32
  let v230 : BitVec 1 := Scalar.cmpi .ne v229 c0_i32_166
  let v231 : BitVec 1 := Scalar.andi v228 v230
  let v217 : BitVec 32 := Scalar.divsi v216 c256_i32_161
  let c1_i32_167 : BitVec 32 := 1#32
  let v232 : BitVec 32 := Scalar.subi v217 c1_i32_167
  let v233 : BitVec 32 := Scalar.select v231 v232 v217
  let v235 : BitVec 32 := Scalar.subi v233 c0_i32_169
  let c1_i32_170 : BitVec 32 := 1#32
  let v237 : BitVec 32 := Scalar.divsi v235 c1_i32_170
  let v238 : BitVec 32 := Scalar.muli v237 c1_i32_170
  let v239 : BitVec 32 := Scalar.addi c0_i32_169 v238
  let c1_i32_172 : BitVec 32 := 1#32
  let arg11 : BitVec 32 := Scf.iv v239 c1_i32_172 k1_t8
  let v387 : Index := Scalar.indexCast arg11
  let c0_239 : Index := 0#32
  let c0_240 : Index := 0#32
  ![4, v387.toNat, 0, 0]

def k1_chk4 (v214 : BitVec 32) : Prop :=
  ((k1_t7_loop v214).OK) ∧
  (∀ k1_t7 : Fin (k1_t7_loop v214).trips, ∀ a, (k1_off27 v214 k1_t7) a + S1x1x1x256.size a ≤ S5x80x1x256.size a) ∧
  (∀ k1_t7 : Fin (k1_t7_loop v214).trips, ∀ a, (k1_off28 v214 k1_t7) a + S1x1x1x256.size a ≤ S5x80x1x256.size a) ∧
  (∀ k1_t7 : Fin (k1_t7_loop v214).trips, ∀ a, (k1_off29 v214 k1_t7) a + S1x1x1x256.size a ≤ S5x80x1x256.size a) ∧
  (∀ k1_t7 : Fin (k1_t7_loop v214).trips, ∀ a, (k1_off30 v214 k1_t7) a + S1x1x1x256.size a ≤ S5x80x1x256.size a) ∧
  (∀ k1_t7 : Fin (k1_t7_loop v214).trips, ∀ a, (k1_off31 v214 k1_t7) a + S1x1x1x256.size a ≤ S5x80x1x256.size a) ∧
  ((k1_t8_loop v214).OK) ∧
  (∀ k1_t8 : Fin (k1_t8_loop v214).trips, ∀ a, (k1_off32 v214 k1_t8) a + S1x1x1x256.size a ≤ S5x80x1x256.size a) ∧
  (∀ k1_t8 : Fin (k1_t8_loop v214).trips, ∀ a, (k1_off33 v214 k1_t8) a + S1x1x1x256.size a ≤ S5x80x1x256.size a) ∧
  (∀ k1_t8 : Fin (k1_t8_loop v214).trips, ∀ a, (k1_off34 v214 k1_t8) a + S1x1x1x256.size a ≤ S5x80x1x256.size a) ∧
  (∀ k1_t8 : Fin (k1_t8_loop v214).trips, ∀ a, (k1_off35 v214 k1_t8) a + S1x1x1x256.size a ≤ S5x80x1x256.size a) ∧
  (∀ k1_t8 : Fin (k1_t8_loop v214).trips, ∀ a, (k1_off36 v214 k1_t8) a + S1x1x1x256.size a ≤ S5x80x1x256.size a)
theorem k1_t7_ok : ∀ (v214 : BitVec 32) (k1_hw4 : k1_chk4 v214), (k1_t7_loop v214).OK := fun v214 k1_hw4 => k1_hw4.1
theorem k1_off27_inb : ∀ (v214 : BitVec 32) (k1_hw4 : k1_chk4 v214) (k1_t7 : Fin (k1_t7_loop v214).trips), ∀ a, (k1_off27 v214 k1_t7) a + S1x1x1x256.size a ≤ S5x80x1x256.size a := fun v214 k1_hw4 k1_t7 => k1_hw4.2.1 k1_t7
theorem k1_off28_inb : ∀ (v214 : BitVec 32) (k1_hw4 : k1_chk4 v214) (k1_t7 : Fin (k1_t7_loop v214).trips), ∀ a, (k1_off28 v214 k1_t7) a + S1x1x1x256.size a ≤ S5x80x1x256.size a := fun v214 k1_hw4 k1_t7 => k1_hw4.2.2.1 k1_t7
theorem k1_off29_inb : ∀ (v214 : BitVec 32) (k1_hw4 : k1_chk4 v214) (k1_t7 : Fin (k1_t7_loop v214).trips), ∀ a, (k1_off29 v214 k1_t7) a + S1x1x1x256.size a ≤ S5x80x1x256.size a := fun v214 k1_hw4 k1_t7 => k1_hw4.2.2.2.1 k1_t7
theorem k1_off30_inb : ∀ (v214 : BitVec 32) (k1_hw4 : k1_chk4 v214) (k1_t7 : Fin (k1_t7_loop v214).trips), ∀ a, (k1_off30 v214 k1_t7) a + S1x1x1x256.size a ≤ S5x80x1x256.size a := fun v214 k1_hw4 k1_t7 => k1_hw4.2.2.2.2.1 k1_t7
theorem k1_off31_inb : ∀ (v214 : BitVec 32) (k1_hw4 : k1_chk4 v214) (k1_t7 : Fin (k1_t7_loop v214).trips), ∀ a, (k1_off31 v214 k1_t7) a + S1x1x1x256.size a ≤ S5x80x1x256.size a := fun v214 k1_hw4 k1_t7 => k1_hw4.2.2.2.2.2.1 k1_t7
theorem k1_t8_ok : ∀ (v214 : BitVec 32) (k1_hw4 : k1_chk4 v214), (k1_t8_loop v214).OK := fun v214 k1_hw4 => k1_hw4.2.2.2.2.2.2.1
theorem k1_off32_inb : ∀ (v214 : BitVec 32) (k1_hw4 : k1_chk4 v214) (k1_t8 : Fin (k1_t8_loop v214).trips), ∀ a, (k1_off32 v214 k1_t8) a + S1x1x1x256.size a ≤ S5x80x1x256.size a := fun v214 k1_hw4 k1_t8 => k1_hw4.2.2.2.2.2.2.2.1 k1_t8
theorem k1_off33_inb : ∀ (v214 : BitVec 32) (k1_hw4 : k1_chk4 v214) (k1_t8 : Fin (k1_t8_loop v214).trips), ∀ a, (k1_off33 v214 k1_t8) a + S1x1x1x256.size a ≤ S5x80x1x256.size a := fun v214 k1_hw4 k1_t8 => k1_hw4.2.2.2.2.2.2.2.2.1 k1_t8
theorem k1_off34_inb : ∀ (v214 : BitVec 32) (k1_hw4 : k1_chk4 v214) (k1_t8 : Fin (k1_t8_loop v214).trips), ∀ a, (k1_off34 v214 k1_t8) a + S1x1x1x256.size a ≤ S5x80x1x256.size a := fun v214 k1_hw4 k1_t8 => k1_hw4.2.2.2.2.2.2.2.2.2.1 k1_t8
theorem k1_off35_inb : ∀ (v214 : BitVec 32) (k1_hw4 : k1_chk4 v214) (k1_t8 : Fin (k1_t8_loop v214).trips), ∀ a, (k1_off35 v214 k1_t8) a + S1x1x1x256.size a ≤ S5x80x1x256.size a := fun v214 k1_hw4 k1_t8 => k1_hw4.2.2.2.2.2.2.2.2.2.2.1 k1_t8
theorem k1_off36_inb : ∀ (v214 : BitVec 32) (k1_hw4 : k1_chk4 v214) (k1_t8 : Fin (k1_t8_loop v214).trips), ∀ a, (k1_off36 v214 k1_t8) a + S1x1x1x256.size a ≤ S5x80x1x256.size a := fun v214 k1_hw4 k1_t8 => k1_hw4.2.2.2.2.2.2.2.2.2.2.2 k1_t8

def k1_off37 (v126 : BitVec 32) (k1_t6 : Fin (k1_t6_loop v126).trips) : Fin 4 → Nat :=
  let c0_175 : Index := 0#32
  let c0_i32_94 : BitVec 32 := 0#32
  let v142 : BitVec 32 := Scalar.subi v126 c0_i32_94
  let c1_i32_96 : BitVec 32 := 1#32
  let v144 : BitVec 32 := Scalar.divsi v142 c1_i32_96
  let v145 : BitVec 32 := Scalar.muli v144 c1_i32_96
  let v146 : BitVec 32 := Scalar.addi c0_i32_94 v145
  let c1_i32_98 : BitVec 32 := 1#32
  let arg9 : BitVec 32 := Scf.iv v146 c1_i32_98 k1_t6
  let v247 : Index := Scalar.indexCast arg9
  let c0_176 : Index := 0#32
  let c0_177 : Index := 0#32
  ![0, v247.toNat, 0, 0]
def k1_off38 (v126 : BitVec 32) (k1_t6 : Fin (k1_t6_loop v126).trips) : Fin 4 → Nat :=
  let c1_178 : Index := 1#32
  let c0_i32_94 : BitVec 32 := 0#32
  let v142 : BitVec 32 := Scalar.subi v126 c0_i32_94
  let c1_i32_96 : BitVec 32 := 1#32
  let v144 : BitVec 32 := Scalar.divsi v142 c1_i32_96
  let v145 : BitVec 32 := Scalar.muli v144 c1_i32_96
  let v146 : BitVec 32 := Scalar.addi c0_i32_94 v145
  let c1_i32_98 : BitVec 32 := 1#32
  let arg9 : BitVec 32 := Scf.iv v146 c1_i32_98 k1_t6
  let v251 : Index := Scalar.indexCast arg9
  let c0_179 : Index := 0#32
  let c0_180 : Index := 0#32
  ![1, v251.toNat, 0, 0]
def k1_off39 (v126 : BitVec 32) (k1_t6 : Fin (k1_t6_loop v126).trips) : Fin 4 → Nat :=
  let c2_181 : Index := 2#32
  let c0_i32_94 : BitVec 32 := 0#32
  let v142 : BitVec 32 := Scalar.subi v126 c0_i32_94
  let c1_i32_96 : BitVec 32 := 1#32
  let v144 : BitVec 32 := Scalar.divsi v142 c1_i32_96
  let v145 : BitVec 32 := Scalar.muli v144 c1_i32_96
  let v146 : BitVec 32 := Scalar.addi c0_i32_94 v145
  let c1_i32_98 : BitVec 32 := 1#32
  let arg9 : BitVec 32 := Scf.iv v146 c1_i32_98 k1_t6
  let v255 : Index := Scalar.indexCast arg9
  let c0_182 : Index := 0#32
  let c0_183 : Index := 0#32
  ![2, v255.toNat, 0, 0]
def k1_off40 (v126 : BitVec 32) (k1_t6 : Fin (k1_t6_loop v126).trips) : Fin 4 → Nat :=
  let c3_184 : Index := 3#32
  let c0_i32_94 : BitVec 32 := 0#32
  let v142 : BitVec 32 := Scalar.subi v126 c0_i32_94
  let c1_i32_96 : BitVec 32 := 1#32
  let v144 : BitVec 32 := Scalar.divsi v142 c1_i32_96
  let v145 : BitVec 32 := Scalar.muli v144 c1_i32_96
  let v146 : BitVec 32 := Scalar.addi c0_i32_94 v145
  let c1_i32_98 : BitVec 32 := 1#32
  let arg9 : BitVec 32 := Scf.iv v146 c1_i32_98 k1_t6
  let v259 : Index := Scalar.indexCast arg9
  let c0_185 : Index := 0#32
  let c0_186 : Index := 0#32
  ![3, v259.toNat, 0, 0]
def k1_off41 (v126 : BitVec 32) (k1_t6 : Fin (k1_t6_loop v126).trips) : Fin 4 → Nat :=
  let c4_187 : Index := 4#32
  let c0_i32_94 : BitVec 32 := 0#32
  let v142 : BitVec 32 := Scalar.subi v126 c0_i32_94
  let c1_i32_96 : BitVec 32 := 1#32
  let v144 : BitVec 32 := Scalar.divsi v142 c1_i32_96
  let v145 : BitVec 32 := Scalar.muli v144 c1_i32_96
  let v146 : BitVec 32 := Scalar.addi c0_i32_94 v145
  let c1_i32_98 : BitVec 32 := 1#32
  let arg9 : BitVec 32 := Scf.iv v146 c1_i32_98 k1_t6
  let v263 : Index := Scalar.indexCast arg9
  let c0_188 : Index := 0#32
  let c0_189 : Index := 0#32
  ![4, v263.toNat, 0, 0]
def k1_off42 (v126 : BitVec 32) (k1_t6 : Fin (k1_t6_loop v126).trips) : Fin 3 → Nat :=
  let c0_i32_94 : BitVec 32 := 0#32
  let v142 : BitVec 32 := Scalar.subi v126 c0_i32_94
  let c1_i32_96 : BitVec 32 := 1#32
  let v144 : BitVec 32 := Scalar.divsi v142 c1_i32_96
  let v145 : BitVec 32 := Scalar.muli v144 c1_i32_96
  let v146 : BitVec 32 := Scalar.addi c0_i32_94 v145
  let c1_i32_98 : BitVec 32 := 1#32
  let arg9 : BitVec 32 := Scf.iv v146 c1_i32_98 k1_t6
  let v298 : Index := Scalar.indexCast arg9
  let c0_193 : Index := 0#32
  let c0_194 : Index := 0#32
  ![v298.toNat, 0, 0]

def k1_chk1 (v126 : BitVec 32) : Prop :=
  ((k1_t1_loop v126).OK) ∧
  (∀ k1_t1 : Fin (k1_t1_loop v126).trips, ∀ a, (k1_off11 v126 k1_t1) a + S1x1x1x1024.size a ≤ S5x20x1x1024.size a) ∧
  (∀ k1_t1 : Fin (k1_t1_loop v126).trips, ∀ a, (k1_off12 v126 k1_t1) a + S1x1x1x1024.size a ≤ S5x20x1x1024.size a) ∧
  (∀ k1_t1 : Fin (k1_t1_loop v126).trips, ∀ a, (k1_off13 v126 k1_t1) a + S1x1x1x1024.size a ≤ S5x20x1x1024.size a) ∧
  (∀ k1_t1 : Fin (k1_t1_loop v126).trips, ∀ a, (k1_off14 v126 k1_t1) a + S1x1x1x1024.size a ≤ S5x20x1x1024.size a) ∧
  (∀ k1_t1 : Fin (k1_t1_loop v126).trips, ∀ a, (k1_off15 v126 k1_t1) a + S1x1x1x1024.size a ≤ S5x20x1x1024.size a) ∧
  (∀ k1_t1 : Fin (k1_t1_loop v126).trips, ∀ a, (k1_off16 v126 k1_t1) a + S1x1x1024.size a ≤ S20x1x1024.size a) ∧
  ((k1_t6_loop v126).OK) ∧
  (∀ k1_t6 : Fin (k1_t6_loop v126).trips, ∀ a, (k1_off37 v126 k1_t6) a + S1x1x1x1024.size a ≤ S5x20x1x1024.size a) ∧
  (∀ k1_t6 : Fin (k1_t6_loop v126).trips, ∀ a, (k1_off38 v126 k1_t6) a + S1x1x1x1024.size a ≤ S5x20x1x1024.size a) ∧
  (∀ k1_t6 : Fin (k1_t6_loop v126).trips, ∀ a, (k1_off39 v126 k1_t6) a + S1x1x1x1024.size a ≤ S5x20x1x1024.size a) ∧
  (∀ k1_t6 : Fin (k1_t6_loop v126).trips, ∀ a, (k1_off40 v126 k1_t6) a + S1x1x1x1024.size a ≤ S5x20x1x1024.size a) ∧
  (∀ k1_t6 : Fin (k1_t6_loop v126).trips, ∀ a, (k1_off41 v126 k1_t6) a + S1x1x1x1024.size a ≤ S5x20x1x1024.size a) ∧
  (∀ k1_t6 : Fin (k1_t6_loop v126).trips, ∀ a, (k1_off42 v126 k1_t6) a + S1x1x1024.size a ≤ S20x1x1024.size a)
theorem k1_t1_ok : ∀ (v126 : BitVec 32) (k1_hw1 : k1_chk1 v126), (k1_t1_loop v126).OK := fun v126 k1_hw1 => k1_hw1.1
theorem k1_off11_inb : ∀ (v126 : BitVec 32) (k1_hw1 : k1_chk1 v126) (k1_t1 : Fin (k1_t1_loop v126).trips), ∀ a, (k1_off11 v126 k1_t1) a + S1x1x1x1024.size a ≤ S5x20x1x1024.size a := fun v126 k1_hw1 k1_t1 => k1_hw1.2.1 k1_t1
theorem k1_off12_inb : ∀ (v126 : BitVec 32) (k1_hw1 : k1_chk1 v126) (k1_t1 : Fin (k1_t1_loop v126).trips), ∀ a, (k1_off12 v126 k1_t1) a + S1x1x1x1024.size a ≤ S5x20x1x1024.size a := fun v126 k1_hw1 k1_t1 => k1_hw1.2.2.1 k1_t1
theorem k1_off13_inb : ∀ (v126 : BitVec 32) (k1_hw1 : k1_chk1 v126) (k1_t1 : Fin (k1_t1_loop v126).trips), ∀ a, (k1_off13 v126 k1_t1) a + S1x1x1x1024.size a ≤ S5x20x1x1024.size a := fun v126 k1_hw1 k1_t1 => k1_hw1.2.2.2.1 k1_t1
theorem k1_off14_inb : ∀ (v126 : BitVec 32) (k1_hw1 : k1_chk1 v126) (k1_t1 : Fin (k1_t1_loop v126).trips), ∀ a, (k1_off14 v126 k1_t1) a + S1x1x1x1024.size a ≤ S5x20x1x1024.size a := fun v126 k1_hw1 k1_t1 => k1_hw1.2.2.2.2.1 k1_t1
theorem k1_off15_inb : ∀ (v126 : BitVec 32) (k1_hw1 : k1_chk1 v126) (k1_t1 : Fin (k1_t1_loop v126).trips), ∀ a, (k1_off15 v126 k1_t1) a + S1x1x1x1024.size a ≤ S5x20x1x1024.size a := fun v126 k1_hw1 k1_t1 => k1_hw1.2.2.2.2.2.1 k1_t1
theorem k1_off16_inb : ∀ (v126 : BitVec 32) (k1_hw1 : k1_chk1 v126) (k1_t1 : Fin (k1_t1_loop v126).trips), ∀ a, (k1_off16 v126 k1_t1) a + S1x1x1024.size a ≤ S20x1x1024.size a := fun v126 k1_hw1 k1_t1 => k1_hw1.2.2.2.2.2.2.1 k1_t1
theorem k1_t6_ok : ∀ (v126 : BitVec 32) (k1_hw1 : k1_chk1 v126), (k1_t6_loop v126).OK := fun v126 k1_hw1 => k1_hw1.2.2.2.2.2.2.2.1
theorem k1_off37_inb : ∀ (v126 : BitVec 32) (k1_hw1 : k1_chk1 v126) (k1_t6 : Fin (k1_t6_loop v126).trips), ∀ a, (k1_off37 v126 k1_t6) a + S1x1x1x1024.size a ≤ S5x20x1x1024.size a := fun v126 k1_hw1 k1_t6 => k1_hw1.2.2.2.2.2.2.2.2.1 k1_t6
theorem k1_off38_inb : ∀ (v126 : BitVec 32) (k1_hw1 : k1_chk1 v126) (k1_t6 : Fin (k1_t6_loop v126).trips), ∀ a, (k1_off38 v126 k1_t6) a + S1x1x1x1024.size a ≤ S5x20x1x1024.size a := fun v126 k1_hw1 k1_t6 => k1_hw1.2.2.2.2.2.2.2.2.2.1 k1_t6
theorem k1_off39_inb : ∀ (v126 : BitVec 32) (k1_hw1 : k1_chk1 v126) (k1_t6 : Fin (k1_t6_loop v126).trips), ∀ a, (k1_off39 v126 k1_t6) a + S1x1x1x1024.size a ≤ S5x20x1x1024.size a := fun v126 k1_hw1 k1_t6 => k1_hw1.2.2.2.2.2.2.2.2.2.2.1 k1_t6
theorem k1_off40_inb : ∀ (v126 : BitVec 32) (k1_hw1 : k1_chk1 v126) (k1_t6 : Fin (k1_t6_loop v126).trips), ∀ a, (k1_off40 v126 k1_t6) a + S1x1x1x1024.size a ≤ S5x20x1x1024.size a := fun v126 k1_hw1 k1_t6 => k1_hw1.2.2.2.2.2.2.2.2.2.2.2.1 k1_t6
theorem k1_off41_inb : ∀ (v126 : BitVec 32) (k1_hw1 : k1_chk1 v126) (k1_t6 : Fin (k1_t6_loop v126).trips), ∀ a, (k1_off41 v126 k1_t6) a + S1x1x1x1024.size a ≤ S5x20x1x1024.size a := fun v126 k1_hw1 k1_t6 => k1_hw1.2.2.2.2.2.2.2.2.2.2.2.2.1 k1_t6
theorem k1_off42_inb : ∀ (v126 : BitVec 32) (k1_hw1 : k1_chk1 v126) (k1_t6 : Fin (k1_t6_loop v126).trips), ∀ a, (k1_off42 v126 k1_t6) a + S1x1x1024.size a ≤ S20x1x1024.size a := fun v126 k1_hw1 k1_t6 => k1_hw1.2.2.2.2.2.2.2.2.2.2.2.2.2 k1_t6

@[reducible] def k1_t9_loop (v214 : BitVec 32) (v315 : BitVec 32) : Scf.Loop 32 :=
  let c0_i32_205 : BitVec 32 := 0#32
  let v326 : BitVec 1 := Scalar.cmpi .sgt v214 c0_i32_205
  let v327 : BitVec 32 := Scalar.extui v326
  let c0_i32_206 : BitVec 32 := 0#32
  let v328 : BitVec 1 := Scalar.cmpi .slt v214 c0_i32_206
  let v329 : BitVec 32 := Scalar.extui v328
  let v330 : BitVec 32 := Scalar.subi v327 v329
  let c256_i32_204 : BitVec 32 := 256#32
  let c0_i32_207 : BitVec 32 := 0#32
  let v331 : BitVec 1 := Scalar.cmpi .sgt c256_i32_204 c0_i32_207
  let v332 : BitVec 32 := Scalar.extui v331
  let c0_i32_208 : BitVec 32 := 0#32
  let v333 : BitVec 1 := Scalar.cmpi .slt c256_i32_204 c0_i32_208
  let v334 : BitVec 32 := Scalar.extui v333
  let v335 : BitVec 32 := Scalar.subi v332 v334
  let v336 : BitVec 1 := Scalar.cmpi .ne v330 v335
  let v337 : BitVec 32 := Scalar.remsi v214 c256_i32_204
  let c0_i32_209 : BitVec 32 := 0#32
  let v338 : BitVec 1 := Scalar.cmpi .ne v337 c0_i32_209
  let v339 : BitVec 1 := Scalar.andi v336 v338
  let v325 : BitVec 32 := Scalar.divsi v214 c256_i32_204
  let c1_i32_210 : BitVec 32 := 1#32
  let v340 : BitVec 32 := Scalar.subi v325 c1_i32_210
  let v341 : BitVec 32 := Scalar.select v339 v340 v325
  let v342 : BitVec 32 := Scalar.addi v214 v315
  let c256_i32_211 : BitVec 32 := 256#32
  let v343 : BitVec 32 := Scalar.addi v342 c256_i32_211
  let c1_i32_212 : BitVec 32 := 1#32
  let v344 : BitVec 32 := Scalar.subi v343 c1_i32_212
  let c0_i32_214 : BitVec 32 := 0#32
  let v346 : BitVec 1 := Scalar.cmpi .sgt v344 c0_i32_214
  let v347 : BitVec 32 := Scalar.extui v346
  let c0_i32_215 : BitVec 32 := 0#32
  let v348 : BitVec 1 := Scalar.cmpi .slt v344 c0_i32_215
  let v349 : BitVec 32 := Scalar.extui v348
  let v350 : BitVec 32 := Scalar.subi v347 v349
  let c256_i32_213 : BitVec 32 := 256#32
  let c0_i32_216 : BitVec 32 := 0#32
  let v351 : BitVec 1 := Scalar.cmpi .sgt c256_i32_213 c0_i32_216
  let v352 : BitVec 32 := Scalar.extui v351
  let c0_i32_217 : BitVec 32 := 0#32
  let v353 : BitVec 1 := Scalar.cmpi .slt c256_i32_213 c0_i32_217
  let v354 : BitVec 32 := Scalar.extui v353
  let v355 : BitVec 32 := Scalar.subi v352 v354
  let v356 : BitVec 1 := Scalar.cmpi .ne v350 v355
  let v357 : BitVec 32 := Scalar.remsi v344 c256_i32_213
  let c0_i32_218 : BitVec 32 := 0#32
  let v358 : BitVec 1 := Scalar.cmpi .ne v357 c0_i32_218
  let v359 : BitVec 1 := Scalar.andi v356 v358
  let v345 : BitVec 32 := Scalar.divsi v344 c256_i32_213
  let c1_i32_219 : BitVec 32 := 1#32
  let v360 : BitVec 32 := Scalar.subi v345 c1_i32_219
  let v361 : BitVec 32 := Scalar.select v359 v360 v345
  let v362 : BitVec 32 := Scalar.subi v361 v341
  let c1_i32_221 : BitVec 32 := 1#32
  let v364 : BitVec 32 := Scalar.divsi v362 c1_i32_221
  let v365 : BitVec 32 := Scalar.muli v364 c1_i32_221
  let v366 : BitVec 32 := Scalar.addi v341 v365
  let c1_i32_222 : BitVec 32 := 1#32
  ⟨v341, v366, c1_i32_222⟩

def k1_off43 (v214 : BitVec 32) (v315 : BitVec 32) (k1_t9 : Fin (k1_t9_loop v214 v315).trips) : Fin 4 → Nat :=
  let c0_228 : Index := 0#32
  let c0_i32_205 : BitVec 32 := 0#32
  let v326 : BitVec 1 := Scalar.cmpi .sgt v214 c0_i32_205
  let v327 : BitVec 32 := Scalar.extui v326
  let c0_i32_206 : BitVec 32 := 0#32
  let v328 : BitVec 1 := Scalar.cmpi .slt v214 c0_i32_206
  let v329 : BitVec 32 := Scalar.extui v328
  let v330 : BitVec 32 := Scalar.subi v327 v329
  let c256_i32_204 : BitVec 32 := 256#32
  let c0_i32_207 : BitVec 32 := 0#32
  let v331 : BitVec 1 := Scalar.cmpi .sgt c256_i32_204 c0_i32_207
  let v332 : BitVec 32 := Scalar.extui v331
  let c0_i32_208 : BitVec 32 := 0#32
  let v333 : BitVec 1 := Scalar.cmpi .slt c256_i32_204 c0_i32_208
  let v334 : BitVec 32 := Scalar.extui v333
  let v335 : BitVec 32 := Scalar.subi v332 v334
  let v336 : BitVec 1 := Scalar.cmpi .ne v330 v335
  let v337 : BitVec 32 := Scalar.remsi v214 c256_i32_204
  let c0_i32_209 : BitVec 32 := 0#32
  let v338 : BitVec 1 := Scalar.cmpi .ne v337 c0_i32_209
  let v339 : BitVec 1 := Scalar.andi v336 v338
  let v325 : BitVec 32 := Scalar.divsi v214 c256_i32_204
  let c1_i32_210 : BitVec 32 := 1#32
  let v340 : BitVec 32 := Scalar.subi v325 c1_i32_210
  let v341 : BitVec 32 := Scalar.select v339 v340 v325
  let c1_i32_222 : BitVec 32 := 1#32
  let arg11 : BitVec 32 := Scf.iv v341 c1_i32_222 k1_t9
  let v384 : Index := Scalar.indexCast arg11
  let c0_229 : Index := 0#32
  let c0_230 : Index := 0#32
  ![0, v384.toNat, 0, 0]
def k1_off44 (v214 : BitVec 32) (v315 : BitVec 32) (k1_t9 : Fin (k1_t9_loop v214 v315).trips) : Fin 4 → Nat :=
  let c1_235 : Index := 1#32
  let c0_i32_205 : BitVec 32 := 0#32
  let v326 : BitVec 1 := Scalar.cmpi .sgt v214 c0_i32_205
  let v327 : BitVec 32 := Scalar.extui v326
  let c0_i32_206 : BitVec 32 := 0#32
  let v328 : BitVec 1 := Scalar.cmpi .slt v214 c0_i32_206
  let v329 : BitVec 32 := Scalar.extui v328
  let v330 : BitVec 32 := Scalar.subi v327 v329
  let c256_i32_204 : BitVec 32 := 256#32
  let c0_i32_207 : BitVec 32 := 0#32
  let v331 : BitVec 1 := Scalar.cmpi .sgt c256_i32_204 c0_i32_207
  let v332 : BitVec 32 := Scalar.extui v331
  let c0_i32_208 : BitVec 32 := 0#32
  let v333 : BitVec 1 := Scalar.cmpi .slt c256_i32_204 c0_i32_208
  let v334 : BitVec 32 := Scalar.extui v333
  let v335 : BitVec 32 := Scalar.subi v332 v334
  let v336 : BitVec 1 := Scalar.cmpi .ne v330 v335
  let v337 : BitVec 32 := Scalar.remsi v214 c256_i32_204
  let c0_i32_209 : BitVec 32 := 0#32
  let v338 : BitVec 1 := Scalar.cmpi .ne v337 c0_i32_209
  let v339 : BitVec 1 := Scalar.andi v336 v338
  let v325 : BitVec 32 := Scalar.divsi v214 c256_i32_204
  let c1_i32_210 : BitVec 32 := 1#32
  let v340 : BitVec 32 := Scalar.subi v325 c1_i32_210
  let v341 : BitVec 32 := Scalar.select v339 v340 v325
  let c1_i32_222 : BitVec 32 := 1#32
  let arg11 : BitVec 32 := Scf.iv v341 c1_i32_222 k1_t9
  let v397 : Index := Scalar.indexCast arg11
  let c0_236 : Index := 0#32
  let c0_237 : Index := 0#32
  ![1, v397.toNat, 0, 0]
def k1_off45 (v214 : BitVec 32) (v315 : BitVec 32) (k1_t9 : Fin (k1_t9_loop v214 v315).trips) : Fin 4 → Nat :=
  let c2_242 : Index := 2#32
  let c0_i32_205 : BitVec 32 := 0#32
  let v326 : BitVec 1 := Scalar.cmpi .sgt v214 c0_i32_205
  let v327 : BitVec 32 := Scalar.extui v326
  let c0_i32_206 : BitVec 32 := 0#32
  let v328 : BitVec 1 := Scalar.cmpi .slt v214 c0_i32_206
  let v329 : BitVec 32 := Scalar.extui v328
  let v330 : BitVec 32 := Scalar.subi v327 v329
  let c256_i32_204 : BitVec 32 := 256#32
  let c0_i32_207 : BitVec 32 := 0#32
  let v331 : BitVec 1 := Scalar.cmpi .sgt c256_i32_204 c0_i32_207
  let v332 : BitVec 32 := Scalar.extui v331
  let c0_i32_208 : BitVec 32 := 0#32
  let v333 : BitVec 1 := Scalar.cmpi .slt c256_i32_204 c0_i32_208
  let v334 : BitVec 32 := Scalar.extui v333
  let v335 : BitVec 32 := Scalar.subi v332 v334
  let v336 : BitVec 1 := Scalar.cmpi .ne v330 v335
  let v337 : BitVec 32 := Scalar.remsi v214 c256_i32_204
  let c0_i32_209 : BitVec 32 := 0#32
  let v338 : BitVec 1 := Scalar.cmpi .ne v337 c0_i32_209
  let v339 : BitVec 1 := Scalar.andi v336 v338
  let v325 : BitVec 32 := Scalar.divsi v214 c256_i32_204
  let c1_i32_210 : BitVec 32 := 1#32
  let v340 : BitVec 32 := Scalar.subi v325 c1_i32_210
  let v341 : BitVec 32 := Scalar.select v339 v340 v325
  let c1_i32_222 : BitVec 32 := 1#32
  let arg11 : BitVec 32 := Scf.iv v341 c1_i32_222 k1_t9
  let v410 : Index := Scalar.indexCast arg11
  let c0_243 : Index := 0#32
  let c0_244 : Index := 0#32
  ![2, v410.toNat, 0, 0]
def k1_off46 (v214 : BitVec 32) (v315 : BitVec 32) (k1_t9 : Fin (k1_t9_loop v214 v315).trips) : Fin 4 → Nat :=
  let c3_249 : Index := 3#32
  let c0_i32_205 : BitVec 32 := 0#32
  let v326 : BitVec 1 := Scalar.cmpi .sgt v214 c0_i32_205
  let v327 : BitVec 32 := Scalar.extui v326
  let c0_i32_206 : BitVec 32 := 0#32
  let v328 : BitVec 1 := Scalar.cmpi .slt v214 c0_i32_206
  let v329 : BitVec 32 := Scalar.extui v328
  let v330 : BitVec 32 := Scalar.subi v327 v329
  let c256_i32_204 : BitVec 32 := 256#32
  let c0_i32_207 : BitVec 32 := 0#32
  let v331 : BitVec 1 := Scalar.cmpi .sgt c256_i32_204 c0_i32_207
  let v332 : BitVec 32 := Scalar.extui v331
  let c0_i32_208 : BitVec 32 := 0#32
  let v333 : BitVec 1 := Scalar.cmpi .slt c256_i32_204 c0_i32_208
  let v334 : BitVec 32 := Scalar.extui v333
  let v335 : BitVec 32 := Scalar.subi v332 v334
  let v336 : BitVec 1 := Scalar.cmpi .ne v330 v335
  let v337 : BitVec 32 := Scalar.remsi v214 c256_i32_204
  let c0_i32_209 : BitVec 32 := 0#32
  let v338 : BitVec 1 := Scalar.cmpi .ne v337 c0_i32_209
  let v339 : BitVec 1 := Scalar.andi v336 v338
  let v325 : BitVec 32 := Scalar.divsi v214 c256_i32_204
  let c1_i32_210 : BitVec 32 := 1#32
  let v340 : BitVec 32 := Scalar.subi v325 c1_i32_210
  let v341 : BitVec 32 := Scalar.select v339 v340 v325
  let c1_i32_222 : BitVec 32 := 1#32
  let arg11 : BitVec 32 := Scf.iv v341 c1_i32_222 k1_t9
  let v423 : Index := Scalar.indexCast arg11
  let c0_250 : Index := 0#32
  let c0_251 : Index := 0#32
  ![3, v423.toNat, 0, 0]
def k1_off47 (v214 : BitVec 32) (v315 : BitVec 32) (k1_t9 : Fin (k1_t9_loop v214 v315).trips) : Fin 4 → Nat :=
  let c4_256 : Index := 4#32
  let c0_i32_205 : BitVec 32 := 0#32
  let v326 : BitVec 1 := Scalar.cmpi .sgt v214 c0_i32_205
  let v327 : BitVec 32 := Scalar.extui v326
  let c0_i32_206 : BitVec 32 := 0#32
  let v328 : BitVec 1 := Scalar.cmpi .slt v214 c0_i32_206
  let v329 : BitVec 32 := Scalar.extui v328
  let v330 : BitVec 32 := Scalar.subi v327 v329
  let c256_i32_204 : BitVec 32 := 256#32
  let c0_i32_207 : BitVec 32 := 0#32
  let v331 : BitVec 1 := Scalar.cmpi .sgt c256_i32_204 c0_i32_207
  let v332 : BitVec 32 := Scalar.extui v331
  let c0_i32_208 : BitVec 32 := 0#32
  let v333 : BitVec 1 := Scalar.cmpi .slt c256_i32_204 c0_i32_208
  let v334 : BitVec 32 := Scalar.extui v333
  let v335 : BitVec 32 := Scalar.subi v332 v334
  let v336 : BitVec 1 := Scalar.cmpi .ne v330 v335
  let v337 : BitVec 32 := Scalar.remsi v214 c256_i32_204
  let c0_i32_209 : BitVec 32 := 0#32
  let v338 : BitVec 1 := Scalar.cmpi .ne v337 c0_i32_209
  let v339 : BitVec 1 := Scalar.andi v336 v338
  let v325 : BitVec 32 := Scalar.divsi v214 c256_i32_204
  let c1_i32_210 : BitVec 32 := 1#32
  let v340 : BitVec 32 := Scalar.subi v325 c1_i32_210
  let v341 : BitVec 32 := Scalar.select v339 v340 v325
  let c1_i32_222 : BitVec 32 := 1#32
  let arg11 : BitVec 32 := Scf.iv v341 c1_i32_222 k1_t9
  let v436 : Index := Scalar.indexCast arg11
  let c0_257 : Index := 0#32
  let c0_258 : Index := 0#32
  ![4, v436.toNat, 0, 0]
@[reducible] def k1_t10_loop (v214 : BitVec 32) (v315 : BitVec 32) : Scf.Loop 32 :=
  let c0_i32_205 : BitVec 32 := 0#32
  let v326 : BitVec 1 := Scalar.cmpi .sgt v214 c0_i32_205
  let v327 : BitVec 32 := Scalar.extui v326
  let c0_i32_206 : BitVec 32 := 0#32
  let v328 : BitVec 1 := Scalar.cmpi .slt v214 c0_i32_206
  let v329 : BitVec 32 := Scalar.extui v328
  let v330 : BitVec 32 := Scalar.subi v327 v329
  let c256_i32_204 : BitVec 32 := 256#32
  let c0_i32_207 : BitVec 32 := 0#32
  let v331 : BitVec 1 := Scalar.cmpi .sgt c256_i32_204 c0_i32_207
  let v332 : BitVec 32 := Scalar.extui v331
  let c0_i32_208 : BitVec 32 := 0#32
  let v333 : BitVec 1 := Scalar.cmpi .slt c256_i32_204 c0_i32_208
  let v334 : BitVec 32 := Scalar.extui v333
  let v335 : BitVec 32 := Scalar.subi v332 v334
  let v336 : BitVec 1 := Scalar.cmpi .ne v330 v335
  let v337 : BitVec 32 := Scalar.remsi v214 c256_i32_204
  let c0_i32_209 : BitVec 32 := 0#32
  let v338 : BitVec 1 := Scalar.cmpi .ne v337 c0_i32_209
  let v339 : BitVec 1 := Scalar.andi v336 v338
  let v325 : BitVec 32 := Scalar.divsi v214 c256_i32_204
  let c1_i32_210 : BitVec 32 := 1#32
  let v340 : BitVec 32 := Scalar.subi v325 c1_i32_210
  let v341 : BitVec 32 := Scalar.select v339 v340 v325
  let v342 : BitVec 32 := Scalar.addi v214 v315
  let c256_i32_211 : BitVec 32 := 256#32
  let v343 : BitVec 32 := Scalar.addi v342 c256_i32_211
  let c1_i32_212 : BitVec 32 := 1#32
  let v344 : BitVec 32 := Scalar.subi v343 c1_i32_212
  let c0_i32_214 : BitVec 32 := 0#32
  let v346 : BitVec 1 := Scalar.cmpi .sgt v344 c0_i32_214
  let v347 : BitVec 32 := Scalar.extui v346
  let c0_i32_215 : BitVec 32 := 0#32
  let v348 : BitVec 1 := Scalar.cmpi .slt v344 c0_i32_215
  let v349 : BitVec 32 := Scalar.extui v348
  let v350 : BitVec 32 := Scalar.subi v347 v349
  let c256_i32_213 : BitVec 32 := 256#32
  let c0_i32_216 : BitVec 32 := 0#32
  let v351 : BitVec 1 := Scalar.cmpi .sgt c256_i32_213 c0_i32_216
  let v352 : BitVec 32 := Scalar.extui v351
  let c0_i32_217 : BitVec 32 := 0#32
  let v353 : BitVec 1 := Scalar.cmpi .slt c256_i32_213 c0_i32_217
  let v354 : BitVec 32 := Scalar.extui v353
  let v355 : BitVec 32 := Scalar.subi v352 v354
  let v356 : BitVec 1 := Scalar.cmpi .ne v350 v355
  let v357 : BitVec 32 := Scalar.remsi v344 c256_i32_213
  let c0_i32_218 : BitVec 32 := 0#32
  let v358 : BitVec 1 := Scalar.cmpi .ne v357 c0_i32_218
  let v359 : BitVec 1 := Scalar.andi v356 v358
  let v345 : BitVec 32 := Scalar.divsi v344 c256_i32_213
  let c1_i32_219 : BitVec 32 := 1#32
  let v360 : BitVec 32 := Scalar.subi v345 c1_i32_219
  let v361 : BitVec 32 := Scalar.select v359 v360 v345
  let v362 : BitVec 32 := Scalar.subi v361 v341
  let c1_i32_221 : BitVec 32 := 1#32
  let v364 : BitVec 32 := Scalar.divsi v362 c1_i32_221
  let v365 : BitVec 32 := Scalar.muli v364 c1_i32_221
  let v366 : BitVec 32 := Scalar.addi v341 v365
  let v363 : BitVec 32 := Scalar.addi v341 v362
  let c1_i32_223 : BitVec 32 := 1#32
  ⟨v366, v363, c1_i32_223⟩
def k1_off48 (v214 : BitVec 32) (v315 : BitVec 32) (k1_t10 : Fin (k1_t10_loop v214 v315).trips) : Fin 4 → Nat :=
  let c0_228 : Index := 0#32
  let c0_i32_205 : BitVec 32 := 0#32
  let v326 : BitVec 1 := Scalar.cmpi .sgt v214 c0_i32_205
  let v327 : BitVec 32 := Scalar.extui v326
  let c0_i32_206 : BitVec 32 := 0#32
  let v328 : BitVec 1 := Scalar.cmpi .slt v214 c0_i32_206
  let v329 : BitVec 32 := Scalar.extui v328
  let v330 : BitVec 32 := Scalar.subi v327 v329
  let c256_i32_204 : BitVec 32 := 256#32
  let c0_i32_207 : BitVec 32 := 0#32
  let v331 : BitVec 1 := Scalar.cmpi .sgt c256_i32_204 c0_i32_207
  let v332 : BitVec 32 := Scalar.extui v331
  let c0_i32_208 : BitVec 32 := 0#32
  let v333 : BitVec 1 := Scalar.cmpi .slt c256_i32_204 c0_i32_208
  let v334 : BitVec 32 := Scalar.extui v333
  let v335 : BitVec 32 := Scalar.subi v332 v334
  let v336 : BitVec 1 := Scalar.cmpi .ne v330 v335
  let v337 : BitVec 32 := Scalar.remsi v214 c256_i32_204
  let c0_i32_209 : BitVec 32 := 0#32
  let v338 : BitVec 1 := Scalar.cmpi .ne v337 c0_i32_209
  let v339 : BitVec 1 := Scalar.andi v336 v338
  let v325 : BitVec 32 := Scalar.divsi v214 c256_i32_204
  let c1_i32_210 : BitVec 32 := 1#32
  let v340 : BitVec 32 := Scalar.subi v325 c1_i32_210
  let v341 : BitVec 32 := Scalar.select v339 v340 v325
  let v342 : BitVec 32 := Scalar.addi v214 v315
  let c256_i32_211 : BitVec 32 := 256#32
  let v343 : BitVec 32 := Scalar.addi v342 c256_i32_211
  let c1_i32_212 : BitVec 32 := 1#32
  let v344 : BitVec 32 := Scalar.subi v343 c1_i32_212
  let c0_i32_214 : BitVec 32 := 0#32
  let v346 : BitVec 1 := Scalar.cmpi .sgt v344 c0_i32_214
  let v347 : BitVec 32 := Scalar.extui v346
  let c0_i32_215 : BitVec 32 := 0#32
  let v348 : BitVec 1 := Scalar.cmpi .slt v344 c0_i32_215
  let v349 : BitVec 32 := Scalar.extui v348
  let v350 : BitVec 32 := Scalar.subi v347 v349
  let c256_i32_213 : BitVec 32 := 256#32
  let c0_i32_216 : BitVec 32 := 0#32
  let v351 : BitVec 1 := Scalar.cmpi .sgt c256_i32_213 c0_i32_216
  let v352 : BitVec 32 := Scalar.extui v351
  let c0_i32_217 : BitVec 32 := 0#32
  let v353 : BitVec 1 := Scalar.cmpi .slt c256_i32_213 c0_i32_217
  let v354 : BitVec 32 := Scalar.extui v353
  let v355 : BitVec 32 := Scalar.subi v352 v354
  let v356 : BitVec 1 := Scalar.cmpi .ne v350 v355
  let v357 : BitVec 32 := Scalar.remsi v344 c256_i32_213
  let c0_i32_218 : BitVec 32 := 0#32
  let v358 : BitVec 1 := Scalar.cmpi .ne v357 c0_i32_218
  let v359 : BitVec 1 := Scalar.andi v356 v358
  let v345 : BitVec 32 := Scalar.divsi v344 c256_i32_213
  let c1_i32_219 : BitVec 32 := 1#32
  let v360 : BitVec 32 := Scalar.subi v345 c1_i32_219
  let v361 : BitVec 32 := Scalar.select v359 v360 v345
  let v362 : BitVec 32 := Scalar.subi v361 v341
  let c1_i32_221 : BitVec 32 := 1#32
  let v364 : BitVec 32 := Scalar.divsi v362 c1_i32_221
  let v365 : BitVec 32 := Scalar.muli v364 c1_i32_221
  let v366 : BitVec 32 := Scalar.addi v341 v365
  let c1_i32_223 : BitVec 32 := 1#32
  let arg11 : BitVec 32 := Scf.iv v366 c1_i32_223 k1_t10
  let v384 : Index := Scalar.indexCast arg11
  let c0_229 : Index := 0#32
  let c0_230 : Index := 0#32
  ![0, v384.toNat, 0, 0]
def k1_off49 (v214 : BitVec 32) (v315 : BitVec 32) (k1_t10 : Fin (k1_t10_loop v214 v315).trips) : Fin 4 → Nat :=
  let c1_235 : Index := 1#32
  let c0_i32_205 : BitVec 32 := 0#32
  let v326 : BitVec 1 := Scalar.cmpi .sgt v214 c0_i32_205
  let v327 : BitVec 32 := Scalar.extui v326
  let c0_i32_206 : BitVec 32 := 0#32
  let v328 : BitVec 1 := Scalar.cmpi .slt v214 c0_i32_206
  let v329 : BitVec 32 := Scalar.extui v328
  let v330 : BitVec 32 := Scalar.subi v327 v329
  let c256_i32_204 : BitVec 32 := 256#32
  let c0_i32_207 : BitVec 32 := 0#32
  let v331 : BitVec 1 := Scalar.cmpi .sgt c256_i32_204 c0_i32_207
  let v332 : BitVec 32 := Scalar.extui v331
  let c0_i32_208 : BitVec 32 := 0#32
  let v333 : BitVec 1 := Scalar.cmpi .slt c256_i32_204 c0_i32_208
  let v334 : BitVec 32 := Scalar.extui v333
  let v335 : BitVec 32 := Scalar.subi v332 v334
  let v336 : BitVec 1 := Scalar.cmpi .ne v330 v335
  let v337 : BitVec 32 := Scalar.remsi v214 c256_i32_204
  let c0_i32_209 : BitVec 32 := 0#32
  let v338 : BitVec 1 := Scalar.cmpi .ne v337 c0_i32_209
  let v339 : BitVec 1 := Scalar.andi v336 v338
  let v325 : BitVec 32 := Scalar.divsi v214 c256_i32_204
  let c1_i32_210 : BitVec 32 := 1#32
  let v340 : BitVec 32 := Scalar.subi v325 c1_i32_210
  let v341 : BitVec 32 := Scalar.select v339 v340 v325
  let v342 : BitVec 32 := Scalar.addi v214 v315
  let c256_i32_211 : BitVec 32 := 256#32
  let v343 : BitVec 32 := Scalar.addi v342 c256_i32_211
  let c1_i32_212 : BitVec 32 := 1#32
  let v344 : BitVec 32 := Scalar.subi v343 c1_i32_212
  let c0_i32_214 : BitVec 32 := 0#32
  let v346 : BitVec 1 := Scalar.cmpi .sgt v344 c0_i32_214
  let v347 : BitVec 32 := Scalar.extui v346
  let c0_i32_215 : BitVec 32 := 0#32
  let v348 : BitVec 1 := Scalar.cmpi .slt v344 c0_i32_215
  let v349 : BitVec 32 := Scalar.extui v348
  let v350 : BitVec 32 := Scalar.subi v347 v349
  let c256_i32_213 : BitVec 32 := 256#32
  let c0_i32_216 : BitVec 32 := 0#32
  let v351 : BitVec 1 := Scalar.cmpi .sgt c256_i32_213 c0_i32_216
  let v352 : BitVec 32 := Scalar.extui v351
  let c0_i32_217 : BitVec 32 := 0#32
  let v353 : BitVec 1 := Scalar.cmpi .slt c256_i32_213 c0_i32_217
  let v354 : BitVec 32 := Scalar.extui v353
  let v355 : BitVec 32 := Scalar.subi v352 v354
  let v356 : BitVec 1 := Scalar.cmpi .ne v350 v355
  let v357 : BitVec 32 := Scalar.remsi v344 c256_i32_213
  let c0_i32_218 : BitVec 32 := 0#32
  let v358 : BitVec 1 := Scalar.cmpi .ne v357 c0_i32_218
  let v359 : BitVec 1 := Scalar.andi v356 v358
  let v345 : BitVec 32 := Scalar.divsi v344 c256_i32_213
  let c1_i32_219 : BitVec 32 := 1#32
  let v360 : BitVec 32 := Scalar.subi v345 c1_i32_219
  let v361 : BitVec 32 := Scalar.select v359 v360 v345
  let v362 : BitVec 32 := Scalar.subi v361 v341
  let c1_i32_221 : BitVec 32 := 1#32
  let v364 : BitVec 32 := Scalar.divsi v362 c1_i32_221
  let v365 : BitVec 32 := Scalar.muli v364 c1_i32_221
  let v366 : BitVec 32 := Scalar.addi v341 v365
  let c1_i32_223 : BitVec 32 := 1#32
  let arg11 : BitVec 32 := Scf.iv v366 c1_i32_223 k1_t10
  let v397 : Index := Scalar.indexCast arg11
  let c0_236 : Index := 0#32
  let c0_237 : Index := 0#32
  ![1, v397.toNat, 0, 0]
def k1_off50 (v214 : BitVec 32) (v315 : BitVec 32) (k1_t10 : Fin (k1_t10_loop v214 v315).trips) : Fin 4 → Nat :=
  let c2_242 : Index := 2#32
  let c0_i32_205 : BitVec 32 := 0#32
  let v326 : BitVec 1 := Scalar.cmpi .sgt v214 c0_i32_205
  let v327 : BitVec 32 := Scalar.extui v326
  let c0_i32_206 : BitVec 32 := 0#32
  let v328 : BitVec 1 := Scalar.cmpi .slt v214 c0_i32_206
  let v329 : BitVec 32 := Scalar.extui v328
  let v330 : BitVec 32 := Scalar.subi v327 v329
  let c256_i32_204 : BitVec 32 := 256#32
  let c0_i32_207 : BitVec 32 := 0#32
  let v331 : BitVec 1 := Scalar.cmpi .sgt c256_i32_204 c0_i32_207
  let v332 : BitVec 32 := Scalar.extui v331
  let c0_i32_208 : BitVec 32 := 0#32
  let v333 : BitVec 1 := Scalar.cmpi .slt c256_i32_204 c0_i32_208
  let v334 : BitVec 32 := Scalar.extui v333
  let v335 : BitVec 32 := Scalar.subi v332 v334
  let v336 : BitVec 1 := Scalar.cmpi .ne v330 v335
  let v337 : BitVec 32 := Scalar.remsi v214 c256_i32_204
  let c0_i32_209 : BitVec 32 := 0#32
  let v338 : BitVec 1 := Scalar.cmpi .ne v337 c0_i32_209
  let v339 : BitVec 1 := Scalar.andi v336 v338
  let v325 : BitVec 32 := Scalar.divsi v214 c256_i32_204
  let c1_i32_210 : BitVec 32 := 1#32
  let v340 : BitVec 32 := Scalar.subi v325 c1_i32_210
  let v341 : BitVec 32 := Scalar.select v339 v340 v325
  let v342 : BitVec 32 := Scalar.addi v214 v315
  let c256_i32_211 : BitVec 32 := 256#32
  let v343 : BitVec 32 := Scalar.addi v342 c256_i32_211
  let c1_i32_212 : BitVec 32 := 1#32
  let v344 : BitVec 32 := Scalar.subi v343 c1_i32_212
  let c0_i32_214 : BitVec 32 := 0#32
  let v346 : BitVec 1 := Scalar.cmpi .sgt v344 c0_i32_214
  let v347 : BitVec 32 := Scalar.extui v346
  let c0_i32_215 : BitVec 32 := 0#32
  let v348 : BitVec 1 := Scalar.cmpi .slt v344 c0_i32_215
  let v349 : BitVec 32 := Scalar.extui v348
  let v350 : BitVec 32 := Scalar.subi v347 v349
  let c256_i32_213 : BitVec 32 := 256#32
  let c0_i32_216 : BitVec 32 := 0#32
  let v351 : BitVec 1 := Scalar.cmpi .sgt c256_i32_213 c0_i32_216
  let v352 : BitVec 32 := Scalar.extui v351
  let c0_i32_217 : BitVec 32 := 0#32
  let v353 : BitVec 1 := Scalar.cmpi .slt c256_i32_213 c0_i32_217
  let v354 : BitVec 32 := Scalar.extui v353
  let v355 : BitVec 32 := Scalar.subi v352 v354
  let v356 : BitVec 1 := Scalar.cmpi .ne v350 v355
  let v357 : BitVec 32 := Scalar.remsi v344 c256_i32_213
  let c0_i32_218 : BitVec 32 := 0#32
  let v358 : BitVec 1 := Scalar.cmpi .ne v357 c0_i32_218
  let v359 : BitVec 1 := Scalar.andi v356 v358
  let v345 : BitVec 32 := Scalar.divsi v344 c256_i32_213
  let c1_i32_219 : BitVec 32 := 1#32
  let v360 : BitVec 32 := Scalar.subi v345 c1_i32_219
  let v361 : BitVec 32 := Scalar.select v359 v360 v345
  let v362 : BitVec 32 := Scalar.subi v361 v341
  let c1_i32_221 : BitVec 32 := 1#32
  let v364 : BitVec 32 := Scalar.divsi v362 c1_i32_221
  let v365 : BitVec 32 := Scalar.muli v364 c1_i32_221
  let v366 : BitVec 32 := Scalar.addi v341 v365
  let c1_i32_223 : BitVec 32 := 1#32
  let arg11 : BitVec 32 := Scf.iv v366 c1_i32_223 k1_t10
  let v410 : Index := Scalar.indexCast arg11
  let c0_243 : Index := 0#32
  let c0_244 : Index := 0#32
  ![2, v410.toNat, 0, 0]
def k1_off51 (v214 : BitVec 32) (v315 : BitVec 32) (k1_t10 : Fin (k1_t10_loop v214 v315).trips) : Fin 4 → Nat :=
  let c3_249 : Index := 3#32
  let c0_i32_205 : BitVec 32 := 0#32
  let v326 : BitVec 1 := Scalar.cmpi .sgt v214 c0_i32_205
  let v327 : BitVec 32 := Scalar.extui v326
  let c0_i32_206 : BitVec 32 := 0#32
  let v328 : BitVec 1 := Scalar.cmpi .slt v214 c0_i32_206
  let v329 : BitVec 32 := Scalar.extui v328
  let v330 : BitVec 32 := Scalar.subi v327 v329
  let c256_i32_204 : BitVec 32 := 256#32
  let c0_i32_207 : BitVec 32 := 0#32
  let v331 : BitVec 1 := Scalar.cmpi .sgt c256_i32_204 c0_i32_207
  let v332 : BitVec 32 := Scalar.extui v331
  let c0_i32_208 : BitVec 32 := 0#32
  let v333 : BitVec 1 := Scalar.cmpi .slt c256_i32_204 c0_i32_208
  let v334 : BitVec 32 := Scalar.extui v333
  let v335 : BitVec 32 := Scalar.subi v332 v334
  let v336 : BitVec 1 := Scalar.cmpi .ne v330 v335
  let v337 : BitVec 32 := Scalar.remsi v214 c256_i32_204
  let c0_i32_209 : BitVec 32 := 0#32
  let v338 : BitVec 1 := Scalar.cmpi .ne v337 c0_i32_209
  let v339 : BitVec 1 := Scalar.andi v336 v338
  let v325 : BitVec 32 := Scalar.divsi v214 c256_i32_204
  let c1_i32_210 : BitVec 32 := 1#32
  let v340 : BitVec 32 := Scalar.subi v325 c1_i32_210
  let v341 : BitVec 32 := Scalar.select v339 v340 v325
  let v342 : BitVec 32 := Scalar.addi v214 v315
  let c256_i32_211 : BitVec 32 := 256#32
  let v343 : BitVec 32 := Scalar.addi v342 c256_i32_211
  let c1_i32_212 : BitVec 32 := 1#32
  let v344 : BitVec 32 := Scalar.subi v343 c1_i32_212
  let c0_i32_214 : BitVec 32 := 0#32
  let v346 : BitVec 1 := Scalar.cmpi .sgt v344 c0_i32_214
  let v347 : BitVec 32 := Scalar.extui v346
  let c0_i32_215 : BitVec 32 := 0#32
  let v348 : BitVec 1 := Scalar.cmpi .slt v344 c0_i32_215
  let v349 : BitVec 32 := Scalar.extui v348
  let v350 : BitVec 32 := Scalar.subi v347 v349
  let c256_i32_213 : BitVec 32 := 256#32
  let c0_i32_216 : BitVec 32 := 0#32
  let v351 : BitVec 1 := Scalar.cmpi .sgt c256_i32_213 c0_i32_216
  let v352 : BitVec 32 := Scalar.extui v351
  let c0_i32_217 : BitVec 32 := 0#32
  let v353 : BitVec 1 := Scalar.cmpi .slt c256_i32_213 c0_i32_217
  let v354 : BitVec 32 := Scalar.extui v353
  let v355 : BitVec 32 := Scalar.subi v352 v354
  let v356 : BitVec 1 := Scalar.cmpi .ne v350 v355
  let v357 : BitVec 32 := Scalar.remsi v344 c256_i32_213
  let c0_i32_218 : BitVec 32 := 0#32
  let v358 : BitVec 1 := Scalar.cmpi .ne v357 c0_i32_218
  let v359 : BitVec 1 := Scalar.andi v356 v358
  let v345 : BitVec 32 := Scalar.divsi v344 c256_i32_213
  let c1_i32_219 : BitVec 32 := 1#32
  let v360 : BitVec 32 := Scalar.subi v345 c1_i32_219
  let v361 : BitVec 32 := Scalar.select v359 v360 v345
  let v362 : BitVec 32 := Scalar.subi v361 v341
  let c1_i32_221 : BitVec 32 := 1#32
  let v364 : BitVec 32 := Scalar.divsi v362 c1_i32_221
  let v365 : BitVec 32 := Scalar.muli v364 c1_i32_221
  let v366 : BitVec 32 := Scalar.addi v341 v365
  let c1_i32_223 : BitVec 32 := 1#32
  let arg11 : BitVec 32 := Scf.iv v366 c1_i32_223 k1_t10
  let v423 : Index := Scalar.indexCast arg11
  let c0_250 : Index := 0#32
  let c0_251 : Index := 0#32
  ![3, v423.toNat, 0, 0]
def k1_off52 (v214 : BitVec 32) (v315 : BitVec 32) (k1_t10 : Fin (k1_t10_loop v214 v315).trips) : Fin 4 → Nat :=
  let c4_256 : Index := 4#32
  let c0_i32_205 : BitVec 32 := 0#32
  let v326 : BitVec 1 := Scalar.cmpi .sgt v214 c0_i32_205
  let v327 : BitVec 32 := Scalar.extui v326
  let c0_i32_206 : BitVec 32 := 0#32
  let v328 : BitVec 1 := Scalar.cmpi .slt v214 c0_i32_206
  let v329 : BitVec 32 := Scalar.extui v328
  let v330 : BitVec 32 := Scalar.subi v327 v329
  let c256_i32_204 : BitVec 32 := 256#32
  let c0_i32_207 : BitVec 32 := 0#32
  let v331 : BitVec 1 := Scalar.cmpi .sgt c256_i32_204 c0_i32_207
  let v332 : BitVec 32 := Scalar.extui v331
  let c0_i32_208 : BitVec 32 := 0#32
  let v333 : BitVec 1 := Scalar.cmpi .slt c256_i32_204 c0_i32_208
  let v334 : BitVec 32 := Scalar.extui v333
  let v335 : BitVec 32 := Scalar.subi v332 v334
  let v336 : BitVec 1 := Scalar.cmpi .ne v330 v335
  let v337 : BitVec 32 := Scalar.remsi v214 c256_i32_204
  let c0_i32_209 : BitVec 32 := 0#32
  let v338 : BitVec 1 := Scalar.cmpi .ne v337 c0_i32_209
  let v339 : BitVec 1 := Scalar.andi v336 v338
  let v325 : BitVec 32 := Scalar.divsi v214 c256_i32_204
  let c1_i32_210 : BitVec 32 := 1#32
  let v340 : BitVec 32 := Scalar.subi v325 c1_i32_210
  let v341 : BitVec 32 := Scalar.select v339 v340 v325
  let v342 : BitVec 32 := Scalar.addi v214 v315
  let c256_i32_211 : BitVec 32 := 256#32
  let v343 : BitVec 32 := Scalar.addi v342 c256_i32_211
  let c1_i32_212 : BitVec 32 := 1#32
  let v344 : BitVec 32 := Scalar.subi v343 c1_i32_212
  let c0_i32_214 : BitVec 32 := 0#32
  let v346 : BitVec 1 := Scalar.cmpi .sgt v344 c0_i32_214
  let v347 : BitVec 32 := Scalar.extui v346
  let c0_i32_215 : BitVec 32 := 0#32
  let v348 : BitVec 1 := Scalar.cmpi .slt v344 c0_i32_215
  let v349 : BitVec 32 := Scalar.extui v348
  let v350 : BitVec 32 := Scalar.subi v347 v349
  let c256_i32_213 : BitVec 32 := 256#32
  let c0_i32_216 : BitVec 32 := 0#32
  let v351 : BitVec 1 := Scalar.cmpi .sgt c256_i32_213 c0_i32_216
  let v352 : BitVec 32 := Scalar.extui v351
  let c0_i32_217 : BitVec 32 := 0#32
  let v353 : BitVec 1 := Scalar.cmpi .slt c256_i32_213 c0_i32_217
  let v354 : BitVec 32 := Scalar.extui v353
  let v355 : BitVec 32 := Scalar.subi v352 v354
  let v356 : BitVec 1 := Scalar.cmpi .ne v350 v355
  let v357 : BitVec 32 := Scalar.remsi v344 c256_i32_213
  let c0_i32_218 : BitVec 32 := 0#32
  let v358 : BitVec 1 := Scalar.cmpi .ne v357 c0_i32_218
  let v359 : BitVec 1 := Scalar.andi v356 v358
  let v345 : BitVec 32 := Scalar.divsi v344 c256_i32_213
  let c1_i32_219 : BitVec 32 := 1#32
  let v360 : BitVec 32 := Scalar.subi v345 c1_i32_219
  let v361 : BitVec 32 := Scalar.select v359 v360 v345
  let v362 : BitVec 32 := Scalar.subi v361 v341
  let c1_i32_221 : BitVec 32 := 1#32
  let v364 : BitVec 32 := Scalar.divsi v362 c1_i32_221
  let v365 : BitVec 32 := Scalar.muli v364 c1_i32_221
  let v366 : BitVec 32 := Scalar.addi v341 v365
  let c1_i32_223 : BitVec 32 := 1#32
  let arg11 : BitVec 32 := Scf.iv v366 c1_i32_223 k1_t10
  let v436 : Index := Scalar.indexCast arg11
  let c0_257 : Index := 0#32
  let c0_258 : Index := 0#32
  ![4, v436.toNat, 0, 0]

def k1_chk5 (v214 : BitVec 32) (v315 : BitVec 32) : Prop :=
  ((k1_t9_loop v214 v315).OK) ∧
  (∀ k1_t9 : Fin (k1_t9_loop v214 v315).trips, ∀ a, (k1_off43 v214 v315 k1_t9) a + S1x1x1x256.size a ≤ S5x80x1x256.size a) ∧
  (∀ k1_t9 : Fin (k1_t9_loop v214 v315).trips, ∀ a, (k1_off44 v214 v315 k1_t9) a + S1x1x1x256.size a ≤ S5x80x1x256.size a) ∧
  (∀ k1_t9 : Fin (k1_t9_loop v214 v315).trips, ∀ a, (k1_off45 v214 v315 k1_t9) a + S1x1x1x256.size a ≤ S5x80x1x256.size a) ∧
  (∀ k1_t9 : Fin (k1_t9_loop v214 v315).trips, ∀ a, (k1_off46 v214 v315 k1_t9) a + S1x1x1x256.size a ≤ S5x80x1x256.size a) ∧
  (∀ k1_t9 : Fin (k1_t9_loop v214 v315).trips, ∀ a, (k1_off47 v214 v315 k1_t9) a + S1x1x1x256.size a ≤ S5x80x1x256.size a) ∧
  ((k1_t10_loop v214 v315).OK) ∧
  (∀ k1_t10 : Fin (k1_t10_loop v214 v315).trips, ∀ a, (k1_off48 v214 v315 k1_t10) a + S1x1x1x256.size a ≤ S5x80x1x256.size a) ∧
  (∀ k1_t10 : Fin (k1_t10_loop v214 v315).trips, ∀ a, (k1_off49 v214 v315 k1_t10) a + S1x1x1x256.size a ≤ S5x80x1x256.size a) ∧
  (∀ k1_t10 : Fin (k1_t10_loop v214 v315).trips, ∀ a, (k1_off50 v214 v315 k1_t10) a + S1x1x1x256.size a ≤ S5x80x1x256.size a) ∧
  (∀ k1_t10 : Fin (k1_t10_loop v214 v315).trips, ∀ a, (k1_off51 v214 v315 k1_t10) a + S1x1x1x256.size a ≤ S5x80x1x256.size a) ∧
  (∀ k1_t10 : Fin (k1_t10_loop v214 v315).trips, ∀ a, (k1_off52 v214 v315 k1_t10) a + S1x1x1x256.size a ≤ S5x80x1x256.size a)
theorem k1_t9_ok : ∀ (v214 : BitVec 32) (v315 : BitVec 32) (k1_hw5 : k1_chk5 v214 v315), (k1_t9_loop v214 v315).OK := fun v214 v315 k1_hw5 => k1_hw5.1
theorem k1_off43_inb : ∀ (v214 : BitVec 32) (v315 : BitVec 32) (k1_hw5 : k1_chk5 v214 v315) (k1_t9 : Fin (k1_t9_loop v214 v315).trips), ∀ a, (k1_off43 v214 v315 k1_t9) a + S1x1x1x256.size a ≤ S5x80x1x256.size a := fun v214 v315 k1_hw5 k1_t9 => k1_hw5.2.1 k1_t9
theorem k1_off44_inb : ∀ (v214 : BitVec 32) (v315 : BitVec 32) (k1_hw5 : k1_chk5 v214 v315) (k1_t9 : Fin (k1_t9_loop v214 v315).trips), ∀ a, (k1_off44 v214 v315 k1_t9) a + S1x1x1x256.size a ≤ S5x80x1x256.size a := fun v214 v315 k1_hw5 k1_t9 => k1_hw5.2.2.1 k1_t9
theorem k1_off45_inb : ∀ (v214 : BitVec 32) (v315 : BitVec 32) (k1_hw5 : k1_chk5 v214 v315) (k1_t9 : Fin (k1_t9_loop v214 v315).trips), ∀ a, (k1_off45 v214 v315 k1_t9) a + S1x1x1x256.size a ≤ S5x80x1x256.size a := fun v214 v315 k1_hw5 k1_t9 => k1_hw5.2.2.2.1 k1_t9
theorem k1_off46_inb : ∀ (v214 : BitVec 32) (v315 : BitVec 32) (k1_hw5 : k1_chk5 v214 v315) (k1_t9 : Fin (k1_t9_loop v214 v315).trips), ∀ a, (k1_off46 v214 v315 k1_t9) a + S1x1x1x256.size a ≤ S5x80x1x256.size a := fun v214 v315 k1_hw5 k1_t9 => k1_hw5.2.2.2.2.1 k1_t9
theorem k1_off47_inb : ∀ (v214 : BitVec 32) (v315 : BitVec 32) (k1_hw5 : k1_chk5 v214 v315) (k1_t9 : Fin (k1_t9_loop v214 v315).trips), ∀ a, (k1_off47 v214 v315 k1_t9) a + S1x1x1x256.size a ≤ S5x80x1x256.size a := fun v214 v315 k1_hw5 k1_t9 => k1_hw5.2.2.2.2.2.1 k1_t9
theorem k1_t10_ok : ∀ (v214 : BitVec 32) (v315 : BitVec 32) (k1_hw5 : k1_chk5 v214 v315), (k1_t10_loop v214 v315).OK := fun v214 v315 k1_hw5 => k1_hw5.2.2.2.2.2.2.1
theorem k1_off48_inb : ∀ (v214 : BitVec 32) (v315 : BitVec 32) (k1_hw5 : k1_chk5 v214 v315) (k1_t10 : Fin (k1_t10_loop v214 v315).trips), ∀ a, (k1_off48 v214 v315 k1_t10) a + S1x1x1x256.size a ≤ S5x80x1x256.size a := fun v214 v315 k1_hw5 k1_t10 => k1_hw5.2.2.2.2.2.2.2.1 k1_t10
theorem k1_off49_inb : ∀ (v214 : BitVec 32) (v315 : BitVec 32) (k1_hw5 : k1_chk5 v214 v315) (k1_t10 : Fin (k1_t10_loop v214 v315).trips), ∀ a, (k1_off49 v214 v315 k1_t10) a + S1x1x1x256.size a ≤ S5x80x1x256.size a := fun v214 v315 k1_hw5 k1_t10 => k1_hw5.2.2.2.2.2.2.2.2.1 k1_t10
theorem k1_off50_inb : ∀ (v214 : BitVec 32) (v315 : BitVec 32) (k1_hw5 : k1_chk5 v214 v315) (k1_t10 : Fin (k1_t10_loop v214 v315).trips), ∀ a, (k1_off50 v214 v315 k1_t10) a + S1x1x1x256.size a ≤ S5x80x1x256.size a := fun v214 v315 k1_hw5 k1_t10 => k1_hw5.2.2.2.2.2.2.2.2.2.1 k1_t10
theorem k1_off51_inb : ∀ (v214 : BitVec 32) (v315 : BitVec 32) (k1_hw5 : k1_chk5 v214 v315) (k1_t10 : Fin (k1_t10_loop v214 v315).trips), ∀ a, (k1_off51 v214 v315 k1_t10) a + S1x1x1x256.size a ≤ S5x80x1x256.size a := fun v214 v315 k1_hw5 k1_t10 => k1_hw5.2.2.2.2.2.2.2.2.2.2.1 k1_t10
theorem k1_off52_inb : ∀ (v214 : BitVec 32) (v315 : BitVec 32) (k1_hw5 : k1_chk5 v214 v315) (k1_t10 : Fin (k1_t10_loop v214 v315).trips), ∀ a, (k1_off52 v214 v315 k1_t10) a + S1x1x1x256.size a ≤ S5x80x1x256.size a := fun v214 v315 k1_hw5 k1_t10 => k1_hw5.2.2.2.2.2.2.2.2.2.2.2 k1_t10

abbrev stage1_0 : Fin 1 → Memref sig .tc .smem S2 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S5x20x1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S4x1024x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S5x20x1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S20000x5 : Shape := ⟨2, ![20000, 5]⟩
abbrev S_ : Shape := ⟨0, ![]⟩
abbrev S20000x4 : Shape := ⟨2, ![20000, 4]⟩
abbrev S20000x1 : Shape := ⟨2, ![20000, 1]⟩
abbrev S20000 : Shape := ⟨1, ![20000]⟩
abbrev S1x1 : Shape := ⟨2, ![1, 1]⟩
abbrev S1 : Shape := ⟨1, ![1]⟩

abbrev nBuf : Space → Nat
  | .hbm => 221
  | .vmem => 0
  | .smem => 0
  | _ => 0

abbrev hbmTy0_0 (i : Nat) : BufTy := match i % 128 with
  | 0 => ⟨S20000x5, .f32⟩
  | 1 => ⟨S_, .f32⟩
  | 2 => ⟨S_, .f32⟩
  | 3 => ⟨S20000x4, .f32⟩
  | 4 => ⟨S20000x1, .f32⟩
  | 5 => ⟨S20000, .f32⟩
  | 6 => ⟨S20000x1, .f32⟩
  | 7 => ⟨S20000, .f32⟩
  | 8 => ⟨S20000x1, .f32⟩
  | 9 => ⟨S20000, .f32⟩
  | 10 => ⟨S20000x1, .f32⟩
  | 11 => ⟨S20000, .f32⟩
  | 12 => ⟨S_, .f32⟩
  | 13 => ⟨S20000, .f32⟩
  | 14 => ⟨S20000, .f32⟩
  | 15 => ⟨S20000, .f32⟩
  | 16 => ⟨S_, .f32⟩
  | 17 => ⟨S20000, .f32⟩
  | 18 => ⟨S20000, .f32⟩
  | 19 => ⟨S20000, .f32⟩
  | 20 => ⟨S_, .f32⟩
  | 21 => ⟨S20000, .f32⟩
  | 22 => ⟨S20000, .f32⟩
  | 23 => ⟨S20000, .f32⟩
  | 24 => ⟨S_, .f32⟩
  | 25 => ⟨S20000, .f32⟩
  | 26 => ⟨S20000, .f32⟩
  | 27 => ⟨S20000, .f32⟩
  | 28 => ⟨S20000x1, .f32⟩
  | 29 => ⟨S20000x1, .f32⟩
  | 30 => ⟨S20000x1, .f32⟩
  | 31 => ⟨S20000x1, .f32⟩
  | 32 => ⟨S20000x4, .f32⟩
  | 33 => ⟨S20000x1, .f32⟩
  | 34 => ⟨S20000, .f32⟩
  | 35 => ⟨S20000, .f32⟩
  | 36 => ⟨S20000, .i32⟩
  | 37 => ⟨S20000, .f32⟩
  | 38 => ⟨S20000, .i32⟩
  | 39 => ⟨S_, .i32⟩
  | 40 => ⟨S20000, .i32⟩
  | 41 => ⟨S20000, .i1⟩
  | 42 => ⟨S_, .i32⟩
  | 43 => ⟨S20000, .i32⟩
  | 44 => ⟨S20000, .i32⟩
  | 45 => ⟨S20000, .i32⟩
  | 46 => ⟨S20000x1, .i32⟩
  | 47 => ⟨S20000x4, .f32⟩
  | 48 => ⟨S_, .i32⟩
  | 49 => ⟨S20000, .i32⟩
  | 50 => ⟨S20000, .i1⟩
  | 51 => ⟨S_, .i32⟩
  | 52 => ⟨S20000, .i32⟩
  | 53 => ⟨S20000, .i32⟩
  | 54 => ⟨S20000, .i32⟩
  | 55 => ⟨S20000x1, .i32⟩
  | 56 => ⟨S20000, .f32⟩
  | 57 => ⟨S20000x1, .f32⟩
  | 58 => ⟨S20000, .f32⟩
  | 59 => ⟨S20000x1, .f32⟩
  | 60 => ⟨S20000, .f32⟩
  | 61 => ⟨S20000, .f32⟩
  | 62 => ⟨S_, .f32⟩
  | 63 => ⟨S20000, .f32⟩
  | 64 => ⟨S20000, .f32⟩
  | 65 => ⟨S20000x1, .f32⟩
  | 66 => ⟨S20000, .f32⟩
  | 67 => ⟨S20000x1, .f32⟩
  | 68 => ⟨S20000, .f32⟩
  | 69 => ⟨S20000, .f32⟩
  | 70 => ⟨S_, .f32⟩
  | 71 => ⟨S20000, .f32⟩
  | 72 => ⟨S20000, .f32⟩
  | 73 => ⟨S20000, .f32⟩
  | 74 => ⟨S20000, .i32⟩
  | 75 => ⟨S20000, .f32⟩
  | 76 => ⟨S20000, .i1⟩
  | 77 => ⟨S_, .i32⟩
  | 78 => ⟨S_, .i32⟩
  | 79 => ⟨S20000x4, .f32⟩
  | 80 => ⟨S20000, .f32⟩
  | 81 => ⟨S_, .f32⟩
  | 82 => ⟨S20000, .i32⟩
  | 83 => ⟨S_, .i32⟩
  | 84 => ⟨S_, .i32⟩
  | 85 => ⟨S20000, .i1⟩
  | 86 => ⟨S_, .i32⟩
  | 87 => ⟨S_, .i1⟩
  | 88 => ⟨S_, .i32⟩
  | 89 => ⟨S_, .i32⟩
  | 90 => ⟨S_, .i32⟩
  | 91 => ⟨S_, .i32⟩
  | 92 => ⟨S_, .i1⟩
  | 93 => ⟨S_, .i32⟩
  | 94 => ⟨S_, .i32⟩
  | 95 => ⟨S_, .i32⟩
  | 96 => ⟨S_, .i32⟩
  | 97 => ⟨S_, .i32⟩
  | 98 => ⟨S_, .i1⟩
  | 99 => ⟨S_, .i32⟩
  | 100 => ⟨S_, .i32⟩
  | 101 => ⟨S_, .i32⟩
  | 102 => ⟨S_, .i32⟩
  | 103 => ⟨S_, .i32⟩
  | 104 => ⟨S1x1, .f32⟩
  | 105 => ⟨S_, .f32⟩
  | 106 => ⟨S20000x1, .f32⟩
  | 107 => ⟨S20000, .f32⟩
  | 108 => ⟨S20000, .f32⟩
  | 109 => ⟨S20000, .f32⟩
  | 110 => ⟨S_, .i32⟩
  | 111 => ⟨S_, .i32⟩
  | 112 => ⟨S_, .i1⟩
  | 113 => ⟨S_, .i32⟩
  | 114 => ⟨S_, .i32⟩
  | 115 => ⟨S_, .i32⟩
  | 116 => ⟨S_, .i32⟩
  | 117 => ⟨S_, .i32⟩
  | 118 => ⟨S_, .i1⟩
  | 119 => ⟨S_, .i32⟩
  | 120 => ⟨S_, .i32⟩
  | 121 => ⟨S_, .i32⟩
  | 122 => ⟨S_, .i32⟩
  | 123 => ⟨S_, .i32⟩
  | 124 => ⟨S1x1, .f32⟩
  | 125 => ⟨S_, .f32⟩
  | 126 => ⟨S20000x1, .f32⟩
  | 127 => ⟨S20000, .f32⟩
  | _ => ⟨S20000x5, .f32⟩

abbrev hbmTy0_1 (i : Nat) : BufTy := match i % 128 with
  | 0 => ⟨S20000, .f32⟩
  | 1 => ⟨S20000, .f32⟩
  | 2 => ⟨S_, .i32⟩
  | 3 => ⟨S_, .i32⟩
  | 4 => ⟨S_, .i1⟩
  | 5 => ⟨S_, .i32⟩
  | 6 => ⟨S_, .i32⟩
  | 7 => ⟨S_, .i32⟩
  | 8 => ⟨S_, .i32⟩
  | 9 => ⟨S_, .i32⟩
  | 10 => ⟨S_, .i1⟩
  | 11 => ⟨S_, .i32⟩
  | 12 => ⟨S_, .i32⟩
  | 13 => ⟨S_, .i32⟩
  | 14 => ⟨S_, .i32⟩
  | 15 => ⟨S_, .i32⟩
  | 16 => ⟨S1x1, .f32⟩
  | 17 => ⟨S_, .f32⟩
  | 18 => ⟨S20000x1, .f32⟩
  | 19 => ⟨S20000, .f32⟩
  | 20 => ⟨S20000, .f32⟩
  | 21 => ⟨S20000, .f32⟩
  | 22 => ⟨S_, .i32⟩
  | 23 => ⟨S_, .i32⟩
  | 24 => ⟨S_, .i1⟩
  | 25 => ⟨S_, .i32⟩
  | 26 => ⟨S_, .i32⟩
  | 27 => ⟨S_, .i32⟩
  | 28 => ⟨S_, .i32⟩
  | 29 => ⟨S_, .i32⟩
  | 30 => ⟨S_, .i1⟩
  | 31 => ⟨S_, .i32⟩
  | 32 => ⟨S_, .i32⟩
  | 33 => ⟨S_, .i32⟩
  | 34 => ⟨S_, .i32⟩
  | 35 => ⟨S_, .i32⟩
  | 36 => ⟨S1x1, .f32⟩
  | 37 => ⟨S_, .f32⟩
  | 38 => ⟨S20000x1, .f32⟩
  | 39 => ⟨S20000, .f32⟩
  | 40 => ⟨S20000, .f32⟩
  | 41 => ⟨S20000, .f32⟩
  | 42 => ⟨S20000, .f32⟩
  | 43 => ⟨S_, .f32⟩
  | 44 => ⟨S20000, .f32⟩
  | 45 => ⟨S20000, .f32⟩
  | 46 => ⟨S20000, .f32⟩
  | 47 => ⟨S_, .f32⟩
  | 48 => ⟨S20000, .f32⟩
  | 49 => ⟨S20000, .f32⟩
  | 50 => ⟨S20000, .f32⟩
  | 51 => ⟨S_, .i32⟩
  | 52 => ⟨S_, .i1⟩
  | 53 => ⟨S_, .i32⟩
  | 54 => ⟨S_, .i32⟩
  | 55 => ⟨S_, .i32⟩
  | 56 => ⟨S_, .i32⟩
  | 57 => ⟨S1, .f32⟩
  | 58 => ⟨S_, .f32⟩
  | 59 => ⟨S20000, .f32⟩
  | 60 => ⟨S20000, .f32⟩
  | 61 => ⟨S20000, .f32⟩
  | 62 => ⟨S_, .f32⟩
  | 63 => ⟨S20000, .f32⟩
  | 64 => ⟨S20000, .f32⟩
  | 65 => ⟨S20000, .f32⟩
  | 66 => ⟨S_, .i32⟩
  | 67 => ⟨S_, .i1⟩
  | 68 => ⟨S_, .i32⟩
  | 69 => ⟨S_, .i32⟩
  | 70 => ⟨S_, .i32⟩
  | 71 => ⟨S_, .i32⟩
  | 72 => ⟨S1, .i1⟩
  | 73 => ⟨S_, .i1⟩
  | 74 => ⟨S_, .i1⟩
  | 75 => ⟨S20000, .f32⟩
  | 76 => ⟨S20000, .i1⟩
  | 77 => ⟨S20000, .i1⟩
  | 78 => ⟨S20000, .i1⟩
  | 79 => ⟨S_, .i32⟩
  | 80 => ⟨S20000, .i32⟩
  | 81 => ⟨S20000, .i1⟩
  | 82 => ⟨S20000, .i1⟩
  | 83 => ⟨S20000, .i1⟩
  | 84 => ⟨S_, .i32⟩
  | 85 => ⟨S_, .i32⟩
  | 86 => ⟨S20000, .i1⟩
  | 87 => ⟨S20000x1, .f32⟩
  | 88 => ⟨S20000x5, .f32⟩
  | 89 => ⟨S20000x1, .i1⟩
  | 90 => ⟨S20000x1, .f32⟩
  | 91 => ⟨S20000x5, .f32⟩
  | 92 => ⟨S20000x5, .f32⟩
  | _ => ⟨S20000x5, .f32⟩

abbrev hbmTy (i : Nat) : BufTy := match i / 128 with
  | 0 => hbmTy0_0 i
  | 1 => hbmTy0_1 i
  | _ => ⟨S20000x5, .f32⟩

abbrev bufTy : (tb : Table) → Fin (tcTables nBuf tb) → BufTy
  | .hbm, ⟨i, _⟩ => hbmTy i
  | _, _ => ⟨S20000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_call0_v0 : Ref sig .tc := ⟨.hbm, 36, rfl⟩
abbrev main_call0_v1_0 : Ref sig .tc := ⟨.hbm, 37, rfl⟩
abbrev main_v29 : Ref sig .tc := ⟨.hbm, 38, rfl⟩
abbrev main_c : Ref sig .tc := ⟨.hbm, 39, rfl⟩
abbrev main_v30 : Ref sig .tc := ⟨.hbm, 40, rfl⟩
abbrev main_v31 : Ref sig .tc := ⟨.hbm, 41, rfl⟩
abbrev main_c_3 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_c_4 : Ref sig .tc := ⟨.hbm, 48, rfl⟩
abbrev main_v37 : Ref sig .tc := ⟨.hbm, 49, rfl⟩
abbrev main_v38 : Ref sig .tc := ⟨.hbm, 50, rfl⟩
abbrev main_c_5 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_6 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_7 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_c_8 : Ref sig .tc := ⟨.hbm, 77, rfl⟩
abbrev main_c_9 : Ref sig .tc := ⟨.hbm, 78, rfl⟩
abbrev main_v62_0 : Ref sig .tc := ⟨.hbm, 79, rfl⟩
abbrev main_v62_1 : Ref sig .tc := ⟨.hbm, 80, rfl⟩
abbrev main_v62_2 : Ref sig .tc := ⟨.hbm, 81, rfl⟩
abbrev main_v62_3 : Ref sig .tc := ⟨.hbm, 82, rfl⟩
abbrev main_v62_4 : Ref sig .tc := ⟨.hbm, 83, rfl⟩
abbrev main_v62_5 : Ref sig .tc := ⟨.hbm, 84, rfl⟩
abbrev main_v62_6 : Ref sig .tc := ⟨.hbm, 85, rfl⟩
abbrev main_while0c_c_16 : Ref sig .tc := ⟨.hbm, 86, rfl⟩
abbrev main_while0c_v70 : Ref sig .tc := ⟨.hbm, 87, rfl⟩
abbrev main_while0b_c_16 : Ref sig .tc := ⟨.hbm, 88, rfl⟩
abbrev main_while0b_v70 : Ref sig .tc := ⟨.hbm, 89, rfl⟩
abbrev main_while0b_v71 : Ref sig .tc := ⟨.hbm, 90, rfl⟩
abbrev main_while0b_c_17 : Ref sig .tc := ⟨.hbm, 91, rfl⟩
abbrev main_while0b_v72 : Ref sig .tc := ⟨.hbm, 92, rfl⟩
abbrev main_while0b_c_18 : Ref sig .tc := ⟨.hbm, 93, rfl⟩
abbrev main_while0b_v73 : Ref sig .tc := ⟨.hbm, 94, rfl⟩
abbrev main_while0b_v74 : Ref sig .tc := ⟨.hbm, 95, rfl⟩
abbrev main_while0b_c_19 : Ref sig .tc := ⟨.hbm, 96, rfl⟩
abbrev main_while0b_c_20 : Ref sig .tc := ⟨.hbm, 97, rfl⟩
abbrev main_while0b_v75 : Ref sig .tc := ⟨.hbm, 98, rfl⟩
abbrev main_while0b_c_21 : Ref sig .tc := ⟨.hbm, 99, rfl⟩
abbrev main_while0b_c_22 : Ref sig .tc := ⟨.hbm, 100, rfl⟩
abbrev main_while0b_v76 : Ref sig .tc := ⟨.hbm, 101, rfl⟩
abbrev main_while0b_c_23 : Ref sig .tc := ⟨.hbm, 102, rfl⟩
abbrev main_while0b_v77 : Ref sig .tc := ⟨.hbm, 103, rfl⟩
abbrev main_while0b_v78 : Ref sig .tc := ⟨.hbm, 104, rfl⟩
abbrev main_while0b_v79 : Ref sig .tc := ⟨.hbm, 105, rfl⟩
abbrev main_while0b_v80 : Ref sig .tc := ⟨.hbm, 106, rfl⟩
abbrev main_while0b_v81 : Ref sig .tc := ⟨.hbm, 107, rfl⟩
abbrev main_while0b_v82 : Ref sig .tc := ⟨.hbm, 108, rfl⟩
abbrev main_while0b_v83 : Ref sig .tc := ⟨.hbm, 109, rfl⟩
abbrev main_while0b_v84 : Ref sig .tc := ⟨.hbm, 110, rfl⟩
abbrev main_while0b_c_24 : Ref sig .tc := ⟨.hbm, 111, rfl⟩
abbrev main_while0b_v85 : Ref sig .tc := ⟨.hbm, 112, rfl⟩
abbrev main_while0b_c_25 : Ref sig .tc := ⟨.hbm, 113, rfl⟩
abbrev main_while0b_v86 : Ref sig .tc := ⟨.hbm, 114, rfl⟩
abbrev main_while0b_v87 : Ref sig .tc := ⟨.hbm, 115, rfl⟩
abbrev main_while0b_c_26 : Ref sig .tc := ⟨.hbm, 116, rfl⟩
abbrev main_while0b_c_27 : Ref sig .tc := ⟨.hbm, 117, rfl⟩
abbrev main_while0b_v88 : Ref sig .tc := ⟨.hbm, 118, rfl⟩
abbrev main_while0b_c_28 : Ref sig .tc := ⟨.hbm, 119, rfl⟩
abbrev main_while0b_c_29 : Ref sig .tc := ⟨.hbm, 120, rfl⟩
abbrev main_while0b_v89 : Ref sig .tc := ⟨.hbm, 121, rfl⟩
abbrev main_while0b_c_30 : Ref sig .tc := ⟨.hbm, 122, rfl⟩
abbrev main_while0b_v90 : Ref sig .tc := ⟨.hbm, 123, rfl⟩
abbrev main_while0b_v91 : Ref sig .tc := ⟨.hbm, 124, rfl⟩
abbrev main_while0b_v92 : Ref sig .tc := ⟨.hbm, 125, rfl⟩
abbrev main_while0b_v93 : Ref sig .tc := ⟨.hbm, 126, rfl⟩
abbrev main_while0b_v94 : Ref sig .tc := ⟨.hbm, 127, rfl⟩
abbrev main_while0b_v95 : Ref sig .tc := ⟨.hbm, 128, rfl⟩
abbrev main_while0b_v96 : Ref sig .tc := ⟨.hbm, 129, rfl⟩
abbrev main_while0b_v97 : Ref sig .tc := ⟨.hbm, 130, rfl⟩
abbrev main_while0b_c_31 : Ref sig .tc := ⟨.hbm, 131, rfl⟩
abbrev main_while0b_v98 : Ref sig .tc := ⟨.hbm, 132, rfl⟩
abbrev main_while0b_c_32 : Ref sig .tc := ⟨.hbm, 133, rfl⟩
abbrev main_while0b_v99 : Ref sig .tc := ⟨.hbm, 134, rfl⟩
abbrev main_while0b_v100 : Ref sig .tc := ⟨.hbm, 135, rfl⟩
abbrev main_while0b_c_33 : Ref sig .tc := ⟨.hbm, 136, rfl⟩
abbrev main_while0b_c_34 : Ref sig .tc := ⟨.hbm, 137, rfl⟩
abbrev main_while0b_v101 : Ref sig .tc := ⟨.hbm, 138, rfl⟩
abbrev main_while0b_c_35 : Ref sig .tc := ⟨.hbm, 139, rfl⟩
abbrev main_while0b_c_36 : Ref sig .tc := ⟨.hbm, 140, rfl⟩
abbrev main_while0b_v102 : Ref sig .tc := ⟨.hbm, 141, rfl⟩
abbrev main_while0b_c_37 : Ref sig .tc := ⟨.hbm, 142, rfl⟩
abbrev main_while0b_v103 : Ref sig .tc := ⟨.hbm, 143, rfl⟩
abbrev main_while0b_v104 : Ref sig .tc := ⟨.hbm, 144, rfl⟩
abbrev main_while0b_v105 : Ref sig .tc := ⟨.hbm, 145, rfl⟩
abbrev main_while0b_v106 : Ref sig .tc := ⟨.hbm, 146, rfl⟩
abbrev main_while0b_v107 : Ref sig .tc := ⟨.hbm, 147, rfl⟩
abbrev main_while0b_v108 : Ref sig .tc := ⟨.hbm, 148, rfl⟩
abbrev main_while0b_v109 : Ref sig .tc := ⟨.hbm, 149, rfl⟩
abbrev main_while0b_v110 : Ref sig .tc := ⟨.hbm, 150, rfl⟩
abbrev main_while0b_c_38 : Ref sig .tc := ⟨.hbm, 151, rfl⟩
abbrev main_while0b_v111 : Ref sig .tc := ⟨.hbm, 152, rfl⟩
abbrev main_while0b_c_39 : Ref sig .tc := ⟨.hbm, 153, rfl⟩
abbrev main_while0b_v112 : Ref sig .tc := ⟨.hbm, 154, rfl⟩
abbrev main_while0b_v113 : Ref sig .tc := ⟨.hbm, 155, rfl⟩
abbrev main_while0b_c_40 : Ref sig .tc := ⟨.hbm, 156, rfl⟩
abbrev main_while0b_c_41 : Ref sig .tc := ⟨.hbm, 157, rfl⟩
abbrev main_while0b_v114 : Ref sig .tc := ⟨.hbm, 158, rfl⟩
abbrev main_while0b_c_42 : Ref sig .tc := ⟨.hbm, 159, rfl⟩
abbrev main_while0b_c_43 : Ref sig .tc := ⟨.hbm, 160, rfl⟩
abbrev main_while0b_v115 : Ref sig .tc := ⟨.hbm, 161, rfl⟩
abbrev main_while0b_c_44 : Ref sig .tc := ⟨.hbm, 162, rfl⟩
abbrev main_while0b_v116 : Ref sig .tc := ⟨.hbm, 163, rfl⟩
abbrev main_while0b_v117 : Ref sig .tc := ⟨.hbm, 164, rfl⟩
abbrev main_while0b_v118 : Ref sig .tc := ⟨.hbm, 165, rfl⟩
abbrev main_while0b_v119 : Ref sig .tc := ⟨.hbm, 166, rfl⟩
abbrev main_while0b_v120 : Ref sig .tc := ⟨.hbm, 167, rfl⟩
abbrev main_while0b_v121 : Ref sig .tc := ⟨.hbm, 168, rfl⟩
abbrev main_while0b_v122 : Ref sig .tc := ⟨.hbm, 169, rfl⟩
abbrev main_while0b_v123 : Ref sig .tc := ⟨.hbm, 170, rfl⟩
abbrev main_while0b_cst_45 : Ref sig .tc := ⟨.hbm, 171, rfl⟩
abbrev main_while0b_v124 : Ref sig .tc := ⟨.hbm, 172, rfl⟩
abbrev main_while0b_v125 : Ref sig .tc := ⟨.hbm, 173, rfl⟩
abbrev main_while0b_v126 : Ref sig .tc := ⟨.hbm, 174, rfl⟩
abbrev main_while0b_cst_46 : Ref sig .tc := ⟨.hbm, 175, rfl⟩
abbrev main_while0b_v127 : Ref sig .tc := ⟨.hbm, 176, rfl⟩
abbrev main_while0b_v128 : Ref sig .tc := ⟨.hbm, 177, rfl⟩
abbrev main_while0b_v129 : Ref sig .tc := ⟨.hbm, 178, rfl⟩
abbrev main_while0b_c_47 : Ref sig .tc := ⟨.hbm, 179, rfl⟩
abbrev main_while0b_v130 : Ref sig .tc := ⟨.hbm, 180, rfl⟩
abbrev main_while0b_v131 : Ref sig .tc := ⟨.hbm, 181, rfl⟩
abbrev main_while0b_c_48 : Ref sig .tc := ⟨.hbm, 182, rfl⟩
abbrev main_while0b_v132 : Ref sig .tc := ⟨.hbm, 183, rfl⟩
abbrev main_while0b_v133 : Ref sig .tc := ⟨.hbm, 184, rfl⟩
abbrev main_while0b_v134 : Ref sig .tc := ⟨.hbm, 185, rfl⟩
abbrev main_while0b_v135 : Ref sig .tc := ⟨.hbm, 186, rfl⟩
abbrev main_while0b_v136 : Ref sig .tc := ⟨.hbm, 187, rfl⟩
abbrev main_while0b_v137 : Ref sig .tc := ⟨.hbm, 188, rfl⟩
abbrev main_while0b_v138 : Ref sig .tc := ⟨.hbm, 189, rfl⟩
abbrev main_while0b_cst_49 : Ref sig .tc := ⟨.hbm, 190, rfl⟩
abbrev main_while0b_v139 : Ref sig .tc := ⟨.hbm, 191, rfl⟩
abbrev main_while0b_v140 : Ref sig .tc := ⟨.hbm, 192, rfl⟩
abbrev main_while0b_v141 : Ref sig .tc := ⟨.hbm, 193, rfl⟩
abbrev main_while0b_c_50 : Ref sig .tc := ⟨.hbm, 194, rfl⟩
abbrev main_while0b_v142 : Ref sig .tc := ⟨.hbm, 195, rfl⟩
abbrev main_while0b_v143 : Ref sig .tc := ⟨.hbm, 196, rfl⟩
abbrev main_while0b_c_51 : Ref sig .tc := ⟨.hbm, 197, rfl⟩
abbrev main_while0b_v144 : Ref sig .tc := ⟨.hbm, 198, rfl⟩
abbrev main_while0b_v145 : Ref sig .tc := ⟨.hbm, 199, rfl⟩
abbrev main_while0b_v146 : Ref sig .tc := ⟨.hbm, 200, rfl⟩
abbrev main_while0b_v147 : Ref sig .tc := ⟨.hbm, 201, rfl⟩
abbrev main_while0b_v148 : Ref sig .tc := ⟨.hbm, 202, rfl⟩
abbrev main_while0b_v149 : Ref sig .tc := ⟨.hbm, 203, rfl⟩
abbrev main_while0b_v150 : Ref sig .tc := ⟨.hbm, 204, rfl⟩
abbrev main_while0b_v151 : Ref sig .tc := ⟨.hbm, 205, rfl⟩
abbrev main_while0b_v152 : Ref sig .tc := ⟨.hbm, 206, rfl⟩
abbrev main_while0b_v153 : Ref sig .tc := ⟨.hbm, 207, rfl⟩
abbrev main_while0b_v154 : Ref sig .tc := ⟨.hbm, 208, rfl⟩
abbrev main_while0b_v155 : Ref sig .tc := ⟨.hbm, 209, rfl⟩
abbrev main_while0b_v156 : Ref sig .tc := ⟨.hbm, 210, rfl⟩
abbrev main_while0b_v157 : Ref sig .tc := ⟨.hbm, 211, rfl⟩
abbrev main_while0b_c_52 : Ref sig .tc := ⟨.hbm, 212, rfl⟩
abbrev main_while0b_v158 : Ref sig .tc := ⟨.hbm, 213, rfl⟩
abbrev main_v63 : Ref sig .tc := ⟨.hbm, 214, rfl⟩
abbrev main_v64 : Ref sig .tc := ⟨.hbm, 215, rfl⟩
abbrev main_v65 : Ref sig .tc := ⟨.hbm, 216, rfl⟩
abbrev main_v66 : Ref sig .tc := ⟨.hbm, 217, rfl⟩
abbrev main_v67 : Ref sig .tc := ⟨.hbm, 218, rfl⟩
abbrev main_v68 : Ref sig .tc := ⟨.hbm, 219, rfl⟩
abbrev main_v69 : Ref sig .tc := ⟨.hbm, 220, rfl⟩

abbrev nD : Nat := 1
abbrev τ : Topo := Topo.v7x

variable {F : FTy → Type} [FloatOps F]

abbrev main_while0_count : Scf.Loop 32 := ⟨0#32, 20000#32, 1#32⟩
-- ==== Proof.Sc.lean ====
/-
  The SparseCore part of the kernel: thirty-two tasks, two SparseCores by sixteen tiles. The task on core `c` and
  tile `s` has number `2 * s + c` and owns 632 consecutive rows of the list of row numbers and of the result. It
  fetches its part of the list, gathers the named rows of the table, and writes them out. Proved here for any float
  values, with the value: every row of the result is the row of the table that the list names. The table goes out
  to the tasks as read shares; the list and the result go out in disjoint pieces.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program as the launch theorem takes it -/

abbrev ΛP : Labels := Pipeline.Sig (Λ₀ F) (Fin 1) fun p => (pcfgs (F := F) p).Adm
abbrev K : SparseCore.Cfg τ sig (ΛP (F := F)) 1 := sc (F := F)
theorem tiles_eq : (K (F := F)).nSub 0 = 16 := rfl
theorem cores_eq : (K (F := F)).nCore 0 = 2 := rfl
abbrev D : Defs nD τ sig (Elt F) (ΛP (F := F)) := Pipeline.defs pcfgs defs₀
abbrev 𝒱₀ : Variants := Variants.nat
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The ghost state: the handshakes' rounds, the pipeline's rounds, the transfers' counters -/

abbrev UH : Type := URounds (GSem nD τ sig) ℕ
abbrev UP : Type := UR sig nD τ × Counters
abbrev UU : Type := UH × UP

local notation "𝕄" => MT nD τ sig (HIx 1) (Elt F) ℕ UU ℕ

abbrev EH : Emb UH (MT nD τ sig (HIx 1) (Elt F) ℕ UU ℕ) := embL

/-! ## The three arrays of the call -/

abbrev tLoc (d : Dev nD) : Loc nD τ sig := (SparseCore.T d).loc main_v6
abbrev iLoc (d : Dev nD) : Loc nD τ sig := (SparseCore.T d).loc main_v5
abbrev oLoc (d : Dev nD) : Loc nD τ sig := (SparseCore.T d).loc main_v7

/-- What the call computes: row `r` of the result is the table's row `list[r]`. -/
def gathered (tab : S20000x128.Idx → Elt F .f32) (idx : S20224.Idx → Elt F .i32) : S20224x128.Idx → Elt F .f32 :=
  fun j => tab (fun
    | 0 => ⟨(idx (fun | 0 => ⟨(j 0).val, (j 0).isLt⟩)).toNat % 20000, Nat.mod_lt _ (by decide)⟩
    | 1 => ⟨(j 1).val, (j 1).isLt⟩
    | ⟨_ + 2, h⟩ => absurd h (Nat.not_lt.2 (Nat.le_add_left _ _)))

theorem idiv : 32 ∣ S20224.size 0 := ⟨632, rfl⟩
theorem odiv : 32 ∣ S20224x128.size 0 := ⟨632, rfl⟩
abbrev ipart (i : Fin 32) : Rect S20224 := Rect.part (s := S20224) (a₀ := 0) idiv i
abbrev opart (i : Fin 32) : Rect S20224x128 := Rect.part (s := S20224x128) (a₀ := 0) odiv i
abbrev iSet (i : Fin 32) : Finset S20224.Idx := (((Memref.whole main_v5_scv)).view.slice (ipart i)).set
abbrev oSet (i : Fin 32) : Finset S20224x128.Idx := (((Memref.whole main_v7_scv)).view.slice (opart i)).set

/-- A task's number. -/
def wid (c : Fin 2) (s : Fin 16) : Fin 32 := ⟨2 * s.val + c.val, by omega⟩

variable (tab : (d : Dev nD) → Buf (Elt F) (tLoc d)) (idx : (d : Dev nD) → Buf (Elt F) (iLoc d)) (out : (d : Dev nD) → Buf (Elt F) (oLoc d))

/-- The result of the call on device `d`. -/
abbrev res (d : Dev nD) : Buf (Elt F) (oLoc d) := gathered (F := F) (tab d) (idx d)

/-! ## What a task is handed and hands back -/

abbrev tq (w : Fin 32) : PosShare TreeShare := Transfers.shareTokN fullShare w.val
abbrev iPts (d : Dev nD) (w : Fin 32) : sProp 𝕄 := iLoc d ↦[iSet w]{fullShare} idx d
abbrev tPts (d : Dev nD) (w : Fin 32) : sProp 𝕄 := tLoc d ↦{tq w} tab d
abbrev oPts (d : Dev nD) (w : Fin 32) (f : Buf (Elt F) (oLoc d)) : sProp 𝕄 := oLoc d ↦[oSet w]{fullShare} f

abbrev goR (d : Dev nD) (c : Fin 2) (s : Fin 16) : sProp 𝕄 :=
  iprop(iPts idx d (wid c s) ∗ tPts tab d (wid c s) ∗ oPts d (wid c s) (out d))
abbrev tdR (d : Dev nD) (c : Fin 2) (s : Fin 16) : sProp 𝕄 :=
  iprop(iPts idx d (wid c s) ∗ tPts tab d (wid c s) ∗ oPts d (wid c s) (res tab idx d))
abbrev stR (d : Dev nD) (c : Fin 2) : sProp 𝕄 := bigSep Finset.univ fun s : Fin 16 => goR tab idx out d c s
abbrev dnR (d : Dev nD) (c : Fin 2) : sProp 𝕄 := bigSep Finset.univ fun s : Fin 16 => tdR tab idx d c s

/-- A SparseCore is handed its sixteen tasks' pieces together and hands them back together. -/
def P : (K (F := F)).Pay (nD := nD) (Val := Elt F) (Name := ℕ) (U := UU) where
  st := fun q d c => match q with | 0 => stR tab idx out d (Fin.cast cores_eq c)
  dn := fun q d c => match q with | 0 => dnR tab idx d (Fin.cast cores_eq c)
  go := fun q d c s => match q with | 0 => goR tab idx out d (Fin.cast cores_eq c) (Fin.cast tiles_eq s)
  td := fun q d c s => match q with | 0 => tdR tab idx d (Fin.cast cores_eq c) (Fin.cast tiles_eq s)
  x := fun _ _ => iprop(emp)

instance P_storable : (P (F := F) tab idx out).IsStorable where
  st q d c := match q with | 0 => (inferInstance : BI.Storable (upEmb : UEmb _ 𝕄) (stR tab idx out d (Fin.cast cores_eq c)))
  dn q d c := match q with | 0 => (inferInstance : BI.Storable (upEmb : UEmb _ 𝕄) (dnR tab idx d (Fin.cast cores_eq c)))
  go q d c s := match q with
    | 0 => (inferInstance : BI.Storable (upEmb : UEmb _ 𝕄) (goR tab idx out d (Fin.cast cores_eq c) (Fin.cast tiles_eq s)))
  td q d c s := match q with
    | 0 => (inferInstance : BI.Storable (upEmb : UEmb _ 𝕄) (tdR tab idx d (Fin.cast cores_eq c) (Fin.cast tiles_eq s)))

/-- The list names rows of the table. -/
def InRange : Prop := ∀ (d : Dev nD) (j : S20224.Idx), (idx d j).toNat < 20000

/-! ## The task -/

section Tile

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev wL (L : grid0.Coords) : Fin 32 := wid (Fin.cast bound_zero (L 0)) (Fin.cast bound_one (L 1))

abbrev irectK (L : grid0.Coords) : Rect S20224 := Rect.unit (s := S20224) (k0_off1 L) S632.size (k0_off1_inb L)
abbrev orectK (L : grid0.Coords) : Rect S20224x128 := Rect.unit (s := S20224x128) (k0_off2 L) S632x128.size (k0_off2_inb L)
abbrev iK (L : grid0.Coords) : Memref sig .scVector .hbm S632 .i32 := ((Memref.whole main_v5_scv)).slice (irectK L) (fun _ => rfl)
abbrev oK (L : grid0.Coords) : Memref sig .scVector .hbm S632x128 .f32 := ((Memref.whole main_v7_scv)).slice (orectK L) (fun _ => rfl)
abbrev tK : Memref sig .scVector .hbm S20000x128 .f32 := ((Memref.whole main_v6_scv)).slice (Rect.unit (s := S20000x128) ![0, 0] S20000x128.size inb_S20000x128_S20000x128_0_0) (fun _ => rfl)

theorem irectK_eq : irectK L = ipart (wL L) := by
  unfold irectK ipart Rect.part Rect.block
  congr 1 <;> funext a
  · rw [k0_off1_eq]
    match a with
    | 0 =>
      show 1264 * (L 1).val + 632 * (L 0).val = (2 * (L 1).val + (L 0).val) * 632
      omega
  · match a with
    | 0 => simp [Shape.partSize]
theorem orectK_eq : orectK L = opart (wL L) := by
  unfold orectK opart Rect.part Rect.block
  congr 1 <;> funext a
  · rw [k0_off2_eq]
    match a with
    | 0 =>
      show 1264 * (L 1).val + 632 * (L 0).val = (2 * (L 1).val + (L 0).val) * 632
      omega
    | 1 => simp [Shape.partIx, Shape.partSize]
  · match a with
    | 0 => simp [Shape.partSize]
    | 1 => simp [Shape.partSize]

theorem set_iK : (iK L).view.set = iSet (wL L) := by
  show (((Memref.whole main_v5_scv)).view.slice (irectK L)).set = (((Memref.whole main_v5_scv)).view.slice (ipart (wL L))).set
  exact irectK_eq L ▸ rfl
theorem set_oK : (oK L).view.set = oSet (wL L) := by
  show (((Memref.whole main_v7_scv)).view.slice (orectK L)).set = (((Memref.whole main_v7_scv)).view.slice (opart (wL L))).set
  exact orectK_eq L ▸ rfl

theorem pts_iK (f : Buf (Elt F) (iLoc d)) :
    ((iK L).view.loc (V d (cV L) (jV L)) ↦[(iK L).view.set]{fullShare} f : sProp 𝕄) = iLoc d ↦[iSet (wL L)]{fullShare} f := by
  rw [set_iK]
theorem pts_oK (f : Buf (Elt F) (oLoc d)) :
    ((oK L).view.loc (V d (cV L) (jV L)) ↦[(oK L).view.set]{fullShare} f : sProp 𝕄) = oLoc d ↦[oSet (wL L)]{fullShare} f := by
  rw [set_oK]
theorem pts_tV (q : PosShare TreeShare) (f : Buf (Elt F) (tLoc d)) :
    (((Memref.whole main_v6_scv)).view.loc (V d (cV L) (jV L)) ↦{q} f : sProp 𝕄) = tLoc d ↦{q} f := rfl
theorem pts_sV (f : Buf (Elt F) ((V d (cV L) (jV L)).loc cc0_scratch0)) :
    (((Memref.whole cc0_scratch0)).view.loc (V d (cV L) (jV L)) ↦{fullShare} f : sProp 𝕄) = (V d (cV L) (jV L)).loc cc0_scratch0 ↦{fullShare} f := rfl
theorem pts_rV (f : Buf (Elt F) ((V d (cV L) (jV L)).loc cc0_scratch1)) :
    (((Memref.whole cc0_scratch1)).view.loc (V d (cV L) (jV L)) ↦{fullShare} f : sProp 𝕄) = (V d (cV L) (jV L)).loc cc0_scratch1 ↦{fullShare} f := rfl

abbrev cellA (d : Dev nD) (c : Fin τ.nSC) (i : Fin τ.nSub) : GSem nD τ sig := (V d c i, .dma cc0_scoped0.sem)
abbrev cellB (d : Dev nD) (c : Fin τ.nSC) (i : Fin τ.nSub) : GSem nD τ sig := (V d c i, .dma cc0_scratch2.sem)
abbrev cellC (d : Dev nD) (c : Fin τ.nSC) (i : Fin τ.nSub) : GSem nD τ sig := (V d c i, .dma cc0_scoped1.sem)

theorem sems_split :
    (ownSems0 (V d (cV L) (jV L)) : sProp 𝕄)
      = iprop(semVal (cellA d (cV L) (jV L)) 0 ∗ semVal (cellB d (cV L) (jV L)) 0 ∗ semVal (cellC d (cV L) (jV L)) 0
          ∗ bigSep ((((ownCells (V d (cV L) (jV L))).erase (cellA d (cV L) (jV L))).erase (cellB d (cV L) (jV L))).erase (cellC d (cV L) (jV L))) fun g => semVal g 0) := by
  unfold SparseCore.Cfg.ownSems0
  rw [SparseCore.bigSep_erase' ((mem_ownCells (g := cellA d (cV L) (jV L))).mpr ⟨rfl, by
      show (SemLoc.dma cc0_scoped0.sem : SemLoc sig).isScoped .scVector = true; decide⟩),
    SparseCore.bigSep_erase' (Finset.mem_erase.mpr ⟨by simp [cellA, cellB]; decide, (mem_ownCells (g := cellB d (cV L) (jV L))).mpr ⟨rfl, by
      show (SemLoc.dma cc0_scratch2.sem : SemLoc sig).isScoped .scVector = true; decide⟩⟩),
    SparseCore.bigSep_erase' (Finset.mem_erase.mpr ⟨by simp [cellB, cellC]; decide, Finset.mem_erase.mpr ⟨by simp [cellA, cellC]; decide,
      (mem_ownCells (g := cellC d (cV L) (jV L))).mpr ⟨rfl, by show (SemLoc.dma cc0_scoped1.sem : SemLoc sig).isScoped .scVector = true; decide⟩⟩⟩)]

theorem bufs_split :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- What the list's fetch left in the tile's copy: the task's part of the list. -/
theorem list_read (fs : Buf (Elt F) ((V d (cV L) (jV L)).loc cc0_scratch0)) (pay : S632.Idx → Elt F .i32)
    (hpay : pay = (iK L).view.read (Elt F) (idx d)) (x : S632.Idx) :
    ((Memref.whole cc0_scratch0)).view.read (Elt F) (View.write (Elt F) ((Memref.whole cc0_scratch0)).view fs pay Finset.univ) x = idx d ((iK L).view.emb x) := by
  subst hpay
  rw [View.write_whole_univ]
  simp only [Memref.view_whole, View.read_whole]
  exact (View.read_apply _ _).trans (cast_eq _ _)

theorem list_inRange (h : InRange idx) (fs : Buf (Elt F) ((V d (cV L) (jV L)).loc cc0_scratch0)) (pay : S632.Idx → Elt F .i32)
    (hpay : pay = (iK L).view.read (Elt F) (idx d)) :
    ∀ x, (((Memref.whole cc0_scratch0)).view.read (Elt F) (View.write (Elt F) ((Memref.whole cc0_scratch0)).view fs pay Finset.univ) x).toNat < S20000x128.size gathers_S20000x128_S632x128.axis := fun x => by
  rw [list_read idx d L fs pay hpay]; exact h d _

/-- The value: what the tile writes out at its part of the result is the gathered rows there. -/
theorem out_value (h : InRange idx) (fs : Buf (Elt F) ((V d (cV L) (jV L)).loc cc0_scratch0)) (pay : S632.Idx → Elt F .i32)
    (hpay : pay = (iK L).view.read (Elt F) (idx d))
    (fr : Buf (Elt F) ((V d (cV L) (jV L)).loc cc0_scratch1)) (g : Buf (Elt F) (oLoc d)) (pay' : S632x128.Idx → Elt F .f32)
    (hpay' : pay' = ((Memref.whole cc0_scratch1)).view.read (Elt F) (((Memref.whole cc0_scratch1)).view.write (Elt F) fr
      (SparseCore.gatherPayload gathers_S20000x128_S632x128 ((tK).view.read (Elt F) (tab d))
        (SparseCore.rows (((Memref.whole cc0_scratch0)).view.read (Elt F) (View.write (Elt F) ((Memref.whole cc0_scratch0)).view fs pay Finset.univ)) rfl (list_inRange idx d L h fs pay hpay)) ) Finset.univ)) :
    ∀ j ∈ oSet (wL L), (oK L).view.writes (Elt F) g [⟨Rect.whole S632x128, pay'⟩] j = res tab idx d j := by
  intro j hj
  rw [← set_oK] at hj
  obtain ⟨x, -, hx⟩ := Finset.mem_map.mp hj
  subst hx
  refine Eq.trans (b := pay' x) ?_ ?_
  · have hw := View.read_writes_cons_emb (v := (oK L).view) (Val := Elt F) (f := g) (Rect.whole S632x128) pay' [] x
    rw [show (Rect.whole S632x128).emb x = x from funext fun a => Fin.ext (((Rect.whole S632x128).emb_apply x a).trans (by show 0 + 1 * _ = _; omega))] at hw
    exact ((View.read_apply _ _).trans (cast_eq _ _)).symm.trans hw
  rw [hpay']
  refine (View.read_write_of_mem (v := ((Memref.whole cc0_scratch1)).view) (Val := Elt F) fr _ (Finset.mem_univ x)).trans ?_
  unfold SparseCore.gatherPayload
  refine ((View.read_apply _ _).trans (cast_eq _ _)).trans ?_
  refine congrArg (tab d) (funext fun a => Fin.ext ?_)
  have he : ∀ (y : S20000x128.Idx) (b : Fin 2), ((tK).view.emb y b).val = (y b).val := by
    intro y b
    show (((View.whole main_v6_scv).slice (Rect.unit (s := S20000x128) ![0, 0] S20000x128.size inb_S20000x128_S20000x128_0_0)).emb y b).val = _
    refine (Rect.emb_apply _ _ _).trans ?_
    match b with
    | 0 => show 0 + 1 * (y 0).val = _; omega
    | 1 => show 0 + 1 * (y 1).val = _; omega
  refine (he _ a).trans ?_
  match a with
  | 0 =>
    refine (congrArg Fin.val (Shape.Gathers.idx_axis gathers_S20000x128_S632x128 _ x)).trans ?_
    refine Eq.trans (b := (idx d ((iK L).view.emb (S632.rowMajor.symm ((x 0).cast rfl)))).toNat) ?_ ?_
    · have hl := congrArg BitVec.toNat (list_read idx d L fs pay hpay (S632.rowMajor.symm ((x 0).cast rfl)))
      exact hl
    · refine Eq.trans ?_ (Nat.mod_eq_of_lt (h d _)).symm
      refine congrArg (fun z => (idx d z).toNat) (funext fun b => Fin.ext ?_)
      match b with
      | 0 =>
        refine ((irectK L).emb_apply _ 0).trans (Eq.trans ?_ ((orectK L).emb_apply x 0).symm)
        show k0_off1 L 0 + 1 * _ = k0_off2 L 0 + 1 * (x 0).val
        have hm : ((S632.rowMajor.symm ((x 0).cast rfl)) 0).val = (x 0).val := by
          rw [← Shape.rowMajor_val_one, Equiv.apply_symm_apply]; rfl
        rw [k0_off1_eq, k0_off2_eq]
        show 1264 * _ + 632 * _ + 1 * ((S632.rowMajor.symm ((x 0).cast rfl)) 0).val = 1264 * _ + 632 * _ + 1 * (x 0).val
        rw [hm]
  | 1 =>
    refine (Shape.Gathers.idx_of_ne gathers_S20000x128_S632x128 _ x 1 (by decide)).trans ?_
    show (x 1).val = ((orectK L).emb x 1).val
    rw [Rect.emb_apply]
    show (x 1).val = k0_off2 L 1 + 1 * (x 1).val
    rw [k0_off2_eq]; simp

theorem row_credits (h : S20000x128.Gathers 0 S632x128) :
    ∑ j, (((Memref.whole cc0_scratch1)).slice (S632x128.rowRect h.axis' j) (S632x128.stride_rowRect h.axis' j)).view.dmaCredit = ((Memref.whole cc0_scratch1)).view.dmaCredit := by
  revert h; decide

set_option maxHeartbeats 2000000 in
/-- The task of tile `L`: from its part of the list, a share of the table and its part of the result, to the same with
the gathered rows in its part of the result. -/
theorem tile_body (hF : (K (F := F)).Facts) (hin : InRange idx) (O : CellTallies nD τ sig (HIx 1)) (W : Waits sig (HIx 1)) (hO : ∀ g, O g none = 0) :
    iprop(levAts (K (F := F)).L (K (F := F)).lev ∗ emp
        ∗ (iPts idx d (wL L) ∗ tPts tab d (wL L) ∗ oPts d (wL L) (out d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gk L (Memref.whole main_v6_scv) (Memref.isWhole_whole _) (Memref.whole main_v5_scv) (Memref.isWhole_whole _) (Memref.whole main_v7_scv) (Memref.isWhole_whole _)
            (Memref.whole cc0_scratch0) (Memref.isWhole_whole _) (Memref.whole cc0_scratch1) (Memref.isWhole_whole _) cc0_scratch2 cc0_scoped0 cc0_scoped1)
          fun _ => iprop((iPts idx d (wL L) ∗ tPts tab d (wL L) ∗ oPts d (wL L) (res tab idx d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_gk_eq_skeleton]; unfold cc0_gk_skel
  rw [(K (F := F)).scopedBufs_V hF d (cV L) (jV L), SparseCore.Cfg.scopedSems0_V (Val := Elt F) d (cV L) (jV L), sems_split, bufs_split]
  iintro ⟨#Hlv, -, ⟨Hi, Hx, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iK (F := F) d L _).symm) $$ Hi
  ihave Ho' := (Entails.of_eq (pts_oK (F := F) d L _).symm) $$ Ho
  ihave Hx' := (Entails.of_eq (pts_tV (F := F) d L _ _).symm) $$ Hx
  ihave Hs' := (Entails.of_eq (pts_sV (F := F) d L _).symm) $$ Hs
  ihave Hr' := (Entails.of_eq (pts_rV (F := F) d L _).symm) $$ Hr
  sl_exec
  ihave Hxs := (pointsTo_split_subset (q := tq (wL L)) (f := tab d) (S := Finset.univ) (Finset.subset_univ (tK).view.set)).1 $$ Hx'
  icases Hxs with ⟨Hxs, Hxr⟩
  have hrs : ((Memref.whole cc0_scratch1)).view.set = Finset.univ := View.set_whole _
  have hss : ((Memref.whole cc0_scratch0)).view.set = Finset.univ := View.set_whole _
  ihave Hr'' := (Entails.of_eq (show (((Memref.whole cc0_scratch1)).view.loc (V d (cV L) (jV L)) ↦{fullShare} fr : sProp 𝕄)
      = ((Memref.whole cc0_scratch1)).view.loc (V d (cV L) (jV L)) ↦[((Memref.whole cc0_scratch1)).view.set]{fullShare} fr by rw [hrs])) $$ Hr'
  ihave Hs'' := (Entails.of_eq (show (((Memref.whole cc0_scratch0)).view.loc (V d (cV L) (jV L)) ↦{fullShare} View.write (Elt F) ((Memref.whole cc0_scratch0)).view fs (tile_body.sl.dma0 idx d L) Finset.univ : sProp 𝕄)
      = ((Memref.whole cc0_scratch0)).view.loc (V d (cV L) (jV L)) ↦[((Memref.whole cc0_scratch0)).view.set]{fullShare} View.write (Elt F) ((Memref.whole cc0_scratch0)).view fs (tile_body.sl.dma0 idx d L) Finset.univ
      by rw [hss])) $$ Hs'
  iapply (SparseCore.wp_indirectGatherLocal countersEmb 𝒱₀ (V d (cV L) (jV L)) none (hg := gathers_S20000x128_S632x128) (default : HIx 1)
      ((Memref.whole cc0_scratch1)).view.dmaCredit (row_credits _) (by decide) (list_inRange idx d L hin fs _ rfl)) $$ [Hxs Hr'' Hs'' HsemB]
  · isplitl [Hxs]; · iexact Hxs
    isplitl [Hr'']; · iexact Hr''
    isplitl [Hs'']; · iexact Hs''
    iexact HsemB
  iintro Hfl
  sl_exec
  iapply (Transfers.wp_waitLocalO countersEmb 𝒱₀ (V d (cV L) (jV L)) none (default : HIx 1) (rfl : ((Memref.whole cc0_scratch1)).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hxs, Hs'⟩, HsemB, HO⟩
  ihave Hx' := (pointsTo_split_subset (q := tq (wL L)) (f := tab d) (S := Finset.univ) (Finset.subset_univ (tK).view.set)).2 $$ [Hxs Hxr]; · isplitl [Hxs] <;> iassumption
  ihave Hr3 := (Entails.of_eq (show (((Memref.whole cc0_scratch1)).view.loc (V d (cV L) (jV L)) ↦[((Memref.whole cc0_scratch1)).view.set]{fullShare} _ : sProp 𝕄)
      = ((Memref.whole cc0_scratch1)).view.loc (V d (cV L) (jV L)) ↦{fullShare} _ by rw [hrs])) $$ Hr'
  ihave Hs3 := (Entails.of_eq (show (((Memref.whole cc0_scratch0)).view.loc (V d (cV L) (jV L)) ↦[((Memref.whole cc0_scratch0)).view.set]{fullShare} _ : sProp 𝕄)
      = ((Memref.whole cc0_scratch0)).view.loc (V d (cV L) (jV L)) ↦{fullShare} _ by rw [hss])) $$ Hs'
  sl_exec
  sl_step
  isplitl [Hi' Hx' Ho']
  · isplitl [Hi']; · iapply (Entails.of_eq (pts_iK (F := F) d L _)); iexact Hi'
    isplitl [Hx']; · iexact Hx'
    ihave Ho2 := (Entails.of_eq (pts_oK (F := F) d L _)) $$ Ho'
    iapply (Entails.of_eq (pointsTo_congr (out_value tab idx d L hin fs _ rfl fr (out d) _ rfl))); iexact Ho2
  isplitl [Hs3 Hr3 Hbufs]
  · isplitl [Hs3]; · iexists _; iexact Hs3
    isplitl [Hr3]; · iexists _; iexact Hr3
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation of the launch -/

/-- The coordinates of core `c` and tile `s`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gk (coordsV c s)
          (Memref.whole main_v6_scv) (Memref.isWhole_whole _) (Memref.whole main_v5_scv) (Memref.isWhole_whole _) (Memref.whole main_v7_scv) (Memref.isWhole_whole _)
            (Memref.whole cc0_scratch0) (Memref.isWhole_whole _) (Memref.whole cc0_scratch1) (Memref.isWhole_whole _) cc0_scratch2 cc0_scoped0 cc0_scoped1) ⟨⟩ c s := rfl

theorem post_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hin : InRange idx) : (K (F := F)).TileObl (D (F := F)) 𝒱 (P tab idx out) v₀ 0 := by
  intro d c i O W hO _ _
  simp only [show (P tab idx out).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body tab idx out d (coordsV ⟨_, hci.1⟩ ⟨_, hci.2⟩) hF hin O W hO).trans (wp_mono frame _ _ fun _ => post_weaken)

/-- A SparseCore's pieces are its tasks' pieces, so nothing has to be split. -/
theorem vecSplit : (K (F := F)).VecSplit' (P tab idx out) 0 := by
  intro d c
  show stR tab idx out d (Fin.cast cores_eq c) ⊢ |={⊤}=> iprop((bigSep Finset.univ fun s => goR tab idx out d (Fin.cast cores_eq c) (Fin.cast tiles_eq s)) ∗ ((bigSep Finset.univ fun s => tdR tab idx d (Fin.cast cores_eq c) (Fin.cast tiles_eq s)) -∗ dnR tab idx d (Fin.cast cores_eq c)))
  iintro H; imodintro
  isplitl [H]; · iexact H
  iintro H; iexact H

end Tile

end Cert.Proof.Sc

end
-- ==== Proof.Call.lean ====
/-
  The SparseCore call as one step of the TensorCore's program: holding every whole array of the host program, the
  call leaves them as they were, except that the result array holds the gathered rows. The list and the result are
  cut into the thirty-two tasks' rows and put together again; the table is lent as thirty-two read shares.
-/
module

public import proofs.«01_k».proof.Proof.Sc
public import Idealize.ShloMosaic.Lib.Pipeline.Frame
public import Idealize.ShloMosaic.Lib.Ring

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The tasks' rows cover both arrays, each row once -/

theorem iSet_eq (w : Fin 32) : iSet w = (ipart w).set := by
  show ((View.whole (main_v5_scv : Ref sig .scVector)).slice (ipart w)).set = _
  rw [View.set_slice]; exact Finset.map_refl
theorem oSet_eq (w : Fin 32) : oSet w = (opart w).set := by
  show ((View.whole (main_v7_scv : Ref sig .scVector)).slice (opart w)).set = _
  rw [View.set_slice]; exact Finset.map_refl

theorem list_tasks (d : Dev nD) (f : Buf (Elt F) (iLoc d)) :
    (iLoc d ↦{fullShare} f : sProp 𝕄) = bigSep Finset.univ fun w : Fin 32 => iLoc d ↦[iSet w]{fullShare} f := by
  rw [← pointsTo_biUnion Finset.univ (ℓ := iLoc d) iSet
    (fun a _ b _ h => by rw [iSet_eq, iSet_eq]; exact Rect.part_disjoint idiv h),
    (Finset.biUnion_congr rfl fun w _ => iSet_eq w).trans (Rect.biUnion_part idiv)]
  try rfl
theorem rows_tasks (d : Dev nD) (f : Buf (Elt F) (oLoc d)) :
    (oLoc d ↦{fullShare} f : sProp 𝕄) = bigSep Finset.univ fun w : Fin 32 => oLoc d ↦[oSet w]{fullShare} f := by
  rw [← pointsTo_biUnion Finset.univ (ℓ := oLoc d) oSet
    (fun a _ b _ h => by rw [oSet_eq, oSet_eq]; exact Rect.part_disjoint odiv h),
    (Finset.biUnion_congr rfl fun w _ => oSet_eq w).trans (Rect.biUnion_part odiv)]
  try rfl

/-- What is left of the table's full share while the tasks read. -/
abbrev tRest (d : Dev nD) (f : Buf (Elt F) (tLoc d)) : sProp 𝕄 := tLoc d ↦{Transfers.shareDrop fullShare 32} f

theorem table_tasks (d : Dev nD) (f : Buf (Elt F) (tLoc d)) :
    (tLoc d ↦{fullShare} f : sProp 𝕄) ⊣⊢ iprop(tRest d f ∗ bigSep Finset.univ fun w : Fin 32 => tLoc d ↦{tq w} f) := by
  rw [Ring.bigSep_fin_eq_range 32 (fun w : Fin 32 => (tLoc d ↦{tq w} f : sProp 𝕄))
    (fun i => tLoc d ↦{Transfers.shareTokN fullShare i} f) (fun _ _ => rfl)]
  exact Transfers.pointsTo_toks_range fullShare 32

/-- The tasks of the two SparseCores, by number. -/
def widEquiv : Fin 2 × Fin 16 ≃ Fin 32 := Equiv.ofBijective (fun p => wid p.1 p.2) (by decide)

theorem bigSep_wid (Φ : Fin 32 → sProp 𝕄) :
    (bigSep Finset.univ fun c : Fin 2 => bigSep Finset.univ fun s : Fin 16 => Φ (wid c s)) = bigSep Finset.univ Φ := by
  rw [← Idealize.SL.BI.bigSep_univ_prod (fun p : Fin 2 × Fin 16 => Φ (wid p.1 p.2)),
    ← Finset.map_univ_equiv widEquiv, Idealize.SL.BI.bigSep_map]
  rfl

variable (tab : (d : Dev nD) → Buf (Elt F) (tLoc d)) (idx : (d : Dev nD) → Buf (Elt F) (iLoc d)) (out : (d : Dev nD) → Buf (Elt F) (oLoc d))

theorem bigSep_cores (Φ : Fin 2 → sProp 𝕄) :
    (bigSep Finset.univ fun c : Fin ((K (F := F)).nCore 0) => Φ (Fin.cast cores_eq c)) = bigSep Finset.univ Φ :=
  bigSep_congr fun _ _ => congrArg Φ (Fin.ext rfl)

theorem handed (d : Dev nD) :
    (bigSep Finset.univ fun c : Fin ((K (F := F)).nCore 0) => (P tab idx out).st 0 d c)
      = iprop((bigSep Finset.univ fun w => iPts idx d w) ∗ (bigSep Finset.univ fun w => tPts tab d w)
          ∗ bigSep Finset.univ fun w => oPts d w (out d)) := by
  rw [← Idealize.SL.BI.bigSep_sep', ← Idealize.SL.BI.bigSep_sep']
  exact (bigSep_cores (F := F) (fun c => stR tab idx out d c)).trans
    (bigSep_wid (F := F) fun w => iprop(iPts idx d w ∗ tPts tab d w ∗ oPts d w (out d)))
theorem handedBack (d : Dev nD) :
    (bigSep Finset.univ fun c : Fin ((K (F := F)).nCore 0) => (P tab idx out).dn 0 d c)
      = iprop((bigSep Finset.univ fun w => iPts idx d w) ∗ (bigSep Finset.univ fun w => tPts tab d w)
          ∗ bigSep Finset.univ fun w => oPts d w (res tab idx d)) := by
  rw [← Idealize.SL.BI.bigSep_sep', ← Idealize.SL.BI.bigSep_sep']
  exact (bigSep_cores (F := F) (fun c => dnR tab idx d c)).trans
    (bigSep_wid (F := F) fun w => iprop(iPts idx d w ∗ tPts tab d w ∗ oPts d w (res tab idx d)))

/-! ## The call's three arrays among all of them -/

abbrev bI : DevRef τ sig := Proc.devRef .tc main_v5
abbrev bT : DevRef τ sig := Proc.devRef .tc main_v6
abbrev bO : DevRef τ sig := Proc.devRef .tc main_v7
abbrev three : Finset (DevRef τ sig) := {bI, bT, bO}

theorem three_sub : three ⊆ Pipeline.ucRefs τ sig := by
  intro b hb
  simp only [three, Finset.mem_insert, Finset.mem_singleton] at hb
  rcases hb with rfl | rfl | rfl <;>
    exact Finset.mem_filter.mpr ⟨StableHlo.devRef_mem_tcRefs _, by decide⟩

theorem held_three (d : Dev nD) (W : Valuation τ sig (Elt F)) :
    (StableHlo.held (T d) three W : sProp 𝕄)
      = iprop((iLoc d ↦{fullShare} W bI) ∗ (tLoc d ↦{fullShare} W bT) ∗ oLoc d ↦{fullShare} W bO) := by
  unfold StableHlo.held three
  rw [SparseCore.bigSep_insert' (by decide), SparseCore.bigSep_insert' (by decide), bigSep_singleton]

theorem held_rest (d : Dev nD) (W : Valuation τ sig (Elt F)) (f : Buf (Elt F) (oLoc d)) :
    (StableHlo.held (T d) (Pipeline.ucRefs τ sig \ three) (Function.update W bO f) : sProp 𝕄)
      = StableHlo.held (T d) (Pipeline.ucRefs τ sig \ three) W :=
  StableHlo.held_congr _ fun b hb => Function.update_of_ne
    (fun e => (Finset.mem_sdiff.mp hb).2 (by rw [e]; simp [three])) _ _

/-- The call: from all the arrays at `W`, to the same with the gathered rows in the result. -/
theorem wp_call (κ : GSem nD τ sig → ℕ) (d : Dev nD) (W : Valuation τ sig (Elt F))
    (hi : W bI = idx d) (ht : W bT = tab d) (ho : W bO = out d) {Φ : PUnit → sProp 𝕄} :
    iprop((K (F := F)).ctx EH (P tab idx out) κ ∗ (K (F := F)).tcSt EH d 0 ∗ StableHlo.held (T d) (Pipeline.ucRefs τ sig) W
        ∗ (((K (F := F)).tcSt EH d 1 ∗ StableHlo.held (T d) (Pipeline.ucRefs τ sig) (Function.update W bO (res tab idx d))) -∗ Φ ⟨⟩))
      ⊢ wp frame (wpE ((K (F := F)).defs (D (F := F))) 𝒱 (T d) none) Set.univ ((K (F := F)).run d 0) Φ := by
  rw [StableHlo.held_sub_split (T d) three_sub W, StableHlo.held_sub_split (T d) three_sub (Function.update W bO _), held_rest,
    held_three, held_three, Function.update_self, Function.update_of_ne (by decide), Function.update_of_ne (by decide), hi, ht, ho]
  iintro ⟨#Hctx, Hst, ⟨⟨Hi, Ht, Ho⟩, Hrest⟩, Hk⟩
  ihave Hts := (table_tasks (F := F) d (tab d)).1 $$ Ht
  icases Hts with ⟨Htr, Hts⟩
  ihave Hi' := (Entails.of_eq (list_tasks (F := F) d (idx d))) $$ Hi
  ihave Ho' := (Entails.of_eq (rows_tasks (F := F) d (out d))) $$ Ho
  iapply ((K (F := F)).wp_run (D (F := F)) 𝒱 (EH := EH) (P := P tab idx out) κ d 0)
  isplitr; · iexact Hctx
  isplitl [Hst]; · iexact Hst
  isplitl [Hi' Hts Ho']
  · rw [handed]
    isplitl [Hi']; · iexact Hi'
    isplitl [Hts]; · iexact Hts
    iexact Ho'
  iintro ⟨Hst, Hdn⟩
  ihave Hdn' := (Entails.of_eq (handedBack (F := F) tab idx out d)) $$ Hdn
  icases Hdn' with ⟨Hi, Hts, Ho⟩
  iapply Hk
  isplitl [Hst]; · iexact Hst
  isplitr [Hrest]
  · isplitl [Hi]; · rw [list_tasks]; iexact Hi
    isplitl [Htr Hts]
    · iapply (table_tasks (F := F) d (tab d)).2
      isplitl [Htr] <;> iassumption
    rw [rows_tasks]; iexact Ho
  iexact Hrest

end Cert.Proof.Sc

end
-- ==== Proof.Words.lean ====
/-
  The loop bounds and the offsets of the suppression kernel, as numbers: from the bounds on the block count (at most
  20), on the number of kept boxes (at most 20480) and on the number of boxes kept by one block (at most 1024), the
  trip counts of the loops, the place of every access, and that every access lies inside its buffer.
-/
module

public import proofs.«01_k».proof.Defs
public import Idealize.ShloMosaic.Lib.LoopRemainder
public import Idealize.ShloMosaic.Lib.Routing.Words

@[expose] public section

namespace Cert.Proof.Words

open Cert.KernelIdeal
open Idealize.ShloMosaic

/-- Division rounded down, as the kernel computes it from the division rounded to zero. -/
def fdiv (x c : BitVec 32) : BitVec 32 :=
  Scalar.select (Scalar.andi
      (Scalar.cmpi .ne (Scalar.subi (Scalar.extui (Scalar.cmpi .sgt x 0#32)) (Scalar.extui (Scalar.cmpi .slt x 0#32)))
        (Scalar.subi (Scalar.extui (Scalar.cmpi .sgt c 0#32)) (Scalar.extui (Scalar.cmpi .slt c 0#32))))
      (Scalar.cmpi .ne (Scalar.remsi x c) 0#32))
    (Scalar.subi (Scalar.divsi x c) 1#32) (Scalar.divsi x c)

theorem toInt_small {a : ℕ} (ha : a < 2 ^ 31) : (BitVec.ofNat 32 a).toInt = a := by
  rw [BitVec.toInt_eq_toNat_of_lt] <;> rw [BitVec.toNat_ofNat, Nat.mod_eq_of_lt (by omega)]
  omega

theorem fdiv_word {a c : ℕ} (ha : a < 2 ^ 31) (h0 : 0 < c) (hc : c < 2 ^ 31) :
    fdiv (BitVec.ofNat 32 a) (BitVec.ofNat 32 c) = BitVec.ofNat 32 (a / c) := by
  have hd : Scalar.divsi (BitVec.ofNat 32 a) (BitVec.ofNat 32 c) = BitVec.ofNat 32 (a / c) := Idealize.ShloMosaic.Routing.divsi_word _ ha h0 hc
  have hr : Scalar.remsi (BitVec.ofNat 32 a) (BitVec.ofNat 32 c) = BitVec.ofNat 32 (a % c) := Idealize.ShloMosaic.Routing.remsi_word _ ha h0 hc
  have hcs : Scalar.cmpi .slt (BitVec.ofNat 32 c) 0#32 = 0#1 := by
    show BitVec.ofBool (BitVec.slt _ _) = _
    rw [BitVec.slt, toInt_small hc, show (0#32 : BitVec 32).toInt = 0 from rfl, decide_eq_false (by omega)]; rfl
  have hcg : Scalar.cmpi .sgt (BitVec.ofNat 32 c) 0#32 = 1#1 := by
    show BitVec.ofBool (BitVec.slt _ _) = _
    rw [BitVec.slt, toInt_small hc]; simp [h0]
  have has : Scalar.cmpi .slt (BitVec.ofNat 32 a) 0#32 = 0#1 := by
    show BitVec.ofBool (BitVec.slt _ _) = _
    rw [BitVec.slt, toInt_small ha, show (0#32 : BitVec 32).toInt = 0 from rfl, decide_eq_false (by omega)]; rfl
  unfold fdiv
  rw [hd, hr, hcs, hcg, has]
  rcases Nat.eq_zero_or_pos a with rfl | hp
  · rw [Nat.zero_mod]
    have : Scalar.cmpi .ne (BitVec.ofNat 32 0) 0#32 = 0#1 := rfl
    rw [this]
    have : ∀ b : BitVec 1, Scalar.andi b 0#1 = 0#1 := by decide
    rw [this]; rfl
  · have hag : Scalar.cmpi .sgt (BitVec.ofNat 32 a) 0#32 = 1#1 := by
      show BitVec.ofBool (BitVec.slt _ _) = _
      rw [BitVec.slt, toInt_small ha]; simp [hp]
    rw [hag]
    have : Scalar.cmpi .ne (Scalar.subi (Scalar.extui 1#1) (Scalar.extui 0#1)) (Scalar.subi (Scalar.extui 1#1) (Scalar.extui 0#1) : BitVec 32) = 0#1 := rfl
    rw [this]
    have : ∀ b : BitVec 1, Scalar.andi 0#1 b = 0#1 := by decide
    rw [this]; rfl

theorem add_word (a b : ℕ) : Scalar.addi (BitVec.ofNat 32 a) (BitVec.ofNat 32 b) = BitVec.ofNat 32 (a + b) := by
  show BitVec.ofNat 32 a + BitVec.ofNat 32 b = _
  exact (BitVec.ofNat_add _ _).symm

theorem sub_word {a b : ℕ} (h : b ≤ a) : Scalar.subi (BitVec.ofNat 32 a) (BitVec.ofNat 32 b) = BitVec.ofNat 32 (a - b) := by
  show BitVec.ofNat 32 a - BitVec.ofNat 32 b = _
  apply BitVec.eq_of_toNat_eq
  simp only [BitVec.toNat_sub, BitVec.toNat_ofNat]
  omega

theorem trips_word {a b : ℕ} (hb : b < 2 ^ 31) (h : a ≤ b) :
    Scf.trips (BitVec.ofNat 32 a) (BitVec.ofNat 32 b) 1#32 = b - a := by
  have h1 : (1#32 : BitVec 32).toInt = 1 := by decide
  unfold Scf.trips
  rw [toInt_small hb, toInt_small (Nat.lt_of_le_of_lt h hb), h1]
  omega

theorem ok_word {a b : ℕ} (hb : b < 2 ^ 31) (h : a ≤ b) : Scf.OK (BitVec.ofNat 32 a) (BitVec.ofNat 32 b) 1#32 := by
  have h1 : (1#32 : BitVec 32).toInt = 1 := by decide
  refine ⟨by rw [h1]; decide, ?_⟩
  rw [trips_word hb h, toInt_small (Nat.lt_of_le_of_lt h hb), h1]
  omega

theorem iv_word (a k : ℕ) : Scf.iv (BitVec.ofNat 32 a) 1#32 k = BitVec.ofNat 32 (a + k) := by
  show BitVec.ofNat 32 a + BitVec.ofNat 32 k * 1#32 = _
  rw [BitVec.mul_one, BitVec.ofNat_add]

theorem cast_word {a : ℕ} (h : a < 2 ^ 31) : (Scalar.indexCast (BitVec.ofNat 32 a)).toNat = a := by
  show (BitVec.ofNat 32 a).toNat = a
  rw [BitVec.toNat_ofNat, Nat.mod_eq_of_lt (by omega)]

/-! ## The loop over the blocks -/

section Blocks

variable {n : ℕ} (hn : n ≤ 20)
include hn

theorem t1_eq : k1_t1_loop (BitVec.ofNat 32 n) = ⟨0#32, BitVec.ofNat 32 n, 1#32⟩ := by
  show (⟨0#32, Scalar.addi 0#32 (Scalar.muli (Scalar.divsi (Scalar.subi _ 0#32) 1#32) 1#32), 1#32⟩ : Scf.Loop 32) = _
  rw [Scalar.muli_divsi_one]
  have : Scalar.addi 0#32 (Scalar.subi (BitVec.ofNat 32 n) 0#32) = BitVec.ofNat 32 n := by
    show 0#32 + (_ - 0#32) = _
    simp
  rw [this]

theorem t1_trips : (k1_t1_loop (BitVec.ofNat 32 n)).trips = n := by
  rw [t1_eq hn]; exact trips_word (a := 0) (by omega) (Nat.zero_le _)

theorem t6_trips : (k1_t6_loop (BitVec.ofNat 32 n)).trips = 0 := Scf.rem_trips _ _

theorem off11_eq (k : Fin (k1_t1_loop (BitVec.ofNat 32 n)).trips) : k1_off11 (BitVec.ofNat 32 n) k = ![0, k.val, 0, 0] := by
  have hk : k.val < n := lt_of_lt_of_eq k.isLt (t1_trips hn)
  show ![0, (Scalar.indexCast (Scf.iv (BitVec.ofNat 32 0) 1#32 k.val)).toNat, 0, 0] = _
  rw [iv_word, cast_word (by omega), Nat.zero_add]
theorem off12_eq (k : Fin (k1_t1_loop (BitVec.ofNat 32 n)).trips) : k1_off12 (BitVec.ofNat 32 n) k = ![1, k.val, 0, 0] := by
  have hk : k.val < n := lt_of_lt_of_eq k.isLt (t1_trips hn)
  show ![1, (Scalar.indexCast (Scf.iv (BitVec.ofNat 32 0) 1#32 k.val)).toNat, 0, 0] = _
  rw [iv_word, cast_word (by omega), Nat.zero_add]
theorem off13_eq (k : Fin (k1_t1_loop (BitVec.ofNat 32 n)).trips) : k1_off13 (BitVec.ofNat 32 n) k = ![2, k.val, 0, 0] := by
  have hk : k.val < n := lt_of_lt_of_eq k.isLt (t1_trips hn)
  show ![2, (Scalar.indexCast (Scf.iv (BitVec.ofNat 32 0) 1#32 k.val)).toNat, 0, 0] = _
  rw [iv_word, cast_word (by omega), Nat.zero_add]
theorem off14_eq (k : Fin (k1_t1_loop (BitVec.ofNat 32 n)).trips) : k1_off14 (BitVec.ofNat 32 n) k = ![3, k.val, 0, 0] := by
  have hk : k.val < n := lt_of_lt_of_eq k.isLt (t1_trips hn)
  show ![3, (Scalar.indexCast (Scf.iv (BitVec.ofNat 32 0) 1#32 k.val)).toNat, 0, 0] = _
  rw [iv_word, cast_word (by omega), Nat.zero_add]
theorem off15_eq (k : Fin (k1_t1_loop (BitVec.ofNat 32 n)).trips) : k1_off15 (BitVec.ofNat 32 n) k = ![4, k.val, 0, 0] := by
  have hk : k.val < n := lt_of_lt_of_eq k.isLt (t1_trips hn)
  show ![4, (Scalar.indexCast (Scf.iv (BitVec.ofNat 32 0) 1#32 k.val)).toNat, 0, 0] = _
  rw [iv_word, cast_word (by omega), Nat.zero_add]
theorem off16_eq (k : Fin (k1_t1_loop (BitVec.ofNat 32 n)).trips) : k1_off16 (BitVec.ofNat 32 n) k = ![k.val, 0, 0] := by
  have hk : k.val < n := lt_of_lt_of_eq k.isLt (t1_trips hn)
  show ![(Scalar.indexCast (Scf.iv (BitVec.ofNat 32 0) 1#32 k.val)).toNat, 0, 0] = _
  rw [iv_word, cast_word (by omega), Nat.zero_add]

theorem inb5 {off : Fin 4 → ℕ} {c k : ℕ} (hc : c < 5) (hk : k < 20) (h : off = ![c, k, 0, 0]) :
    ∀ a, off a + S1x1x1x1024.size a ≤ S5x20x1x1024.size a := by
  subst h
  intro a
  match a with
  | 0 => show c + 1 ≤ 5; omega
  | 1 => show k + 1 ≤ 20; omega
  | 2 => show 0 + 1 ≤ 1; omega
  | 3 => show 0 + 1024 ≤ 1024; omega

theorem inb3 {off : Fin 3 → ℕ} {k : ℕ} (hk : k < 20) (h : off = ![k, 0, 0]) :
    ∀ a, off a + S1x1x1024.size a ≤ S20x1x1024.size a := by
  subst h
  intro a
  match a with
  | 0 => show k + 1 ≤ 20; omega
  | 1 => show 0 + 1 ≤ 1; omega
  | 2 => show 0 + 1024 ≤ 1024; omega

theorem chk1 : k1_chk1 (BitVec.ofNat 32 n) := by
  have hk : ∀ k : Fin (k1_t1_loop (BitVec.ofNat 32 n)).trips, k.val < 20 := fun k => by
    have := lt_of_lt_of_eq k.isLt (t1_trips hn); omega
  have no : ∀ {P : Fin (k1_t6_loop (BitVec.ofNat 32 n)).trips → Prop}, ∀ k, P k := fun k =>
    (Nat.not_lt_zero _ (lt_of_lt_of_eq k.isLt (t6_trips hn))).elim
  refine ⟨?_, fun k => inb5 hn (by decide) (hk k) (off11_eq hn k), fun k => inb5 hn (by decide) (hk k) (off12_eq hn k),
    fun k => inb5 hn (by decide) (hk k) (off13_eq hn k), fun k => inb5 hn (by decide) (hk k) (off14_eq hn k),
    fun k => inb5 hn (by decide) (hk k) (off15_eq hn k), fun k => inb3 hn (hk k) (off16_eq hn k),
    Scf.rem_ok _ _, no, no, no, no, no, no⟩
  rw [t1_eq hn]; exact ok_word (a := 0) (by omega) (Nat.zero_le _)

end Blocks

theorem inb80 {off : Fin 4 → ℕ} {c k : ℕ} (hc : c < 5) (hk : k < 80) (h : off = ![c, k, 0, 0]) :
    ∀ a, off a + S1x1x1x256.size a ≤ S5x80x1x256.size a := by
  subst h
  intro a
  match a with
  | 0 => show c + 1 ≤ 5; omega
  | 1 => show k + 1 ≤ 80; omega
  | 2 => show 0 + 1 ≤ 1; omega
  | 3 => show 0 + 256 ≤ 256; omega

/-! ## The loop over the kept chunks -/

section Chunks

variable {g : ℕ} (hg : g ≤ 20480)
include hg

theorem t2_eq : k1_t2_loop (BitVec.ofNat 32 g) = ⟨0#32, BitVec.ofNat 32 ((g + 255) / 256), 1#32⟩ := by
  show (⟨0#32, Scalar.addi 0#32 (Scalar.muli (Scalar.divsi (Scalar.subi
    (fdiv (Scalar.subi (Scalar.addi (BitVec.ofNat 32 g) (BitVec.ofNat 32 256)) (BitVec.ofNat 32 1)) (BitVec.ofNat 32 256)) 0#32) 1#32) 1#32), 1#32⟩ : Scf.Loop 32) = _
  rw [Scalar.muli_divsi_one, add_word, sub_word (by omega), fdiv_word (by omega) (by decide) (by decide)]
  have : Scalar.addi 0#32 (Scalar.subi (BitVec.ofNat 32 ((g + 256 - 1) / 256)) 0#32) = BitVec.ofNat 32 ((g + 255) / 256) := by
    show 0#32 + (_ - 0#32) = _
    simp
  rw [this]

theorem t2_trips : (k1_t2_loop (BitVec.ofNat 32 g)).trips = (g + 255) / 256 := by
  rw [t2_eq hg]; exact trips_word (a := 0) (by omega) (Nat.zero_le _)

theorem t3_trips : (k1_t3_loop (BitVec.ofNat 32 g)).trips = 0 := Scf.rem_trips _ _

theorem t2_lt (k : Fin (k1_t2_loop (BitVec.ofNat 32 g)).trips) : k.val < 80 := by
  have := lt_of_lt_of_eq k.isLt (t2_trips hg); omega

theorem off1_eq (k : Fin (k1_t2_loop (BitVec.ofNat 32 g)).trips) : k1_off1 (BitVec.ofNat 32 g) k = ![0, k.val, 0, 0] := by
  have hk := t2_lt hg k
  show ![0, (Scalar.indexCast (Scf.iv (BitVec.ofNat 32 0) 1#32 k.val)).toNat, 0, 0] = _
  rw [iv_word, cast_word (by omega), Nat.zero_add]
theorem off2_eq (k : Fin (k1_t2_loop (BitVec.ofNat 32 g)).trips) : k1_off2 (BitVec.ofNat 32 g) k = ![1, k.val, 0, 0] := by
  have hk := t2_lt hg k
  show ![1, (Scalar.indexCast (Scf.iv (BitVec.ofNat 32 0) 1#32 k.val)).toNat, 0, 0] = _
  rw [iv_word, cast_word (by omega), Nat.zero_add]
theorem off3_eq (k : Fin (k1_t2_loop (BitVec.ofNat 32 g)).trips) : k1_off3 (BitVec.ofNat 32 g) k = ![2, k.val, 0, 0] := by
  have hk := t2_lt hg k
  show ![2, (Scalar.indexCast (Scf.iv (BitVec.ofNat 32 0) 1#32 k.val)).toNat, 0, 0] = _
  rw [iv_word, cast_word (by omega), Nat.zero_add]
theorem off4_eq (k : Fin (k1_t2_loop (BitVec.ofNat 32 g)).trips) : k1_off4 (BitVec.ofNat 32 g) k = ![3, k.val, 0, 0] := by
  have hk := t2_lt hg k
  show ![3, (Scalar.indexCast (Scf.iv (BitVec.ofNat 32 0) 1#32 k.val)).toNat, 0, 0] = _
  rw [iv_word, cast_word (by omega), Nat.zero_add]
theorem off5_eq (k : Fin (k1_t2_loop (BitVec.ofNat 32 g)).trips) : k1_off5 (BitVec.ofNat 32 g) k = ![4, k.val, 0, 0] := by
  have hk := t2_lt hg k
  show ![4, (Scalar.indexCast (Scf.iv (BitVec.ofNat 32 0) 1#32 k.val)).toNat, 0, 0] = _
  rw [iv_word, cast_word (by omega), Nat.zero_add]

theorem chk2 : k1_chk2 (BitVec.ofNat 32 g) := by
  have no : ∀ {P : Fin (k1_t3_loop (BitVec.ofNat 32 g)).trips → Prop}, ∀ k, P k := fun k =>
    (Nat.not_lt_zero _ (lt_of_lt_of_eq k.isLt (t3_trips hg))).elim
  refine ⟨?_, fun k => inb80 (by decide) (t2_lt hg k) (off1_eq hg k), fun k => inb80 (by decide) (t2_lt hg k) (off2_eq hg k),
    fun k => inb80 (by decide) (t2_lt hg k) (off3_eq hg k), fun k => inb80 (by decide) (t2_lt hg k) (off4_eq hg k),
    fun k => inb80 (by decide) (t2_lt hg k) (off5_eq hg k), Scf.rem_ok _ _, no, no, no, no, no⟩
  rw [t2_eq hg]; exact ok_word (a := 0) (by omega) (Nat.zero_le _)

end Chunks

/-! ## The loop over the chunks that receive a block's kept boxes -/

section Stores

variable {g a : ℕ} (hga : g + a ≤ 20480)
include hga

theorem t4_eq : k1_t4_loop (BitVec.ofNat 32 g) (BitVec.ofNat 32 a) = ⟨BitVec.ofNat 32 (g / 256), BitVec.ofNat 32 ((g + a + 255) / 256), 1#32⟩ := by
  show (⟨fdiv (BitVec.ofNat 32 g) (BitVec.ofNat 32 256), Scalar.addi (fdiv (BitVec.ofNat 32 g) (BitVec.ofNat 32 256)) (Scalar.muli (Scalar.divsi (Scalar.subi
    (fdiv (Scalar.subi (Scalar.addi (Scalar.addi (BitVec.ofNat 32 g) (BitVec.ofNat 32 a)) (BitVec.ofNat 32 256)) (BitVec.ofNat 32 1)) (BitVec.ofNat 32 256))
      (fdiv (BitVec.ofNat 32 g) (BitVec.ofNat 32 256))) 1#32) 1#32), 1#32⟩ : Scf.Loop 32) = _
  rw [Scalar.muli_divsi_one, add_word, add_word, sub_word (by omega), fdiv_word (by omega) (by decide) (by decide),
    fdiv_word (by omega) (by decide) (by decide), sub_word (by omega), add_word]
  have : g / 256 + ((g + a + 256 - 1) / 256 - g / 256) = (g + a + 255) / 256 := by omega
  rw [this]

theorem t4_trips : (k1_t4_loop (BitVec.ofNat 32 g) (BitVec.ofNat 32 a)).trips = (g + a + 255) / 256 - g / 256 := by
  rw [t4_eq hga]; exact trips_word (by omega) (by omega)

theorem t5_trips : (k1_t5_loop (BitVec.ofNat 32 g) (BitVec.ofNat 32 a)).trips = 0 := Scf.rem_trips _ _

theorem t4_lt (k : Fin (k1_t4_loop (BitVec.ofNat 32 g) (BitVec.ofNat 32 a)).trips) : g / 256 + k.val < 80 := by
  have := lt_of_lt_of_eq k.isLt (t4_trips hga); omega

theorem t4_iv (k : ℕ) : Scf.iv (fdiv (BitVec.ofNat 32 g) 256#32) 1#32 k = BitVec.ofNat 32 (g / 256 + k) := by
  rw [show (256#32 : BitVec 32) = BitVec.ofNat 32 256 from rfl, fdiv_word (by omega) (by decide) (by decide), iv_word]

theorem off17_eq (k : Fin (k1_t4_loop (BitVec.ofNat 32 g) (BitVec.ofNat 32 a)).trips) :
    k1_off17 (BitVec.ofNat 32 g) (BitVec.ofNat 32 a) k = ![0, g / 256 + k.val, 0, 0] := by
  have hk := t4_lt hga k
  show ![0, (Scalar.indexCast (Scf.iv (fdiv (BitVec.ofNat 32 g) 256#32) 1#32 k.val)).toNat, 0, 0] = _
  rw [t4_iv hga, cast_word (by omega)]
theorem off18_eq (k : Fin (k1_t4_loop (BitVec.ofNat 32 g) (BitVec.ofNat 32 a)).trips) :
    k1_off18 (BitVec.ofNat 32 g) (BitVec.ofNat 32 a) k = ![1, g / 256 + k.val, 0, 0] := by
  have hk := t4_lt hga k
  show ![1, (Scalar.indexCast (Scf.iv (fdiv (BitVec.ofNat 32 g) 256#32) 1#32 k.val)).toNat, 0, 0] = _
  rw [t4_iv hga, cast_word (by omega)]
theorem off19_eq (k : Fin (k1_t4_loop (BitVec.ofNat 32 g) (BitVec.ofNat 32 a)).trips) :
    k1_off19 (BitVec.ofNat 32 g) (BitVec.ofNat 32 a) k = ![2, g / 256 + k.val, 0, 0] := by
  have hk := t4_lt hga k
  show ![2, (Scalar.indexCast (Scf.iv (fdiv (BitVec.ofNat 32 g) 256#32) 1#32 k.val)).toNat, 0, 0] = _
  rw [t4_iv hga, cast_word (by omega)]
theorem off20_eq (k : Fin (k1_t4_loop (BitVec.ofNat 32 g) (BitVec.ofNat 32 a)).trips) :
    k1_off20 (BitVec.ofNat 32 g) (BitVec.ofNat 32 a) k = ![3, g / 256 + k.val, 0, 0] := by
  have hk := t4_lt hga k
  show ![3, (Scalar.indexCast (Scf.iv (fdiv (BitVec.ofNat 32 g) 256#32) 1#32 k.val)).toNat, 0, 0] = _
  rw [t4_iv hga, cast_word (by omega)]
theorem off21_eq (k : Fin (k1_t4_loop (BitVec.ofNat 32 g) (BitVec.ofNat 32 a)).trips) :
    k1_off21 (BitVec.ofNat 32 g) (BitVec.ofNat 32 a) k = ![4, g / 256 + k.val, 0, 0] := by
  have hk := t4_lt hga k
  show ![4, (Scalar.indexCast (Scf.iv (fdiv (BitVec.ofNat 32 g) 256#32) 1#32 k.val)).toNat, 0, 0] = _
  rw [t4_iv hga, cast_word (by omega)]

theorem chk3 : k1_chk3 (BitVec.ofNat 32 g) (BitVec.ofNat 32 a) := by
  have no : ∀ {P : Fin (k1_t5_loop (BitVec.ofNat 32 g) (BitVec.ofNat 32 a)).trips → Prop}, ∀ k, P k := fun k =>
    (Nat.not_lt_zero _ (lt_of_lt_of_eq k.isLt (t5_trips hga))).elim
  refine ⟨?_, fun k => inb80 (by decide) (t4_lt hga k) (off17_eq hga k), fun k => inb80 (by decide) (t4_lt hga k) (off18_eq hga k),
    fun k => inb80 (by decide) (t4_lt hga k) (off19_eq hga k), fun k => inb80 (by decide) (t4_lt hga k) (off20_eq hga k),
    fun k => inb80 (by decide) (t4_lt hga k) (off21_eq hga k), Scf.rem_ok _ _, no, no, no, no, no⟩
  rw [t4_eq hga]; exact ok_word (by omega) (by omega)

end Stores

/-- The number of blocks: the number of rows above the threshold, rounded up to blocks of 1024. -/
theorem blocks_word {m : ℕ} (hm : m ≤ 20480) :
    fdiv (Scalar.subi (Scalar.addi (BitVec.ofNat 32 m) 1024#32) 1#32) 1024#32 = BitVec.ofNat 32 ((m + 1023) / 1024) := by
  show fdiv (Scalar.subi (Scalar.addi (BitVec.ofNat 32 m) (BitVec.ofNat 32 1024)) (BitVec.ofNat 32 1)) (BitVec.ofNat 32 1024) = _
  rw [add_word, sub_word (by omega), fdiv_word (by omega) (by decide) (by decide)]
  congr 1

end Cert.Proof.Words
-- ==== Proof.Model.lean ====
/-
  What the suppression kernel computes, as a function of its three arrays: the state it carries from block to block
  (which rows are suppressed, the list of kept boxes, how many they are), one block's step, the loops as iterations,
  and the result. Over any float values; the operations are the kernel's own, in its order.
-/
module

public import proofs.«01_k».proof.Proof.Words
public import proofs.«01_k».proof.Proof.Gen.KernelIdeal
public import proofs.«01_k».proof.Proof.Gen.KernelIdeal.Skeleton
public import Idealize.ShloMosaic.Lib.VecWindow
public import Idealize.ShloMosaic.Lib.ValueIdxCore

@[expose] public section

noncomputable section

namespace Cert.Proof.Model

open Cert.KernelIdeal Cert.KernelIdeal.Gen
open Idealize.ShloMosaic
open Idealize.ShloMosaic.VecWindow (window put)
open Idealize.ShloMosaic.ValueIdx (ix1 ix2 ix3 ix4)

/-! ## Loops -/

/-- The first `k` of `n` steps, from `s`. -/
def upto {σ : Type} {n : ℕ} (f : Fin n → σ → σ) (s : σ) : ℕ → σ
  | 0 => s
  | k + 1 => if h : k < n then f ⟨k, h⟩ (upto f s k) else upto f s k

theorem upto_succ {σ : Type} {n : ℕ} (f : Fin n → σ → σ) (s : σ) (k : Fin n) : upto f s (k.val + 1) = f k (upto f s k.val) :=
  dif_pos k.isLt

/-! ## Parts of the arrays -/

section Parts
variable {α : Type}

/-- One channel of one chunk of the list of kept boxes. -/
def slab (x : S5x80x1x256.Idx → α) (c : Fin 5) (q : ℕ) : S1x1x1x256.Idx → α :=
  fun i => x (ix4 c (Fin.ofNat 80 q) 0 (i 3))

/-- One channel of one block of the boxes. -/
def rowOf (x : S5x20x1x1024.Idx → α) (c : Fin 5) (q : ℕ) : S1x1x1x1024.Idx → α :=
  fun i => x (ix4 c (Fin.ofNat 20 q) 0 (i 3))

/-- One block of the suppression marks. -/
def supOf (x : S20x1x1024.Idx → α) (q : ℕ) : S1x1x1024.Idx → α :=
  fun i => x (ix3 (Fin.ofNat 20 q) 0 (i 2))

/-- One channel of the boxes. -/
def chan {n : ℕ} (x : (⟨4, ![n, 20, 1, 1024]⟩ : Shape).Idx → α) (c : Fin n) : S1x20x1x1024.Idx → α :=
  fun i => x (ix4 c (i 1) (i 2) (i 3))

/-- One channel of the boxes by columns. -/
def colChan {n : ℕ} (x : (⟨3, ![n, 1024, 128]⟩ : Shape).Idx → α) (c : Fin n) : S1x1024x128.Idx → α :=
  fun i => x (ix3 c (i 1) (i 2))

/-- Five channels together. -/
def chans (w0 w1 w2 w3 w4 : S1x20x1x1024.Idx → α) : S5x20x1x1024.Idx → α :=
  fun i => (![w0, w1, w2, w3, w4] : Fin 5 → S1x20x1x1024.Idx → α) (i 0) (ix4 0 (i 1) (i 2) (i 3))

/-- Five channels by columns together. -/
def colChans (w0 w1 w2 w3 w4 : S1x1024x128.Idx → α) : S5x1024x128.Idx → α :=
  fun i => (![w0, w1, w2, w3, w4] : Fin 5 → S1x1024x128.Idx → α) (i 0) (ix3 0 (i 1) (i 2))

end Parts

variable {F : FTy → Type} [FloatOps F]

/-! ## One block -/

/-- The boxes and areas of a block, one to a row. -/
structure Cols (F : FTy → Type) where
  x1 : FVec F S1024x1 .f32
  y1 : FVec F S1024x1 .f32
  x2 : FVec F S1024x1 .f32
  y2 : FVec F S1024x1 .f32
  ar : FVec F S1024x1 .f32

abbrev lanes : IVec S1x128 32 := iota .tc S1x128 32 [1] iota_S1x128_d1_w32

/-- The columns of block `k` of the `n` blocks that are processed. -/
def colsOf (n : BitVec 32) (k : Fin (k1_t1_loop n).trips) (C : FVec F S5x1024x128 .f32) : Cols F where
  x1 := k1_pay28 n lanes 0#32 1#32 k (colChan C 0)
  y1 := k1_pay29 n lanes 0#32 1#32 k (colChan C 1)
  x2 := k1_pay30 n lanes 0#32 1#32 k (colChan C 2)
  y2 := k1_pay31 n lanes 0#32 1#32 k (colChan C 3)
  ar := k1_pay32 n lanes 0#32 1#32 k (colChan C 4)

/-- One chunk of kept boxes tried against the block's boxes. -/
def chunk (thr : Elt F .f32) (t : Cols F) (comp : FVec F S5x80x1x256 .f32) (q : ℕ) (acc : FVec F S1024x1 .f32) : FVec F S1024x1 .f32 :=
  k1_pay34 thr acc (k1_pay11 t.x1 t.y1 t.x2 t.y2 (slab comp 0 q) (slab comp 1 q) (slab comp 2 q) (slab comp 3 q)) (k1_pay12 t.ar (slab comp 4 q))

/-- Which boxes of the block a kept box suppresses. -/
def hits (thr : Elt F .f32) (t : Cols F) (comp : FVec F S5x80x1x256 .f32) (g : ℕ) : FVec F S1024x1 .f32 :=
  upto (fun q : Fin (k1_t2_loop (BitVec.ofNat 32 g)).trips => chunk thr t comp q.val) (k1_pay33 (F := F)) (k1_t2_loop (BitVec.ofNat 32 g)).trips

/-- Which boxes of the block are suppressed before the block is looked at by itself. -/
def dead0 (thr : Elt F .f32) (t : Cols F) (comp : FVec F S5x80x1x256 .f32) (g : ℕ) (s : FVec F S1x1x1024 .f32) : FVec F S1x1024 .f32 :=
  k1_pay41 (k1_pay36 (k1_pay117 (F := F)) (hits thr t comp g)) (k1_pay40 s)

/-- Which box of the block suppresses which later one. -/
def mat (thr : Elt F .f32) (t : Cols F) (D : FVec F S5x20x1x1024 .f32) (q : ℕ) : FVec F S1024x1024 .f32 :=
  k1_pay39 thr (k1_pay116 (F := F)) t.x1 t.y1 t.x2 t.y2 t.ar (k1_pay37 (rowOf D 0 q)) (k1_pay38 (rowOf D 1 q)) (rowOf D 2 q) (rowOf D 3 q) (rowOf D 4 q)

/-- Whether some box is undecided. -/
def undecided (d a : FVec F S1x1024 .f32) : BitVec 1 := Scalar.cmpf .ogt (k1_pay5 d a) (Scalar.ofBits .f32 0x00000000#32 : F .f32)

/-- At most `m` rounds of deciding boxes. -/
def fixRun (M : FVec F S1024x1024 .f32) : ℕ → FVec F S1x1024 .f32 → FVec F S1x1024 .f32 → FVec F S1x1024 .f32 × FVec F S1x1024 .f32
  | 0, d, a => (d, a)
  | m + 1, d, a => if undecided d a = 1#1 then fixRun M m (k1_pay7 M d a) (k1_pay6 M d a) else (d, a)

/-- The kept boxes put into one chunk. -/
def place (t : Cols F) (al pos : FVec F S1024x1 .f32) (g a : ℕ) (q : Fin (k1_t4_loop (BitVec.ofNat 32 g) (BitVec.ofNat 32 a)).trips)
    (x : FVec F S5x80x1x256 .f32) : FVec F S5x80x1x256 .f32 :=
  let lb := Words.fdiv (BitVec.ofNat 32 g) 256#32
  let c := g / 256 + q.val
  let P := k1_pay15 (k1_pay119 (F := F)) (BitVec.ofNat 32 g) (BitVec.ofNat 32 a) al pos lb 1#32 q
  let x0 := put x ![0, c, 0, 0] S1x1x1x256.size (k1_pay16 (k1_pay119 (F := F)) t.x1 (BitVec.ofNat 32 g) (BitVec.ofNat 32 a) al pos lb 1#32 q (slab x 0 c))
  let x1 := put x0 ![1, c, 0, 0] S1x1x1x256.size (k1_pay17 (k1_pay119 (F := F)) t.y1 (BitVec.ofNat 32 g) (BitVec.ofNat 32 a) al pos lb 1#32 q (slab x0 1 c))
  let x2 := put x1 ![2, c, 0, 0] S1x1x1x256.size (k1_pay18 t.x2 P (slab x1 2 c))
  let x3 := put x2 ![3, c, 0, 0] S1x1x1x256.size (k1_pay19 t.y2 P (slab x2 3 c))
  put x3 ![4, c, 0, 0] S1x1x1x256.size (k1_pay20 t.ar P (slab x3 4 c))

/-- The list of kept boxes with those of a block added. -/
def placeAll (t : Cols F) (al pos : FVec F S1024x1 .f32) (g a : ℕ) (x : FVec F S5x80x1x256 .f32) : FVec F S5x80x1x256 .f32 :=
  upto (fun q => place t al pos g a q) x (k1_t4_loop (BitVec.ofNat 32 g) (BitVec.ofNat 32 a)).trips

/-- What is carried from block to block. -/
structure St (F : FTy → Type) where
  sup : FVec F S20x1x1024 .f32
  comp : FVec F S5x80x1x256 .f32
  g : ℕ

/-- The boxes that block `k` keeps. -/
def aliveOf (thr : Elt F .f32) (D : FVec F S5x20x1x1024 .f32) (C : FVec F S5x1024x128 .f32) (n : BitVec 32) (k : Fin (k1_t1_loop n).trips)
    (st : St F) : FVec F S1x1024 .f32 :=
  (fixRun (mat thr (colsOf n k C) D k.val) 1024 (dead0 thr (colsOf n k C) st.comp st.g (supOf st.sup k.val)) (k1_pay42 (F := F))).2

/-- How many a block keeps. -/
def countOf (al : FVec F S1x1024 .f32) : ℕ := (Scalar.fptosi 32 (k1_pay44 al) : BitVec 32).toNat

/-- One block. -/
def trip (thr : Elt F .f32) (D : FVec F S5x20x1x1024 .f32) (C : FVec F S5x1024x128 .f32) (n : BitVec 32) (k : Fin (k1_t1_loop n).trips)
    (st : St F) : St F :=
  let al := aliveOf thr D C n k st
  { sup := put st.sup ![k.val, 0, 0] S1x1x1024.size (k1_pay43 al)
    comp := placeAll (colsOf n k C) (k1_pay45 (k1_pay117 (F := F)) al) (k1_pay46 (k1_pay117 (F := F)) (k1_pay118 (F := F)) (BitVec.ofNat 32 st.g) al)
      st.g (countOf al) st.comp
    g := st.g + countOf al }

/-! ## The whole kernel -/

section Whole
variable (X0 : FVec F S2 .f32) (X1 : FVec F S5x20x1x1024 .f32) (X2 : FVec F S4x1024x128 .f32)

/-- The overlap threshold and the score threshold. -/
def thr : Elt F .f32 := X0 (ix1 0)
def sthr : Elt F .f32 := X0 (ix1 1)

/-- The scores, and the four sides of the boxes. -/
def score : FVec F S20x1x1024 .f32 := k1_pay88 (chan X1 4)
def side1 : FVec F S20x1x1024 .f32 := k1_pay89 (chan X1 0) (chan X1 2)
def side2 : FVec F S20x1x1024 .f32 := k1_pay90 (chan X1 1) (chan X1 3)
def side3 : FVec F S20x1x1024 .f32 := k1_pay91 (chan X1 0) (chan X1 2)
def side4 : FVec F S20x1x1024 .f32 := k1_pay92 (chan X1 1) (chan X1 3)

/-- The boxes and areas by rows. -/
def boxes : FVec F S5x20x1x1024 .f32 :=
  chans (k1_pay93 (side1 X1)) (k1_pay94 (side2 X1)) (k1_pay95 (side3 X1)) (k1_pay96 (side4 X1)) (k1_pay97 (side1 X1) (side2 X1) (side3 X1) (side4 X1))

/-- The boxes and areas by columns. -/
def colBoxes : FVec F S5x1024x128 .f32 :=
  let a := k1_pay98 (colChan X2 0)
  let b := k1_pay99 (colChan X2 1)
  colChans (k1_pay106 a (colChan X2 2)) (k1_pay107 b (colChan X2 3)) (k1_pay108 a (colChan X2 2)) (k1_pay109 b (colChan X2 3))
    (k1_pay113 (k1_pay110 a (colChan X2 2)) (k1_pay111 b (colChan X2 3)) (k1_pay112 (F := F)))

/-- The number of rows above the score threshold, and of the blocks they fill. -/
def nAbove : ℕ := (extractAt ![0, 0, 0, 0] (k1_pay115 (sthr X0) (score X1)) inpos_S1x1x1x1_p0_0_0_0 : BitVec 32).toNat
def nBlocks : ℕ := (nAbove X0 X1 + 1023) / 1024

/-- The state before the first block. -/
def start : St F := { sup := k1_pay114 (sthr X0) (score X1), comp := k1_pay83 (F := F), g := 0 }

/-- The state after `m` blocks. -/
def state (m : ℕ) : St F :=
  upto (trip (thr X0) (boxes X1) (colBoxes X2) (BitVec.ofNat 32 (nBlocks X0 X1))) (start X0 X1) m

/-- The marks at the end. -/
def supEnd : FVec F S20x1x1024 .f32 := (state X0 X1 X2 (k1_t1_loop (BitVec.ofNat 32 (nBlocks X0 X1))).trips).sup

/-- The result. -/
def nmsOut : FVec F S5x20x1x1024 .f32 :=
  let e := supEnd X0 X1 X2
  let w := k1_pay120 e
  chans (k1_pay121 e (chan (boxes X1) 0)) (k1_pay1 w (k1_pay122 (chan (boxes X1) 1))) (k1_pay2 w (chan (boxes X1) 2)) (k1_pay3 w (chan (boxes X1) 3))
    (k1_pay4 (score X1) w)

/-- The counts stay within the buffers. -/
structure Fits : Prop where
  above : nAbove X0 X1 ≤ 20480
  kept : ∀ k : Fin (k1_t1_loop (BitVec.ofNat 32 (nBlocks X0 X1))).trips,
    (state X0 X1 X2 k.val).g + countOf (aliveOf (thr X0) (boxes X1) (colBoxes X2) _ k (state X0 X1 X2 k.val)) ≤ 20480

end Whole

/-! ## Accesses as parts -/

section Access
variable {α : Type}

theorem window_slab (x : S5x80x1x256.Idx → α) {off : Fin 4 → ℕ} (c : Fin 5) {q : ℕ} (hq : q < 80) (h : off = ![c.val, q, 0, 0])
    (inb : ∀ a, off a + S1x1x1x256.size a ≤ S5x80x1x256.size a) : window x off S1x1x1x256.size inb = slab x c q := by
  subst h
  funext i
  refine congrArg x (funext fun a => Fin.ext ?_)
  have h0 : (i 0).val = 0 := Nat.lt_one_iff.mp (i 0).isLt
  have h1 : (i 1).val = 0 := Nat.lt_one_iff.mp (i 1).isLt
  have h2 : (i 2).val = 0 := Nat.lt_one_iff.mp (i 2).isLt
  match a with
  | 0 => show c.val + 1 * (i 0).val = c.val; omega
  | 1 => show q + 1 * (i 1).val = q % 80; omega
  | 2 => show 0 + 1 * (i 2).val = 0; omega
  | 3 => show 0 + 1 * (i 3).val = (i 3).val; omega

theorem window_row (x : S5x20x1x1024.Idx → α) {off : Fin 4 → ℕ} (c : Fin 5) {q : ℕ} (hq : q < 20) (h : off = ![c.val, q, 0, 0])
    (inb : ∀ a, off a + S1x1x1x1024.size a ≤ S5x20x1x1024.size a) : window x off S1x1x1x1024.size inb = rowOf x c q := by
  subst h
  funext i
  refine congrArg x (funext fun a => Fin.ext ?_)
  have h0 : (i 0).val = 0 := Nat.lt_one_iff.mp (i 0).isLt
  have h1 : (i 1).val = 0 := Nat.lt_one_iff.mp (i 1).isLt
  have h2 : (i 2).val = 0 := Nat.lt_one_iff.mp (i 2).isLt
  match a with
  | 0 => show c.val + 1 * (i 0).val = c.val; omega
  | 1 => show q + 1 * (i 1).val = q % 20; omega
  | 2 => show 0 + 1 * (i 2).val = 0; omega
  | 3 => show 0 + 1 * (i 3).val = (i 3).val; omega

theorem window_sup (x : S20x1x1024.Idx → α) {off : Fin 3 → ℕ} {q : ℕ} (hq : q < 20) (h : off = ![q, 0, 0])
    (inb : ∀ a, off a + S1x1x1024.size a ≤ S20x1x1024.size a) : window x off S1x1x1024.size inb = supOf x q := by
  subst h
  funext i
  refine congrArg x (funext fun a => Fin.ext ?_)
  have h0 : (i 0).val = 0 := Nat.lt_one_iff.mp (i 0).isLt
  have h1 : (i 1).val = 0 := Nat.lt_one_iff.mp (i 1).isLt
  match a with
  | 0 => show q + 1 * (i 0).val = q % 20; omega
  | 1 => show 0 + 1 * (i 1).val = 0; omega
  | 2 => show 0 + 1 * (i 2).val = (i 2).val; omega

theorem window_chan (x : S5x20x1x1024.Idx → α) {off : Fin 4 → ℕ} (c : Fin 5) (h : off = ![c.val, 0, 0, 0])
    (inb : ∀ a, off a + S1x20x1x1024.size a ≤ S5x20x1x1024.size a) : window x off S1x20x1x1024.size inb = chan x c := by
  subst h
  funext i
  refine congrArg x (funext fun a => Fin.ext ?_)
  have h0 : (i 0).val = 0 := Nat.lt_one_iff.mp (i 0).isLt
  match a with
  | 0 => show c.val + 1 * (i 0).val = c.val; omega
  | 1 => show 0 + 1 * (i 1).val = (i 1).val; omega
  | 2 => show 0 + 1 * (i 2).val = (i 2).val; omega
  | 3 => show 0 + 1 * (i 3).val = (i 3).val; omega

theorem window_colChan {n : ℕ} (x : (⟨3, ![n, 1024, 128]⟩ : Shape).Idx → α) {off : Fin 3 → ℕ} (c : Fin n) (h : off = ![c.val, 0, 0])
    (inb : ∀ a, off a + S1x1024x128.size a ≤ (⟨3, ![n, 1024, 128]⟩ : Shape).size a) : window x off S1x1024x128.size inb = colChan x c := by
  subst h
  funext i
  refine congrArg x (funext fun a => Fin.ext ?_)
  have h0 : (i 0).val = 0 := Nat.lt_one_iff.mp (i 0).isLt
  match a with
  | 0 => show c.val + 1 * (i 0).val = c.val; omega
  | 1 => show 0 + 1 * (i 1).val = (i 1).val; omega
  | 2 => show 0 + 1 * (i 2).val = (i 2).val; omega

/-- Storing over everything leaves what is stored. -/
theorem put_full {s : Shape} (x : s.Idx → α) {off : Fin s.rank → ℕ} (h : ∀ a, off a = 0) (w : s.Idx → α) : put x off s.size w = w := by
  funext i
  unfold VecWindow.put
  rw [dif_pos (fun a => by rw [h a]; exact ⟨Nat.zero_le _, by have := (i a).isLt; omega⟩)]
  exact congrArg w (funext fun a => Fin.ext (by show (i a).val - off a = _; rw [h a]; omega))

theorem put_chan (x : S5x20x1x1024.Idx → α) (c : ℕ) (w : S1x20x1x1024.Idx → α) (i : S5x20x1x1024.Idx) :
    put x ![c, 0, 0, 0] S1x20x1x1024.size w i = if (i 0).val = c then w (ix4 0 (i 1) (i 2) (i 3)) else x i := by
  unfold VecWindow.put
  by_cases h : (i 0).val = c
  · rw [if_pos h, dif_pos (fun a => ?_)]
    · refine congrArg w (funext fun a => Fin.ext ?_)
      match a with
      | 0 => show (i 0).val - c = 0; omega
      | 1 => rfl
      | 2 => rfl
      | 3 => rfl
    · match a with
      | 0 => show c ≤ (i 0).val ∧ (i 0).val < c + 1; omega
      | 1 => exact ⟨Nat.zero_le _, by show (i 1).val < 0 + 20; have : (i 1).val < 20 := (i 1).isLt; omega⟩
      | 2 => exact ⟨Nat.zero_le _, by show (i 2).val < 0 + 1; have : (i 2).val < 1 := (i 2).isLt; omega⟩
      | 3 => exact ⟨Nat.zero_le _, by show (i 3).val < 0 + 1024; have : (i 3).val < 1024 := (i 3).isLt; omega⟩
  · rw [if_neg h, dif_neg (fun hall => h ?_)]
    have h0 : c ≤ (i 0).val ∧ (i 0).val < c + 1 := hall 0
    omega

theorem put_chans (x : S5x20x1x1024.Idx → α) (w0 w1 w2 w3 w4 : S1x20x1x1024.Idx → α) :
    put (put (put (put (put x ![0, 0, 0, 0] S1x20x1x1024.size w0) ![1, 0, 0, 0] S1x20x1x1024.size w1) ![2, 0, 0, 0] S1x20x1x1024.size w2)
      ![3, 0, 0, 0] S1x20x1x1024.size w3) ![4, 0, 0, 0] S1x20x1x1024.size w4 = chans w0 w1 w2 w3 w4 := by
  funext i
  rw [put_chan, put_chan, put_chan, put_chan, put_chan]
  unfold chans
  have h : ∀ c : Fin 5, (if c.val = 4 then w4 (ix4 0 (i 1) (i 2) (i 3)) else if c.val = 3 then w3 (ix4 0 (i 1) (i 2) (i 3)) else
      if c.val = 2 then w2 (ix4 0 (i 1) (i 2) (i 3)) else if c.val = 1 then w1 (ix4 0 (i 1) (i 2) (i 3)) else if c.val = 0 then w0 (ix4 0 (i 1) (i 2) (i 3)) else x i)
      = (![w0, w1, w2, w3, w4] : Fin 5 → S1x20x1x1024.Idx → α) c (ix4 0 (i 1) (i 2) (i 3)) := by
    intro c
    match c with
    | 0 => rfl
    | 1 => rfl
    | 2 => rfl
    | 3 => rfl
    | 4 => rfl
  exact h (i 0)

theorem put_colChan (x : S5x1024x128.Idx → α) (c : ℕ) (w : S1x1024x128.Idx → α) (i : S5x1024x128.Idx) :
    put x ![c, 0, 0] S1x1024x128.size w i = if (i 0).val = c then w (ix3 0 (i 1) (i 2)) else x i := by
  unfold VecWindow.put
  by_cases h : (i 0).val = c
  · rw [if_pos h, dif_pos (fun a => ?_)]
    · refine congrArg w (funext fun a => Fin.ext ?_)
      match a with
      | 0 => show (i 0).val - c = 0; omega
      | 1 => rfl
      | 2 => rfl
    · match a with
      | 0 => show c ≤ (i 0).val ∧ (i 0).val < c + 1; omega
      | 1 => exact ⟨Nat.zero_le _, by show (i 1).val < 0 + 1024; have : (i 1).val < 1024 := (i 1).isLt; omega⟩
      | 2 => exact ⟨Nat.zero_le _, by show (i 2).val < 0 + 128; have : (i 2).val < 128 := (i 2).isLt; omega⟩
  · rw [if_neg h, dif_neg (fun hall => h ?_)]
    have h0 : c ≤ (i 0).val ∧ (i 0).val < c + 1 := hall 0
    omega

theorem put_colChans (x : S5x1024x128.Idx → α) (w0 w1 w2 w3 w4 : S1x1024x128.Idx → α) :
    put (put (put (put (put x ![0, 0, 0] S1x1024x128.size w0) ![1, 0, 0] S1x1024x128.size w1) ![2, 0, 0] S1x1024x128.size w2)
      ![3, 0, 0] S1x1024x128.size w3) ![4, 0, 0] S1x1024x128.size w4 = colChans w0 w1 w2 w3 w4 := by
  funext i
  rw [put_colChan, put_colChan, put_colChan, put_colChan, put_colChan]
  unfold colChans
  have h : ∀ c : Fin 5, (if c.val = 4 then w4 (ix3 0 (i 1) (i 2)) else if c.val = 3 then w3 (ix3 0 (i 1) (i 2)) else
      if c.val = 2 then w2 (ix3 0 (i 1) (i 2)) else if c.val = 1 then w1 (ix3 0 (i 1) (i 2)) else if c.val = 0 then w0 (ix3 0 (i 1) (i 2)) else x i)
      = (![w0, w1, w2, w3, w4] : Fin 5 → S1x1024x128.Idx → α) c (ix3 0 (i 1) (i 2)) := by
    intro c
    match c with
    | 0 => rfl
    | 1 => rfl
    | 2 => rfl
    | 3 => rfl
    | 4 => rfl
  exact h (i 0)

end Access

end Cert.Proof.Model
-- ==== Proof.Body.lean ====
/-
  The run of the suppression kernel: from its buffers, whatever its scratch buffers hold, it leaves `Model.nmsOut` in
  the result's buffer. Its parts in turn; the loops by the iterations of `Model`; the rounds within a block, a label
  that calls itself, by induction on the rounds left.
-/
module

public import proofs.«01_k».proof.Proof.Sc
public import proofs.«01_k».proof.Proof.Model
public import Idealize.ShloMosaic.Lib.Tactic

@[expose] public section

noncomputable section

namespace Cert.Proof.Body

open Cert.KernelIdeal Cert.KernelIdeal.Gen
open Cert.Proof.Model Cert.Proof.Sc

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.VecWindow (window put)
open Idealize.ShloMosaic.ValueIdx (ix1)

variable {F : FTy → Type} [FloatOps F]

local notation "𝕄" => MT nD τ sig (HIx 1) (Elt F) ℕ UU ℕ
local notation "𝔼" => TpuEff nD τ sig (Elt F) (Λ₀ F) Proc.tc

/-! ## Loads and stores by values -/

section Steps

/-- The memref's buffer is held whole and reads `x`. -/
def hd (c : Dev nD) {sp : CoreSpace} {s : Shape} {e : EltTy} (M : Memref sig .tc sp s e) (x : s.Idx → Elt F e) : sProp 𝕄 :=
  iprop(∃ f, ⌜M.view.read (Elt F) f = x⌝ ∗ (M.view.loc (c : Thread nD τ) ↦{fullShare} f))

abbrev run (c : Dev nD) (bd : Option 𝒱₀.V) (E : Set ℕ) {α : Type} (Q : α → sProp 𝕄) (p : Prog 𝔼 α) : sProp 𝕄 := wp frame (wpE (defs₀ (F := F)) 𝒱₀ (c : Thread nD τ) bd) E p Q

theorem ld (c : Dev nD) {α : Type} {bd : Option 𝒱₀.V} {E : Set ℕ} {Q : α → sProp 𝕄} {sp : CoreSpace} {s : Shape} {e : EltTy} {M : Memref sig .tc sp s e} {x : s.Idx → Elt F e} {off size : Fin s.rank → ℕ} {inb : ∀ a, off a + size a ≤ s.size a}
    {hl : M.view.LoadsAt (Rect.unit off size inb).toLoadRect} {k : ((Rect.unit off size inb).shape.Idx → Elt F e) → Prog 𝔼 α}
    {w : (Rect.unit off size inb).shape.Idx → Elt F e} (hw : window x off size inb = w) :
    hd c M x ⊢ iprop((hd c M x -∗ run c bd E Q (k w)) -∗ run c bd E Q (Bind.bind (m := Prog 𝔼) (Prog.lift (.load M (Rect.unit off size inb).toLoadRect hl)) k)) := by
  subst hw
  unfold hd
  iintro ⟨%f, %hf, H⟩ Hk
  rw [Prog.bind_lift]
  iapply (wp_load 𝒱₀ (c : Thread nD τ) bd E (m := M) (r := (Rect.unit off size inb).toLoadRect) (hl := hl) (k := k) (Finset.subset_univ _)) $$ H
  iintro H
  rw [View.readAt_unit M.view f inb rfl inb, hf]
  iapply Hk
  iexists f
  isplitr
  · ipureintro; exact hf
  iexact H

theorem st (c : Dev nD) {α : Type} {bd : Option 𝒱₀.V} {E : Set ℕ} {Q : α → sProp 𝕄} {sp : CoreSpace} {s : Shape} {e : EltTy} {M : Memref sig .tc sp s e} {x : s.Idx → Elt F e} {off off' size : Fin s.rank → ℕ} {inb : ∀ a, off a + size a ≤ s.size a}
    {w : (Rect.unit off size inb).shape.Idx → Elt F e} {hx : (M.access (Rect.unit off size inb)).Stores Finset.univ}
    {hm : Finset.univ = Finset.univ ∨ ∀ a, (Rect.unit off size inb).stride a = 1}
    {k : PUnit → Prog 𝔼 α} {y : s.Idx → Elt F e} (ho : off = off') (hy : put x off' size w = y) :
    hd c M x ⊢ iprop((hd c M y -∗ run c bd E Q (k ⟨⟩)) -∗ run c bd E Q (Bind.bind (m := Prog 𝔼) (Prog.lift (.store M (Rect.unit off size inb) w Finset.univ hx hm)) k)) := by
  subst ho
  subst hy
  unfold hd
  iintro ⟨%f, %hf, H⟩ Hk
  rw [Prog.bind_lift]
  iapply (wp_store_writes₀ 𝒱₀ (c : Thread nD τ) bd E (m := M) (r := Rect.unit off size inb) (w := w) (hx := hx) (hm := hm) (k := k) (f := f)
    (Finset.subset_univ _)) $$ H
  iintro H
  iapply Hk
  iexists (M.view.writes (Elt F) f [⟨Rect.unit off size inb, w⟩])
  isplitr
  · ipureintro
    rw [View.read_writes_cons_put M.view f inb w [] rfl, View.writes_nil, hf]
  iexact H

theorem sld (c : Dev nD) {α : Type} {bd : Option 𝒱₀.V} {E : Set ℕ} {Q : α → sProp 𝕄} {s : Shape} {e : EltTy} {M : Memref sig .tc .smem s e} {x : s.Idx → Elt F e} {off size : Fin s.rank → ℕ} {inb : ∀ a, off a + size a ≤ s.size a}
    {h1 : (Rect.unit off size inb).shape.numel = 1} {hp : e.packing = 1} {k : Elt F e → Prog 𝔼 α}
    {w : Elt F e} (hw : ∀ i, window x off size inb i = w) :
    hd c M x ⊢ iprop((hd c M x -∗ run c bd E Q (k w)) -∗ run c bd E Q (Bind.bind (m := Prog 𝔼) (smemLoad M (Rect.unit off size inb) h1 hp) k)) := by
  iintro H Hk
  iapply (ld c (M := M) (x := x) (inb := inb) (hl := View.loadsAt_rect (View.loads_smem_one hp h1))
    (k := fun f => k (f (Shape.Idx.first (h1.symm ▸ Nat.one_pos)))) rfl) $$ H
  iintro H
  rw [hw]
  iapply Hk $$ H

theorem rt (c : Dev nD) {α : Type} {bd : Option 𝒱₀.V} {E : Set ℕ} {Q : α → sProp 𝕄} {a : α} : Q a ⊢ run c bd E Q (pure a) := le_wp_ret frame _ _ a Q

theorem asm (c : Dev nD) {α : Type} {bd : Option 𝒱₀.V} {E : Set ℕ} {Q : α → sProp 𝕄} {P : Prop} {d : Decidable P} {k : PLift P → Prog 𝔼 α} (h : P) :
    run c bd E Q (k ⟨h⟩) ⊢ run c bd E Q (Bind.bind (m := Prog 𝔼) (Prog.lift (.assume P d)) k) := by
  rw [Prog.bind_lift]
  exact wp_assume 𝒱₀ (c : Thread nD τ) bd E h

/-- A part, then the rest. -/
theorem bnd (c : Dev nD) {α : Type} {bd : Option 𝒱₀.V} {E : Set ℕ} {Q : α → sProp 𝕄} {β : Type} {p : Prog 𝔼 β} {k : β → Prog 𝔼 α} :
    run c bd E (fun b => run c bd E Q (k b)) p ⊢ run c bd E Q (Bind.bind (m := Prog 𝔼) p k) := Entails.of_eq (wp_bind frame _ E p k Q).symm

/-- A counted loop, by an invariant. -/
theorem lp (c : Dev nD) {α σ : Type} {bd : Option 𝒱₀.V} {E : Set ℕ} {Q : α → sProp 𝕄} {L : Scf.Loop 32} {hok} {init : σ} {body : Fin L.trips → σ → Prog 𝔼 σ}
    (I : ℕ → σ → sProp 𝕄) (hbody : ∀ k acc, I k.val acc ⊢ run c bd E (I (k.val + 1)) (body k acc)) {k : σ → Prog 𝔼 α} :
    I 0 init ⊢ iprop((∀ acc, I L.trips acc -∗ run c bd E Q (k acc)) -∗ run c bd E Q (Bind.bind (m := Prog 𝔼) (Scf.Loop.for L hok init body) k)) :=
  Scf.wp_for_bind frame (wpE (defs₀ (F := F)) 𝒱₀ (c : Thread nD τ) bd) E _ _ _ hok init body I hbody

/-- A counted loop without iterations. -/
theorem lp0 (c : Dev nD) {α σ : Type} {bd : Option 𝒱₀.V} {E : Set ℕ} {Q : α → sProp 𝕄} {L : Scf.Loop 32} {hok} {init : σ} {body : Fin L.trips → σ → Prog 𝔼 σ}
    (h : L.trips = 0) {k : σ → Prog 𝔼 α} :
    run c bd E Q (k init) ⊢ run c bd E Q (Bind.bind (m := Prog 𝔼) (Scf.Loop.for L hok init body) k) := by
  have e : Scf.Loop.for L hok init body = .ret init := Scf.for_eq_ret _ _ _ hok init body h
  rw [e, Prog.bind_ret]

end Steps

variable (c : Dev nD) (bd : Option 𝒱₀.V) (E : Set ℕ)
variable (M0 : Memref sig .tc .smem S2 .f32) (h0 : M0.IsWhole) (M1 : Memref sig .tc .vmem S5x20x1x1024 .f32) (h1 : M1.IsWhole)
  (M2 : Memref sig .tc .vmem S4x1024x128 .f32) (h2 : M2.IsWhole) (M3 : Memref sig .tc .vmem S5x20x1x1024 .f32) (h3 : M3.IsWhole)
  (M4 : Memref sig .tc .vmem S5x20x1x1024 .f32) (h4 : M4.IsWhole) (M5 : Memref sig .tc .vmem S5x1024x128 .f32) (h5 : M5.IsWhole)
  (M6 : Memref sig .tc .vmem S20x1x1024 .f32) (h6 : M6.IsWhole) (M7 : Memref sig .tc .vmem S5x80x1x256 .f32) (h7 : M7.IsWhole)
  (M8 : Memref sig .tc .smem S1 .i32) (h8 : M8.IsWhole)

/-! ## One chunk of the kept boxes -/

theorem part1 (t : Cols F) (x : FVec F S5x80x1x256 .f32) {g : ℕ} (hg : g ≤ 20480) (hw) (q : Fin (k1_t2_loop (BitVec.ofNat 32 g)).trips) (Q) :
    iprop(hd c M7 x ∗ (hd c M7 x -∗ Q ⟨k1_pay11 t.x1 t.y1 t.x2 t.y2 (slab x 0 q) (slab x 1 q) (slab x 2 q) (slab x 3 q), k1_pay12 t.ar (slab x 4 q)⟩))
      ⊢ run c bd E Q (k1_part1 M0 h0 M1 h1 M2 h2 M3 h3 M4 h4 M5 h5 M6 h6 M7 h7 M8 h8 t.x1 t.y1 t.x2 t.y2 t.ar (BitVec.ofNat 32 g) hw 0#32 1#32 q) := by
  rw [k1_part1_eq_skeleton]
  unfold k1_part1_skel
  have hq := Words.t2_lt hg q
  iintro ⟨H7, Hk⟩
  iapply (ld c (window_slab x 0 hq (Words.off1_eq hg q) _)) $$ H7
  iintro H7
  iapply (ld c (window_slab x 1 hq (Words.off2_eq hg q) _)) $$ H7
  iintro H7
  iapply (ld c (window_slab x 2 hq (Words.off3_eq hg q) _)) $$ H7
  iintro H7
  iapply (ld c (window_slab x 3 hq (Words.off4_eq hg q) _)) $$ H7
  iintro H7
  iapply (ld c (window_slab x 4 hq (Words.off5_eq hg q) _)) $$ H7
  iintro H7
  iapply (rt c)
  iapply Hk $$ H7

/-! ## More parts -/

theorem step2 (v0 : Elt F .f32) (t : Cols F) (x : FVec F S5x80x1x256 .f32) {g : ℕ} (hg : g ≤ 20480) (v126 hw1 v135 k1 arg9 hw v215)
    (q : Fin (k1_t2_loop (BitVec.ofNat 32 g)).trips) (acc : FVec F S1024x1 .f32) (Q) :
    iprop(hd c M7 x ∗ (hd c M7 x -∗ Q (chunk v0 t x q.val acc)))
      ⊢ run c bd E Q (k1_t2_body M0 h0 M1 h1 M2 h2 M3 h3 M4 h4 M5 h5 M6 h6 M7 h7 M8 h8 v0 v126 hw1 v135 k1 arg9 t.x1 t.y1 t.x2 t.y2 t.ar (BitVec.ofNat 32 g) hw v215 q acc) := by
  unfold k1_t2_body chunk
  iintro ⟨H7, Hk⟩
  iapply (bnd c)
  iapply (part1 c bd E M0 h0 M1 h1 M2 h2 M3 h3 M4 h4 M5 h5 M6 h6 M7 h7 M8 h8 t x hg hw q _)
  isplitl [H7]
  · iexact H7
  iintro H7
  iapply (rt c)
  iapply Hk $$ H7

theorem part8 (v0 : Elt F .f32) (t : Cols F) (x : FVec F S5x80x1x256 .f32) (D : FVec F S5x20x1x1024 .f32) {n g : ℕ} (hn : n ≤ 20) (hg : g ≤ 20480) (hw1 v135)
    (k : Fin (k1_t1_loop (BitVec.ofNat 32 n)).trips) (arg9 hw v215) (Q) :
    iprop(hd c M7 x ∗ hd c M4 D ∗ ((hd c M7 x ∗ hd c M4 D) -∗ Q ⟨k1_pay36 v135 (hits v0 t x g), k1_pay37 (rowOf D 0 k.val), k1_pay38 (rowOf D 1 k.val)⟩))
      ⊢ run c bd E Q (k1_part8 M0 h0 M1 h1 M2 h2 M3 h3 M4 h4 M5 h5 M6 h6 M7 h7 M8 h8 v0 (BitVec.ofNat 32 n) hw1 v135 k arg9 t.x1 t.y1 t.x2 t.y2 t.ar (BitVec.ofNat 32 g) hw v215) := by
  rw [k1_part8_eq_skeleton]
  unfold k1_part8_skel hits
  have hk : k.val < 20 := lt_of_lt_of_le (lt_of_lt_of_eq k.isLt (Words.t1_trips hn)) hn
  iintro ⟨H7, H4, Hk⟩
  iapply (lp c (fun m acc => iprop(⌜acc = upto (fun q : Fin (k1_t2_loop (BitVec.ofNat 32 g)).trips => chunk v0 t x q.val) (k1_pay33 (F := F)) m⌝ ∗ hd c M7 x)) (by
    intro q acc
    iintro ⟨%ha, H7⟩
    iapply (step2 c bd E M0 h0 M1 h1 M2 h2 M3 h3 M4 h4 M5 h5 M6 h6 M7 h7 M8 h8 v0 t x hg _ _ _ _ _ _ _ q acc _)
    isplitl [H7]
    · iexact H7
    iintro H7
    isplitr
    · ipureintro
      rw [upto_succ, ha]
    iexact H7)) $$ [H7]
  · isplitr
    · ipureintro; rfl
    iexact H7
  iintro %acc ⟨%ha, H7⟩
  iapply (lp0 c (Words.t3_trips hg))
  iapply (ld c (window_row D 0 hk (Words.off11_eq hn k) _)) $$ H4
  iintro H4
  iapply (ld c (window_row D 1 hk (Words.off12_eq hn k) _)) $$ H4
  iintro H4
  subst ha
  iapply (rt c)
  iapply Hk
  isplitl [H7]
  · iexact H7
  iexact H4

theorem part9 (v0 : Elt F .f32) (t : Cols F) (D : FVec F S5x20x1x1024 .f32) (S : FVec F S20x1x1024 .f32) {n : ℕ} (hn : n ≤ 20) (hw1 v132)
    (k : Fin (k1_t1_loop (BitVec.ofNat 32 n)).trips) (arg9 v250 v254) (Q) :
    iprop(hd c M4 D ∗ hd c M6 S ∗ ((hd c M4 D ∗ hd c M6 S) -∗
        Q ⟨k1_pay39 v0 v132 t.x1 t.y1 t.x2 t.y2 t.ar v250 v254 (rowOf D 2 k.val) (rowOf D 3 k.val) (rowOf D 4 k.val), k1_pay40 (supOf S k.val)⟩))
      ⊢ run c bd E Q (k1_part9 M0 h0 M1 h1 M2 h2 M3 h3 M4 h4 M5 h5 M6 h6 M7 h7 M8 h8 v0 (BitVec.ofNat 32 n) hw1 v132 k arg9 t.x1 t.y1 t.x2 t.y2 t.ar v250 v254) := by
  rw [k1_part9_eq_skeleton]
  unfold k1_part9_skel
  have hk : k.val < 20 := lt_of_lt_of_le (lt_of_lt_of_eq k.isLt (Words.t1_trips hn)) hn
  iintro ⟨H4, H6, Hk⟩
  iapply (ld c (window_row D 2 hk (Words.off13_eq hn k) _)) $$ H4
  iintro H4
  iapply (ld c (window_row D 3 hk (Words.off14_eq hn k) _)) $$ H4
  iintro H4
  iapply (ld c (window_row D 4 hk (Words.off15_eq hn k) _)) $$ H4
  iintro H4
  iapply (ld c (window_sup S hk (Words.off16_eq hn k) _)) $$ H6
  iintro H6
  iapply (rt c)
  iapply Hk
  isplitl [H4]
  · iexact H4
  iexact H6

theorem part7 (C : FVec F S5x1024x128 .f32) {n g : ℕ} (hg : g ≤ 20480) (k : Fin (k1_t1_loop (BitVec.ofNat 32 n)).trips) (Q) :
    iprop(hd c M5 C ∗ hd c M8 (fun _ => BitVec.ofNat 32 g) ∗ ((hd c M5 C ∗ hd c M8 (fun _ => BitVec.ofNat 32 g)) -∗
        Q ⟨Scf.iv 0#32 1#32 k, (colsOf (BitVec.ofNat 32 n) k C).x1, (colsOf (BitVec.ofNat 32 n) k C).y1, (colsOf (BitVec.ofNat 32 n) k C).x2, (colsOf (BitVec.ofNat 32 n) k C).y2,
          (colsOf (BitVec.ofNat 32 n) k C).ar, BitVec.ofNat 32 g, Words.chk2 hg, Scalar.addi (BitVec.ofNat 32 g) 256#32⟩))
      ⊢ run c bd E Q (k1_part7 M0 h0 M1 h1 M2 h2 M3 h3 M4 h4 M5 h5 M6 h6 M7 h7 M8 h8 (BitVec.ofNat 32 n) lanes 0#32 1#32 k) := by
  rw [k1_part7_eq_skeleton]
  unfold k1_part7_skel
  dsimp only [colsOf]
  iintro ⟨H5, H8, Hk⟩
  iapply (ld c (window_colChan C 0 rfl _)) $$ H5
  iintro H5
  iapply (ld c (window_colChan C 1 rfl _)) $$ H5
  iintro H5
  iapply (ld c (window_colChan C 2 rfl _)) $$ H5
  iintro H5
  iapply (ld c (window_colChan C 3 rfl _)) $$ H5
  iintro H5
  iapply (ld c (window_colChan C 4 rfl _)) $$ H5
  iintro H5
  iapply (sld c (w := BitVec.ofNat 32 g) (fun _ => rfl)) $$ H8
  iintro H8
  iapply (asm c (Words.chk2 hg))
  iapply (rt c)
  iapply Hk
  isplitl [H5]
  · iexact H5
  iexact H8

/-! ## Placing the kept boxes -/

/-- The list after the first three channels of a chunk are in place, and how a chunk's slots match the boxes. -/
def match5 (al pos : FVec F S1024x1 .f32) (g a : ℕ) (q : Fin (k1_t4_loop (BitVec.ofNat 32 g) (BitVec.ofNat 32 a)).trips) : FVec F S1024x256 .f32 :=
  k1_pay15 (k1_pay119 (F := F)) (BitVec.ofNat 32 g) (BitVec.ofNat 32 a) al pos (Words.fdiv (BitVec.ofNat 32 g) 256#32) 1#32 q

def placed2 (t : Cols F) (al pos : FVec F S1024x1 .f32) (g a : ℕ) (q : Fin (k1_t4_loop (BitVec.ofNat 32 g) (BitVec.ofNat 32 a)).trips) (x : FVec F S5x80x1x256 .f32) : FVec F S5x80x1x256 .f32 :=
  let lb := Words.fdiv (BitVec.ofNat 32 g) 256#32
  let c := g / 256 + q.val
  let x0 := put x ![0, c, 0, 0] S1x1x1x256.size (k1_pay16 (k1_pay119 (F := F)) t.x1 (BitVec.ofNat 32 g) (BitVec.ofNat 32 a) al pos lb 1#32 q (slab x 0 c))
  put x0 ![1, c, 0, 0] S1x1x1x256.size (k1_pay17 (k1_pay119 (F := F)) t.y1 (BitVec.ofNat 32 g) (BitVec.ofNat 32 a) al pos lb 1#32 q (slab x0 1 c))

def placed4 (t : Cols F) (P : FVec F S1024x256 .f32) (c : ℕ) (x : FVec F S5x80x1x256 .f32) : FVec F S5x80x1x256 .f32 :=
  let x2 := put x ![2, c, 0, 0] S1x1x1x256.size (k1_pay18 t.x2 P (slab x 2 c))
  put x2 ![3, c, 0, 0] S1x1x1x256.size (k1_pay19 t.y2 P (slab x2 3 c))

theorem part3 (t : Cols F) (al pos : FVec F S1024x1 .f32) (x : FVec F S5x80x1x256 .f32) {g a : ℕ} (hga : g + a ≤ 20480) (hw)
    (q : Fin (k1_t4_loop (BitVec.ofNat 32 g) (BitVec.ofNat 32 a)).trips) (Q) :
    iprop(hd c M7 x ∗ (hd c M7 (placed2 t al pos g a q x) -∗ Q ⟨Scf.iv (Words.fdiv (BitVec.ofNat 32 g) 256#32) 1#32 q, match5 al pos g a q⟩))
      ⊢ run c bd E Q (k1_part3 M0 h0 M1 h1 M2 h2 M3 h3 M4 h4 M5 h5 M6 h6 M7 h7 M8 h8 (k1_pay119 (F := F)) t.x1 t.y1 (BitVec.ofNat 32 g) (BitVec.ofNat 32 a) hw al pos (Words.fdiv (BitVec.ofNat 32 g) 256#32) 1#32 q) := by
  rw [k1_part3_eq_skeleton]
  unfold k1_part3_skel placed2 match5
  have hq := Words.t4_lt hga q
  iintro ⟨H7, Hk⟩
  iapply (ld c (window_slab x 0 hq (Words.off17_eq hga q) _)) $$ H7
  iintro H7
  iapply (ld c (window_slab x 0 hq (Words.off17_eq hga q) _)) $$ H7
  iintro H7
  iapply (st c (Words.off17_eq hga q) rfl) $$ H7
  iintro H7
  iapply (ld c (window_slab _ 1 hq (Words.off18_eq hga q) _)) $$ H7
  iintro H7
  iapply (ld c (window_slab _ 1 hq (Words.off18_eq hga q) _)) $$ H7
  iintro H7
  iapply (st c (Words.off18_eq hga q) rfl) $$ H7
  iintro H7
  iapply (rt c)
  iapply Hk $$ H7

theorem part4 (t : Cols F) (P : FVec F S1024x256 .f32) (x : FVec F S5x80x1x256 .f32) {g a : ℕ} (hga : g + a ≤ 20480) (hw)
    (q : Fin (k1_t4_loop (BitVec.ofNat 32 g) (BitVec.ofNat 32 a)).trips) (arg11) (Q) :
    iprop(hd c M7 x ∗ (hd c M7 (placed4 t P (g / 256 + q.val) x) -∗ Q (k1_pay20 t.ar P (slab (placed4 t P (g / 256 + q.val) x) 4 (g / 256 + q.val)))))
      ⊢ run c bd E Q (k1_part4 M0 h0 M1 h1 M2 h2 M3 h3 M4 h4 M5 h5 M6 h6 M7 h7 M8 h8 t.x2 t.y2 t.ar (BitVec.ofNat 32 g) (BitVec.ofNat 32 a) hw q arg11 P) := by
  rw [k1_part4_eq_skeleton]
  unfold k1_part4_skel placed4
  have hq := Words.t4_lt hga q
  iintro ⟨H7, Hk⟩
  iapply (ld c (window_slab x 2 hq (Words.off19_eq hga q) _)) $$ H7
  iintro H7
  iapply (ld c (window_slab x 2 hq (Words.off19_eq hga q) _)) $$ H7
  iintro H7
  iapply (st c (Words.off19_eq hga q) rfl) $$ H7
  iintro H7
  iapply (ld c (window_slab _ 3 hq (Words.off20_eq hga q) _)) $$ H7
  iintro H7
  iapply (ld c (window_slab _ 3 hq (Words.off20_eq hga q) _)) $$ H7
  iintro H7
  iapply (st c (Words.off20_eq hga q) rfl) $$ H7
  iintro H7
  iapply (ld c (window_slab _ 4 hq (Words.off21_eq hga q) _)) $$ H7
  iintro H7
  iapply (ld c (window_slab _ 4 hq (Words.off21_eq hga q) _)) $$ H7
  iintro H7
  iapply (rt c)
  iapply Hk $$ H7

theorem step4 (v0 : Elt F .f32) (t : Cols F) (al pos : FVec F S1024x1 .f32) (x : FVec F S5x80x1x256 .f32) {g a : ℕ} (hga : g + a ≤ 20480) (hw)
    (q : Fin (k1_t4_loop (BitVec.ofNat 32 g) (BitVec.ofNat 32 a)).trips) (acc) (Q) :
    iprop(hd c M7 x ∗ (hd c M7 (place t al pos g a q x) -∗ Q 0#32))
      ⊢ run c bd E Q (k1_t4_body M0 h0 M1 h1 M2 h2 M3 h3 M4 h4 M5 h5 M6 h6 M7 h7 M8 h8 v0 t.x1 t.y1 t.x2 t.y2 t.ar (BitVec.ofNat 32 g) (BitVec.ofNat 32 a) hw al pos (Words.fdiv (BitVec.ofNat 32 g) 256#32) q acc) := by
  unfold k1_t4_body
  iintro ⟨H7, Hk⟩
  iapply (bnd c)
  iapply (part3 c bd E M0 h0 M1 h1 M2 h2 M3 h3 M4 h4 M5 h5 M6 h6 M7 h7 M8 h8 t al pos x hga hw q _)
  isplitl [H7]
  · iexact H7
  iintro H7
  iapply (bnd c)
  iapply (part4 c bd E M0 h0 M1 h1 M2 h2 M3 h3 M4 h4 M5 h5 M6 h6 M7 h7 M8 h8 t (match5 al pos g a q) (placed2 t al pos g a q x) hga hw q _ _)
  isplitl [H7]
  · iexact H7
  iintro H7
  iapply (st c (y := place t al pos g a q x) (Words.off21_eq hga q) rfl) $$ H7
  iintro H7
  iapply (rt c)
  iapply Hk $$ H7

/-! ## The rounds -/

theorem word_slt (m : ℕ) (h0 : 0 < m) (hm : m ≤ 1024) : Scalar.cmpi .slt (BitVec.ofNat 32 (1024 - m)) 1024#32 = 1#1 := by
  show BitVec.ofBool (BitVec.slt (BitVec.ofNat 32 (1024 - m)) (BitVec.ofNat 32 1024)) = 1#1
  rw [BitVec.slt_eq_decide, Words.toInt_small (by omega), Words.toInt_small (by omega), decide_eq_true (by omega)]
  rfl

theorem rounds (n : BitVec 32) (hw1 : k1_chk1 n) (k : Fin (k1_t1_loop n).trips) (g : BitVec 32) (hw2 : k1_chk2 g) (M : FVec F S1024x1024 .f32) :
    ∀ (m : ℕ) (_ : m ≤ 1024) (bd : Option 𝒱₀.V) (_ : ∀ u ∈ bd, 𝒱₀.lt m u) (d a : FVec F S1x1024 .f32)
      (Q : FVec F S1x1024 .f32 × FVec F S1x1024 .f32 × BitVec 32 → sProp 𝕄),
      iprop(∀ r, Q ((fixRun M m d a).1, (fixRun M m d a).2, r))
        ⊢ run c bd E Q (Prog.lift (.call (2 : (Λ₀ F).Label) ⟨n, hw1, k, g, hw2, M, d, a, BitVec.ofNat 32 (1024 - m)⟩)) := by
  intro m
  induction m with
  | zero =>
    intro _ bd hbd d a Q
    show iprop(∀ r, Q (d, a, r)) ⊢ _
    iintro H
    iapply (wp_call 𝒱₀ (c : Thread nD τ) bd E (0 : ℕ) hbd)
    iapply (Entails.of_eq (show wp frame (wpE (defs₀ (F := F)) 𝒱₀ (c : Thread nD τ) (some (0 : ℕ))) E
      (cc1_while1 n hw1 k g hw2 M d a (BitVec.ofNat 32 (1024 - 0))) _ = _ from rfl))
    rw [cc1_while1_eq_skeleton]
    unfold cc1_while1_skel
    have e : Scalar.andi (undecided d a) (Scalar.cmpi .slt (BitVec.ofNat 32 (1024 - 0)) 1024#32) = 0#1 := by
      rw [show Scalar.cmpi .slt (BitVec.ofNat 32 (1024 - 0)) 1024#32 = (0#1 : BitVec 1) from by decide]
      exact BitVec.and_zero
    iapply (Entails.of_eq (show run c (some (0 : ℕ)) E _ (if Scalar.andi (undecided d a) (Scalar.cmpi .slt (BitVec.ofNat 32 (1024 - 0)) 1024#32) = 1#1 then _ else _) = _ from rfl))
    rw [e, if_neg (by decide)]
    iapply (rt c)
    iapply (rt c)
    iapply H
  | succ m ih =>
    intro hm bd hbd d a Q
    have e : Scalar.andi (undecided d a) (Scalar.cmpi .slt (BitVec.ofNat 32 (1024 - (m + 1))) 1024#32) = undecided d a := by
      rw [word_slt (m + 1) (Nat.succ_pos m) hm]
      exact BitVec.and_allOnes
    have hr : Scalar.addi (BitVec.ofNat 32 (1024 - (m + 1))) 1#32 = BitVec.ofNat 32 (1024 - m) := by
      rw [show (1#32 : BitVec 32) = BitVec.ofNat 32 1 from rfl, Words.add_word]
      congr 1
      omega
    iintro H
    iapply (wp_call 𝒱₀ (c : Thread nD τ) bd E (m + 1 : ℕ) hbd)
    iapply (Entails.of_eq (show wp frame (wpE (defs₀ (F := F)) 𝒱₀ (c : Thread nD τ) (some (m + 1 : ℕ))) E
      (cc1_while1 n hw1 k g hw2 M d a (BitVec.ofNat 32 (1024 - (m + 1)))) _ = _ from rfl))
    rw [cc1_while1_eq_skeleton]
    unfold cc1_while1_skel
    iapply (Entails.of_eq (show run c (some (m + 1 : ℕ)) E _ (if Scalar.andi (undecided d a) (Scalar.cmpi .slt (BitVec.ofNat 32 (1024 - (m + 1))) 1024#32) = 1#1 then
      Prog.lift (.call (2 : (Λ₀ F).Label) ⟨n, hw1, k, g, hw2, M, k1_pay7 M d a, k1_pay6 M d a, Scalar.addi (BitVec.ofNat 32 (1024 - (m + 1))) 1#32⟩) else _) = _ from rfl))
    rw [e, hr]
    unfold fixRun
    by_cases h : undecided d a = 1#1
    · rw [if_pos h, if_pos h]
      iapply (ih (by omega) (some (m + 1 : ℕ)) (fun u hu => by
        obtain rfl := Option.mem_some_iff.mp hu
        exact Nat.lt_succ_self m) _ _ _)
      iintro %r
      iapply (rt c)
      iapply H
    · rw [if_neg h, if_neg h]
      iapply (rt c)
      iapply (rt c)
      iapply H

/-! ## One block -/

attribute [local irreducible] fixRun

theorem part10 (hbd : ∀ u ∈ bd, 𝒱₀.lt (1024 : ℕ) u) (S : FVec F S20x1x1024 .f32) {n g : ℕ} (hn : n ≤ 20) (hw1 v135 v138) (k : Fin (k1_t1_loop (BitVec.ofNat 32 n)).trips)
    (arg9 hw2 v246 v297 v300) {al : FVec F S1x1024 .f32} (hal : al = (fixRun v297 1024 (k1_pay41 v246 v300) (k1_pay42 (F := F))).2) (hga : g + countOf al ≤ 20480) (Q) :
    iprop(hd c M6 S ∗ (hd c M6 (put S ![k.val, 0, 0] S1x1x1024.size (k1_pay43 al)) -∗
        Q ⟨BitVec.ofNat 32 (countOf al), Words.chk3 hga, k1_pay45 v135 al, k1_pay46 v135 v138 (BitVec.ofNat 32 g) al, Words.fdiv (BitVec.ofNat 32 g) 256#32,
          Scalar.addi (BitVec.ofNat 32 g) (BitVec.ofNat 32 (countOf al))⟩))
      ⊢ run c bd E Q (k1_part10 M0 h0 M1 h1 M2 h2 M3 h3 M4 h4 M5 h5 M6 h6 M7 h7 M8 h8 (BitVec.ofNat 32 n) hw1 v135 v138 k arg9 (BitVec.ofNat 32 g) hw2 v246 v297 v300) := by
  rw [k1_part10_eq_skeleton]
  unfold k1_part10_skel
  have hfd : Words.fdiv (BitVec.ofNat 32 g) 256#32 = Words.fdiv (BitVec.ofNat 32 g) 256#32 := rfl
  conv at hfd => lhs; unfold Words.fdiv
  have hk : k.val < 20 := lt_of_lt_of_le (lt_of_lt_of_eq k.isLt (Words.t1_trips hn)) hn
  have e : Scalar.fptosi 32 (k1_pay44 al) = BitVec.ofNat 32 (countOf al) := by
    unfold countOf
    exact ((BitVec.ofNat_toNat 32 _).trans (BitVec.setWidth_eq _)).symm
  iintro ⟨H6, Hk⟩
  iapply (bnd c)
  iapply (rounds c E (BitVec.ofNat 32 n) hw1 k (BitVec.ofNat 32 g) hw2 v297 1024 (le_refl _) bd hbd _ _ _)
  iintro %r
  rw [← hal]
  iapply (ld c (window_sup S hk (Words.off16_eq hn k) _)) $$ H6
  iintro H6
  iapply (st c (Words.off16_eq hn k) rfl) $$ H6
  iintro H6
  have key : ∀ (v : BitVec 32) (h : k1_chk3 (BitVec.ofNat 32 g) v), v = BitVec.ofNat 32 (countOf al) →
      (Q ⟨BitVec.ofNat 32 (countOf al), Words.chk3 hga, k1_pay45 v135 al, k1_pay46 v135 v138 (BitVec.ofNat 32 g) al, Words.fdiv (BitVec.ofNat 32 g) 256#32,
          Scalar.addi (BitVec.ofNat 32 g) (BitVec.ofNat 32 (countOf al))⟩
        ⊢ Q ⟨v, h, k1_pay45 v135 al, k1_pay46 v135 v138 (BitVec.ofNat 32 g) al, Words.fdiv (BitVec.ofNat 32 g) 256#32, Scalar.addi (BitVec.ofNat 32 g) v⟩) := by
    intro v h ev
    subst ev
    exact Entails.rfl
  iapply (asm c (P := k1_chk3 (BitVec.ofNat 32 g) (Scalar.fptosi 32 (k1_pay44 al))) (by rw [e]; exact Words.chk3 hga))
  iapply (rt c)
  rw [hfd]
  iapply (key _ _ e)
  iapply Hk $$ H6

theorem step1 (hbd : ∀ u ∈ bd, 𝒱₀.lt (1024 : ℕ) u) (v0 : Elt F .f32) (D : FVec F S5x20x1x1024 .f32) (C : FVec F S5x1024x128 .f32) {n : ℕ} (hn : n ≤ 20) (hw1)
    (k : Fin (k1_t1_loop (BitVec.ofNat 32 n)).trips) (s : St F) (hga : s.g + countOf (aliveOf v0 D C (BitVec.ofNat 32 n) k s) ≤ 20480) (acc) (Q) :
    iprop((hd c M4 D ∗ hd c M5 C ∗ hd c M6 s.sup ∗ hd c M7 s.comp ∗ hd c M8 (fun _ => BitVec.ofNat 32 s.g)) ∗
      ((hd c M4 D ∗ hd c M5 C ∗ hd c M6 (trip v0 D C (BitVec.ofNat 32 n) k s).sup ∗ hd c M7 (trip v0 D C (BitVec.ofNat 32 n) k s).comp ∗
          hd c M8 (fun _ => BitVec.ofNat 32 (trip v0 D C (BitVec.ofNat 32 n) k s).g)) -∗ Q 0#32))
      ⊢ run c bd E Q (k1_t1_body M0 h0 M1 h1 M2 h2 M3 h3 M4 h4 M5 h5 M6 h6 M7 h7 M8 h8 v0 (BitVec.ofNat 32 n) hw1 lanes k acc) := by
  have hg : s.g ≤ 20480 := Nat.le_of_add_right_le hga
  unfold k1_t1_body
  iintro ⟨⟨H4, H5, H6, H7, H8⟩, Hk⟩
  iapply (bnd c)
  iapply (part7 c bd E M0 h0 M1 h1 M2 h2 M3 h3 M4 h4 M5 h5 M6 h6 M7 h7 M8 h8 C hg k _)
  isplitl [H5]
  · iexact H5
  isplitl [H8]
  · iexact H8
  iintro ⟨H5, H8⟩
  iapply (bnd c)
  iapply (part8 c bd E M0 h0 M1 h1 M2 h2 M3 h3 M4 h4 M5 h5 M6 h6 M7 h7 M8 h8 v0 (colsOf (BitVec.ofNat 32 n) k C) s.comp D hn hg hw1 _ k _ _ _ _)
  isplitl [H7]
  · iexact H7
  isplitl [H4]
  · iexact H4
  iintro ⟨H7, H4⟩
  iapply (bnd c)
  iapply (part9 c bd E M0 h0 M1 h1 M2 h2 M3 h3 M4 h4 M5 h5 M6 h6 M7 h7 M8 h8 v0 (colsOf (BitVec.ofNat 32 n) k C) D s.sup hn hw1 _ k _ _ _ _)
  isplitl [H4]
  · iexact H4
  isplitl [H6]
  · iexact H6
  iintro ⟨H4, H6⟩
  iapply (bnd c)
  iapply (part10 c bd E M0 h0 M1 h1 M2 h2 M3 h3 M4 h4 M5 h5 M6 h6 M7 h7 M8 h8 hbd s.sup hn hw1 _ _ k _ _ _ _ _ (al := aliveOf v0 D C (BitVec.ofNat 32 n) k s) rfl hga _)
  isplitl [H6]
  · iexact H6
  iintro H6
  iapply (lp c (fun m _ => hd c M7 (upto (fun q => place (colsOf (BitVec.ofNat 32 n) k C) (k1_pay45 (k1_pay117 (F := F)) (aliveOf v0 D C (BitVec.ofNat 32 n) k s))
      (k1_pay46 (k1_pay117 (F := F)) (k1_pay118 (F := F)) (BitVec.ofNat 32 s.g) (aliveOf v0 D C (BitVec.ofNat 32 n) k s)) s.g
      (countOf (aliveOf v0 D C (BitVec.ofNat 32 n) k s)) q) s.comp m)) (by
    intro q acc
    rw [upto_succ]
    iintro H7
    iapply (step4 c bd E M0 h0 M1 h1 M2 h2 M3 h3 M4 h4 M5 h5 M6 h6 M7 h7 M8 h8 v0 (colsOf (BitVec.ofNat 32 n) k C) _ _ _ hga _ q _ _)
    isplitl [H7]
    · iexact H7
    iintro H7
    iexact H7)) $$ [H7]
  · iexact H7
  iintro %acc H7
  iapply (lp0 c (Words.t5_trips hga))
  iapply (sld c (w := BitVec.ofNat 32 s.g) (fun _ => rfl)) $$ H8
  iintro H8
  iapply (st c (y := fun _ => BitVec.ofNat 32 (trip v0 D C (BitVec.ofNat 32 n) k s).g) rfl (by
    rw [Words.add_word]
    exact put_full _ (fun a => by match a with | 0 => rfl) _)) $$ H8
  iintro H8
  iapply (rt c)
  iapply Hk
  isplitl [H4]
  · iexact H4
  isplitl [H5]
  · iexact H5
  isplitl [H6]
  · iexact H6
  isplitl [H7]
  · iexact H7
  iexact H8

/-! ## The whole body -/

section Whole
variable (X0 : FVec F S2 .f32) (X1 : FVec F S5x20x1x1024 .f32) (X2 : FVec F S4x1024x128 .f32)

theorem window_full {β : Type} {s : Shape} (x : s.Idx → β) {off : Fin s.rank → ℕ} (h : ∀ a, off a = 0) (inb : ∀ a, off a + s.size a ≤ s.size a) :
    window x off s.size inb = x := by
  funext i
  exact congrArg x (funext fun a => Fin.ext (by show off a + 1 * (i a).val = (i a).val; rw [h a]; omega))

/-- The buffer is held, whatever is in it. -/
def had (c : Dev nD) {sp : CoreSpace} {s : Shape} {e : EltTy} (M : Memref sig .tc sp s e) : sProp 𝕄 :=
  iprop(∃ f, M.view.loc (c : Thread nD τ) ↦{fullShare} f)

theorem hd_had {sp : CoreSpace} {s : Shape} {e : EltTy} {M : Memref sig .tc sp s e} {x : s.Idx → Elt F e} : hd c M x ⊢ had c M := by
  unfold hd had
  iintro ⟨%f, -, H⟩
  iexists f
  iexact H

theorem had_hd {sp : CoreSpace} {s : Shape} {e : EltTy} {M : Memref sig .tc sp s e} : had (F := F) c M ⊢ iprop(∃ x, hd c M x) := by
  unfold hd had
  iintro ⟨%f, H⟩
  iexists (M.view.read (Elt F) f)
  iexists f
  isplitr
  · ipureintro; rfl
  iexact H

theorem part21 (x7 : FVec F S5x80x1x256 .f32) (Q) :
    iprop(hd c M0 X0 ∗ hd c M1 X1 ∗ hd c M7 x7 ∗ ((hd c M0 X0 ∗ hd c M1 X1 ∗ hd c M7 (start X0 X1).comp) -∗
        Q ⟨thr X0, sthr X0, score X1, side1 X1, side2 X1, side3 X1, side4 X1⟩))
      ⊢ run c bd E Q (k1_part21 M0 h0 M1 h1 M2 h2 M3 h3 M4 h4 M5 h5 M6 h6 M7 h7 M8 h8) := by
  rw [k1_part21_eq_skeleton]
  unfold k1_part21_skel score side1 side2 side3 side4
  iintro ⟨H0, H1, H7, Hk⟩
  iapply (sld c (w := thr X0) (fun i => congrArg X0 (funext fun a => Fin.ext (by
    match a with
    | 0 => show 0 + 1 * (i 0).val = 0; have : (i 0).val < 1 := (i 0).isLt; omega)))) $$ H0
  iintro H0
  iapply (sld c (w := sthr X0) (fun i => congrArg X0 (funext fun a => Fin.ext (by
    match a with
    | 0 => show 1 + 1 * (i 0).val = 1; have : (i 0).val < 1 := (i 0).isLt; omega)))) $$ H0
  iintro H0
  iapply (ld c rfl) $$ H7
  iintro H7
  iapply (st c (y := (start X0 X1).comp) rfl (put_full _ (fun a => by match a with | 0 => rfl | 1 => rfl | 2 => rfl | 3 => rfl) _)) $$ H7
  iintro H7
  iapply (ld c (window_chan X1 0 rfl _)) $$ H1
  iintro H1
  iapply (ld c (window_chan X1 1 rfl _)) $$ H1
  iintro H1
  iapply (ld c (window_chan X1 2 rfl _)) $$ H1
  iintro H1
  iapply (ld c (window_chan X1 3 rfl _)) $$ H1
  iintro H1
  iapply (ld c (window_chan X1 4 rfl _)) $$ H1
  iintro H1
  iapply (rt c)
  iapply Hk
  isplitl [H0]
  · iexact H0
  isplitl [H1]
  · iexact H1
  iexact H7

theorem part22 (x4 : FVec F S5x20x1x1024 .f32) (Q) :
    iprop(hd c M4 x4 ∗ hd c M2 X2 ∗ ((hd c M4 (boxes X1) ∗ hd c M2 X2) -∗ Q ⟨k1_pay98 (colChan X2 0), k1_pay99 (colChan X2 1)⟩))
      ⊢ run c bd E Q (k1_part22 M0 h0 M1 h1 M2 h2 M3 h3 M4 h4 M5 h5 M6 h6 M7 h7 M8 h8 (side1 X1) (side2 X1) (side3 X1) (side4 X1)) := by
  rw [k1_part22_eq_skeleton]
  unfold k1_part22_skel boxes
  iintro ⟨H4, H2, Hk⟩
  iapply (ld c rfl) $$ H4
  iintro H4
  iapply (st c rfl rfl) $$ H4
  iintro H4
  iapply (ld c rfl) $$ H4
  iintro H4
  iapply (st c rfl rfl) $$ H4
  iintro H4
  iapply (ld c rfl) $$ H4
  iintro H4
  iapply (st c rfl rfl) $$ H4
  iintro H4
  iapply (ld c rfl) $$ H4
  iintro H4
  iapply (st c rfl rfl) $$ H4
  iintro H4
  iapply (ld c rfl) $$ H4
  iintro H4
  iapply (st c rfl (put_chans _ _ _ _ _ _)) $$ H4
  iintro H4
  iapply (ld c (window_colChan X2 0 rfl _)) $$ H2
  iintro H2
  iapply (ld c (window_colChan X2 1 rfl _)) $$ H2
  iintro H2
  iapply (rt c)
  iapply Hk
  isplitl [H4]
  · iexact H4
  iexact H2

/-- The columns but for their areas. -/
def cols4 (x : FVec F S5x1024x128 .f32) : FVec F S5x1024x128 .f32 :=
  let a := k1_pay98 (colChan X2 0)
  let b := k1_pay99 (colChan X2 1)
  put (put (put (put x ![0, 0, 0] S1x1024x128.size (k1_pay106 a (colChan X2 2))) ![1, 0, 0] S1x1024x128.size (k1_pay107 b (colChan X2 3)))
    ![2, 0, 0] S1x1024x128.size (k1_pay108 a (colChan X2 2))) ![3, 0, 0] S1x1024x128.size (k1_pay109 b (colChan X2 3))

theorem part23 (x5 : FVec F S5x1024x128 .f32) (Q) :
    iprop(hd c M2 X2 ∗ hd c M5 x5 ∗ ((hd c M2 X2 ∗ hd c M5 (cols4 X2 x5)) -∗
        Q ⟨k1_pay110 (k1_pay98 (colChan X2 0)) (colChan X2 2), k1_pay111 (k1_pay99 (colChan X2 1)) (colChan X2 3), k1_pay112 (F := F)⟩))
      ⊢ run c bd E Q (k1_part23 M0 h0 M1 h1 M2 h2 M3 h3 M4 h4 M5 h5 M6 h6 M7 h7 M8 h8 (k1_pay98 (colChan X2 0)) (k1_pay99 (colChan X2 1))) := by
  rw [k1_part23_eq_skeleton]
  unfold k1_part23_skel cols4
  iintro ⟨H2, H5, Hk⟩
  iapply (ld c (window_colChan X2 2 rfl _)) $$ H2
  iintro H2
  iapply (ld c (window_colChan X2 3 rfl _)) $$ H2
  iintro H2
  iapply (ld c rfl) $$ H5
  iintro H5
  iapply (st c rfl rfl) $$ H5
  iintro H5
  iapply (ld c rfl) $$ H5
  iintro H5
  iapply (st c rfl rfl) $$ H5
  iintro H5
  iapply (ld c rfl) $$ H5
  iintro H5
  iapply (st c rfl rfl) $$ H5
  iintro H5
  iapply (ld c rfl) $$ H5
  iintro H5
  iapply (st c rfl rfl) $$ H5
  iintro H5
  iapply (rt c)
  iapply Hk
  isplitl [H2]
  · iexact H2
  iexact H5

theorem part24 (hfit : nAbove X0 X1 ≤ 20480) (x5 : FVec F S5x1024x128 .f32) (x6 : FVec F S20x1x1024 .f32) (x8 : S1.Idx → Elt F .i32) (Q) :
    iprop(hd c M5 (cols4 X2 x5) ∗ hd c M6 x6 ∗ hd c M8 x8 ∗ ((hd c M5 (colBoxes X2) ∗ hd c M6 (start X0 X1).sup ∗ hd c M8 (fun _ => BitVec.ofNat 32 (nBlocks X0 X1))) -∗ Q ⟨⟩))
      ⊢ run c bd E Q (k1_part24 M0 h0 M1 h1 M2 h2 M3 h3 M4 h4 M5 h5 M6 h6 M7 h7 M8 h8 (sthr X0) (score X1) (k1_pay110 (k1_pay98 (colChan X2 0)) (colChan X2 2))
          (k1_pay111 (k1_pay99 (colChan X2 1)) (colChan X2 3)) (k1_pay112 (F := F))) := by
  rw [k1_part24_eq_skeleton]
  unfold k1_part24_skel
  have hb : Words.fdiv (Scalar.subi (Scalar.addi (extractAt ![0, 0, 0, 0] (k1_pay115 (sthr X0) (score X1)) inpos_S1x1x1x1_p0_0_0_0) 1024#32) 1#32) 1024#32
      = BitVec.ofNat 32 (nBlocks X0 X1) := by
    have h := Words.blocks_word hfit
    have e : BitVec.ofNat 32 (nAbove X0 X1) = extractAt ![0, 0, 0, 0] (k1_pay115 (sthr X0) (score X1)) inpos_S1x1x1x1_p0_0_0_0 := by
      unfold nAbove
      exact (BitVec.ofNat_toNat 32 _).trans (BitVec.setWidth_eq _)
    rw [e] at h
    exact h
  iintro ⟨H5, H6, H8, Hk⟩
  iapply (ld c rfl) $$ H5
  iintro H5
  iapply (st c (y := colBoxes X2) rfl (put_colChans x5 _ _ _ _ _)) $$ H5
  iintro H5
  iapply (ld c rfl) $$ H6
  iintro H6
  iapply (st c (y := (start X0 X1).sup) rfl (put_full _ (fun a => by match a with | 0 => rfl | 1 => rfl | 2 => rfl) _)) $$ H6
  iintro H6
  iapply (sld c (x := x8) (w := x8 (ix1 0)) (fun i => congrArg x8 (funext fun a => Fin.ext (by
    match a with
    | 0 => show 0 + 1 * (i 0).val = 0; have : (i 0).val < 1 := (i 0).isLt; omega)))) $$ H8
  iintro H8
  iapply (st c (y := fun _ => BitVec.ofNat 32 (nBlocks X0 X1)) rfl (by
    rw [← hb]
    exact put_full _ (fun a => by match a with | 0 => rfl) _)) $$ H8
  iintro H8
  iapply (rt c)
  iapply Hk
  isplitl [H5]
  · iexact H5
  isplitl [H6]
  · iexact H6
  iexact H8

theorem state_succ (k : Fin (k1_t1_loop (BitVec.ofNat 32 (nBlocks X0 X1))).trips) :
    state X0 X1 X2 (k.val + 1) = trip (thr X0) (boxes X1) (colBoxes X2) _ k (state X0 X1 X2 k.val) := upto_succ _ _ k

theorem state_zero : state X0 X1 X2 0 = start X0 X1 := rfl

theorem part25 (hbd : ∀ u ∈ bd, 𝒱₀.lt (1024 : ℕ) u) (hfit : Fits X0 X1 X2) (x3 : FVec F S5x20x1x1024 .f32) (Q) :
    iprop((hd c M4 (boxes X1) ∗ hd c M5 (colBoxes X2) ∗ hd c M6 (start X0 X1).sup ∗ hd c M7 (start X0 X1).comp ∗ hd c M8 (fun _ => BitVec.ofNat 32 (nBlocks X0 X1))) ∗ hd c M3 x3 ∗
      ((hd c M4 (boxes X1) ∗ had (F := F) c M5 ∗ had (F := F) c M6 ∗ had (F := F) c M7 ∗ had (F := F) c M8 ∗
          hd c M3 (put x3 ![0, 0, 0, 0] S1x20x1x1024.size (k1_pay121 (supEnd X0 X1 X2) (chan (boxes X1) 0)))) -∗
        Q ⟨k1_pay120 (supEnd X0 X1 X2), k1_pay122 (chan (boxes X1) 1)⟩))
      ⊢ run c bd E Q (k1_part25 M0 h0 M1 h1 M2 h2 M3 h3 M4 h4 M5 h5 M6 h6 M7 h7 M8 h8 (thr X0)) := by
  rw [k1_part25_eq_skeleton]
  unfold k1_part25_skel
  have hn : nBlocks X0 X1 ≤ 20 := by have := hfit.above; unfold nBlocks; omega
  iintro ⟨⟨H4, H5, H6, H7, H8⟩, H3, Hk⟩
  iapply (sld c (w := BitVec.ofNat 32 (nBlocks X0 X1)) (fun _ => rfl)) $$ H8
  iintro H8
  iapply (asm c (Words.chk1 hn))
  iapply (sld c (w := BitVec.ofNat 32 (nBlocks X0 X1)) (fun _ => rfl)) $$ H8
  iintro H8
  iapply (st c (y := fun _ => BitVec.ofNat 32 (start X0 X1).g) rfl (by exact put_full _ (fun a => by match a with | 0 => rfl) _)) $$ H8
  iintro H8
  iapply (lp c (fun m _ => iprop(hd c M4 (boxes X1) ∗ hd c M5 (colBoxes X2) ∗ hd c M6 (state X0 X1 X2 m).sup ∗ hd c M7 (state X0 X1 X2 m).comp ∗
      hd c M8 (fun _ => BitVec.ofNat 32 (state X0 X1 X2 m).g))) (by
    intro k acc
    rw [state_succ]
    iintro H
    iapply (step1 c bd E M0 h0 M1 h1 M2 h2 M3 h3 M4 h4 M5 h5 M6 h6 M7 h7 M8 h8 hbd (thr X0) (boxes X1) (colBoxes X2) hn (Words.chk1 hn) k (state X0 X1 X2 k.val) (hfit.kept k) acc _)
    isplitl [H]
    · iexact H
    iintro H
    iexact H)) $$ [H4 H5 H6 H7 H8]
  · rw [state_zero]
    isplitl [H4]
    · iexact H4
    isplitl [H5]
    · iexact H5
    isplitl [H6]
    · iexact H6
    isplitl [H7]
    · iexact H7
    iexact H8
  iintro %acc ⟨H4, H5, H6, H7, H8⟩
  iapply (lp0 c (Words.t6_trips hn))
  rw [show (state X0 X1 X2 (k1_t1_loop (BitVec.ofNat 32 (nBlocks X0 X1))).trips).sup = supEnd X0 X1 X2 from rfl]
  iapply (ld c (w := supEnd X0 X1 X2) (window_full _ (fun a => by match a with | 0 => rfl | 1 => rfl | 2 => rfl) _)) $$ H6
  iintro H6
  iapply (ld c (window_chan (boxes X1) 0 rfl _)) $$ H4
  iintro H4
  iapply (ld c rfl) $$ H3
  iintro H3
  iapply (st c rfl rfl) $$ H3
  iintro H3
  iapply (ld c (window_chan (boxes X1) 1 rfl _)) $$ H4
  iintro H4
  iapply (rt c)
  iapply Hk
  isplitl [H4]
  · iexact H4
  isplitl [H5]
  · iapply (hd_had c) $$ H5
  isplitl [H6]
  · iapply (hd_had c) $$ H6
  isplitl [H7]
  · iapply (hd_had c) $$ H7
  isplitl [H8]
  · iapply (hd_had c) $$ H8
  iexact H3

/-- The kernel, from any contents of the result and the scratch. -/
theorem nms_run (hbd : ∀ u ∈ bd, 𝒱₀.lt (1024 : ℕ) u) (hfit : Fits X0 X1 X2) (Q) :
    iprop((hd c M0 X0 ∗ hd c M1 X1 ∗ hd c M2 X2 ∗ had (F := F) c M3 ∗ had (F := F) c M4 ∗ had (F := F) c M5 ∗ had (F := F) c M6 ∗ had (F := F) c M7 ∗ had (F := F) c M8) ∗
      ((hd c M0 X0 ∗ hd c M1 X1 ∗ hd c M2 X2 ∗ hd c M3 (nmsOut X0 X1 X2) ∗ had (F := F) c M4 ∗ had (F := F) c M5 ∗ had (F := F) c M6 ∗ had (F := F) c M7 ∗ had (F := F) c M8) -∗ Q ⟨⟩))
      ⊢ run c bd E Q (cc1__nms_body M0 h0 M1 h1 M2 h2 M3 h3 M4 h4 M5 h5 M6 h6 M7 h7 M8 h8) := by
  rw [cc1__nms_body_eq_skeleton]
  unfold cc1__nms_body_skel
  iintro ⟨⟨H0, H1, H2, H3, H4, H5, H6, H7, H8⟩, Hk⟩
  ihave ⟨%x3, H3⟩ := (had_hd c) $$ H3
  ihave ⟨%x4, H4⟩ := (had_hd c) $$ H4
  ihave ⟨%x5, H5⟩ := (had_hd c) $$ H5
  ihave ⟨%x6, H6⟩ := (had_hd c) $$ H6
  ihave ⟨%x7, H7⟩ := (had_hd c) $$ H7
  ihave ⟨%x8, H8⟩ := (had_hd c) $$ H8
  iapply (bnd c)
  iapply (part21 c bd E M0 h0 M1 h1 M2 h2 M3 h3 M4 h4 M5 h5 M6 h6 M7 h7 M8 h8 X0 X1 x7 _)
  isplitl [H0]
  · iexact H0
  isplitl [H1]
  · iexact H1
  isplitl [H7]
  · iexact H7
  iintro ⟨H0, H1, H7⟩
  iapply (bnd c)
  iapply (part22 c bd E M0 h0 M1 h1 M2 h2 M3 h3 M4 h4 M5 h5 M6 h6 M7 h7 M8 h8 X1 X2 x4 _)
  isplitl [H4]
  · iexact H4
  isplitl [H2]
  · iexact H2
  iintro ⟨H4, H2⟩
  iapply (bnd c)
  iapply (part23 c bd E M0 h0 M1 h1 M2 h2 M3 h3 M4 h4 M5 h5 M6 h6 M7 h7 M8 h8 X2 x5 _)
  isplitl [H2]
  · iexact H2
  isplitl [H5]
  · iexact H5
  iintro ⟨H2, H5⟩
  iapply (bnd c)
  iapply (part24 c bd E M0 h0 M1 h1 M2 h2 M3 h3 M4 h4 M5 h5 M6 h6 M7 h7 M8 h8 X0 X1 X2 hfit.above x5 x6 x8 _)
  isplitl [H5]
  · iexact H5
  isplitl [H6]
  · iexact H6
  isplitl [H8]
  · iexact H8
  iintro ⟨H5, H6, H8⟩
  iapply (bnd c)
  iapply (part25 c bd E M0 h0 M1 h1 M2 h2 M3 h3 M4 h4 M5 h5 M6 h6 M7 h7 M8 h8 X0 X1 X2 hbd hfit x3 _)
  isplitl [H4 H5 H6 H7 H8]
  · isplitl [H4]
    · iexact H4
    isplitl [H5]
    · iexact H5
    isplitl [H6]
    · iexact H6
    isplitl [H7]
    · iexact H7
    iexact H8
  isplitl [H3]
  · iexact H3
  iintro ⟨H4, H5, H6, H7, H8, H3⟩
  iapply (ld c rfl) $$ H3
  iintro H3
  iapply (st c rfl rfl) $$ H3
  iintro H3
  iapply (ld c (window_chan (boxes X1) 2 rfl _)) $$ H4
  iintro H4
  iapply (ld c rfl) $$ H3
  iintro H3
  iapply (st c rfl rfl) $$ H3
  iintro H3
  iapply (ld c (window_chan (boxes X1) 3 rfl _)) $$ H4
  iintro H4
  iapply (ld c rfl) $$ H3
  iintro H3
  iapply (st c rfl rfl) $$ H3
  iintro H3
  iapply (ld c rfl) $$ H3
  iintro H3
  iapply (st c (y := nmsOut X0 X1 X2) rfl (put_chans x3 _ _ _ _ _)) $$ H3
  iintro H3
  iapply (rt c)
  iapply Hk
  isplitl [H0]
  · iexact H0
  isplitl [H1]
  · iexact H1
  isplitl [H2]
  · iexact H2
  isplitl [H3]
  · iexact H3
  isplitl [H4]
  · iapply (hd_had c) $$ H4
  isplitl [H5]
  · iexact H5
  isplitl [H6]
  · iexact H6
  isplitl [H7]
  · iexact H7
  iexact H8

end Whole

end Cert.Proof.Body
-- ==== Proof.Region.lean ====
/-
  The suppression kernel as @main calls it: one point, four windows over whole arrays, five scratch buffers. From any
  contents of the unscoped buffers at which the counts stay in range, the result's array ends at `Model.nmsOut` of the
  three operands and nothing else changes.
-/
module

public import proofs.«01_k».proof.Proof.Body
public import proofs.«01_k».proof.Proof.Gen.KernelIdeal.Launch
public import proofs.«01_k».proof.Proof.Gen.KernelIdeal.Points
public import Idealize.ShloMosaic.Lib.Pipeline.RegionsLoop

@[expose] public section

noncomputable section

namespace Cert.Proof.Region

open Cert.KernelIdeal Cert.KernelIdeal.Gen
open Cert.Proof.Model Cert.Proof.Sc
open Cert.Proof.Body (hd had nms_run)

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation cellOf)

variable {F : FTy → Type} [FloatOps F]

local notation "𝕄" => MT nD τ sig (HIx 1) (Elt F) ℕ UU ℕ

/-- The contents of a core's buffers. -/
abbrev Vals (F : FTy → Type) : Type := (c : Dev nD) → (b : Ref sig .tc) → Buf (Elt F) ((c : Thread nD τ).loc b)

variable (V : Vals F)

/-- The kernel's result from the three operands' contents. -/
def out (c : Dev nD) : S5x20x1x1024.Idx → Elt F .f32 := nmsOut (F := F) (V c main_v13) (V c main_v15) (V c main_v19)

/-- The pairs the core's waits may have recorded: those the SparseCore call leaves. -/
abbrev low (c : Dev nD) : Set (SemLoc sig × HIx 1) := fun p => (Sc.K (F := F)).lev ((c : Thread nD τ), p.1) p.2 ≤ 8

abbrev Φc (c : Dev nD) : sProp 𝕄 := Pipeline.scopedRest (Ix := HIx 1) (Name := ℕ) (U := UU) (Lvl := ℕ) (Val := Elt F) spec1 c

/-- The region's proof data: the arrays at their contents; after the body the operands' buffers as fetched and the
    result's at the kernel's result. -/
def dat (c : Dev nD) : Dat τ (Elt F) (HIx 1) ℕ UU ℕ (cfg1 (F := F)) c where
  A w := V c (Pipeline.arrRef spec1 w)
  after w _ := match w with
    | ⟨0, _⟩ => V c main_v13
    | ⟨1, _⟩ => V c main_v15
    | ⟨2, _⟩ => V c main_v19
    | ⟨3, _⟩ => out V c
  Φ _ := Φc c
  q _ := fullShare
  owed _ := 0
  recorded _ := low (F := F) c

abbrev adm : (p : Fin 1) → (pcfgs (F := F) p).Adm := fun p => (cfgs p).toPCfg_adm

def pdats : (p : Fin 1) → (c : Dev nD) → Dat τ (Elt F) (HIx 1) ℕ UU ℕ (Pipeline.pin (pcfgs (F := F)) adm p) c
  | ⟨0, _⟩ => fun c => dat V c

/-! ## A block over the whole array is the array -/

theorem whole0 (f : S2.Idx → Elt F .f32) : (((cfg1 (F := F)).win 0).blk t1_0).view.read (Elt F) f = f :=
  funext fun i => congrArg f (funext fun a => Fin.ext (show 0 * _ + 1 * (i a).val = (i a).val by omega))
theorem whole1 (f : S5x20x1x1024.Idx → Elt F .f32) : (((cfg1 (F := F)).win 1).blk t1_0).view.read (Elt F) f = f :=
  funext fun i => congrArg f (funext fun a => Fin.ext (show 0 * _ + 1 * (i a).val = (i a).val by omega))
theorem whole2 (f : S4x1024x128.Idx → Elt F .f32) : (((cfg1 (F := F)).win 2).blk t1_0).view.read (Elt F) f = f :=
  funext fun i => congrArg f (funext fun a => Fin.ext (show 0 * _ + 1 * (i a).val = (i a).val by omega))
theorem whole3 (f : S5x20x1x1024.Idx → Elt F .f32) : (((cfg1 (F := F)).win 3).blk t1_0).view.read (Elt F) f = f :=
  funext fun i => congrArg f (funext fun a => Fin.ext (show 0 * _ + 1 * (i a).val = (i a).val by omega))

theorem before0 (c : Dev nD) (d) : (dat V c).before 0 t1_0 d = V c main_v13 := by
  unfold Dat.before; rw [if_pos (fetch1_0 _)]; exact whole0 _
theorem before1 (c : Dev nD) (d) : (dat V c).before 1 t1_0 d = V c main_v15 := by
  unfold Dat.before; rw [if_pos (fetch1_1 _)]; exact whole1 _
theorem before2 (c : Dev nD) (d) : (dat V c).before 2 t1_0 d = V c main_v19 := by
  unfold Dat.before; rw [if_pos (fetch1_2 _)]; exact whole2 _

/-- The result's array at the end. -/
theorem written (c : Dev nD) : (dat V c).arrAt 3 (cfg1 (F := F)).N = out V c :=
  (dat V c).arrAt_eq_of_cover 3 (out V c)
    (fun t _ => by
      obtain rfl := fin_N1 t
      exact Eq.trans (b := out V c) rfl (whole3 _).symm)
    (fun i => ⟨t1_0, flush1_3 _, by
      have h := (((cfg1 (F := F)).win 3).blk t1_0).view.emb_mem_set i
      exact (show (((cfg1 (F := F)).win 3).blk t1_0).view.emb i = i from
        funext fun a => Fin.ext (show 0 * _ + 1 * (i a).val = (i a).val by omega)) ▸ h⟩)

/-! ## The body at its point -/

theorem body_at (c : Dev nD) (hfit : Fits (F := F) (V c main_v13) (V c main_v15) (V c main_v19)) :
    BodyObligation (dat V c) (defs₀ (F := F)) 𝒱₀ (none : HIx 1) Set.univ := fun t => by
  obtain rfl := fin_N1 t
  rw [bigSep_W1, bigSep_W1]
  simp only [owns_whole_eq]
  rw [show (dat V c).Φ t1_0.castSucc = Φc c from rfl, show (dat V c).Φ t1_0.succ = Φc c from rfl,
    show (dat V c).owesAt (none : HIx 1) t1_0.succ = (dat V c).owesAt (none : HIx 1) t1_0.castSucc from rfl]
  rw [show (Φc c : sProp 𝕄) = _ from scopedRest1_eq c]
  iintro ⟨HΦ, Howes, ⟨%d0, %f0, %hf0, H0⟩, ⟨%d1, %f1, %hf1, H1⟩, ⟨%d2, %f2, %hf2, H2⟩, ⟨%d3, %f3, -, H3⟩⟩
  replace hf0 := hf0.trans (before0 V c d0)
  replace hf1 := hf1.trans (before1 V c d1)
  replace hf2 := hf2.trans (before2 V c d2)
  subst hf0
  subst hf1
  subst hf2
  icases HΦ with ⟨S0, S1, S2, S3, S4⟩
  iapply (nms_run c none Set.univ (stage1_0 0) (hstage1_0 0) (stage1_1 0) (hstage1_1 0) (stage1_2 0) (hstage1_2 0) (stage1_3 0) (hstage1_3 0)
    (Memref.whole cc1_scratch0) (Memref.isWhole_whole _) (Memref.whole cc1_scratch1) (Memref.isWhole_whole _) (Memref.whole cc1_scratch2) (Memref.isWhole_whole _)
    (Memref.whole cc1_scratch3) (Memref.isWhole_whole _) (Memref.whole cc1_scratch4) (Memref.isWhole_whole _)
    (V c main_v13) (V c main_v15) (V c main_v19) (fun _ h => nomatch h) hfit _)
  unfold hd had
  isplitl [H0 H1 H2 H3 S0 S1 S2 S3 S4]
  · isplitl [H0]
    · iexists _; isplitr; swap; (· iexact H0); ipureintro; rfl
    isplitl [H1]
    · iexists _; isplitr; swap; (· iexact H1); ipureintro; rfl
    isplitl [H2]
    · iexists _; isplitr; swap; (· iexact H2); ipureintro; rfl
    isplitl [H3]
    · iexists _; iexact H3
    isplitl [S0]; · iexact S0
    isplitl [S1]; · iexact S1
    isplitl [S2]; · iexact S2
    isplitl [S3]; · iexact S3
    iexact S4
  iintro ⟨⟨%g0, %hg0, H0⟩, ⟨%g1, %hg1, H1⟩, ⟨%g2, %hg2, H2⟩, ⟨%g3, %hg3, H3⟩, S0, S1, S2, S3, S4⟩
  isplitl [S0 S1 S2 S3 S4]
  · isplitl [S0]; · iexact S0
    isplitl [S1]; · iexact S1
    isplitl [S2]; · iexact S2
    isplitl [S3]; · iexact S3
    iexact S4
  isplitl [Howes]; · iexact Howes
  isplitl [H0]
  · iexists _; isplitr; swap; (· iexact H0); ipureintro; exact hg0
  isplitl [H1]
  · iexists _; isplitr; swap; (· iexact H1); ipureintro; exact hg1
  isplitl [H2]
  · iexists _; isplitr; swap; (· iexact H2); ipureintro; exact hg2
  iexists _; isplitr; swap; (· iexact H3); ipureintro; exact hg3

/-! ## The region over the thread state -/

variable (Vp : Vals F)

/-- The core owes nothing, and what its waits have recorded is low. -/
abbrev idle (c : Dev nD) : sProp 𝕄 :=
  iprop(∃ W, ⌜(Sc.K (F := F)).WBelow (c : Thread nD τ) W 8⌝ ∗ owes (c : Thread nD τ) (0 : CellTallies nD τ sig (HIx 1)) W)

set_option backward.isDefEq.respectTransparency.types false in
/-- The region: entered with the unscoped buffers at `V`, left with them at `Vp`, which is `V` with the result in. -/
def reg (hfit : ∀ c, Fits (F := F) (V c main_v13) (V c main_v15) (V c main_v19)) (hout : ∀ c, Vp c main_v20 = out V c)
    (hne : ∀ c (b : Ref sig .tc), b ≠ main_v20 → Vp c b = V c b) :
    Pipeline.RegionSeg (pcfgs (F := F)) adm (pdats V) (none : HIx 1) defs₀ 𝒱₀ (Sc.K (F := F)).L (Sc.K (F := F)).lev 0 where
  win := (launch1 (F := F)).win.to₀
  block_pos := (launch1 (F := F)).block_pos
  stage_whole := (launch1 (F := F)).stage_whole
  K := PEmpty
  osem k := k.elim
  ho := Pipeline.OwnSemFacts.none _
  hbody c := (body_at V c (hfit c)).loose
  hwaits := Pipeline.hwaits_of_owed_zero _ _ _ _ (Sc.K (F := F)).L (Sc.K (F := F)).lev 0 fun _ _ => rfl
  pre c := iprop(unscopedBufs c (V c) ∗ idle c)
  post c := iprop(unscopedBufs c (Vp c) ∗ idle c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V) (launch1 (F := F)).win (launch1 (F := F)).arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, %hW, HO⟩
      iexists W
      isplitr
      · ipureintro; exact fun p hp => Or.inl (hW p hp)
      iexact HO
    isplitr; · iempintro
    iexact Hrest
  hin c := by
    rw [show (pdats V 0 c).Φ 0 = Φc c from rfl]
    iintro ⟨-, -, Hr⟩; iexact Hr
  hout c := by
    rw [Pipeline.ownSems0_none, show (pdats V 0 c).Φ (Fin.last _) = Φc c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) (launch1 (F := F)).win (launch1 (F := F)).arr_whole c
      (pdats V) ((pdats V 0 c).share_full fun _ => rfl) (V c) (Vp c) ((pdats V 0 c).arrAt · (cfg1 (F := F)).N)
      (fun w => by
        fin_cases w
        · exact ((pdats V 0 c).arrAt_in 0 rfl _).trans (hne c main_v13 (by decide)).symm
        · exact ((pdats V 0 c).arrAt_in 1 rfl _).trans (hne c main_v15 (by decide)).symm
        · exact ((pdats V 0 c).arrAt_in 2 rfl _).trans (hne c main_v19 (by decide)).symm
        · exact (written V c).trans (hout c).symm)
      (fun b hb => hne c b fun h => hb (h ▸ Finset.mem_image.mpr ⟨3, Finset.mem_univ _, rfl⟩))
    iintro ⟨Ha, HO, -, Hrest⟩
    imodintro
    isplitl [Ha Hrest]
    · iapply hjoin; isplitl [Ha] <;> iassumption
    icases HO with ⟨%W, %hW, HO⟩
    iexists W
    isplitr
    · ipureintro
      intro p hp
      rcases hW hp with h | ⟨w, s, h⟩
      · exact h
      · rw [show p = _ from h]; exact Nat.zero_le _
    iexact HO

end Cert.Proof.Region

end
-- ==== Proof.Main.lean ====
/-
  The whole host program on a device: the row numbers in order of score and the table padded to 128 columns, the
  SparseCore call, the operands of the suppression kernel laid out, that kernel, and its result laid out as boxes.
  Proved for any float values.
-/
module

public import proofs.«01_k».proof.Proof.Call
public import proofs.«01_k».proof.Proof.Region
public import Idealize.ShloMosaic.Lib.SortFacts
public import Idealize.ShloMosaic.Lib.Pointwise.SelectCore

@[expose] public section

noncomputable section

namespace Cert.Proof.Sc

open Cert.KernelIdeal Cert.KernelIdeal.Gen

open Cert.Proof.Model (Fits nmsOut)
open Cert.Proof.Region (Vals idle)

open Idealize.ShloMosaic
open Idealize.ShloMosaic.StableHlo (seq after launchContents nullary unary binary reshape TRef held)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## What the host operations compute -/

/-- The row numbers by descending score, from the boxes. -/
def orderOf (x : S20000x5.Idx → Elt F .f32) : S20000.Idx → Elt F .i32 :=
  (Host.sort2 S20000 0 (comparator_f32_i32_d0 (F := F)) (Host.negf (shapeCast _ (extractStridedSlice S20000x1 ![0, 4] x slices_S20000x5_S20000x1_0_4) shapeCasts_S20000x1_S20000)) (iotaInDim S20000 32 0)).2

/-- The list the call gets: the row numbers, then zeros. -/
def listOf (x : S20000x5.Idx → Elt F .f32) : S20224.Idx → Elt F .i32 :=
  concatenate S20224 0 [⟨S20000, orderOf x⟩, ⟨S224, broadcastInDim S224 ![] bcast_S_S224 (constantI S_ 32 0#32)⟩] concatenates_S20000_S224_S20224_d0

/-- The table the call gets: the boxes in the first five columns. -/
def tableOf (x : S20000x5.Idx → Elt F .f32) : S20000x128.Idx → Elt F .f32 :=
  pad S20000x128 ![0, 0] ![0, 123] ![0, 0] x (sitofp .f32 (constantI S_ 32 0#32)) pads_S20000x5_S20000x128_000_01230 h_S_

/-- The boxes by descending score, as the SparseCore call leaves them. -/
def ranked (x : S20000x5.Idx → Elt F .f32) : S20000x5.Idx → Elt F .f32 :=
  extractStridedSlice S20000x5 ![0, 0] (gathered (F := F) (tableOf x) (listOf x)) slices_S20224x128_S20000x5_0_0

/-- The boxes filled up with rows of zero boxes of score minus one. -/
def filled (x : S20000x5.Idx → Elt F .f32) : S20480x5.Idx → Elt F .f32 :=
  concatenate S20480x5 0 [⟨S20000x5, ranked x⟩, ⟨S480x5, broadcastInDim S480x5 ![0, 1] bcast_S1x5_S480x5_0_1 (fun i => FloatOps.ofBits .f32 (lit0 (S1x5.rowMajor i)))⟩] concatenates_S20000x5_S480x5_S20480x5_d0

/-- The suppression kernel's operands: the two thresholds, -/
def bounds (a b : S_.Idx → Elt F .f32) : S2.Idx → Elt F .f32 :=
  concatenate S2 0 [⟨S1, broadcastInDim S1 ![] bcast_S_S1 a⟩, ⟨S1, broadcastInDim S1 ![] bcast_S_S1 b⟩] concatenates_S1_S1_S2_d0
/-- the boxes, a coordinate at a time, -/
def across (x : S20000x5.Idx → Elt F .f32) : S5x20x1x1024.Idx → Elt F .f32 :=
  transpose S5x20x1x1024 [3, 0, 1, 2] (shapeCast S20x1x1024x5 (filled x) shapeCasts_S20480x5_S20x1x1024x5) transposes_S20x1x1024x5_S5x20x1x1024_3_0_1_2
/-- and the corners again, a block a column, with empty columns up to 128. -/
def down (x : S20000x5.Idx → Elt F .f32) : S4x1024x128.Idx → Elt F .f32 :=
  pad S4x1024x128 ![0, 0, 0] ![0, 0, 108] ![0, 0, 0] (transpose S4x1024x20 [2, 1, 0] (shapeCast S20x1024x4 (extractStridedSlice S20480x4 ![0, 0] (filled x) slices_S20480x5_S20480x4_0_0) shapeCasts_S20480x4_S20x1024x4) transposes_S20x1024x4_S4x1024x20_2_1_0) (sitofp .f32 (constantI S_ 32 0#32)) pads_S4x1024x20_S4x1024x128_000_000_01080 h_S_

/-- The result from the suppression kernel's. -/
def back (y : S5x20x1x1024.Idx → Elt F .f32) : S20000x5.Idx → Elt F .f32 :=
  extractStridedSlice S20000x5 ![0, 0] (transpose S20480x5 [1, 0] (shapeCast S5x20480 y shapeCasts_S5x20x1x1024_S5x20480) transposes_S5x20480_S20480x5_1_0) slices_S20480x5_S20000x5_0_0

/-- What the program returns, from the boxes and the two thresholds. -/
def resultOf (x : S20000x5.Idx → Elt F .f32) (a b : S_.Idx → Elt F .f32) : S20000x5.Idx → Elt F .f32 := back (nmsOut (bounds a b) (across x) (down x))

/-- The counts stay in range at these operands. -/
abbrev FitsAt (x : S20000x5.Idx → Elt F .f32) (a b : S_.Idx → Elt F .f32) : Prop := Fits (F := F) (bounds a b) (across x) (down x)

/-- The operations before the SparseCore call. -/
abbrev before : List (HloOp τ sig (Elt F)) :=
  [ nullary main_cst (fun i => FloatOps.ofBits .f32 (lit0 (S1x5.rowMajor i))),
    unary main_arg0 main_v0 ((extractStridedSlice S20000x1 ![0, 4] · slices_S20000x5_S20000x1_0_4) : (⟨S20000x5, .f32⟩ : BufTy).Contents (Elt F) → (⟨S20000x1, .f32⟩ : BufTy).Contents (Elt F)),
    reshape main_v0 main_v1 (rfl : (.f32 : EltTy) = .f32) shapeCasts_S20000x1_S20000,
    unary main_v1 main_v2 (Host.negf : (⟨S20000, .f32⟩ : BufTy).Contents (Elt F) → (⟨S20000, .f32⟩ : BufTy).Contents (Elt F)),
    TRef.nullary (TRef.of (T := ⟨S20000, .i32⟩) main_call0_v0) (iotaInDim S20000 32 0),
    TRef.binary (TRef.of (T := ⟨S20000, .f32⟩) main_v2) (TRef.of (T := ⟨S20000, .i32⟩) main_call0_v0) (TRef.of (T := ⟨S20000, .f32⟩) main_call0_v1_0) (fun x y => (Host.sort2 S20000 0 comparator_f32_i32_d0 x y).1),
    TRef.binary (TRef.of (T := ⟨S20000, .f32⟩) main_v2) (TRef.of (T := ⟨S20000, .i32⟩) main_call0_v0) (TRef.of (T := ⟨S20000, .i32⟩) main_v3) (fun x y => (Host.sort2 S20000 0 comparator_f32_i32_d0 x y).2),
    nullary main_c (constantI S_ 32 0#32),
    unary main_c main_v4 (broadcastInDim S224 ![] bcast_S_S224 : (⟨S_, .i32⟩ : BufTy).Contents (Elt F) → (⟨S224, .i32⟩ : BufTy).Contents (Elt F)),
    binary main_v3 main_v4 main_v5 ((fun a b => concatenate S20224 0 [⟨S20000, a⟩, ⟨S224, b⟩] concatenates_S20000_S224_S20224_d0) : (⟨S20000, .i32⟩ : BufTy).Contents (Elt F) → (⟨S224, .i32⟩ : BufTy).Contents (Elt F) → (⟨S20224, .i32⟩ : BufTy).Contents (Elt F)),
    nullary main_c_0 (constantI S_ 32 0#32),
    TRef.unary (TRef.of (T := ⟨S_, .i32⟩) main_c_0) (TRef.of (T := ⟨S_, .f32⟩) main_call1_v0) (sitofp .f32),
    TRef.binary (TRef.of (T := ⟨S20000x5, .f32⟩) main_arg0) (TRef.of (T := ⟨S_, .f32⟩) main_call1_v0) (TRef.of (T := ⟨S20000x128, .f32⟩) main_v6) (fun x v => pad S20000x128 ![0, 0] ![0, 123] ![0, 0] x v pads_S20000x5_S20000x128_000_01230 h_S_) ]

theorem before_sub : (before : List (HloOp τ sig (Elt F))).Forall fun op => op.bufs ⊆ StableHlo.tcRefs τ sig :=
  ⟨StableHlo.nullary_bufs_sub .., StableHlo.unary_bufs_sub .., StableHlo.reshape_bufs_sub .., StableHlo.unary_bufs_sub .., StableHlo.nullary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub ..⟩

theorem before_fresh : ∀ op ∈ (before : List (HloOp τ sig (Elt F))), op.fresh = ∅ := by
  intro _ h; (repeat (cases h with | head => rfl | tail _ h => ?_)); exact nomatch h

/-- The operations between the two calls. -/
abbrev between : List (HloOp τ sig (Elt F)) :=
  [ unary main_v7 main_v8 ((extractStridedSlice S20000x5 ![0, 0] · slices_S20224x128_S20000x5_0_0) : (⟨S20224x128, .f32⟩ : BufTy).Contents (Elt F) → (⟨S20000x5, .f32⟩ : BufTy).Contents (Elt F)),
    unary main_cst main_v9 (broadcastInDim S480x5 ![0, 1] bcast_S1x5_S480x5_0_1 : (⟨S1x5, .f32⟩ : BufTy).Contents (Elt F) → (⟨S480x5, .f32⟩ : BufTy).Contents (Elt F)),
    binary main_v8 main_v9 main_v10 ((fun a b => concatenate S20480x5 0 [⟨S20000x5, a⟩, ⟨S480x5, b⟩] concatenates_S20000x5_S480x5_S20480x5_d0) : (⟨S20000x5, .f32⟩ : BufTy).Contents (Elt F) → (⟨S480x5, .f32⟩ : BufTy).Contents (Elt F) → (⟨S20480x5, .f32⟩ : BufTy).Contents (Elt F)),
    unary main_arg1 main_v11 (broadcastInDim S1 ![] bcast_S_S1 : (⟨S_, .f32⟩ : BufTy).Contents (Elt F) → (⟨S1, .f32⟩ : BufTy).Contents (Elt F)),
    unary main_arg2 main_v12 (broadcastInDim S1 ![] bcast_S_S1 : (⟨S_, .f32⟩ : BufTy).Contents (Elt F) → (⟨S1, .f32⟩ : BufTy).Contents (Elt F)),
    binary main_v11 main_v12 main_v13 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)),
    reshape main_v10 main_v14 (rfl : (.f32 : EltTy) = .f32) shapeCasts_S20480x5_S20x1x1024x5,
    unary main_v14 main_v15 ((transpose S5x20x1x1024 [3, 0, 1, 2] · transposes_S20x1x1024x5_S5x20x1x1024_3_0_1_2) : (⟨S20x1x1024x5, .f32⟩ : BufTy).Contents (Elt F) → (⟨S5x20x1x1024, .f32⟩ : BufTy).Contents (Elt F)),
    unary main_v10 main_v16 ((extractStridedSlice S20480x4 ![0, 0] · slices_S20480x5_S20480x4_0_0) : (⟨S20480x5, .f32⟩ : BufTy).Contents (Elt F) → (⟨S20480x4, .f32⟩ : BufTy).Contents (Elt F)),
    reshape main_v16 main_v17 (rfl : (.f32 : EltTy) = .f32) shapeCasts_S20480x4_S20x1024x4,
    unary main_v17 main_v18 ((transpose S4x1024x20 [2, 1, 0] · transposes_S20x1024x4_S4x1024x20_2_1_0) : (⟨S20x1024x4, .f32⟩ : BufTy).Contents (Elt F) → (⟨S4x1024x20, .f32⟩ : BufTy).Contents (Elt F)),
    nullary main_c_1 (constantI S_ 32 0#32),
    TRef.unary (TRef.of (T := ⟨S_, .i32⟩) main_c_1) (TRef.of (T := ⟨S_, .f32⟩) main_call2_v0) (sitofp .f32),
    TRef.binary (TRef.of (T := ⟨S4x1024x20, .f32⟩) main_v18) (TRef.of (T := ⟨S_, .f32⟩) main_call2_v0) (TRef.of (T := ⟨S4x1024x128, .f32⟩) main_v19) (fun x v => pad S4x1024x128 ![0, 0, 0] ![0, 0, 108] ![0, 0, 0] x v pads_S4x1024x20_S4x1024x128_000_000_01080 h_S_) ]

theorem between_sub : (between : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub .., StableHlo.reshape_bufs_sub .., StableHlo.unary_bufs_sub .., StableHlo.unary_bufs_sub .., StableHlo.reshape_bufs_sub .., StableHlo.unary_bufs_sub .., StableHlo.nullary_bufs_sub .., StableHlo.unary_bufs_sub .., StableHlo.binary_bufs_sub ..⟩

theorem between_fresh : ∀ op ∈ (between : List (HloOp τ sig (Elt F))), op.fresh = ∅ := by
  intro _ h; (repeat (cases h with | head => rfl | tail _ h => ?_)); exact nomatch h

/-- The operations after the suppression kernel. -/
abbrev behind : List (HloOp τ sig (Elt F)) :=
  [ reshape main_v20 main_v21 (rfl : (.f32 : EltTy) = .f32) shapeCasts_S5x20x1x1024_S5x20480,
    unary main_v21 main_v22 ((transpose S20480x5 [1, 0] · transposes_S5x20480_S20480x5_1_0) : (⟨S5x20480, .f32⟩ : BufTy).Contents (Elt F) → (⟨S20480x5, .f32⟩ : BufTy).Contents (Elt F)),
    unary main_v22 main_v23 ((extractStridedSlice S20000x5 ![0, 0] · slices_S20480x5_S20000x5_0_0) : (⟨S20480x5, .f32⟩ : BufTy).Contents (Elt F) → (⟨S20000x5, .f32⟩ : BufTy).Contents (Elt F)) ]

theorem behind_sub : (behind : List (HloOp τ sig (Elt F))).Forall fun op => op.bufs ⊆ StableHlo.tcRefs τ sig :=
  ⟨StableHlo.reshape_bufs_sub .., StableHlo.unary_bufs_sub .., StableHlo.unary_bufs_sub ..⟩

theorem behind_fresh : ∀ op ∈ (behind : List (HloOp τ sig (Elt F))), op.fresh = ∅ := by
  intro _ h; (repeat (cases h with | head => rfl | tail _ h => ?_)); exact nomatch h

theorem main_eq (d : Dev nD) : main (F := F) d = seq before >>= fun _ => (K (F := F)).run d 0 >>= fun _ => seq between >>= fun _ =>
    Prog.lift (.customCall (SparseCore.inner (Pipeline.entry 0)) ()) >>= fun _ => seq behind := rfl

theorem uc_of {l : List (HloOp τ sig (Elt F))} (h : l.Forall fun op => op.bufs ⊆ StableHlo.tcRefs τ sig) :
    ∀ op ∈ l, op.bufs ⊆ Pipeline.ucRefs τ sig :=
  fun op ho => Pipeline.sub_ucRefs op (List.forall_iff_forall_mem.mp h op ho)

/-! ## The arrays along the program -/

variable (m : (ℓ : Loc nD τ sig) → Buf (Elt F) ℓ) (ρ : Dev nD → PrngReg)

abbrev boxes (d : Dev nD) : S20000x5.Idx → Elt F .f32 := m ((SparseCore.T d).loc main_arg0)
abbrev iouThr (d : Dev nD) : S_.Idx → Elt F .f32 := m ((SparseCore.T d).loc main_arg1)
abbrev scoreThr (d : Dev nD) : S_.Idx → Elt F .f32 := m ((SparseCore.T d).loc main_arg2)

def W1 (d : Dev nD) : Valuation τ sig (Elt F) := after before (launchContents m d)
def W2 (d : Dev nD) : Valuation τ sig (Elt F) := Function.update (W1 m d) bO (gathered (F := F) (tableOf (boxes m d)) (listOf (boxes m d)))
def W3 (d : Dev nD) : Valuation τ sig (Elt F) := after between (W2 m d)
def W4 (d : Dev nD) : Valuation τ sig (Elt F) := Function.update (W3 m d) (Proc.devRef .tc main_v20) (nmsOut (F := F) (bounds (iouThr m d) (scoreThr m d)) (across (boxes m d)) (down (boxes m d)))
def W5 (d : Dev nD) : Valuation τ sig (Elt F) := after behind (W4 m d)

theorem W1_list (d : Dev nD) : W1 m d bI = listOf (boxes m d) := by
  unfold W1; simp only [before, TRef.unary, TRef.binary, TRef.nullary, TRef.toBuf, TRef.ofBuf, cast_eq]; after_results <;> rfl
theorem W1_table (d : Dev nD) : W1 m d bT = tableOf (boxes m d) := by
  unfold W1; simp only [before, TRef.unary, TRef.binary, TRef.nullary, TRef.toBuf, TRef.ofBuf, cast_eq]; after_results <;> rfl
theorem W1_out (d : Dev nD) : W1 m d bO = m (oLoc d) := by
  unfold W1; simp only [before, TRef.unary, TRef.binary, TRef.nullary, TRef.toBuf, TRef.ofBuf, cast_eq]; after_results <;> rfl
theorem W1_fill (d : Dev nD) : W1 m d (Proc.devRef .tc main_cst) = (fun i => FloatOps.ofBits .f32 (lit0 (S1x5.rowMajor i))) := by
  unfold W1; simp only [before, TRef.unary, TRef.binary, TRef.nullary, TRef.toBuf, TRef.ofBuf, cast_eq]; after_results <;> rfl
theorem W1_arg0 (d : Dev nD) : W1 m d (Proc.devRef .tc main_arg0) = boxes m d := by
  unfold W1; simp only [before, TRef.unary, TRef.binary, TRef.nullary, TRef.toBuf, TRef.ofBuf, cast_eq]; after_results <;> rfl
theorem W1_arg1 (d : Dev nD) : W1 m d (Proc.devRef .tc main_arg1) = iouThr m d := by
  unfold W1; simp only [before, TRef.unary, TRef.binary, TRef.nullary, TRef.toBuf, TRef.ofBuf, cast_eq]; after_results <;> rfl
theorem W1_arg2 (d : Dev nD) : W1 m d (Proc.devRef .tc main_arg2) = scoreThr m d := by
  unfold W1; simp only [before, TRef.unary, TRef.binary, TRef.nullary, TRef.toBuf, TRef.ofBuf, cast_eq]; after_results <;> rfl

theorem W2_out (d : Dev nD) : W2 m d bO = gathered (F := F) (tableOf (boxes m d)) (listOf (boxes m d)) := Function.update_self ..
theorem W2_fill (d : Dev nD) : W2 m d (Proc.devRef .tc main_cst) = (fun i => FloatOps.ofBits .f32 (lit0 (S1x5.rowMajor i))) := (Function.update_of_ne (by decide) _ _).trans (W1_fill m d)
theorem W2_arg0 (d : Dev nD) : W2 m d (Proc.devRef .tc main_arg0) = boxes m d := (Function.update_of_ne (by decide) _ _).trans (W1_arg0 m d)
theorem W2_arg1 (d : Dev nD) : W2 m d (Proc.devRef .tc main_arg1) = iouThr m d := (Function.update_of_ne (by decide) _ _).trans (W1_arg1 m d)
theorem W2_arg2 (d : Dev nD) : W2 m d (Proc.devRef .tc main_arg2) = scoreThr m d := (Function.update_of_ne (by decide) _ _).trans (W1_arg2 m d)

theorem W3_bounds (d : Dev nD) : W3 m d (Proc.devRef .tc main_v13) = bounds (iouThr m d) (scoreThr m d) := by
  unfold W3; simp only [between, TRef.unary, TRef.binary, TRef.nullary, TRef.toBuf, TRef.ofBuf, cast_eq]; after_results
  rw [W2_arg1, W2_arg2]; rfl
theorem W3_across (d : Dev nD) : W3 m d (Proc.devRef .tc main_v15) = across (boxes m d) := by
  unfold W3; simp only [between, TRef.unary, TRef.binary, TRef.nullary, TRef.toBuf, TRef.ofBuf, cast_eq]; after_results
  rw [W2_out, W2_fill]; rfl
theorem W3_down (d : Dev nD) : W3 m d (Proc.devRef .tc main_v19) = down (boxes m d) := by
  unfold W3; simp only [between, TRef.unary, TRef.binary, TRef.nullary, TRef.toBuf, TRef.ofBuf, cast_eq]; after_results
  rw [W2_out, W2_fill]; rfl
theorem W3_arg0 (d : Dev nD) : W3 m d (Proc.devRef .tc main_arg0) = boxes m d := by
  unfold W3; simp only [between, TRef.unary, TRef.binary, TRef.nullary, TRef.toBuf, TRef.ofBuf, cast_eq]; after_results
  exact W2_arg0 m d
theorem W3_arg1 (d : Dev nD) : W3 m d (Proc.devRef .tc main_arg1) = iouThr m d := by
  unfold W3; simp only [between, TRef.unary, TRef.binary, TRef.nullary, TRef.toBuf, TRef.ofBuf, cast_eq]; after_results
  exact W2_arg1 m d
theorem W3_arg2 (d : Dev nD) : W3 m d (Proc.devRef .tc main_arg2) = scoreThr m d := by
  unfold W3; simp only [between, TRef.unary, TRef.binary, TRef.nullary, TRef.toBuf, TRef.ofBuf, cast_eq]; after_results
  exact W2_arg2 m d

theorem W5_result (d : Dev nD) : W5 m d (Proc.devRef .tc main_v23) = resultOf (boxes m d) (iouThr m d) (scoreThr m d) := by
  unfold W5; simp only [behind]; after_results
  unfold W4; rw [Function.update_self]; rfl
theorem W5_arg0 (d : Dev nD) : W5 m d (Proc.devRef .tc main_arg0) = boxes m d := by
  unfold W5; simp only [behind]; after_results
  unfold W4; rw [Function.update_of_ne (by decide), W3_arg0]
theorem W5_arg1 (d : Dev nD) : W5 m d (Proc.devRef .tc main_arg1) = iouThr m d := by
  unfold W5; simp only [behind]; after_results
  unfold W4; rw [Function.update_of_ne (by decide), W3_arg1]
theorem W5_arg2 (d : Dev nD) : W5 m d (Proc.devRef .tc main_arg2) = scoreThr m d := by
  unfold W5; simp only [behind]; after_results
  unfold W4; rw [Function.update_of_ne (by decide), W3_arg2]

/-! ## Every row number is in range -/

theorem orderOf_lt (x : S20000x5.Idx → Elt F .f32) (j : S20000.Idx) : (orderOf x j : BitVec 32).toNat < 20000 := by
  unfold orderOf Host.sort2
  rw [dif_pos (by decide)]
  show (BitVec.ofNat 32 (Fin.val _)).toNat < 20000
  rw [BitVec.toNat_ofNat]
  exact lt_of_le_of_lt (Nat.mod_le _ _) (Fin.isLt _)

theorem listOf_lt (x : S20000x5.Idx → Elt F .f32) (j : S20224.Idx) : (listOf x j : BitVec 32).toNat < 20000 := by
  unfold listOf
  refine concatenate_forall (P := fun v : BitVec 32 => v.toNat < 20000) S20224 0 _ _ ?_ j
  intro p hp i
  simp only [List.mem_cons, List.not_mem_nil, or_false] at hp
  rcases hp with rfl | rfl
  · exact orderOf_lt x i
  · show (0#32).toNat < 20000
    decide

/-! ## The launch -/

abbrev EP : Emb (UR sig nD τ) (MT nD τ sig (HIx 1) (Elt F) ℕ UU ℕ) := (Emb.inl : Emb (UR sig nD τ) UP).trans embR

instance EP_landsIn : (EP : Emb (UR sig nD τ) 𝕄).LandsIn (upEmb : UEmb _ 𝕄) := by unfold EP; infer_instance

/-- The staging cells of the suppression kernel's pipeline are distinct. -/
theorem cells_inj : Function.Injective (Pipeline.cellOf (nD := nD) (τ := τ) (Pipeline.pin (pcfgs (F := F)) Region.adm)) := cellOf_inj

def uP : UR sig nD τ := initOf (Pipeline.cells (Pipeline.pin (pcfgs (F := F)) Region.adm) cells_inj) (Pipeline.launchToks (Pipeline.pin (pcfgs (F := F)) Region.adm) cells_inj)
def u₀ : UU := (initOf (K (F := F)).hsCells (K (F := F)).hsToks, (uP (F := F), 1))

abbrev tabM (d : Dev nD) : Buf (Elt F) (tLoc d) := tableOf (boxes m d)
abbrev idxM (d : Dev nD) : Buf (Elt F) (iLoc d) := listOf (boxes m d)
abbrev PM : (K (F := F)).Pay (nD := nD) (Val := Elt F) (Name := ℕ) (U := UU) := P (tabM m) (idxM m) (fun d => m (oLoc d))

/-- The pipeline's ghost state on a device. -/
abbrev G (d : Dev nD) : sProp 𝕄 :=
  iprop((bigSep Finset.univ fun p => Pipeline.cellsGhost (Pipeline.pin (pcfgs (F := F)) Region.adm) (EP (F := F)) p d)
    ∗ bigSep Finset.univ fun p => Pipeline.toksInit (Pipeline.pin (pcfgs (F := F)) Region.adm) (EP (F := F)) p d)

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (PM m).x q thr) := by
  have hx : (bigSep Finset.univ fun thr : Thread nD τ => bigSep Finset.univ fun q : Fin 1 => (PM m).x q thr) = (iprop(emp) : sProp 𝕄) :=
    (bigSep_congr fun _ _ => bigSep_emp_const _).trans (bigSep_emp_const _)
  rw [hx]
  unfold u₀ G
  rw [Idealize.SL.BI.bigSep_sep']
  iintro Hu
  ihave H := (ownU_pair (initOf (K (F := F)).hsCells (K (F := F)).hsToks) ((uP (F := F), 1) : UP)) $$ Hu
  icases H with ⟨HH, HP⟩
  ihave H := (own_pair_emb (embR : Emb UP (MT nD τ sig (HIx 1) (Elt F) ℕ UU ℕ)) (uP (F := F)) (1 : Counters)) $$ HP
  icases H with ⟨HP, -⟩
  unfold uP
  imod (Pipeline.fund_ghost (Pipeline.pin (pcfgs (F := F)) Region.adm) (EP (F := F)) cells_inj) $$ HP with ⟨HC, HT⟩
  imodintro
  isplitl [HH]; · iexact HH
  isplitl [HC HT]
  · isplitl [HC] <;> iassumption
  iempintro

/-- What the TensorCore ends with: the result and the arguments. -/
abbrev FIN (d : Dev nD) : sProp 𝕄 :=
  iprop(((SparseCore.T d).loc main_v23 ↦{fullShare} resultOf (boxes m d) (iouThr m d) (scoreThr m d)) ∗ ((SparseCore.T d).loc main_arg0 ↦{fullShare} boxes m d)
    ∗ ((SparseCore.T d).loc main_arg1 ↦{fullShare} iouThr m d) ∗ (SparseCore.T d).loc main_arg2 ↦{fullShare} scoreThr m d)

abbrev ends : Finset (DevRef τ sig) := {Proc.devRef .tc main_v23, Proc.devRef .tc main_arg0, Proc.devRef .tc main_arg1, Proc.devRef .tc main_arg2}

theorem ends_sub : ends ⊆ Pipeline.ucRefs τ sig := by
  intro b hb
  simp only [ends, Finset.mem_insert, Finset.mem_singleton] at hb
  rcases hb with rfl | rfl | rfl | rfl <;>
    exact Finset.mem_filter.mpr ⟨StableHlo.devRef_mem_tcRefs _, by decide⟩

theorem held_FIN (d : Dev nD) : (held (SparseCore.T d) (Pipeline.ucRefs τ sig) (W5 m d) : sProp 𝕄) ⊢ FIN m d := by
  rw [StableHlo.held_sub_split (SparseCore.T d) ends_sub]
  unfold held ends
  rw [SparseCore.bigSep_insert' (by decide), SparseCore.bigSep_insert' (by decide), SparseCore.bigSep_insert' (by decide), bigSep_singleton,
    W5_result, W5_arg0, W5_arg1, W5_arg2]
  iintro ⟨H, -⟩
  iexact H

/-- A valuation's contents of a core's buffers. -/
abbrev valsOf (W : Dev nD → Valuation τ sig (Elt F)) : Vals F := fun c b => W c (Proc.devRef .tc b)

/-- The suppression kernel's region, between the host's segments. -/
theorem wp_region (hfit : ∀ d, FitsAt (boxes m d) (iouThr m d) (scoreThr m d)) (d : Dev nD) [∀ e, Nonempty (Elt F e)] {α : Type}
    (k : PUnit → Prog (TpuEff nD τ sig (Elt F) (ΛP (F := F)) .tc) α) (Q : α → sProp 𝕄) :
    iprop(((boundary (SparseCore.T d) ∗ held (SparseCore.T d) (Pipeline.ucRefs τ sig) (W4 m d) ∗ idle d)
          -∗ wp frame (wpE (D (F := F)) 𝒱 (SparseCore.T d) none) Set.univ (k ⟨⟩) Q)
        ∗ boundary (SparseCore.T d) ∗ (held (SparseCore.T d) (Pipeline.ucRefs τ sig) (W3 m d) ∗ idle d)
        ∗ levAts (K (F := F)).L (K (F := F)).lev ∗ G (F := F) d)
      ⊢ wp frame (wpE (D (F := F)) 𝒱 (SparseCore.T d) none) Set.univ (.op (.customCall (Pipeline.entry 0) ()) k) Q := by
  have h3 : (held (SparseCore.T d) (Pipeline.ucRefs τ sig) (W3 m d) : sProp 𝕄) = unscopedBufs d (valsOf (W3 m) d) := (Pipeline.unscopedBufs_held d (W3 m d)).symm
  have h4 : (held (SparseCore.T d) (Pipeline.ucRefs τ sig) (W4 m d) : sProp 𝕄) = unscopedBufs d (valsOf (W4 m) d) := (Pipeline.unscopedBufs_held d (W4 m d)).symm
  have hG : (G d : sProp 𝕄) ⊢ iprop(Pipeline.cellsGhost (Pipeline.pin (pcfgs (F := F)) Region.adm) (EP (F := F)) 0 d
      ∗ Pipeline.toksInit (Pipeline.pin (pcfgs (F := F)) Region.adm) (EP (F := F)) 0 d) := by
    unfold G
    rw [show (Finset.univ : Finset (Fin 1)) = {0} from rfl, bigSep_singleton, bigSep_singleton]
  rw [h3, h4]
  have hfit' : ∀ c, Fits (F := F) (valsOf (W3 m) c main_v13) (valsOf (W3 m) c main_v15) (valsOf (W3 m) c main_v19) := fun c => by
    show Fits (F := F) (W3 m c (Proc.devRef .tc main_v13)) (W3 m c (Proc.devRef .tc main_v15)) (W3 m c (Proc.devRef .tc main_v19))
    rw [W3_bounds, W3_across, W3_down]; exact hfit c
  have hout : ∀ c, valsOf (W4 m) c main_v20 = Region.out (valsOf (W3 m)) c := fun c => by
    show W4 m c (Proc.devRef .tc main_v20) = nmsOut (F := F) (W3 m c (Proc.devRef .tc main_v13)) (W3 m c (Proc.devRef .tc main_v15)) (W3 m c (Proc.devRef .tc main_v19))
    rw [W3_bounds, W3_across, W3_down]; exact Function.update_self ..
  have hne : ∀ c (b : Ref sig .tc), b ≠ main_v20 → valsOf (W4 m) c b = valsOf (W3 m) c b := fun c b h =>
    Function.update_of_ne (fun e => h (Proc.devRef_injective _ e)) _ _
  refine (?_ : _ ⊢ _).trans (Pipeline.RegionSeg.wp (pcfgs (F := F)) Region.adm (Region.pdats (valsOf (W3 m))) (none : HIx 1) cells_inj (EP (F := F)) defs₀ 𝒱₀
    (K (F := F)).L (K (F := F)).lev (Region.reg (valsOf (W3 m)) (valsOf (W4 m)) hfit' hout hne) d none (fun _ h => nomatch h) k Q)
  show _ ⊢ iprop(((boundary (SparseCore.T d) ∗ unscopedBufs d (valsOf (W4 m) d) ∗ idle d)
          -∗ wp frame (wpE (D (F := F)) 𝒱 (SparseCore.T d) none) Set.univ (k ⟨⟩) Q)
        ∗ boundary (SparseCore.T d) ∗ (unscopedBufs d (valsOf (W3 m) d) ∗ idle d)
        ∗ levAts (K (F := F)).L (K (F := F)).lev ∗ Pipeline.cellsGhost (Pipeline.pin (pcfgs (F := F)) Region.adm) (EP (F := F)) 0 d
        ∗ Pipeline.toksInit (Pipeline.pin (pcfgs (F := F)) Region.adm) (EP (F := F)) 0 d)
  iintro ⟨Hk, Hb, Hp, Hl, HG⟩
  isplitl [Hk]; · iexact Hk
  isplitl [Hb]; · iexact Hb
  isplitl [Hp]; · iexact Hp
  isplitl [Hl]; · iexact Hl
  iapply hG; iexact HG

/-- The same as a step of the whole program. -/
theorem wp_inner (d : Dev nD) (Φ : PUnit → sProp 𝕄) :
    wp frame (wpE (D (F := F)) 𝒱 (SparseCore.T d) none) Set.univ (Prog.lift (.customCall (Pipeline.entry 0) ())) Φ
      ⊢ wp frame (wpE ((K (F := F)).defs (D (F := F))) 𝒱 (SparseCore.T d) none) Set.univ (Prog.lift (.customCall (SparseCore.inner (Pipeline.entry 0)) ())) Φ := by
  have e : (SparseCore.liftProg (Q := 1) (Prog.lift (.customCall (Pipeline.entry 0) ()) : Prog (TpuEff nD τ sig (Elt F) (ΛP (F := F)) .tc) PUnit))
      = Prog.lift (.customCall (SparseCore.inner (Pipeline.entry 0)) ()) := rfl
  have h := (K (F := F)).wp_liftProg (D (F := F)) 𝒱 (SparseCore.T d) Set.univ none (Prog.lift (.customCall (Pipeline.entry 0) ()) : Prog (TpuEff nD τ sig (Elt F) (ΛP (F := F)) .tc) PUnit) Φ
  rw [e] at h
  exact h

/-- The region as a step of the whole program. -/
theorem wp_kernel (hfit : ∀ d, FitsAt (boxes m d) (iouThr m d) (scoreThr m d)) (d : Dev nD) [∀ e, Nonempty (Elt F e)] (Φ : PUnit → sProp 𝕄) :
    iprop((boundary (SparseCore.T d) ∗ (held (SparseCore.T d) (Pipeline.ucRefs τ sig) (W3 m d) ∗ idle d)
        ∗ levAts (K (F := F)).L (K (F := F)).lev ∗ G (F := F) d)
        ∗ ((boundary (SparseCore.T d) ∗ held (SparseCore.T d) (Pipeline.ucRefs τ sig) (W4 m d) ∗ idle d) -∗ Φ ⟨⟩))
      ⊢ wp frame (wpE ((K (F := F)).defs (D (F := F))) 𝒱 (SparseCore.T d) none) Set.univ (Prog.lift (.customCall (SparseCore.inner (Pipeline.entry 0)) ())) Φ := by
  refine (?_ : _ ⊢ _).trans (wp_inner d Φ)
  have h := wp_region m hfit d (α := PUnit) (fun _ => Prog.ret ⟨⟩) Φ
  have e : (Prog.op (.customCall (Pipeline.entry 0) ()) (fun _ => Prog.ret ⟨⟩) : Prog (TpuEff nD τ sig (Elt F) (ΛP (F := F)) .tc) PUnit)
      = Prog.lift (.customCall (Pipeline.entry 0) ()) := rfl
  rw [e] at h
  refine (?_ : _ ⊢ _).trans h
  iintro ⟨⟨Hb, Hh, Hl, HG⟩, Hk⟩
  isplitl [Hk]
  · iintro H
    iapply (le_wp_ret frame _ _ _ _)
    iapply Hk; iexact H
  isplitl [Hb]; · iexact Hb
  isplitl [Hh]; · iexact Hh
  isplitl [Hl]; · iexact Hl
  iexact HG

theorem hmain [∀ e, Nonempty (Elt F e)] (hfit : ∀ d, FitsAt (boxes m d) (iouThr m d) (scoreThr m d)) (κ : GSem nD τ sig → ℕ) (d : Dev nD) :
    iprop((K (F := F)).ctx EH (PM m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  have hb : (unscopedBufs d (fun b : Ref sig .tc => m ((SparseCore.T d).loc b)) : sProp 𝕄) = held (SparseCore.T d) (Pipeline.ucRefs τ sig) (launchContents m d) :=
    Pipeline.unscopedBufs_held d (launchContents m d)
  have h0 : (K (F := F)).Otc (N := 1) d 1 = 0 := (K (F := F)).Otc_end d le_rfl
  rw [hb, main_eq]
  iintro ⟨#Hctx, Hst, ⟨Hb, Hh, Hts, -⟩, HG⟩
  iapply (StableHlo.wp_seq 𝒱 none Set.univ d (Pipeline.ucRefs τ sig) _ before (uc_of before_sub) before_fresh (launchContents m d)) $$ [Hb Hh]
  · isplitl [Hb] <;> iassumption
  iintro ⟨Hb, Hh⟩
  rw [wp_bind]
  iapply (wp_call (tabM m) (idxM m) (fun d => m (oLoc d)) κ d (W1 m d) (W1_list m d) (W1_table m d) (W1_out m d))
  isplitr; · iexact Hctx
  isplitl [Hst]; · iexact Hst
  isplitl [Hh]; · iexact Hh
  iintro ⟨Hst, Hh⟩
  iapply (StableHlo.wp_seq 𝒱 none Set.univ d (Pipeline.ucRefs τ sig) _ between (uc_of between_sub) between_fresh (W2 m d)) $$ [Hb Hh]
  · isplitl [Hb]; · iexact Hb
    iapply (Entails.of_eq (show (held (SparseCore.T d) (Pipeline.ucRefs τ sig) (Function.update (W1 m d) bO (res (tabM m) (idxM m) d)) : sProp 𝕄)
      = held (SparseCore.T d) (Pipeline.ucRefs τ sig) (W2 m d) from rfl)); iexact Hh
  iintro ⟨Hb, Hh⟩
  unfold SparseCore.Cfg.tcSt
  icases Hst with ⟨Hid, Hst⟩
  rw [h0, wp_bind]
  iapply (wp_kernel m hfit d)
  isplitr [Hst Hts]
  · isplitl [Hb]; · iexact Hb
    isplitl [Hh Hid]
    · isplitl [Hh]; · iexact Hh
      iexact Hid
    isplitr [HG]
    · iapply (SparseCore.Cfg.ctx_levAts κ); iexact Hctx
    iexact HG
  iintro ⟨Hb, Hh, Hid⟩
  rw [← bind_pure (seq behind)]
  iapply (StableHlo.wp_seq 𝒱 none Set.univ d (Pipeline.ucRefs τ sig) _ behind (uc_of behind_sub) behind_fresh (W4 m d)) $$ [Hb Hh]
  · isplitl [Hb] <;> iassumption
  iintro ⟨Hb, Hh⟩
  rw [wp_pure]
  imodintro
  isplitl [Hst Hid]
  · isplitl [Hid]; · iexact Hid
    iexact Hst
  isplitl [Hh]; · iapply (held_FIN m d); iexact Hh
  isplitl [Hb] <;> iassumption

def fq (d : Dev nD) (s' : Phys nD τ sig (Elt F)) : Prop :=
  s'.mem.mem ((SparseCore.T d).loc main_v23) = resultOf (boxes m d) (iouThr m d) (scoreThr m d)
    ∧ s'.mem.mem ((SparseCore.T d).loc main_arg0) = boxes m d ∧ s'.mem.mem ((SparseCore.T d).loc main_arg1) = iouThr m d
    ∧ s'.mem.mem ((SparseCore.T d).loc main_arg2) = scoreThr m d

/-- A buffer held whole is what the machine's memory holds. -/
theorem agree (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨Hr, HSI⟩
  ihave H := (persistent_entails_right (SI_pointsTo_agree (st := s') (ℓ := ℓ) (I := Finset.univ) (q := fullShare) (f := f))) $$ [HSI Hr]
  · isplitl [HSI] <;> iassumption
  icases H with ⟨%h1, HSI, -⟩
  isplitr
  · ipureintro; exact funext fun i => h1 i (Finset.mem_univ i)
  iexact HSI

theorem hfin (d : Dev nD) (s' : Phys nD τ sig (Elt F)) : iprop(FIN m d ∗ SI s') ⊢ (⌜fq m d s'⌝ : sProp 𝕄) := by
  iintro ⟨⟨Hr, H0, H1, H2⟩, HSI⟩
  ihave H := (agree s' ((SparseCore.T d).loc main_v23) (resultOf (boxes m d) (iouThr m d) (scoreThr m d))) $$ [HSI Hr]
  · isplitl [Hr] <;> iassumption
  icases H with ⟨%hr, HSI⟩
  ihave H := (agree s' ((SparseCore.T d).loc main_arg0) (boxes m d)) $$ [HSI H0]
  · isplitl [H0] <;> iassumption
  icases H with ⟨%h0, HSI⟩
  ihave H := (agree s' ((SparseCore.T d).loc main_arg1) (iouThr m d)) $$ [HSI H1]
  · isplitl [H1] <;> iassumption
  icases H with ⟨%h1, HSI⟩
  ihave H := (agree s' ((SparseCore.T d).loc main_arg2) (scoreThr m d)) $$ [HSI H2]
  · isplitl [H2] <;> iassumption
  icases H with ⟨%h2, -⟩
  ipureintro; exact ⟨hr, h0, h1, h2⟩

/-- The run: the result is `resultOf` of the arguments, they are unchanged, and every semaphore ends at zero. -/
theorem run_main [∀ e, Nonempty (Elt F e)] (hfit : ∀ d, FitsAt (boxes m d) (iouThr m d) (scoreThr m d)) :
    θ_run (Cert.KernelIdeal.defs (F := F)) (Cert.KernelIdeal.threads (F := F)) ⟨m, fun _ => 0, ρ⟩
      (fun r => (∀ d : Dev nD, r.2.mem ((SparseCore.T d).loc main_v23) = resultOf (boxes m d) (iouThr m d) (scoreThr m d)
        ∧ r.2.mem ((SparseCore.T d).loc main_arg0) = boxes m d ∧ r.2.mem ((SparseCore.T d).loc main_arg1) = iouThr m d
        ∧ r.2.mem ((SparseCore.T d).loc main_arg2) = scoreThr m d) ∧ r.2.sem = fun _ => 0) :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => tileObl (tabM m) (idxM m) (fun d => m (oLoc d)) facts (fun _ j => listOf_lt _ j))
    (fun q _ => match q with | 0 => SparseCore.Cfg.VecSplit.of_plain (vecSplit (tabM m) (idxM m) (fun d => m (oLoc d))))
    m ρ main (fun d => G (F := F) d) (FIN m) (u₀ (F := F)) (sep_elim_left.trans (hu₀ m)) (hmain m ρ hfit) (fq m) (hfin m) _ (fun _ h hz => ⟨h, hz⟩)

end Cert.Proof.Sc

end
-- ==== Proof.Read.lean ====
/-
  The suppression kernel's expressions over the extended reals, read at an index: marks are 0/1 vectors, so every one of
  them is the indicator of a statement about boxes.
-/
module

public import proofs.«01_k».proof.Proof.Model
public import Idealize.ShloMosaic.Lib.Pointwise
public import Idealize.ShloMosaic.Lib.IdealHost

@[expose] public section

set_option maxRecDepth 16384

noncomputable section

namespace Cert.Proof.Read

open Cert.KernelIdeal Cert.KernelIdeal.Gen
open Idealize.ShloMosaic
open Cert.Proof.Model (slab Cols)

/-! ## Indicators -/

open Classical in
/-- One where a statement holds, zero elsewhere. -/
def ind (p : Prop) : EReal := if p then 1 else 0

theorem ind_true {p : Prop} (h : p) : ind p = 1 := if_pos h
theorem ind_false {p : Prop} (h : ¬p) : ind p = 0 := if_neg h
theorem ind_congr {p q : Prop} (h : p ↔ q) : ind p = ind q := by rw [propext h]
theorem ind_nonneg (p : Prop) : 0 ≤ ind p := by unfold ind; split <;> simp

theorem ind_not (p : Prop) : 1 - ind p = ind (¬p) := by
  by_cases h : p
  · rw [ind_true h, ind_false (not_not.mpr h)]; exact EReal.sub_self (EReal.coe_ne_top 1) (EReal.coe_ne_bot 1)
  · rw [ind_false h, ind_true h]; simp

theorem ind_mul (p q : Prop) : ind p * ind q = ind (p ∧ q) := by
  by_cases h : p
  · rw [ind_true h, one_mul]; exact ind_congr (by simp [h])
  · rw [ind_false h, zero_mul, ind_false (fun e => h e.1)]

theorem ind_max (p q : Prop) : max (ind p) (ind q) = ind (p ∨ q) := by
  by_cases h : p
  · rw [ind_true h, ind_true (Or.inl h)]; by_cases h' : q
    · rw [ind_true h', max_self]
    · rw [ind_false h']; simp
  · rw [ind_false h, max_eq_right (ind_nonneg q)]; exact ind_congr (by simp [h])

theorem ind_inj {p q : Prop} (h : ind p = ind q) : p ↔ q := by
  by_cases hp : p <;> by_cases hq : q <;> simp_all [ind]

theorem ind_pos (p : Prop) : 0 < ind p ↔ p := by
  by_cases h : p
  · rw [ind_true h]; exact ⟨fun _ => h, fun _ => zero_lt_one⟩
  · rw [ind_false h]; exact ⟨fun e => absurd e (lt_irrefl _), fun e => absurd e h⟩

/-- A comparison widened and read as a number. -/
theorem sitofp_mark (p : Prop) [Decidable p] : FloatOps.sitofp (F := Ideal) .f32 (BitVec.setWidth 32 (BitVec.ofBool (decide p))) = ind p := by
  show (((BitVec.setWidth 32 (BitVec.ofBool (decide p))).toInt : ℝ) : EReal) = ind p
  by_cases h : p
  · rw [ind_true h, decide_eq_true h]
    have e : (BitVec.setWidth 32 (BitVec.ofBool true)).toInt = 1 := by decide
    rw [e]; norm_num
  · rw [ind_false h, decide_eq_false h]; norm_num [BitVec.ofBool]

theorem sum_nonneg_pos {ι : Type} [Fintype ι] (f : ι → EReal) (h : ∀ i, 0 ≤ f i) : 0 < ∑ i, f i ↔ ∃ i, 0 < f i := by
  constructor
  · intro hs
    by_contra hc
    push Not at hc
    rw [Finset.sum_eq_zero (fun i _ => le_antisymm (hc i) (h i))] at hs
    exact lt_irrefl _ hs
  · rintro ⟨i, hi⟩
    exact lt_of_lt_of_le hi (Finset.single_le_sum (f := f) (fun j _ => h j) (Finset.mem_univ i))

theorem sum_ind_pos {n : ℕ} (p : Fin n → Prop) : 0 < ∑ i, ind (p i) ↔ ∃ i, p i := by
  rw [sum_nonneg_pos _ fun i => ind_nonneg _]
  exact exists_congr fun i => ind_pos _

/-- A sum against the indicator of one index. -/
theorem sum_single {n : ℕ} (f : Fin n → EReal) (j : Fin n) : ∑ i, f i * ind (i = j) = f j := by
  rw [Finset.sum_eq_single j]
  · rw [ind_true rfl, mul_one]
  · intro i _ h; rw [ind_false h, mul_zero]
  · intro h; exact absurd (Finset.mem_univ j) h

theorem sum_single' {n : ℕ} (f : Fin n → EReal) (j : Fin n) : ∑ i, ind (i = j) * f i = f j :=
  (Finset.sum_congr rfl fun i _ => mul_comm _ _).trans (sum_single f j)

open Classical in
/-- A sum of indicators counts. -/
theorem sum_ind_card {ι : Type} [Fintype ι] (p : ι → Prop) : ∑ i, ind (p i) = ((Finset.univ.filter p).card : EReal) := by
  have h : ∀ i, ind (p i) = if p i then 1 else 0 := fun i => by
    by_cases h : p i
    · rw [ind_true h, if_pos h]
    · rw [ind_false h, if_neg h]
  rw [Finset.sum_congr rfl fun i _ => h i, Finset.sum_boole]

theorem half_lt_ind (p : Prop) : Ideal.ofBits .f32 1056964608#32 < ind p ↔ p := by
  have h : Ideal.ofBits .f32 1056964608#32 = ((1 / 2 : ℝ) : EReal) := by
    simp [Ideal.ofBits, Ideal.ieee, -EReal.coe_mul]; norm_num
  rw [h]
  by_cases hp : p
  · rw [ind_true hp]
    refine ⟨fun _ => hp, fun _ => ?_⟩
    exact_mod_cast (by norm_num : (1 / 2 : ℝ) < 1)
  · rw [ind_false hp]
    refine ⟨fun h => absurd h (not_lt.mpr ?_), fun h => absurd h hp⟩
    exact_mod_cast (by norm_num : (0 : ℝ) ≤ 1 / 2)

theorem eq_word {a b : ℕ} (ha : a < 2 ^ 31) (hb : b < 2 ^ 31) :
    IntOp.cmpi .eq (BitVec.ofNat 32 a) (BitVec.ofNat 32 b) = BitVec.ofBool (decide (a = b)) := by
  refine congrArg BitVec.ofBool ?_
  rw [Bool.eq_iff_iff, decide_eq_true_iff]
  constructor
  · intro h
    have h' : BitVec.ofNat 32 a = BitVec.ofNat 32 b := by simpa using h
    have := congrArg BitVec.toNat h'
    rw [BitVec.toNat_ofNat, BitVec.toNat_ofNat, Nat.mod_eq_of_lt (by omega), Nat.mod_eq_of_lt (by omega)] at this
    exact this
  · rintro rfl; simp

theorem lt_word {a b : ℕ} (ha : a < 2 ^ 31) (hb : b < 2 ^ 31) :
    IntOp.cmpi .slt (BitVec.ofNat 32 a) (BitVec.ofNat 32 b) = BitVec.ofBool (decide (a < b)) := by
  refine congrArg BitVec.ofBool ?_
  show BitVec.slt _ _ = _
  rw [BitVec.slt, Words.toInt_small ha, Words.toInt_small hb]
  exact decide_eq_decide.mpr Nat.cast_lt

theorem gt_word {a b : ℕ} (ha : a < 2 ^ 31) (hb : b < 2 ^ 31) :
    IntOp.cmpi .sgt (BitVec.ofNat 32 a) (BitVec.ofNat 32 b) = BitVec.ofBool (decide (b < a)) := by
  refine congrArg BitVec.ofBool ?_
  show BitVec.slt _ _ = _
  rw [BitVec.slt, Words.toInt_small ha, Words.toInt_small hb]
  exact decide_eq_decide.mpr Nat.cast_lt

/-! ## Boxes -/

/-- A box and its area. -/
@[ext] structure Bx where
  x1 : EReal
  y1 : EReal
  x2 : EReal
  y2 : EReal
  ar : EReal

/-- The empty box. -/
def Bx.zero : Bx := ⟨0, 0, 0, 0, 0⟩

/-- What two boxes share, and how much of their union that is. -/
def ov (a b : Bx) : EReal := max (min a.x2 b.x2 - max a.x1 b.x1) 0 * max (min a.y2 b.y2 - max a.y1 b.y1) 0
def iou (a b : Bx) : EReal := Ideal.div (ov a b) (a.ar + b.ar - ov a b + Ideal.ofBits .f32 0x3089705F#32)

/-- The box with a centre and a size. -/
def ofCentre (cx cy w h : EReal) : Bx :=
  let x1 := cx - Ideal.div w (Ideal.ofBits .f32 0x40000000#32)
  let y1 := cy - Ideal.div h (Ideal.ofBits .f32 0x40000000#32)
  let x2 := cx + Ideal.div w (Ideal.ofBits .f32 0x40000000#32)
  let y2 := cy + Ideal.div h (Ideal.ofBits .f32 0x40000000#32)
  ⟨x1, y1, x2, y2, max (x2 - x1) 0 * max (y2 - y1) 0⟩

/-- The area is that of the sides. -/
def Bx.Good (b : Bx) : Prop := b.ar = max (b.x2 - b.x1) 0 * max (b.y2 - b.y1) 0

theorem ofCentre_good (cx cy w h : EReal) : (ofCentre cx cy w h).Good := rfl

theorem eps_pos : 0 < Ideal.ofBits .f32 0x3089705F#32 := by
  have h : Ideal.ofBits .f32 0x3089705F#32 = (((0x9705F + 2 ^ 23 : ℝ) / 2 ^ 53 : ℝ) : EReal) := by
    simp [Ideal.ofBits, Ideal.ieee, -EReal.coe_mul]; norm_num
  rw [h]; exact_mod_cast (by norm_num : (0 : ℝ) < (0x9705F + 2 ^ 23) / 2 ^ 53)

theorem ov_nonneg (a b : Bx) : 0 ≤ ov a b := mul_nonneg (le_max_right _ _) (le_max_right _ _)

theorem ov_le {a : Bx} (b : Bx) (ha : a.Good) : ov a b ≤ a.ar := by
  rw [ha]
  unfold ov
  exact mul_le_mul (max_le_max (EReal.sub_le_sub (min_le_left _ _) (le_max_left _ _)) le_rfl)
    (max_le_max (EReal.sub_le_sub (min_le_left _ _) (le_max_left _ _)) le_rfl) (le_max_right _ _) (le_max_right _ _)

theorem Bx.Good.nonneg {a : Bx} (h : a.Good) : 0 ≤ a.ar := by
  rw [h]; exact mul_nonneg (le_max_right _ _) (le_max_right _ _)

theorem div_nonneg_of {x y : EReal} (hx : 0 ≤ x) (hy : 0 < y) : 0 ≤ Ideal.div x y := by
  unfold Ideal.div
  rw [if_neg hy.ne']
  exact mul_nonneg hx (EReal.inv_nonneg_of_nonneg hy.le)

/-- Overlap is never negative. -/
theorem iou_nonneg {a b : Bx} (ha : a.Good) (hb : b.Good) : 0 ≤ iou a b := by
  unfold iou
  have h1 := ov_le b ha
  by_cases ht : ov a b = ⊤
  · have hat : a.ar = ⊤ := top_le_iff.mp (ht ▸ h1)
    have hden : a.ar + b.ar - ov a b + Ideal.ofBits .f32 0x3089705F#32 = ⊥ := by
      rw [ht, sub_eq_add_neg, EReal.neg_top, EReal.add_bot, EReal.bot_add]
    rw [hden]
    unfold Ideal.div
    rw [if_neg (by simp), EReal.inv_bot, mul_zero]
  · refine div_nonneg_of (ov_nonneg a b) (lt_of_lt_of_le eps_pos ?_)
    refine le_add_of_nonneg_left ?_
    rw [EReal.sub_nonneg (Or.inr ht) (Or.inr (fun e => absurd (ov_nonneg a b) (by rw [e]; simp)))]
    exact h1.trans (le_add_of_nonneg_right hb.nonneg)

/-- The empty box overlaps nothing. -/
theorem iou_zero {b : Bx} (hb : b.Good) : iou Bx.zero b = 0 := by
  have h0 : ov Bx.zero b = 0 := by
    unfold ov Bx.zero
    have hz : ∀ x y : EReal, max (min 0 x - max 0 y) 0 = 0 := fun x y => by
      refine max_eq_right ?_
      have h := EReal.sub_le_sub (min_le_left 0 x) (le_max_left 0 y)
      simpa using h
    simp only [hz, mul_zero]
  unfold iou
  rw [h0]
  have hd : 0 < Bx.zero.ar + b.ar - 0 + Ideal.ofBits .f32 0x3089705F#32 := by
    show 0 < 0 + b.ar - 0 + Ideal.ofBits .f32 0x3089705F#32
    rw [zero_add, sub_zero]
    exact lt_of_lt_of_le eps_pos (le_add_of_nonneg_left hb.nonneg)
  unfold Ideal.div
  rw [if_neg hd.ne', zero_mul]

/-! ## The kernel's expressions -/

/-- A mark for each row, lying and standing. -/
def lie {n : ℕ} (p : Fin n → Prop) : FVec Ideal ⟨2, ![1, n]⟩ .f32 := fun i => ind (p (i 1))
def stand {n : ℕ} (p : Fin n → Prop) : FVec Ideal ⟨2, ![n, 1]⟩ .f32 := fun i => ind (p (i 0))

theorem lie_ext {n : ℕ} {v : FVec Ideal ⟨2, ![1, n]⟩ .f32} {p : Fin n → Prop} (h : ∀ j, v (ix2 0 j) = ind (p j)) : v = lie p := by
  funext i
  rw [eq_ix2 i]
  have h0 : i 0 = (0 : Fin 1) := Subsingleton.elim (α := Fin 1) _ _
  rw [h0]
  exact h (i 1)

theorem stand_ext {n : ℕ} {v : FVec Ideal ⟨2, ![n, 1]⟩ .f32} {p : Fin n → Prop} (h : ∀ j, v (ix2 j 0) = ind (p j)) : v = stand p := by
  funext i
  rw [eq_ix2 i]
  have h0 : i 1 = (0 : Fin 1) := Subsingleton.elim (α := Fin 1) _ _
  rw [h0]
  exact h (i 0)

theorem lie_apply {n : ℕ} (p : Fin n → Prop) (j : Fin n) : lie p (ix2 0 j) = ind (p j) := rfl
theorem stand_apply {n : ℕ} (p : Fin n → Prop) (j : Fin n) : stand p (ix2 j 0) = ind (p j) := rfl

/-- Which row suppresses which. -/
def square (R : Fin 1024 → Fin 1024 → Prop) : FVec Ideal S1024x1024 .f32 := fun i => ind (R (i 0) (i 1))

theorem pay5 (d a : Fin 1024 → Prop) : 0 < k1_pay5 (F := Ideal) (lie d) (lie a) ↔ ∃ j, ¬d j ∧ ¬a j := by
  have h : k1_pay5 (F := Ideal) (lie d) (lie a) = ∑ j : Fin 1024, ind (¬d j ∧ ¬a j) := by
    pointwise [k1_pay5]
    simp only [lie_apply, ind_not, ind_mul, Finset.univ_unique, Finset.sum_singleton]
  rw [h, sum_ind_pos]

theorem pay6 (R : Fin 1024 → Fin 1024 → Prop) (d a : Fin 1024 → Prop) :
    k1_pay6 (F := Ideal) (square R) (lie d) (lie a) = lie fun j => a j ∨ (¬d j ∧ ∀ i, ¬d i → ¬R i j) := by
  refine lie_ext fun j => ?_
  pointwise [k1_pay6]
  have hs : ∀ i j, square R (ix2 i j) = ind (R i j) := fun _ _ => rfl
  simp only [lie_apply, hs, ind_not, ind_mul]
  rw [sitofp_mark, ind_mul, ind_max]
  refine ind_congr (or_congr Iff.rfl (and_congr Iff.rfl ?_))
  rw [← not_lt, sum_ind_pos]
  push Not
  rfl

theorem pay7 (R : Fin 1024 → Fin 1024 → Prop) (d a : Fin 1024 → Prop) :
    k1_pay7 (F := Ideal) (square R) (lie d) (lie a)
      = lie fun j => d j ∨ ((∃ i, (a i ∨ (¬d i ∧ ∀ i', ¬d i' → ¬R i' i)) ∧ R i j) ∧ ¬(a j ∨ (¬d j ∧ ∀ i, ¬d i → ¬R i j))) := by
  refine lie_ext fun j => ?_
  pointwise [k1_pay7]
  have hs : ∀ i j, square R (ix2 i j) = ind (R i j) := fun _ _ => rfl
  simp only [pay6, lie_apply, hs, ind_not, ind_mul]
  rw [sitofp_mark, ind_mul, ind_max]
  refine ind_congr (or_congr Iff.rfl (and_congr ?_ Iff.rfl))
  rw [sum_ind_pos]

/-- The box that a row of columns holds. -/
def Cols.at' (t : Cols Ideal) (j : Fin 1024) : Bx := ⟨t.x1 (ix2 j 0), t.y1 (ix2 j 0), t.x2 (ix2 j 0), t.y2 (ix2 j 0), t.ar (ix2 j 0)⟩

/-- The box in a slot of the list. -/
def slot (c : FVec Ideal S5x80x1x256 .f32) (q : Fin 80) (l : Fin 256) : Bx :=
  ⟨c (ix4 0 q 0 l), c (ix4 1 q 0 l), c (ix4 2 q 0 l), c (ix4 3 q 0 l), c (ix4 4 q 0 l)⟩

/-- The box in a row of a block. -/
def rowBx (D : FVec Ideal S5x20x1x1024 .f32) (b : Fin 20) (j : Fin 1024) : Bx :=
  ⟨D (ix4 0 b 0 j), D (ix4 1 b 0 j), D (ix4 2 b 0 j), D (ix4 3 b 0 j), D (ix4 4 b 0 j)⟩

theorem fold_max_ind {n : ℕ} (b : EReal) (hb : b = ⊥) (hn : 0 < n) (p : Fin n → Prop) : Finset.univ.fold max b (fun i => ind (p i)) = ind (∃ i, p i) := by
  subst hb
  have hle : ∀ c, Finset.univ.fold max ⊥ (fun i => ind (p i)) ≤ c ↔ ∀ i, ind (p i) ≤ c := fun c => by
    rw [Finset.fold_max_le]; simp
  refine le_antisymm ((hle _).mpr fun i => ?_) ?_
  · by_cases h : p i
    · rw [ind_true (⟨i, h⟩ : ∃ i, p i), ind_true h]
    · rw [ind_false h]; exact ind_nonneg _
  · by_cases h : ∃ i, p i
    · obtain ⟨i, hi⟩ := h
      rw [ind_true (⟨i, hi⟩ : ∃ i, p i), ← ind_true hi]
      exact (hle _).mp le_rfl i
    · rw [ind_false h, ← ind_false (fun e => h ⟨⟨0, hn⟩, e⟩)]
      exact (hle _).mp le_rfl ⟨0, hn⟩

theorem chunk (thr : Ideal .f32) (t : Cols Ideal) (c : FVec Ideal S5x80x1x256 .f32) (q : ℕ) (p : Fin 1024 → Prop) :
    Model.chunk thr t c q (stand p) = stand fun j => p j ∨ ∃ l, thr < iou (slot c (Fin.ofNat 80 q) l) (Cols.at' t j) := by
  refine stand_ext fun j => ?_
  pointwise [Model.chunk, k1_pay34, k1_pay11, k1_pay12, slab]
  show max (ind (p j)) (Finset.univ.fold max (Ideal.ofBits .f32 4286578688#32) (fun x : Fin 256 => FloatOps.sitofp (F := Ideal) .f32
    (BitVec.setWidth 32 (BitVec.ofBool (decide (thr < iou (slot c (Fin.ofNat 80 q) x) (Cols.at' t j))))))) = _
  simp only [sitofp_mark]
  rw [fold_max_ind _ (by simp [Ideal.ofBits, Ideal.ieee]) (by norm_num), ind_max]

theorem dead0 (h : Fin 1024 → Prop) (s : FVec Ideal S1x1x1024 .f32) (p : Fin 1024 → Prop) (hs : ∀ j, s (ix3 0 0 j) = ind (p j)) :
    k1_pay41 (F := Ideal) (k1_pay36 (k1_pay117 (F := Ideal)) (stand h)) (k1_pay40 s) = lie fun j => p j ∨ h j := by
  refine lie_ext fun j => ?_
  pointwise [k1_pay41, k1_pay36, k1_pay117, k1_pay40]
  rw [hs]
  have he : ∀ x : Fin 1024, IntOp.cmpi .eq (BitVec.ofNat 32 j.val) (BitVec.ofNat 32 x.val) = BitVec.ofBool (decide (x = j)) := fun x => by
    rw [eq_word (by omega) (by omega)]; exact congrArg BitVec.ofBool (decide_eq_decide.mpr ⟨fun h => Fin.ext h.symm, fun h => congrArg Fin.val h.symm⟩)
  simp only [he, sitofp_mark, stand_apply, sum_single]
  rw [ind_max]
  exact ind_congr (or_congr Iff.rfl (half_lt_ind _))

theorem alive_stand (a : Fin 1024 → Prop) : k1_pay45 (k1_pay117 (F := Ideal)) (lie a) = stand a := by
  refine stand_ext fun j => ?_
  pointwise [k1_pay45, k1_pay117]
  have he : ∀ x : Fin 1024, IntOp.cmpi .eq (BitVec.ofNat 32 x.val) (BitVec.ofNat 32 j.val) = BitVec.ofBool (decide (x = j)) := fun x => by
    rw [eq_word (by omega) (by omega)]; exact congrArg BitVec.ofBool (decide_eq_decide.mpr ⟨fun h => Fin.ext h, fun h => congrArg Fin.val h⟩)
  simp only [he, sitofp_mark, lie_apply, sum_single']
  exact ind_congr (half_lt_ind _)

open Classical in
/-- How many marked rows come before a row, and how many there are. -/
def rank (a : Fin 1024 → Prop) (j : Fin 1024) : ℕ := (Finset.univ.filter fun i => i < j ∧ a i).card
open Classical in
def total (a : Fin 1024 → Prop) : ℕ := (Finset.univ.filter a).card

theorem pos_apply (a : Fin 1024 → Prop) (g : ℕ) (hg : g < 2 ^ 31) (j : Fin 1024) :
    k1_pay46 (k1_pay117 (F := Ideal)) (k1_pay118 (F := Ideal)) (BitVec.ofNat 32 g) (lie a) (ix2 j 0) = (((g + rank a j : ℕ) : ℝ) : EReal) := by
  pointwise [k1_pay46, k1_pay118]
  have he : ∀ x : Fin 1024, IntOp.cmpi .slt (BitVec.ofNat 32 x.val) (BitVec.ofNat 32 j.val) = BitVec.ofBool (decide (x < j)) := fun x => lt_word (by omega) (by omega)
  simp only [he, sitofp_mark, alive_stand, stand_apply, ind_mul]
  rw [sum_ind_card, Words.toInt_small hg, Nat.add_comm]
  unfold rank
  push_cast
  congr 1
  norm_cast
  congr

theorem count_apply (a : Fin 1024 → Prop) : Model.countOf (lie a) = total a := by
  have h : k1_pay44 (F := Ideal) (lie a) = (((total a : ℕ) : ℝ) : EReal) := by
    pointwise [k1_pay44]
    simp only [lie_apply]
    rw [sum_ind_card]
    unfold total
    norm_cast
  have hle : total a ≤ 1024 := by
    classical
    unfold total; exact (Finset.card_filter_le _ _).trans (by simp)
  unfold Model.countOf
  rw [h]
  show (Ideal.fptosi 32 (((total a : ℕ) : ℝ) : EReal)).toNat = total a
  unfold Ideal.fptosi
  show (BitVec.ofInt 32 (max _ (min _ (if (0 : ℝ) ≤ ((total a : ℕ) : ℝ) then ⌊((total a : ℕ) : ℝ)⌋ else _)))).toNat = _
  rw [if_pos (Nat.cast_nonneg _), Int.floor_natCast, min_eq_right (by omega), max_eq_right (by omega)]
  rw [BitVec.ofInt_natCast, BitVec.toNat_ofNat, Nat.mod_eq_of_lt (by omega)]

theorem mat (thr : Ideal .f32) (t : Cols Ideal) (D : FVec Ideal S5x20x1x1024 .f32) (q : Fin 20) :
    Model.mat thr t D q.val = square fun i j => thr < iou (Cols.at' t i) (rowBx D q j) ∧ i < j := by
  funext x
  obtain ⟨i, j, rfl⟩ : ∃ i j : Fin 1024, x = ix2 i j := ⟨x 0, x 1, eq_ix2 x⟩
  pointwise [Model.mat, k1_pay39, k1_pay37, k1_pay38, k1_pay116, Model.rowOf]
  have hq : Fin.ofNat 20 q.val = q := Fin.ext (Nat.mod_eq_of_lt q.isLt)
  rw [gt_word (by omega) (by omega), sitofp_mark, sitofp_mark, ind_mul, hq]
  rfl

end Cert.Proof.Read

end
-- ==== Proof.Fix.lean ====
/-
  Deciding the boxes of one block: the rounds stop with every box decided, and a box is kept exactly when nothing dead
  from before and no kept earlier box of the block speaks against it.
-/
module

public import proofs.«01_k».proof.Proof.Read

@[expose] public section

set_option maxRecDepth 16384

noncomputable section

namespace Cert.Proof.Read

open Cert.KernelIdeal Cert.KernelIdeal.Gen
open Idealize.ShloMosaic

/-- What holds between rounds: which boxes are dead (`d`) and kept (`a`), of those dead at the start (`d0`). -/
structure Round (R : Fin 1024 → Fin 1024 → Prop) (d0 d a : Fin 1024 → Prop) : Prop where
  first : ∀ j, d0 j → d j
  apart : ∀ j, a j → ¬d j
  clear : ∀ j, a j → ∀ i, R i j → d i
  cause : ∀ j, d j → d0 j ∨ ∃ i, R i j ∧ a i

variable {R : Fin 1024 → Fin 1024 → Prop} {d0 d a : Fin 1024 → Prop}

/-- A round's two results. -/
def keep' (R : Fin 1024 → Fin 1024 → Prop) (d a : Fin 1024 → Prop) (j : Fin 1024) : Prop := a j ∨ (¬d j ∧ ∀ i, ¬d i → ¬R i j)
def dead' (R : Fin 1024 → Fin 1024 → Prop) (d a : Fin 1024 → Prop) (j : Fin 1024) : Prop := d j ∨ ((∃ i, keep' R d a i ∧ R i j) ∧ ¬keep' R d a j)

theorem Round.step (h : Round R d0 d a) : Round R d0 (dead' R d a) (keep' R d a) where
  first j hj := Or.inl (h.first j hj)
  apart j hj hd := by
    rcases hd with hd | ⟨_, hn⟩
    · rcases hj with hj | hj
      · exact h.apart j hj hd
      · exact hj.1 hd
    · exact hn hj
  clear j hj i hR := by
    refine Or.inl ?_
    rcases hj with hj | hj
    · exact h.clear j hj i hR
    · by_contra hc; exact hj.2 i hc hR
  cause j hj := by
    rcases hj with hj | ⟨⟨i, hi, hR⟩, _⟩
    · rcases h.cause j hj with h0 | ⟨i, hR, hi⟩
      · exact Or.inl h0
      · exact Or.inr ⟨i, hR, Or.inl hi⟩
    · exact Or.inr ⟨i, hR, hi⟩

theorem Round.progress (h : Round R d0 d a) (hR : ∀ i j, R i j → i < j) {r : ℕ} (hr : ∀ j : Fin 1024, j.val < r → d j ∨ a j) (j : Fin 1024)
    (hj : j.val < r + 1) : dead' R d a j ∨ keep' R d a j := by
  by_cases hk : keep' R d a j
  · exact Or.inr hk
  refine Or.inl ?_
  by_cases hd : d j
  · exact Or.inl hd
  refine Or.inr ⟨?_, hk⟩
  by_contra hc
  push Not at hc
  refine hk (Or.inr ⟨hd, fun i hi hRi => ?_⟩)
  have hlt : i.val < r := by have := hR i j hRi; have : i.val < j.val := this; omega
  rcases hr i hlt with h1 | h1
  · exact hi h1
  · exact hc i (Or.inl h1) hRi

theorem fix_rounds (hR : ∀ i j, R i j → i < j) : ∀ (m : ℕ) (d a : Fin 1024 → Prop), m ≤ 1024 → Round R d0 d a →
    (∀ j : Fin 1024, j.val < 1024 - m → d j ∨ a j) →
    ∃ d' a' : Fin 1024 → Prop, Model.fixRun (F := Ideal) (square R) m (lie d) (lie a) = (lie d', lie a') ∧ Round R d0 d' a' ∧ ∀ j, d' j ∨ a' j
  | 0, d, a, _, h, hr => ⟨d, a, rfl, h, fun j => hr j (by have := j.isLt; omega)⟩
  | m + 1, d, a, hm, h, hr => by
    by_cases hu : ∃ j, ¬d j ∧ ¬a j
    · have e : Model.fixRun (F := Ideal) (square R) (m + 1) (lie d) (lie a)
          = Model.fixRun (square R) m (lie (dead' R d a)) (lie (keep' R d a)) := by
        have hu' : Model.undecided (F := Ideal) (lie d) (lie a) = 1#1 := by
          show BitVec.ofBool (decide (Ideal.ofBits .f32 0x00000000#32 < k1_pay5 (F := Ideal) (lie d) (lie a))) = 1#1
          rw [Ideal.ofBits_zero_f32, decide_eq_true ((pay5 d a).mpr hu)]; rfl
        rw [Model.fixRun, if_pos hu', pay6, pay7]
        rfl
      rw [e]
      exact fix_rounds hR m _ _ (by omega) h.step fun j hj => h.progress hR hr j (by omega)
    · refine ⟨d, a, ?_, h, fun j => ?_⟩
      · have hu' : ¬Model.undecided (F := Ideal) (lie d) (lie a) = 1#1 := by
          show ¬BitVec.ofBool (decide (Ideal.ofBits .f32 0x00000000#32 < k1_pay5 (F := Ideal) (lie d) (lie a))) = 1#1
          rw [Ideal.ofBits_zero_f32, decide_eq_false (fun e => hu ((pay5 d a).mp e))]; decide
        rw [Model.fixRun, if_neg hu']
      · by_contra hc
        push Not at hc
        exact hu ⟨j, hc⟩

theorem none_kept : k1_pay42 (F := Ideal) = lie fun _ => False := by
  refine lie_ext fun j => ?_
  pointwise [k1_pay42]
  rw [ind_false not_false]

theorem fix_spec (hR : ∀ i j, R i j → i < j) (d0 : Fin 1024 → Prop) :
    ∃ a : Fin 1024 → Prop, (Model.fixRun (F := Ideal) (square R) 1024 (lie d0) (k1_pay42 (F := Ideal))).2 = lie a
      ∧ ∀ j, a j ↔ ¬d0 j ∧ ∀ i, R i j → ¬a i := by
  rw [none_kept]
  obtain ⟨d, a, e, h, hall⟩ := fix_rounds (d0 := d0) hR 1024 d0 (fun _ => False) le_rfl
    ⟨fun _ h => h, fun _ h => h.elim, fun _ h => h.elim, fun _ h => Or.inl h⟩ (fun j hj => absurd hj (by omega))
  refine ⟨a, by rw [e], fun j => ⟨fun ha => ⟨fun h0 => h.apart j ha (h.first j h0), fun i hRi hi => h.apart i hi (h.clear j ha i hRi)⟩, fun hj => ?_⟩⟩
  rcases hall j with hd | ha
  · rcases h.cause j hd with h0 | ⟨i, hRi, hi⟩
    · exact absurd h0 hj.1
    · exact absurd hi (hj.2 i hRi)
  · exact ha

end Cert.Proof.Read

end
-- ==== Proof.Kept.lean ====
/-
  The list of kept boxes, over the extended reals: which rows the list hits, and what a block's kept rows add to it.
-/
module

public import proofs.«01_k».proof.Proof.Fix

@[expose] public section

set_option maxRecDepth 16384

noncomputable section

namespace Cert.Proof.Read

open Cert.KernelIdeal Cert.KernelIdeal.Gen
open Idealize.ShloMosaic
open Cert.Proof.Model (slab Cols upto)

/-! ## Which rows the list hits -/

theorem hits (thr : Ideal .f32) (t : Cols Ideal) (c : FVec Ideal S5x80x1x256 .f32) {g : ℕ} (hg : g ≤ 20480) :
    Model.hits thr t c g = stand fun j => ∃ q < (g + 255) / 256, ∃ l, thr < iou (slot c (Fin.ofNat 80 q) l) (Cols.at' t j) := by
  have h : ∀ k ≤ (g + 255) / 256, upto (fun q : Fin (k1_t2_loop (BitVec.ofNat 32 g)).trips => Model.chunk thr t c q.val) (k1_pay33 (F := Ideal)) k
      = stand fun j => ∃ q < k, ∃ l, thr < iou (slot c (Fin.ofNat 80 q) l) (Cols.at' t j) := by
    intro k
    induction k with
    | zero =>
      intro _
      refine stand_ext fun j => ?_
      rw [ind_false (by rintro ⟨q, hq, _⟩; omega)]
      show k1_pay33 (F := Ideal) (ix2 j 0) = 0
      pointwise [k1_pay33]
    | succ k ih =>
      intro hk
      have hk' : k < (k1_t2_loop (BitVec.ofNat 32 g)).trips := by rw [Words.t2_trips hg]; omega
      rw [Model.upto_succ _ _ ⟨k, hk'⟩]
      show Model.chunk thr t c k (upto _ _ k) = _
      rw [ih (by omega), chunk]
      refine congrArg stand (funext fun j => propext ?_)
      constructor
      · rintro (⟨q, hq, h⟩ | h)
        · exact ⟨q, by omega, h⟩
        · exact ⟨k, by omega, h⟩
      · rintro ⟨q, hq, h⟩
        by_cases e : q = k
        · exact Or.inr (e ▸ h)
        · exact Or.inl ⟨q, by omega, h⟩
  unfold Model.hits
  rw [h _ (le_of_eq (Words.t2_trips hg)), Words.t2_trips hg]

/-! ## Ranks -/

theorem rank_lt_total {a : Fin 1024 → Prop} {r : Fin 1024} (h : a r) : rank a r < total a := by
  classical
  unfold rank total
  refine Finset.card_lt_card ⟨fun i hi => ?_, fun hc => ?_⟩
  · simp only [Finset.mem_filter, Finset.mem_univ, true_and] at hi ⊢; exact hi.2
  · have := hc (by simp only [Finset.mem_filter, Finset.mem_univ, true_and]; exact h : r ∈ Finset.univ.filter a)
    simp only [Finset.mem_filter, Finset.mem_univ, true_and] at this
    exact lt_irrefl _ this.1

theorem rank_lt {a : Fin 1024 → Prop} {r s : Fin 1024} (h : a r) (hrs : r < s) : rank a r < rank a s := by
  classical
  unfold rank
  refine Finset.card_lt_card ⟨fun i hi => ?_, fun hc => ?_⟩
  · simp only [Finset.mem_filter, Finset.mem_univ, true_and] at hi ⊢; exact ⟨lt_trans hi.1 hrs, hi.2⟩
  · have := hc (by simp only [Finset.mem_filter, Finset.mem_univ, true_and]; exact ⟨hrs, h⟩ : r ∈ Finset.univ.filter fun i => i < s ∧ a i)
    simp only [Finset.mem_filter, Finset.mem_univ, true_and] at this
    exact lt_irrefl _ this.1

theorem rank_inj {a : Fin 1024 → Prop} {r s : Fin 1024} (hr : a r) (hs : a s) (h : rank a r = rank a s) : r = s := by
  rcases lt_trichotomy r s with hlt | e | hlt
  · exact absurd h (rank_lt hr hlt).ne
  · exact e
  · exact absurd h.symm (rank_lt hs hlt).ne

theorem rank_surj {a : Fin 1024 → Prop} {m : ℕ} (hm : m < total a) : ∃ r, a r ∧ rank a r = m := by
  classical
  have hinj : Set.InjOn (rank a) (Finset.univ.filter a : Finset (Fin 1024)) := fun r hr s hs h => by
    simp only [Finset.coe_filter, Finset.mem_univ, true_and, Set.mem_setOf_eq] at hr hs
    exact rank_inj hr hs h
  have hsub : (Finset.univ.filter a).image (rank a) ⊆ Finset.range (total a) := fun x hx => by
    obtain ⟨r, hr, rfl⟩ := Finset.mem_image.mp hx
    exact Finset.mem_range.mpr (rank_lt_total (by simpa using hr))
  have he := Finset.eq_of_subset_of_card_le hsub (by
    rw [Finset.card_image_of_injOn hinj, Finset.card_range]
    unfold total
    exact le_of_eq (by congr))
  have hx : m ∈ (Finset.univ.filter a).image (rank a) := by rw [he]; exact Finset.mem_range.mpr hm
  obtain ⟨r, hr, e⟩ := Finset.mem_image.mp hx
  exact ⟨r, by simpa using hr, e⟩

/-! ## Adding a block's kept rows -/

/-- Two whole numbers are less than a half apart when they are equal. -/
theorem near (m n : ℕ) : max (((m : ℝ) : EReal) - ((n : ℝ) : EReal)) (-(((m : ℝ) : EReal) - ((n : ℝ) : EReal))) < Ideal.ofBits .f32 1056964608#32 ↔ m = n := by
  have h : Ideal.ofBits .f32 1056964608#32 = ((1 / 2 : ℝ) : EReal) := by
    simp [Ideal.ofBits, Ideal.ieee, -EReal.coe_mul]; norm_num
  rw [h, ← EReal.coe_sub, ← EReal.coe_neg, max_lt_iff, EReal.coe_lt_coe_iff, EReal.coe_lt_coe_iff]
  constructor
  · rintro ⟨h1, h2⟩
    rcases lt_trichotomy m n with hl | e | hl
    · have : (m : ℝ) + 1 ≤ n := by exact_mod_cast hl
      linarith
    · exact e
    · have : (n : ℝ) + 1 ≤ m := by exact_mod_cast hl
      linarith
  · rintro rfl; norm_num

/-- A channel of a block's columns. -/
def colCh (t : Cols Ideal) : Fin 5 → FVec Ideal S1024x1 .f32 := ![t.x1, t.y1, t.x2, t.y2, t.ar]

/-- What the kept rows add to one slot: the row with that place. -/
def gain (a : Fin 1024 → Prop) (g p : ℕ) (col : FVec Ideal S1024x1 .f32) : EReal := ∑ r : Fin 1024, ind (a r ∧ g + rank a r = p) * col (ix2 r 0)

theorem gain_of {a : Fin 1024 → Prop} {g p : ℕ} (col : FVec Ideal S1024x1 .f32) {r : Fin 1024} (hr : a r) (h : g + rank a r = p) : gain a g p col = col (ix2 r 0) := by
  unfold gain
  rw [Finset.sum_eq_single r]
  · rw [ind_true ⟨hr, h⟩, one_mul]
  · intro s _ hs
    rw [ind_false (fun e => hs (rank_inj e.1 hr (by omega))), zero_mul]
  · intro h; exact absurd (Finset.mem_univ r) h

theorem gain_none {a : Fin 1024 → Prop} {g p : ℕ} (col : FVec Ideal S1024x1 .f32) (h : p < g ∨ g + total a ≤ p) : gain a g p col = 0 := by
  unfold gain
  refine Finset.sum_eq_zero fun r _ => ?_
  rw [ind_false, zero_mul]
  rintro ⟨hr, e⟩
  have := rank_lt_total hr
  omega

section Place
variable {a : Fin 1024 → Prop} {g m : ℕ} (hga : g + m ≤ 20480) {pos : FVec Ideal S1024x1 .f32}
  (hpos : ∀ r, pos (ix2 r 0) = (((g + rank a r : ℕ) : ℝ) : EReal)) (q : Fin (k1_t4_loop (BitVec.ofNat 32 g) (BitVec.ofNat 32 m)).trips)

include hga in
theorem chunk_lt : g / 256 + q.val < 80 := by
  have h := lt_of_lt_of_eq q.isLt (Words.t4_trips hga)
  omega

include hga hpos in
theorem mark_eq (r : Fin 1024) (l : Fin 256) :
    FloatOps.sitofp (F := Ideal) .f32 (BitVec.setWidth 32 (BitVec.ofBool (decide (FloatOps.absf (F := Ideal) (φ := .f32) (pos (ix2 r 0) -
      (FloatOps.sitofp (F := Ideal) .f32 (BitVec.ofNat 32 l.val) +
        (((Scalar.muli (Scf.iv (Words.fdiv (BitVec.ofNat 32 g) 256#32) 1#32 q.val) 256#32).toInt : ℝ) : EReal))) <
      Ideal.ofBits .f32 1056964608#32)))) * stand a (ix2 r 0) = ind (a r ∧ g + rank a r = 256 * (g / 256 + q.val) + l.val) := by
  have hc := chunk_lt hga q
  have e1 : Words.fdiv (BitVec.ofNat 32 g) 256#32 = BitVec.ofNat 32 (g / 256) := Words.fdiv_word (by omega) (by decide) (by decide)
  have e2 : Scalar.muli (Scf.iv (Words.fdiv (BitVec.ofNat 32 g) 256#32) 1#32 q.val) 256#32 = BitVec.ofNat 32 (256 * (g / 256 + q.val)) := by
    rw [e1, Words.iv_word, Nat.mul_comm]
    exact (BitVec.ofNat_mul _ _).symm
  have e3 : FloatOps.sitofp (F := Ideal) .f32 (BitVec.ofNat 32 l.val) = (((l.val : ℕ) : ℝ) : EReal) := by
    show ((((BitVec.ofNat 32 l.val).toInt : ℤ) : ℝ) : EReal) = _
    rw [Words.toInt_small (by omega)]; norm_cast
  rw [e2, Words.toInt_small (by omega), e3, hpos]
  have e4 : (((l.val : ℕ) : ℝ) : EReal) + ((((256 * (g / 256 + q.val) : ℕ) : ℤ) : ℝ) : EReal) = (((256 * (g / 256 + q.val) + l.val : ℕ) : ℝ) : EReal) := by
    have hcast : ∀ c : ℕ, (((l.val : ℕ) : ℝ) : EReal) + ((((256 * c : ℕ) : ℤ) : ℝ) : EReal) = (((256 * c + l.val : ℕ) : ℝ) : EReal) := fun c => by
      rw [← EReal.coe_add]; congr 1; push_cast; ring
    exact hcast _
  rw [e4, sitofp_mark, stand_apply, ind_mul]
  refine ind_congr ?_
  rw [and_comm]
  exact and_congr Iff.rfl (near _ _)

include hga hpos in
theorem place16 (x : FVec Ideal S1x1x1x256 .f32) (col : FVec Ideal S1024x1 .f32) (l : Fin 256) :
    k1_pay16 (k1_pay119 (F := Ideal)) col (BitVec.ofNat 32 g) (BitVec.ofNat 32 m) (stand a) pos (Words.fdiv (BitVec.ofNat 32 g) 256#32) 1#32 q x (ix4 0 0 0 l)
      = x (ix4 0 0 0 l) + gain a g (256 * (g / 256 + q.val) + l.val) col := by
  pointwise [k1_pay16, k1_pay15, k1_pay119]
  exact congrArg _ (Finset.sum_congr rfl fun r _ => congrArg (· * col (ix2 r 0)) (mark_eq hga hpos q r l))

include hga hpos in
theorem place17 (x : FVec Ideal S1x1x1x256 .f32) (col : FVec Ideal S1024x1 .f32) (l : Fin 256) :
    k1_pay17 (k1_pay119 (F := Ideal)) col (BitVec.ofNat 32 g) (BitVec.ofNat 32 m) (stand a) pos (Words.fdiv (BitVec.ofNat 32 g) 256#32) 1#32 q x (ix4 0 0 0 l)
      = x (ix4 0 0 0 l) + gain a g (256 * (g / 256 + q.val) + l.val) col := by
  pointwise [k1_pay17, k1_pay15, k1_pay119]
  exact congrArg _ (Finset.sum_congr rfl fun r _ => congrArg (· * col (ix2 r 0)) (mark_eq hga hpos q r l))

include hga hpos in
theorem place18 (x : FVec Ideal S1x1x1x256 .f32) (col : FVec Ideal S1024x1 .f32) (l : Fin 256) :
    k1_pay18 col (k1_pay15 (k1_pay119 (F := Ideal)) (BitVec.ofNat 32 g) (BitVec.ofNat 32 m) (stand a) pos (Words.fdiv (BitVec.ofNat 32 g) 256#32) 1#32 q) x (ix4 0 0 0 l)
      = x (ix4 0 0 0 l) + gain a g (256 * (g / 256 + q.val) + l.val) col := by
  pointwise [k1_pay18, k1_pay15, k1_pay119]
  exact congrArg _ (Finset.sum_congr rfl fun r _ => congrArg (· * col (ix2 r 0)) (mark_eq hga hpos q r l))

include hga hpos in
theorem place19 (x : FVec Ideal S1x1x1x256 .f32) (col : FVec Ideal S1024x1 .f32) (l : Fin 256) :
    k1_pay19 col (k1_pay15 (k1_pay119 (F := Ideal)) (BitVec.ofNat 32 g) (BitVec.ofNat 32 m) (stand a) pos (Words.fdiv (BitVec.ofNat 32 g) 256#32) 1#32 q) x (ix4 0 0 0 l)
      = x (ix4 0 0 0 l) + gain a g (256 * (g / 256 + q.val) + l.val) col := by
  pointwise [k1_pay19, k1_pay15, k1_pay119]
  exact congrArg _ (Finset.sum_congr rfl fun r _ => congrArg (· * col (ix2 r 0)) (mark_eq hga hpos q r l))

include hga hpos in
theorem place20 (x : FVec Ideal S1x1x1x256 .f32) (col : FVec Ideal S1024x1 .f32) (l : Fin 256) :
    k1_pay20 col (k1_pay15 (k1_pay119 (F := Ideal)) (BitVec.ofNat 32 g) (BitVec.ofNat 32 m) (stand a) pos (Words.fdiv (BitVec.ofNat 32 g) 256#32) 1#32 q) x (ix4 0 0 0 l)
      = x (ix4 0 0 0 l) + gain a g (256 * (g / 256 + q.val) + l.val) col := by
  pointwise [k1_pay20, k1_pay15, k1_pay119]
  exact congrArg _ (Finset.sum_congr rfl fun r _ => congrArg (· * col (ix2 r 0)) (mark_eq hga hpos q r l))

/-- Storing one channel of one chunk. -/
theorem put_slab {α : Type} (x : S5x80x1x256.Idx → α) (c q : ℕ) (w : S1x1x1x256.Idx → α) (ch : Fin 5) (c' : Fin 80) (l : Fin 256) :
    VecWindow.put x ![c, q, 0, 0] S1x1x1x256.size w (ix4 ch c' 0 l) = if ch.val = c ∧ c'.val = q then w (ix4 0 0 0 l) else x (ix4 ch c' 0 l) := by
  unfold VecWindow.put
  by_cases h : ch.val = c ∧ c'.val = q
  · rw [if_pos h, dif_pos (fun b => ?_)]
    · refine congrArg w (funext fun b => Fin.ext ?_)
      match b with
      | 0 => show ch.val - c = 0; omega
      | 1 => show c'.val - q = 0; omega
      | 2 => rfl
      | 3 => show l.val - 0 = l.val; omega
    · match b with
      | 0 => show c ≤ ch.val ∧ ch.val < c + 1; omega
      | 1 => show q ≤ c'.val ∧ c'.val < q + 1; omega
      | 2 => exact ⟨Nat.zero_le _, by show 0 < 0 + 1; omega⟩
      | 3 => exact ⟨Nat.zero_le _, by show l.val < 0 + 256; omega⟩
  · rw [if_neg h, dif_neg (fun hall => h ?_)]
    have h0 : c ≤ ch.val ∧ ch.val < c + 1 := hall 0
    have h1 : q ≤ c'.val ∧ c'.val < q + 1 := hall 1
    omega

theorem slab_apply {α : Type} (x : S5x80x1x256.Idx → α) (c : Fin 5) {q : ℕ} (hq : q < 80) (l : Fin 256) : slab x c q (ix4 0 0 0 l) = x (ix4 c ⟨q, hq⟩ 0 l) := by
  have e : Fin.ofNat 80 q = ⟨q, hq⟩ := Fin.ext (Nat.mod_eq_of_lt hq)
  show x (ix4 c (Fin.ofNat 80 q) 0 l) = _
  rw [e]

/-- One channel of one chunk replaced. -/
def putSlab (x : FVec Ideal S5x80x1x256 .f32) (c q : ℕ) (w : FVec Ideal S1x1x1x256 .f32) : FVec Ideal S5x80x1x256 .f32 :=
  VecWindow.put x ![c, q, 0, 0] S1x1x1x256.size w

theorem putSlab_apply (x : FVec Ideal S5x80x1x256 .f32) (c q : ℕ) (w : FVec Ideal S1x1x1x256 .f32) (ch : Fin 5) (c' : Fin 80) (l : Fin 256) :
    putSlab x c q w (ix4 ch c' 0 l) = if ch.val = c ∧ c'.val = q then w (ix4 0 0 0 l) else x (ix4 ch c' 0 l) := put_slab x c q w ch c' l

/-- Five channels of one chunk replaced one after the other. -/
theorem five (x : FVec Ideal S5x80x1x256 .f32) {c : ℕ} (hc : c < 80) (f0 f1 f2 f3 f4 : FVec Ideal S1x1x1x256 .f32 → FVec Ideal S1x1x1x256 .f32)
    (γ : Fin 5 → Fin 256 → EReal) (h0 : ∀ s l, f0 s (ix4 0 0 0 l) = s (ix4 0 0 0 l) + γ 0 l) (h1 : ∀ s l, f1 s (ix4 0 0 0 l) = s (ix4 0 0 0 l) + γ 1 l)
    (h2 : ∀ s l, f2 s (ix4 0 0 0 l) = s (ix4 0 0 0 l) + γ 2 l) (h3 : ∀ s l, f3 s (ix4 0 0 0 l) = s (ix4 0 0 0 l) + γ 3 l)
    (h4 : ∀ s l, f4 s (ix4 0 0 0 l) = s (ix4 0 0 0 l) + γ 4 l) (ch : Fin 5) (c' : Fin 80) (l : Fin 256) :
    (let x0 := putSlab x 0 c (f0 (slab x 0 c))
     let x1 := putSlab x0 1 c (f1 (slab x0 1 c))
     let x2 := putSlab x1 2 c (f2 (slab x1 2 c))
     let x3 := putSlab x2 3 c (f3 (slab x2 3 c))
     putSlab x3 4 c (f4 (slab x3 4 c))) (ix4 ch c' 0 l) = if c'.val = c then x (ix4 ch c' 0 l) + γ ch l else x (ix4 ch c' 0 l) := by
  have e0 : (0 : Fin 5).val = 0 := rfl
  have e1 : (1 : Fin 5).val = 1 := rfl
  have e2 : (2 : Fin 5).val = 2 := rfl
  have e3 : (3 : Fin 5).val = 3 := rfl
  have e4 : (4 : Fin 5).val = 4 := rfl
  simp only [putSlab_apply, h0, h1, h2, h3, h4, slab_apply _ _ hc]
  by_cases h : c'.val = c
  · have e : c' = ⟨c, hc⟩ := Fin.ext h
    subst e
    match ch with
    | 0 => simp [e0, e1, e2, e3, e4]
    | 1 => simp [e0, e1, e2, e3, e4]
    | 2 => simp [e0, e1, e2, e3, e4]
    | 3 => simp [e0, e1, e2, e3, e4]
    | 4 => simp [e0, e1, e2, e3, e4]
  · simp only [h, and_false, if_false]

include hga hpos in
theorem place_apply (t : Cols Ideal) (x : FVec Ideal S5x80x1x256 .f32) (ch : Fin 5) (c' : Fin 80) (l : Fin 256) :
    Model.place t (stand a) pos g m q x (ix4 ch c' 0 l)
      = if c'.val = g / 256 + q.val then x (ix4 ch c' 0 l) + gain a g (256 * c'.val + l.val) (colCh t ch) else x (ix4 ch c' 0 l) := by
  have hc := chunk_lt hga q
  refine (five x hc _ _ _ _ _ (fun ch l => gain a g (256 * (g / 256 + q.val) + l.val) (colCh t ch))
    (fun s l => place16 hga hpos q s t.x1 l) (fun s l => place17 hga hpos q s t.y1 l) (fun s l => place18 hga hpos q s t.x2 l)
    (fun s l => place19 hga hpos q s t.y2 l) (fun s l => place20 hga hpos q s t.ar l) ch c' l).trans ?_
  by_cases h : c'.val = g / 256 + q.val
  · rw [if_pos h, if_pos h, h]
  · rw [if_neg h, if_neg h]

include hga hpos in
theorem placeAll_apply (t : Cols Ideal) (x : FVec Ideal S5x80x1x256 .f32) (hm : m = total a) (ch : Fin 5) (c' : Fin 80) (l : Fin 256) :
    Model.placeAll t (stand a) pos g m x (ix4 ch c' 0 l) = x (ix4 ch c' 0 l) + gain a g (256 * c'.val + l.val) (colCh t ch) := by
  have h : ∀ k ≤ (k1_t4_loop (BitVec.ofNat 32 g) (BitVec.ofNat 32 m)).trips,
      upto (fun q => Model.place t (stand a) pos g m q) x k (ix4 ch c' 0 l)
        = if g / 256 ≤ c'.val ∧ c'.val < g / 256 + k then x (ix4 ch c' 0 l) + gain a g (256 * c'.val + l.val) (colCh t ch) else x (ix4 ch c' 0 l) := by
    intro k
    induction k with
    | zero => intro _; rw [if_neg (by omega)]; rfl
    | succ k ih =>
      intro hk
      rw [Model.upto_succ _ _ ⟨k, hk⟩, place_apply hga hpos]
      show (if c'.val = g / 256 + k then upto (fun q => Model.place t (stand a) pos g m q) x k (ix4 ch c' 0 l) + _ else upto _ x k (ix4 ch c' 0 l)) = _
      rw [ih (by omega)]
      by_cases e : c'.val = g / 256 + k
      · rw [if_pos e, if_neg (by omega), if_pos (by omega)]
      · rw [if_neg e]
        by_cases e' : g / 256 ≤ c'.val ∧ c'.val < g / 256 + k
        · rw [if_pos e', if_pos (by omega)]
        · rw [if_neg e', if_neg (by omega)]
  unfold Model.placeAll
  rw [h _ le_rfl, Words.t4_trips hga]
  by_cases e : g / 256 ≤ c'.val ∧ c'.val < g / 256 + ((g + m + 255) / 256 - g / 256)
  · rw [if_pos e]
  · rw [if_neg e, gain_none _ (by omega), add_zero]

end Place

end Cert.Proof.Read

end
-- ==== Proof.Greedy.lean ====
/-
  The suppression kernel is the greedy one: after any number of blocks the marks, the list and the count say which rows
  of those blocks greedy suppression keeps.
-/
module

public import proofs.«01_k».proof.Proof.Kept
public import Idealize.ShloMosaic.Lib.IndicatorCount

@[expose] public section

set_option maxRecDepth 16384

noncomputable section

namespace Cert.Proof.Read

open Cert.KernelIdeal Cert.KernelIdeal.Gen
open Idealize.ShloMosaic
open Cert.Proof.Model (slab Cols upto chan St)

/-- Greedy suppression: a row is kept if it is not dead and no kept earlier row suppresses it. -/
def Alive (dead : ℕ → Prop) (K : ℕ → ℕ → Prop) (j : ℕ) : Prop := ¬dead j ∧ ∀ i, i < j → Alive dead K i → ¬K i j
termination_by j

theorem alive_iff (dead : ℕ → Prop) (K : ℕ → ℕ → Prop) (j : ℕ) : Alive dead K j ↔ ¬dead j ∧ ∀ i, i < j → Alive dead K i → ¬K i j := by
  rw [Alive]

/-- It depends on the earlier rows alone. -/
theorem alive_congr {dead dead' : ℕ → Prop} {K K' : ℕ → ℕ → Prop} {n : ℕ} (hd : ∀ j < n, dead j ↔ dead' j) (hK : ∀ i j, i < j → j < n → (K i j ↔ K' i j)) :
    ∀ j < n, Alive dead K j ↔ Alive dead' K' j := by
  intro j
  induction j using Nat.strong_induction_on with
  | _ j ih =>
    intro hj
    rw [alive_iff dead, alive_iff dead']
    refine and_congr (not_congr (hd j hj)) (forall_congr' fun i => forall_congr' fun hi => ?_)
    rw [ih i hi (by omega), hK i j hi hj]

/-- The slot with a number. -/
def slotN (c : FVec Ideal S5x80x1x256 .f32) (p : ℕ) : Bx := slot c (Fin.ofNat 80 (p / 256)) (Fin.ofNat 256 p)

/-- One row suppresses another. -/
abbrev Sup (thr : EReal) (B : ℕ → Bx) (i j : ℕ) : Prop := thr < iou (B i) (B j)

/-- The state after `k` blocks. -/
structure Inv (thr : EReal) (B : ℕ → Bx) (dead : ℕ → Prop) (k : ℕ) (st : St Ideal) : Prop where
  le : st.g ≤ 1024 * k
  sup : ∀ (b : Fin 20) (j : Fin 1024), st.sup (ix3 b 0 j)
    = ind (if b.val < k then ¬Alive dead (Sup thr B) (1024 * b.val + j.val) else dead (1024 * b.val + j.val))
  mem : ∀ p < st.g, ∃ r < 1024 * k, Alive dead (Sup thr B) r ∧ slotN st.comp p = B r
  all : ∀ r < 1024 * k, Alive dead (Sup thr B) r → ∃ p < st.g, slotN st.comp p = B r
  rest : ∀ p, st.g ≤ p → p < 20480 → slotN st.comp p = Bx.zero

variable {thr : Ideal .f32} {B : ℕ → Bx} (hB : ∀ p, (B p).Good) {dead : ℕ → Prop} {D : FVec Ideal S5x20x1x1024 .f32} {C : FVec Ideal S5x1024x128 .f32}
  (hD : ∀ (b : Fin 20) (j : Fin 1024), rowBx D b j = B (1024 * b.val + j.val)) {n : ℕ} (hn : n ≤ 20)
  (k : Fin (k1_t1_loop (BitVec.ofNat 32 n)).trips)
  (hC : ∀ j : Fin 1024, Cols.at' (Model.colsOf (BitVec.ofNat 32 n) k C) j = B (1024 * k.val + j.val)) {st : St Ideal}

include hB in
/-- The list hits a row exactly when a kept earlier row suppresses it. -/
theorem hit_iff {m : ℕ} (hm : m ≤ 20) (h : Inv thr B dead m st) (j : ℕ) :
    (∃ q < (st.g + 255) / 256, ∃ l, thr < iou (slot st.comp (Fin.ofNat 80 q) l) (B j)) ↔ ∃ r < 1024 * m, Alive dead (Sup thr B) r ∧ Sup thr B r j := by
  have hg := h.le
  constructor
  · rintro ⟨q, hq, l, hl⟩
    have e : slot st.comp (Fin.ofNat 80 q) l = slotN st.comp (256 * q + l.val) := by
      unfold slotN
      have e1 : (256 * q + l.val) / 256 = q := by omega
      have e2 : Fin.ofNat 256 (256 * q + l.val) = l := Fin.ext (by show (256 * q + l.val) % 256 = l.val; omega)
      rw [e1, e2]
    rw [e] at hl
    by_cases hp : 256 * q + l.val < st.g
    · obtain ⟨r, hr, ha, hs⟩ := h.mem _ hp
      exact ⟨r, hr, ha, by rw [hs] at hl; exact hl⟩
    · rw [h.rest _ (by omega) (by omega), iou_zero (hB j)] at hl
      obtain ⟨r, hr, ha, _⟩ := h.mem 0 (by omega)
      exact ⟨r, hr, ha, lt_of_lt_of_le hl (iou_nonneg (hB r) (hB j))⟩
  · rintro ⟨r, hr, ha, hs⟩
    obtain ⟨p, hp, e⟩ := h.all r hr ha
    refine ⟨p / 256, by omega, Fin.ofNat 256 p, ?_⟩
    have e' : slot st.comp (Fin.ofNat 80 (p / 256)) (Fin.ofNat 256 p) = B r := e
    rw [e']
    exact hs

include hB hD hn hC in
/-- A block keeps the rows that greedy suppression keeps. -/
theorem alive_block (h : Inv thr B dead k.val st) :
    ∃ a : Fin 1024 → Prop, Model.aliveOf thr D C (BitVec.ofNat 32 n) k st = lie a ∧ ∀ j : Fin 1024, a j ↔ Alive dead (Sup thr B) (1024 * k.val + j.val) := by
  have hk : k.val < 20 := by have := lt_of_lt_of_eq k.isLt (Words.t1_trips hn); omega
  have hg : st.g ≤ 20480 := by have := h.le; omega
  have hs : ∀ j : Fin 1024, Model.supOf st.sup k.val (ix3 0 0 j) = ind (dead (1024 * k.val + j.val)) := fun j => by
    have e : Fin.ofNat 20 k.val = ⟨k.val, hk⟩ := Fin.ext (Nat.mod_eq_of_lt hk)
    show st.sup (ix3 (Fin.ofNat 20 k.val) 0 j) = _
    rw [e, h.sup, if_neg (lt_irrefl _)]
  have hR : ∀ i j : Fin 1024, (thr < iou (Cols.at' (Model.colsOf (BitVec.ofNat 32 n) k C) i) (rowBx D ⟨k.val, hk⟩ j) ∧ i < j) → i < j := fun _ _ h => h.2
  obtain ⟨a, e, ha⟩ := fix_spec hR
    (fun j => dead (1024 * k.val + j.val) ∨ ∃ q < (st.g + 255) / 256, ∃ l, thr < iou (slot st.comp (Fin.ofNat 80 q) l) (Cols.at' (Model.colsOf (BitVec.ofNat 32 n) k C) j))
  refine ⟨a, ?_, ?_⟩
  · unfold Model.aliveOf
    rw [← e]
    have e1 : Model.mat thr (Model.colsOf (BitVec.ofNat 32 n) k C) D k.val = _ := mat thr (Model.colsOf (BitVec.ofNat 32 n) k C) D ⟨k.val, hk⟩
    rw [e1]
    unfold Model.dead0
    rw [hits _ _ _ hg, dead0 _ _ _ hs]
  · have hj : ∀ m (hm : m < 1024), a ⟨m, hm⟩ ↔ Alive dead (Sup thr B) (1024 * k.val + m) := by
      intro m
      induction m using Nat.strong_induction_on with
      | _ m ih =>
        intro hm
        rw [ha, alive_iff]
        have e2 := hC ⟨m, hm⟩
        have e3 := hit_iff hB (by omega) h (1024 * k.val + m)
        rw [e2, e3]
        constructor
        · rintro ⟨h1, h2⟩
          refine ⟨fun hd => h1 (Or.inl hd), fun i hi hai hK => ?_⟩
          by_cases hlt : i < 1024 * k.val
          · exact h1 (Or.inr ⟨i, hlt, hai, hK⟩)
          · obtain ⟨i', rfl⟩ : ∃ i', i = 1024 * k.val + i' := ⟨i - 1024 * k.val, by omega⟩
            refine h2 ⟨i', by omega⟩ ⟨?_, Fin.mk_lt_mk.mpr (by omega)⟩ ((ih i' (by omega) (by omega)).mpr hai)
            rw [hC, hD]
            exact hK
        · rintro ⟨h1, h2⟩
          refine ⟨?_, fun i hi hai => ?_⟩
          · rintro (hd | ⟨r, hr, har, hK⟩)
            · exact h1 hd
            · exact h2 r (by omega) har hK
          · have hlt : i.val < m := hi.2
            have hK := hi.1
            rw [hC, hD] at hK
            exact h2 (1024 * k.val + i.val) (by omega) ((ih i.val hlt i.isLt).mp hai) hK
    exact fun j => hj j.val j.isLt

theorem put_sup {α : Type} (x : S20x1x1024.Idx → α) (k : ℕ) (w : S1x1x1024.Idx → α) (b : Fin 20) (j : Fin 1024) :
    VecWindow.put x ![k, 0, 0] S1x1x1024.size w (ix3 b 0 j) = if b.val = k then w (ix3 0 0 j) else x (ix3 b 0 j) := by
  unfold VecWindow.put
  by_cases h : b.val = k
  · rw [if_pos h, dif_pos (fun c => ?_)]
    · refine congrArg w (funext fun c => Fin.ext ?_)
      match c with
      | 0 => show b.val - k = 0; omega
      | 1 => rfl
      | 2 => show j.val - 0 = j.val; omega
    · match c with
      | 0 => show k ≤ b.val ∧ b.val < k + 1; omega
      | 1 => exact ⟨Nat.zero_le _, by show 0 < 0 + 1; omega⟩
      | 2 => exact ⟨Nat.zero_le _, by show j.val < 0 + 1024; omega⟩
  · rw [if_neg h, dif_neg (fun hall => h ?_)]
    have h0 : k ≤ b.val ∧ b.val < k + 1 := hall 0
    omega

/-- The list after a block, slot by slot. -/
theorem slot_after {t : Cols Ideal} {a : Fin 1024 → Prop} {g : ℕ} (hga : g + total a ≤ 20480) (x : FVec Ideal S5x80x1x256 .f32) {p : ℕ} (hp : p < 20480) :
    let y := Model.placeAll t (k1_pay45 (k1_pay117 (F := Ideal)) (lie a)) (k1_pay46 (k1_pay117 (F := Ideal)) (k1_pay118 (F := Ideal)) (BitVec.ofNat 32 g) (lie a)) g (total a) x
    (p < g ∨ g + total a ≤ p → slotN y p = slotN x p) ∧ (∀ r, a r → g + rank a r = p → slotN x p = Bx.zero → slotN y p = Cols.at' t r) := by
  intro y
  have hy : ∀ (ch : Fin 5), y (ix4 ch (Fin.ofNat 80 (p / 256)) 0 (Fin.ofNat 256 p)) = x (ix4 ch (Fin.ofNat 80 (p / 256)) 0 (Fin.ofNat 256 p)) + gain a g p (colCh t ch) := fun ch => by
    show Model.placeAll t _ _ g (total a) x _ = _
    rw [alive_stand, placeAll_apply hga (pos_apply a g (by omega)) t x rfl]
    have e : 256 * (Fin.ofNat 80 (p / 256)).val + (Fin.ofNat 256 p).val = p := by
      show 256 * (p / 256 % 80) + p % 256 = p
      omega
    rw [e]
  constructor
  · intro h
    have hz : ∀ ch, y (ix4 ch (Fin.ofNat 80 (p / 256)) 0 (Fin.ofNat 256 p)) = x (ix4 ch (Fin.ofNat 80 (p / 256)) 0 (Fin.ofNat 256 p)) := fun ch => by
      rw [hy, gain_none _ h, add_zero]
    unfold slotN slot
    rw [hz, hz, hz, hz, hz]
  · intro r hr e hx
    have h0 := congrArg Bx.x1 hx
    have h1 := congrArg Bx.y1 hx
    have h2 := congrArg Bx.x2 hx
    have h3 := congrArg Bx.y2 hx
    have h4 := congrArg Bx.ar hx
    refine Bx.ext ?_ ?_ ?_ ?_ ?_
    · refine (hy 0).trans ?_; rw [gain_of _ hr e]; exact (congrArg (· + _) h0).trans (zero_add _)
    · refine (hy 1).trans ?_; rw [gain_of _ hr e]; exact (congrArg (· + _) h1).trans (zero_add _)
    · refine (hy 2).trans ?_; rw [gain_of _ hr e]; exact (congrArg (· + _) h2).trans (zero_add _)
    · refine (hy 3).trans ?_; rw [gain_of _ hr e]; exact (congrArg (· + _) h3).trans (zero_add _)
    · refine (hy 4).trans ?_; rw [gain_of _ hr e]; exact (congrArg (· + _) h4).trans (zero_add _)

theorem total_le (a : Fin 1024 → Prop) : total a ≤ 1024 := by
  classical
  unfold total; exact (Finset.card_filter_le _ _).trans (by simp)

include hB hD hn hC in
/-- One block. -/
theorem inv_step (h : Inv thr B dead k.val st) : Inv thr B dead (k.val + 1) (Model.trip thr D C (BitVec.ofNat 32 n) k st) := by
  have hk : k.val < 20 := by have := lt_of_lt_of_eq k.isLt (Words.t1_trips hn); omega
  obtain ⟨a, ea, ha⟩ := alive_block hB hD hn k hC h
  have ht := total_le a
  have hle := h.le
  have hcomp : (Model.trip thr D C (BitVec.ofNat 32 n) k st).comp = Model.placeAll (Model.colsOf (BitVec.ofNat 32 n) k C) (k1_pay45 (k1_pay117 (F := Ideal)) (lie a))
      (k1_pay46 (k1_pay117 (F := Ideal)) (k1_pay118 (F := Ideal)) (BitVec.ofNat 32 st.g) (lie a)) st.g (total a) st.comp := by
    rw [← count_apply a]; unfold Model.trip; rw [ea]
  have hgg : (Model.trip thr D C (BitVec.ofNat 32 n) k st).g = st.g + total a := by
    rw [← count_apply a]; unfold Model.trip; rw [ea]
  have hsup : (Model.trip thr D C (BitVec.ofNat 32 n) k st).sup = VecWindow.put st.sup ![k.val, 0, 0] S1x1x1024.size (k1_pay43 (lie a)) := by
    unfold Model.trip; rw [ea]
  have hslot : ∀ p < 20480, _ := fun p hp => slot_after (t := Model.colsOf (BitVec.ofNat 32 n) k C) (a := a) (g := st.g) (by omega) st.comp (p := p) hp
  rw [← hcomp] at hslot
  constructor
  · rw [hgg]; omega
  · intro b j
    rw [hsup, put_sup, h.sup]
    by_cases e : b.val = k.val
    · rw [if_pos e, if_pos (by omega)]
      have e1 : k1_pay43 (lie a) (ix3 0 0 j) = 1 - lie a (ix2 0 j) := by
        pointwise [k1_pay43]
      rw [e1, lie_apply, ind_not, e]
      exact ind_congr (not_congr (ha j))
    · rw [if_neg e]
      by_cases e' : b.val < k.val
      · rw [if_pos e', if_pos (by omega)]
      · rw [if_neg e', if_neg (by omega)]
  · intro p hp
    rw [hgg] at hp
    by_cases hpg : p < st.g
    · obtain ⟨r, hr, har, e⟩ := h.mem p hpg
      exact ⟨r, by omega, har, ((hslot p (by omega)).1 (Or.inl hpg)).trans e⟩
    · obtain ⟨r, hr, er⟩ := rank_surj (a := a) (m := p - st.g) (by omega)
      refine ⟨1024 * k.val + r.val, by omega, (ha r).mp hr, ?_⟩
      rw [(hslot p (by omega)).2 r hr (by omega) (h.rest p (by omega) (by omega)), hC]
  · intro r hr har
    by_cases hlt : r < 1024 * k.val
    · obtain ⟨p, hp, e⟩ := h.all r hlt har
      exact ⟨p, by rw [hgg]; omega, ((hslot p (by omega)).1 (Or.inl hp)).trans e⟩
    · obtain ⟨j, rfl⟩ : ∃ j, r = 1024 * k.val + j := ⟨r - 1024 * k.val, by omega⟩
      have haj : a ⟨j, by omega⟩ := (ha ⟨j, by omega⟩).mpr har
      have hrk := rank_lt_total haj
      refine ⟨st.g + rank a ⟨j, by omega⟩, by rw [hgg]; omega, ?_⟩
      rw [(hslot _ (by omega)).2 _ haj rfl (h.rest _ (by omega) (by omega)), hC]
  · intro p hp hp'
    rw [hgg] at hp
    rw [(hslot p hp').1 (Or.inr hp)]
    exact h.rest p (by omega) hp'

end Cert.Proof.Read

end
-- ==== Proof.Nms.lean ====
/-
  The suppression kernel's result at a row: the row's box, or score, where greedy suppression keeps the row, and zero
  elsewhere. The rows come by descending score, so that the blocks left out hold no row above the score threshold.
-/
module

public import proofs.«01_k».proof.Proof.Greedy

@[expose] public section

set_option maxRecDepth 16384

noncomputable section

namespace Cert.Proof.Read

open Cert.KernelIdeal Cert.KernelIdeal.Gen
open Idealize.ShloMosaic
open Cert.Proof.Model (slab Cols upto chan St)

variable (X0 : FVec Ideal S2 .f32) (X1 : FVec Ideal S5x20x1x1024 .f32) (X2 : FVec Ideal S4x1024x128 .f32)

/-- An entry of a row. -/
def entry (ch : Fin 5) (p : ℕ) : EReal := X1 (ix4 ch (Fin.ofNat 20 (p / 1024)) 0 (Fin.ofNat 1024 p))

/-- The box of a row, and whether its score is too low. -/
def boxAt (p : ℕ) : Bx := ofCentre (entry X1 0 p) (entry X1 1 p) (entry X1 2 p) (entry X1 3 p)
def low (p : ℕ) : Prop := entry X1 4 p ≤ X0 (ix1 1)

theorem entry_at (ch : Fin 5) (b : Fin 20) (j : Fin 1024) : entry X1 ch (1024 * b.val + j.val) = X1 (ix4 ch b 0 j) := by
  have e1 : Fin.ofNat 20 ((1024 * b.val + j.val) / 1024) = b := Fin.ext (by show (1024 * b.val + j.val) / 1024 % 20 = b.val; omega)
  have e2 : Fin.ofNat 1024 (1024 * b.val + j.val) = j := Fin.ext (by show (1024 * b.val + j.val) % 1024 = j.val; omega)
  unfold entry
  rw [e1, e2]

theorem boxAt_good (p : ℕ) : (boxAt X1 p).Good := ofCentre_good _ _ _ _

theorem boxes_row (b : Fin 20) (j : Fin 1024) : rowBx (Model.boxes X1) b j = boxAt X1 (1024 * b.val + j.val) := by
  unfold boxAt
  rw [entry_at, entry_at, entry_at, entry_at]
  refine Bx.ext ?_ ?_ ?_ ?_ ?_
  · show k1_pay93 (Model.side1 X1) (ValueIdx.ix4 0 b 0 j) = _
    pointwise [k1_pay93, Model.side1, k1_pay89, k1_pay84, k1_pay85, k1_pay86, k1_pay87, Model.chan]
    rfl
  · show k1_pay94 (Model.side2 X1) (ValueIdx.ix4 0 b 0 j) = _
    pointwise [k1_pay94, Model.side2, k1_pay90, k1_pay84, k1_pay85, k1_pay86, k1_pay87, Model.chan]
    rfl
  · show k1_pay95 (Model.side3 X1) (ValueIdx.ix4 0 b 0 j) = _
    pointwise [k1_pay95, Model.side3, k1_pay91, k1_pay84, k1_pay85, k1_pay86, k1_pay87, Model.chan]
    rfl
  · show k1_pay96 (Model.side4 X1) (ValueIdx.ix4 0 b 0 j) = _
    pointwise [k1_pay96, Model.side4, k1_pay92, k1_pay84, k1_pay85, k1_pay86, k1_pay87, Model.chan]
    rfl
  · show k1_pay97 (Model.side1 X1) (Model.side2 X1) (Model.side3 X1) (Model.side4 X1) (ValueIdx.ix4 0 b 0 j) = _
    pointwise [k1_pay97, Model.side1, Model.side2, Model.side3, Model.side4, k1_pay89, k1_pay90, k1_pay91, k1_pay92, k1_pay84, k1_pay85,
      k1_pay86, k1_pay87, Model.chan]
    rfl

/-- The columns hold the same boxes. -/
def Same : Prop := ∀ (c : Fin 4) (b : Fin 20) (j : Fin 1024), X2 (ix3 c j ⟨b.val, by omega⟩) = X1 (ix4 ⟨c.val, by omega⟩ b 0 j)

variable {X1 X2}

theorem cols_row (h : Same X1 X2) {n : ℕ} (hn : n ≤ 20) (k : Fin (k1_t1_loop (BitVec.ofNat 32 n)).trips) (j : Fin 1024) :
    Cols.at' (Model.colsOf (BitVec.ofNat 32 n) k (Model.colBoxes X2)) j = boxAt X1 (1024 * k.val + j.val) := by
  have hk : k.val < 20 := by have := lt_of_lt_of_eq k.isLt (Words.t1_trips hn); omega
  have hb := entry_at X1
  have e : boxAt X1 (1024 * k.val + j.val) = ofCentre (X2 (ix3 0 j ⟨k.val, by omega⟩)) (X2 (ix3 1 j ⟨k.val, by omega⟩)) (X2 (ix3 2 j ⟨k.val, by omega⟩))
      (X2 (ix3 3 j ⟨k.val, by omega⟩)) := by
    have h0 := h 0 ⟨k.val, hk⟩ j
    have h1 := h 1 ⟨k.val, hk⟩ j
    have h2 := h 2 ⟨k.val, hk⟩ j
    have h3 := h 3 ⟨k.val, hk⟩ j
    unfold boxAt
    rw [h0, h1, h2, h3]
    exact congrArg₂ (fun (f : Fin 4 → EReal) (_ : Unit) => ofCentre (f 0) (f 1) (f 2) (f 3))
      (funext fun c : Fin 4 => hb ⟨c.val, by omega⟩ ⟨k.val, hk⟩ j) (rfl : () = ())
  have hm : ∀ x : Fin 128, IntOp.cmpi .eq (BitVec.ofNat 32 x.val) (Scf.iv 0#32 1#32 k.val) = BitVec.ofBool (decide (x = ⟨k.val, by omega⟩)) := fun x => by
    have e1 : Scf.iv 0#32 1#32 k.val = BitVec.ofNat 32 k.val := (Words.iv_word 0 k.val).trans (by rw [Nat.zero_add])
    rw [e1, eq_word (by omega) (by omega)]
    exact congrArg BitVec.ofBool (decide_eq_decide.mpr ⟨fun h => Fin.ext h, fun h => congrArg Fin.val h⟩)
  rw [e]
  refine Bx.ext ?_ ?_ ?_ ?_ ?_
  · show (Model.colsOf (BitVec.ofNat 32 n) k (Model.colBoxes X2)).x1 (ix2 j 0) = _
    pointwise [Model.colsOf, k1_pay28, k1_pay27, Model.lanes, Model.colChan]
    simp only [hm, sitofp_mark, sum_single]
    show k1_pay106 (F := Ideal) (k1_pay98 (F := Ideal) (Model.colChan (n := 4) X2 0)) (Model.colChan (n := 4) X2 2) (ValueIdx.ix3 0 j ⟨k.val, by omega⟩) = _
    pointwise [k1_pay106, k1_pay98, k1_pay100, k1_pay102, k1_pay104, Model.colChan]
    rfl
  · show (Model.colsOf (BitVec.ofNat 32 n) k (Model.colBoxes X2)).y1 (ix2 j 0) = _
    pointwise [Model.colsOf, k1_pay29, k1_pay27, Model.lanes, Model.colChan]
    simp only [hm, sitofp_mark, sum_single]
    show k1_pay107 (F := Ideal) (k1_pay99 (F := Ideal) (Model.colChan (n := 4) X2 1)) (Model.colChan (n := 4) X2 3) (ValueIdx.ix3 0 j ⟨k.val, by omega⟩) = _
    pointwise [k1_pay107, k1_pay99, k1_pay101, k1_pay103, k1_pay105, Model.colChan]
    rfl
  · show (Model.colsOf (BitVec.ofNat 32 n) k (Model.colBoxes X2)).x2 (ix2 j 0) = _
    pointwise [Model.colsOf, k1_pay30, k1_pay27, Model.lanes, Model.colChan]
    simp only [hm, sitofp_mark, sum_single]
    show k1_pay108 (F := Ideal) (k1_pay98 (F := Ideal) (Model.colChan (n := 4) X2 0)) (Model.colChan (n := 4) X2 2) (ValueIdx.ix3 0 j ⟨k.val, by omega⟩) = _
    pointwise [k1_pay108, k1_pay98, k1_pay100, k1_pay102, k1_pay104, Model.colChan]
    rfl
  · show (Model.colsOf (BitVec.ofNat 32 n) k (Model.colBoxes X2)).y2 (ix2 j 0) = _
    pointwise [Model.colsOf, k1_pay31, k1_pay27, Model.lanes, Model.colChan]
    simp only [hm, sitofp_mark, sum_single]
    show k1_pay109 (F := Ideal) (k1_pay99 (F := Ideal) (Model.colChan (n := 4) X2 1)) (Model.colChan (n := 4) X2 3) (ValueIdx.ix3 0 j ⟨k.val, by omega⟩) = _
    pointwise [k1_pay109, k1_pay99, k1_pay101, k1_pay103, k1_pay105, Model.colChan]
    rfl
  · show (Model.colsOf (BitVec.ofNat 32 n) k (Model.colBoxes X2)).ar (ix2 j 0) = _
    pointwise [Model.colsOf, k1_pay32, k1_pay27, Model.lanes, Model.colChan]
    simp only [hm, sitofp_mark, sum_single]
    show k1_pay113 (F := Ideal) (k1_pay110 (F := Ideal) (k1_pay98 (F := Ideal) (Model.colChan (n := 4) X2 0)) (Model.colChan (n := 4) X2 2)) (k1_pay111 (F := Ideal) (k1_pay99 (F := Ideal) (Model.colChan (n := 4) X2 1)) (Model.colChan (n := 4) X2 3))
      (k1_pay112 (F := Ideal)) (ValueIdx.ix3 0 j ⟨k.val, by omega⟩) = _
    pointwise [k1_pay113, k1_pay112, k1_pay110, k1_pay111, k1_pay98, k1_pay99, k1_pay100, k1_pay101, k1_pay102, k1_pay103, k1_pay104, k1_pay105,
      k1_pay106, k1_pay107, k1_pay108, k1_pay109, Model.colChan]
    rfl

/-! ## How many rows are above the threshold -/

open Classical in
theorem above_card : Model.nAbove X0 X1 = (Finset.univ.filter fun x : S1x20x1x1024.Idx => X0 (ix1 1) < X1 (ix4 4 (x 1) (x 2) (x 3))).card % 2 ^ 32 := by
  unfold Model.nAbove
  pointwise [k1_pay115, Model.score, k1_pay88, Model.chan]
  rw [IndicatorCount.fold_addi_setWidth_eq_card (fun x : S1x20x1x1024.Idx => BitVec.ofBool (decide (Model.sthr X0 < X1 (ValueIdx.ix4 4 (x 1) (x 2) (x 3))))),
    BitVec.toNat_ofNat]
  refine congrArg (fun s : Finset S1x20x1x1024.Idx => s.card % 2 ^ 32) ?_
  ext x
  have hx : ∀ y : (⟨1, ![1]⟩ : Shape).Idx, y = ix1 0 := fun y => funext fun c => by
    match c with
    | 0 => exact Subsingleton.elim (α := Fin 1) _ _
  simp only [Finset.mem_filter, Finset.mem_univ, true_and]
  have hb : ∀ q : Prop, ∀ [Decidable q], (BitVec.ofBool (decide q) = 1#1 ↔ q) := fun q _ => by
    by_cases h : q
    · simp [h]
    · simp [h]
  rw [hb]
  exact ⟨fun h => h.2, fun h => ⟨hx _, h⟩⟩

theorem idx_card : (Finset.univ : Finset S1x20x1x1024.Idx).card ≤ 20480 := by
  have h := Finset.card_le_card_of_injOn (s := (Finset.univ : Finset S1x20x1x1024.Idx)) (t := Finset.range 20480) (fun x => 1024 * (x 1).val + (x 3).val)
    (fun x _ => by
      have h1 : (x 1).val < 20 := (x 1).isLt
      have h3 : (x 3).val < 1024 := (x 3).isLt
      simp only [Finset.coe_range, Set.mem_Iio]
      omega)
    (fun x _ y _ e => by
      have e' : 1024 * (x 1).val + (x 3).val = 1024 * (y 1).val + (y 3).val := e
      have h3 : (x 3).val < 1024 := (x 3).isLt
      have h3' : (y 3).val < 1024 := (y 3).isLt
      have h0 : (x 0).val < 1 := (x 0).isLt
      have h0' : (y 0).val < 1 := (y 0).isLt
      have h2 : (x 2).val < 1 := (x 2).isLt
      have h2' : (y 2).val < 1 := (y 2).isLt
      funext a
      refine Fin.ext ?_
      match a with
      | 0 => show (x 0).val = (y 0).val; omega
      | 1 => show (x 1).val = (y 1).val; omega
      | 2 => show (x 2).val = (y 2).val; omega
      | 3 => show (x 3).val = (y 3).val; omega)
  rwa [Finset.card_range] at h

theorem above_le : Model.nAbove X0 X1 ≤ 20480 := by
  classical
  rw [above_card]
  exact (Nat.mod_le _ _).trans ((Finset.card_filter_le _ _).trans idx_card)

/-- With the scores descending, the rows above the threshold come first. -/
theorem lt_above {p : ℕ} (hp : p < 20480) (h : ∀ q ≤ p, ¬low X0 X1 q) : p < Model.nAbove X0 X1 := by
  classical
  rw [above_card, Nat.mod_eq_of_lt (lt_of_le_of_lt ((Finset.card_filter_le _ _).trans idx_card) (by norm_num))]
  have hc : ((Finset.range (p + 1)).image fun q => (ix4 0 (Fin.ofNat 20 (q / 1024)) 0 (Fin.ofNat 1024 q) : S1x20x1x1024.Idx)).card = p + 1 := by
    rw [Finset.card_image_of_injOn, Finset.card_range]
    intro q hq q' hq' e
    have hq1 : q < p + 1 := by simpa using hq
    have hq2 : q' < p + 1 := by simpa using hq'
    have e1 : q / 1024 % 20 = q' / 1024 % 20 := congrArg (fun i : S1x20x1x1024.Idx => (i 1).val) e
    have e3 : q % 1024 = q' % 1024 := congrArg (fun i : S1x20x1x1024.Idx => (i 3).val) e
    omega
  refine lt_of_lt_of_le (Nat.lt_succ_self p) (hc.symm.le.trans (Finset.card_le_card fun x hx => ?_))
  obtain ⟨q, hq, rfl⟩ := Finset.mem_image.mp hx
  simp only [Finset.mem_filter, Finset.mem_univ, true_and]
  exact not_le.mp (h q (by have := Finset.mem_range.mp hq; omega))

/-! ## The state -/

theorem blocks_le : Model.nBlocks X0 X1 ≤ 20 := by
  have := above_le (X1 := X1) X0
  unfold Model.nBlocks
  omega

theorem inv_start : Inv (X0 (ix1 0)) (boxAt X1) (low X0 X1) 0 (Model.start X0 X1) where
  le := Nat.zero_le _
  sup b j := by
    rw [if_neg (by omega)]
    unfold low
    rw [entry_at]
    pointwise [Model.start, k1_pay114, Model.score, k1_pay88, Model.chan]
    rw [sitofp_mark]
    rfl
  mem p hp := absurd hp (Nat.not_lt_zero p)
  all r hr := absurd hr (by omega)
  rest p _ _ := by
    have h : ∀ i, (Model.start X0 X1).comp i = 0 := fun i => by
      pointwise [Model.start, k1_pay83]
    unfold slotN slot
    rw [h, h, h, h, h]
    rfl

theorem inv_state (h : Same X1 X2) : ∀ m ≤ Model.nBlocks X0 X1, Inv (X0 (ix1 0)) (boxAt X1) (low X0 X1) m (Model.state X0 X1 X2 m)
  | 0, _ => inv_start X0
  | m + 1, hm => by
    have hk : m < (k1_t1_loop (BitVec.ofNat 32 (Model.nBlocks X0 X1))).trips := by rw [Words.t1_trips (blocks_le X0)]; omega
    have ih := inv_state h m (by omega)
    have e : Model.state X0 X1 X2 (m + 1) = Model.trip (Model.thr X0) (Model.boxes X1) (Model.colBoxes X2) _ ⟨m, hk⟩ (Model.state X0 X1 X2 m) :=
      Model.upto_succ _ _ ⟨m, hk⟩
    rw [e]
    exact inv_step (boxAt_good X1) (boxes_row X1) (blocks_le X0) ⟨m, hk⟩ (cols_row h (blocks_le X0) ⟨m, hk⟩) ih

/-- The counts stay within the buffers. -/
theorem fits (h : Same X1 X2) : Model.Fits X0 X1 X2 where
  above := above_le X0
  kept k := by
    have hk : k.val < Model.nBlocks X0 X1 := lt_of_lt_of_eq k.isLt (Words.t1_trips (blocks_le X0))
    have hb := blocks_le (X1 := X1) X0
    have e : Model.state X0 X1 X2 (k.val + 1) = Model.trip (Model.thr X0) (Model.boxes X1) (Model.colBoxes X2) _ k (Model.state X0 X1 X2 k.val) :=
      Model.upto_succ _ _ k
    have hi := (inv_state X0 h (k.val + 1) hk).le
    rw [e] at hi
    exact hi.trans (by omega)

/-- The rows kept. -/
abbrev Kept (X0 : FVec Ideal S2 .f32) (X1 : FVec Ideal S5x20x1x1024 .f32) : ℕ → Prop := Alive (low X0 X1) (Sup (X0 (ix1 0)) (boxAt X1))

theorem sup_end (h : Same X1 X2) (hs : ∀ p q, p ≤ q → q < 20000 → entry X1 4 q ≤ entry X1 4 p) (b : Fin 20) (j : Fin 1024) (hp : 1024 * b.val + j.val < 20000) :
    Model.supEnd X0 X1 X2 (ix3 b 0 j) = ind (¬Kept X0 X1 (1024 * b.val + j.val)) := by
  unfold Model.supEnd
  rw [Words.t1_trips (blocks_le X0), (inv_state X0 h _ le_rfl).sup]
  by_cases hb : b.val < Model.nBlocks X0 X1
  · rw [if_pos hb]
  · rw [if_neg hb]
    have hlow : low X0 X1 (1024 * b.val + j.val) := by
      by_contra hc
      have := lt_above X0 (X1 := X1) (p := 1024 * b.val + j.val) (by omega) fun q hq hl => hc ((hs q _ hq hp).trans hl)
      unfold Model.nBlocks at hb
      omega
    rw [ind_true hlow, ind_true fun hk => ((alive_iff _ _ _).mp hk).1 hlow]

/-- The result at a row. -/
theorem out_row (h : Same X1 X2) (hs : ∀ p q, p ≤ q → q < 20000 → entry X1 4 q ≤ entry X1 4 p) {p : ℕ} (hp : p < 20000) :
    let k := ind (Kept X0 X1 p)
    let at' := fun c : Fin 5 => Model.nmsOut X0 X1 X2 (ix4 c (Fin.ofNat 20 (p / 1024)) 0 (Fin.ofNat 1024 p))
    at' 0 = (boxAt X1 p).x1 * k ∧ at' 1 = (boxAt X1 p).y1 * k ∧ at' 2 = (boxAt X1 p).x2 * k ∧ at' 3 = (boxAt X1 p).y2 * k ∧ at' 4 = entry X1 4 p * k := by
  obtain ⟨b, j, rfl⟩ : ∃ (b : Fin 20) (j : Fin 1024), p = 1024 * b.val + j.val := ⟨⟨p / 1024, by omega⟩, ⟨p % 1024, by omega⟩, by simp only []; omega⟩
  have e1 : Fin.ofNat 20 ((1024 * b.val + j.val) / 1024) = b := Fin.ext (by show (1024 * b.val + j.val) / 1024 % 20 = b.val; omega)
  have e2 : Fin.ofNat 1024 (1024 * b.val + j.val) = j := Fin.ext (by show (1024 * b.val + j.val) % 1024 = j.val; omega)
  rw [e1, e2, entry_at, ← boxes_row]
  intro k at'
  have hk : 1 - Model.supEnd X0 X1 X2 (ix3 b 0 j) = k := by
    rw [sup_end X0 h hs b j hp, ind_not]; exact ind_congr not_not
  have hat : ∀ c, at' c = Model.nmsOut X0 X1 X2 (ix4 c b 0 j) := fun _ => rfl
  simp only [hat]
  unfold Model.nmsOut Model.chans
  generalize Model.supEnd X0 X1 X2 = e at hk ⊢
  generalize Model.boxes X1 = D
  rw [← hk]
  refine ⟨?_, ?_, ?_, ?_, ?_⟩
  · show k1_pay121 (F := Ideal) e (chan (n := 5) D 0) (ValueIdx.ix4 0 b 0 j) = _
    pointwise [k1_pay121, k1_pay120, Model.chan]
    rfl
  · show k1_pay1 (F := Ideal) (k1_pay120 (F := Ideal) e) (k1_pay122 (F := Ideal) (chan (n := 5) D 1)) (ValueIdx.ix4 0 b 0 j) = _
    pointwise [k1_pay122, k1_pay1, k1_pay120, Model.chan]
    rfl
  · show k1_pay2 (F := Ideal) (k1_pay120 (F := Ideal) e) (chan (n := 5) D 2) (ValueIdx.ix4 0 b 0 j) = _
    pointwise [k1_pay2, k1_pay120, Model.chan]
    rfl
  · show k1_pay3 (F := Ideal) (k1_pay120 (F := Ideal) e) (chan (n := 5) D 3) (ValueIdx.ix4 0 b 0 j) = _
    pointwise [k1_pay3, k1_pay120, Model.chan]
    rfl
  · show k1_pay4 (Model.score X1) (k1_pay120 e) (ValueIdx.ix4 0 b 0 j) = _
    pointwise [k1_pay4, k1_pay120, Model.score, k1_pay88, Model.chan]
    rfl

end Cert.Proof.Read

end
-- ==== Proof.Rows.lean ====
/-
  The suppression kernel's operands, entry by entry: row `p` of them is the row of the boxes that stands at place `p` of
  the order, and the rows come by descending score.
-/
module

public import proofs.«01_k».proof.Proof.Main
public import proofs.«01_k».proof.Proof.Nms
public import Idealize.ShloMosaic.Lib.KernelVsHost
public import Idealize.ShloMosaic.Lib.SortFacts

@[expose] public section

set_option maxRecDepth 16384

noncomputable section

namespace Cert.Proof.Sc

open Cert.KernelIdeal Cert.KernelIdeal.Gen
open Idealize.ShloMosaic

section Layout

variable {F : FTy → Type} [FloatOps F]

/-- Box number `n`'s column `c`. -/
abbrev rc (n : Fin 20000) (c : Fin 5) : S20000x5.Idx := fun | 0 => n | 1 => c | ⟨_ + 2, h⟩ => absurd h (Nat.not_lt.2 (Nat.le_add_left _ _))
/-- Place `n` of a list of 20000. -/
abbrev at1 (n : Fin 20000) : S20000.Idx := fun | 0 => n | ⟨_ + 1, h⟩ => absurd h (Nat.not_lt.2 (Nat.le_add_left _ _))

/-- The number of the box at place `n` of the order. -/
def nth (x : S20000x5.Idx → Elt F .f32) (n : Fin 20000) : Fin 20000 := ⟨(orderOf x (at1 n) : BitVec 32).toNat, orderOf_lt x _⟩

theorem listOf_left (x : S20000x5.Idx → Elt F .f32) (j : S20224.Idx) (n : Fin 20000) (hj : (j 0).val = n.val) :
    listOf x j = orderOf x (at1 n) := by
  unfold listOf
  rw [concatenate_pair_apply, dif_pos (by rw [hj]; exact n.isLt)]
  refine congrArg (orderOf x) (funext fun a => Fin.ext ?_)
  match a with
  | 0 => exact hj

theorem ranked_apply (x : S20000x5.Idx → Elt F .f32) (j : S20000x5.Idx) :
    ranked x j = x (rc (nth x (j 0)) (j 1)) := by
  unfold ranked extractStridedSlice gathered
  unfold tableOf
  refine pad_apply_of_inside _ _ _ _ _ _ _ _ _ ?_
  intro a
  match a with
  | 0 =>
    show (listOf x _ : BitVec 32).toNat % 20000 = 0 + (nth x (j 0)).val * (0 + 1)
    rw [Nat.mod_eq_of_lt (listOf_lt x _), listOf_left x _ (j 0) (Nat.zero_add _)]
    show _ = 0 + (orderOf x (at1 (j 0)) : BitVec 32).toNat * (0 + 1)
    omega
  | 1 =>
    show 0 + (j 1).val = 0 + (j 1).val * (0 + 1)
    omega

theorem filled_left (x : S20000x5.Idx → Elt F .f32) (p : Fin 20480) (hp : p.val < 20000) (c : Fin 5) :
    filled x (ValueIdx.ix2 p c) = x (rc (nth x ⟨p.val, hp⟩) c) := by
  unfold filled
  rw [concatenate_pair_apply]
  exact (dif_pos hp).trans (ranked_apply x _)

theorem across_apply (x : S20000x5.Idx → Elt F .f32) (ch : Fin 5) (b : Fin 20) (j : Fin 1024) :
    across x (ValueIdx.ix4 ch b 0 j) = filled x (ValueIdx.ix2 ⟨1024 * b.val + j.val, by omega⟩ ch) := by
  unfold across
  pointwise []
  exact congrArg (fun q => filled x (ValueIdx.ix2 q ch)) (Fin.ext (by show b.val * 1024 + j.val = 1024 * b.val + j.val; omega))

theorem down_apply (x : S20000x5.Idx → Elt F .f32) (c : Fin 4) (b : Fin 20) (j : Fin 1024) :
    down x (ValueIdx.ix3 c j ⟨b.val, by omega⟩) = filled x (ValueIdx.ix2 ⟨1024 * b.val + j.val, by omega⟩ ⟨c.val, by omega⟩) := by
  unfold down
  refine (pad_apply_of_inside _ _ _ _ _ _ _ _ (ValueIdx.ix3 c j b : S4x1024x20.Idx) ?_).trans ?_
  · intro a
    match a with
    | 0 => show c.val = 0 + c.val * (0 + 1); omega
    | 1 => show j.val = 0 + j.val * (0 + 1); omega
    | 2 => show b.val = 0 + b.val * (0 + 1); omega
  pointwise []
  exact congrArg (fun q => filled x (ValueIdx.ix2 q ⟨c.val, by omega⟩)) (Fin.ext (by show b.val * 1024 + j.val = 1024 * b.val + j.val; omega))

theorem back_apply (y : S5x20x1x1024.Idx → Elt F .f32) (j : S20000x5.Idx) :
    back y j = y (ValueIdx.ix4 (j 1) (Fin.ofNat 20 ((j 0).val / 1024)) 0 (Fin.ofNat 1024 (j 0).val)) := by
  unfold back
  pointwise []
  have h : (j 0).val < 20000 := (j 0).isLt
  exact congrArg (fun q => y (ValueIdx.ix4 (j 1) q 0 (Fin.ofNat 1024 (j 0).val)))
    (Fin.ext (by show (j 0).val / 1024 = (j 0).val / 1024 % 20; omega))

theorem bounds_0 (a b : S_.Idx → Elt F .f32) (i : S_.Idx) : bounds a b (ValueIdx.ix1 0) = a i := by
  unfold bounds
  pointwise []
  exact congrArg a (funext fun q => q.elim0)

theorem bounds_1 (a b : S_.Idx → Elt F .f32) (i : S_.Idx) : bounds a b (ValueIdx.ix1 1) = b i := by
  unfold bounds
  pointwise []
  exact congrArg b (funext fun q => q.elim0)

end Layout

/-! ## The order -/

section Order

/-- The comparison the sort makes, of two numbers: a nought is a nought, and nothing differs from itself. -/
theorem before_apply (l r : EReal × BitVec 32) : comparator_f32_i32_d0 (F := Ideal) l r = BitVec.ofBool (decide (l.1 < r.1)) := by
  have hz : ∀ u : EReal, Scalar.select (FloatOps.cmpf (F := Ideal) (φ := .f32) .une u u) (FloatOps.ofBits (F := Ideal) .f32 0x7FC00000#32)
      (Scalar.select (FloatOps.cmpf (F := Ideal) (φ := .f32) .oeq u (FloatOps.ofBits (F := Ideal) .f32 0x00000000#32)) (FloatOps.ofBits (F := Ideal) .f32 0x00000000#32) u) = u := fun u => by
    have e1 : FloatOps.cmpf (F := Ideal) (φ := .f32) .une u u = 0#1 := by
      show BitVec.ofBool (decide (u ≠ u)) = 0#1
      rw [decide_eq_false (not_not.mpr rfl)]; rfl
    rw [e1]
    show Scalar.select (FloatOps.cmpf (F := Ideal) (φ := .f32) .oeq u (FloatOps.ofBits (F := Ideal) .f32 0x00000000#32)) (FloatOps.ofBits (F := Ideal) .f32 0x00000000#32) u = u
    by_cases h : u = Ideal.ofBits .f32 0x00000000#32
    · unfold Scalar.select
      split
      · exact h.symm
      · rfl
    · have e2 : FloatOps.cmpf (F := Ideal) (φ := .f32) .oeq u (FloatOps.ofBits (F := Ideal) .f32 0x00000000#32) = 0#1 := by
        show BitVec.ofBool (decide (u = Ideal.ofBits .f32 0x00000000#32)) = 0#1
        rw [decide_eq_false h]; rfl
      rw [e2]
      rfl
  unfold comparator_f32_i32_d0
  show FloatOps.cmpfTotal .lt _ _ = _
  rw [hz, hz]
  rfl

variable (x : S20000x5.Idx → Elt Ideal .f32)

/-- One row of the boxes comes before another in the sort. -/
def ahead (k k' : Fin 20000) : Bool := comparator_f32_i32_d0 (F := Ideal) (-(x (rc k 4)), BitVec.ofNat 32 k.val) (-(x (rc k' 4)), BitVec.ofNat 32 k'.val) == 1#1

theorem key_apply (j : S20000.Idx) : Host.negf (F := Ideal) (φ := .f32) (shapeCast S20000 (extractStridedSlice S20000x1 ![0, 4] x slices_S20000x5_S20000x1_0_4) shapeCasts_S20000x1_S20000) j
    = -(x (rc (j 0) 4)) := by
  pointwise []
  show -(x _) = -(x _)
  refine congrArg (fun q => -(x q)) (funext fun c => Fin.ext ?_)
  match c with
  | 0 => rfl
  | 1 => rfl

theorem along_apply (j : S20000.Idx) (hd : 0 < S20000.rank) (k : Fin (S20000.size ⟨0, hd⟩)) : (j.along ⟨0, hd⟩ k : S20000.Idx) 0 = k := by
  unfold Shape.Idx.along
  exact Function.update_self ..

theorem nth_sorted (p : Fin 20000) : nth x p = sortedFrom (ahead x) p := by
  refine Fin.ext ?_
  show (orderOf x (at1 p) : BitVec 32).toNat = _
  unfold orderOf Host.sort2
  rw [dif_pos (by decide)]
  show (BitVec.ofNat 32 (Fin.val _)).toNat = _
  rw [BitVec.toNat_ofNat]
  refine (Nat.mod_eq_of_lt (lt_trans (Fin.isLt _) (show 20000 < 2 ^ 32 by norm_num))).trans ?_
  rw [along_apply]
  refine congrArg (fun R => (sortedFrom R p).val) (funext fun k => funext fun k' => ?_)
  unfold ahead
  refine congrArg₂ (fun u v => comparator_f32_i32_d0 (F := Ideal) u v == 1#1) (Prod.ext ?_ ?_) (Prod.ext ?_ ?_)
  · exact (key_apply x _).trans (congrArg (fun q => -(x (rc q 4))) (along_apply _ _ k))
  · exact congrArg (fun q : Fin 20000 => BitVec.ofNat 32 q.val) (along_apply _ _ k)
  · exact (key_apply x _).trans (congrArg (fun q => -(x (rc q 4))) (along_apply _ _ k'))
  · exact congrArg (fun q : Fin 20000 => BitVec.ofNat 32 q.val) (along_apply _ _ k')

theorem scores_fall (p q : Fin 20000) (h : p ≤ q) : x (rc (nth x q) 4) ≤ x (rc (nth x p) 4) := by
  rcases h.lt_or_eq with h | rfl
  · rw [nth_sorted, nth_sorted]
    have hb : ∀ k k', ahead x k k' = decide (-(x (rc k 4)) < -(x (rc k' 4))) := fun k k' => by
      unfold ahead
      rw [before_apply]
      cases decide (-(x (rc k 4)) < -(x (rc k' 4))) <;> rfl
    have e := sortedFrom_noInversion (ahead x) (ahead x)
      (fun a b hab => by rw [hb] at hab ⊢; exact decide_eq_false (not_lt.mpr (of_decide_eq_true hab).le)) (fun _ _ h => h)
      (fun a b c hab hbc => by
        rw [hb] at hab hbc ⊢
        exact decide_eq_false (not_lt.mpr ((not_lt.mp (of_decide_eq_false hbc)).trans (not_lt.mp (of_decide_eq_false hab))))) p q h
    rw [hb] at e
    exact EReal.neg_le_neg_iff.mp (not_lt.mp (of_decide_eq_false e))
  · exact le_rfl

end Order

/-! ## The suppression kernel at these operands -/

section Operands

open Cert.Proof.Read

variable (x : S20000x5.Idx → Elt Ideal .f32) (a b : S_.Idx → Elt Ideal .f32)

theorem same : Same (across x) (down x) := fun c b j => (down_apply x c b j).trans (across_apply x _ b j).symm

theorem entry_row (ch : Fin 5) (p : Fin 20000) : entry (across x) ch p.val = x (rc (nth x p) ch) := by
  unfold entry
  refine (across_apply x ch _ _).trans ?_
  have e : ∀ q : Fin 20480, q.val = p.val → filled x (ValueIdx.ix2 q ch) = x (rc (nth x p) ch) := fun q hq =>
    (filled_left x q (by omega) ch).trans (congrArg (fun r => x (rc (nth x r) ch)) (Fin.ext hq))
  refine e _ ?_
  show 1024 * (p.val / 1024 % 20) + p.val % 1024 = p.val
  omega

theorem entry_fall (p q : ℕ) (h : p ≤ q) (hq : q < 20000) : entry (across x) 4 q ≤ entry (across x) 4 p := by
  rw [entry_row x 4 ⟨q, hq⟩, entry_row x 4 ⟨p, by omega⟩]
  exact scores_fall x _ _ h

/-- The box in row `p` of the order. -/
def box (p : Fin 20000) : Bx := ofCentre (x (rc (nth x p) 0)) (x (rc (nth x p) 1)) (x (rc (nth x p) 2)) (x (rc (nth x p) 3))

theorem box_row (p : Fin 20000) : boxAt (across x) p.val = box x p := by
  unfold boxAt box
  rw [entry_row, entry_row, entry_row, entry_row]

theorem fits_ideal : FitsAt x a b := Read.fits _ (same x)

end Operands

end Cert.Proof.Sc

end
-- ==== Proof.Plain.lean ====
/-
  The reference program on a device, for any float values: the boxes and scores in order, the marks before the first
  trip of its loop, and its result from the marks after the last.
-/
module

public import proofs.«01_k».proof.Proof.Gen.ReferenceIdeal.Run
public import Idealize.ShloMosaic.Lib.Quiescent

@[expose] public section

set_option maxRecDepth 4096

noncomputable section

namespace Cert.Proof.Plain

open Cert.ReferenceIdeal Cert.ReferenceIdeal.Value Cert.ReferenceIdeal.Facts₀
open Cert.ReferenceIdeal.Gen (hostOps0 hostOps0_1 hostOps0_2 hostOps0_3)
open Idealize.ShloMosaic Idealize.ShloMosaic.TcCoe Idealize.SL.Sem Idealize.ShloMosaic.StableHlo

variable {F : FTy → Type} [FloatOps F]

/-! ## What the operations before and after the loop compute -/

/-- A column of the boxes given by centre and size. -/
def centreCol (x : S20000x5.Idx → Elt F .f32) (k : Fin 2 → ℕ) (h : S20000x4.Slices k S20000x1) : S20000.Idx → Elt F .f32 :=
  shapeCast S20000 (extractStridedSlice S20000x1 k (extractStridedSlice S20000x4 ![0, 0] x slices_S20000x5_S20000x4_0_0) h) shapeCasts_S20000x1_S20000

/-- A float at every place. -/
def every (w : BitVec 32) : S20000.Idx → Elt F .f32 := broadcastInDim S20000 ![] bcast_S_S20000 (constant S_ .f32 w)

/-- The boxes by their corners. -/
def corners (x : S20000x5.Idx → Elt F .f32) : S20000x4.Idx → Elt F .f32 :=
  let cx := centreCol x ![0, 0] slices_S20000x4_S20000x1_0_0
  let cy := centreCol x ![0, 1] slices_S20000x4_S20000x1_0_1
  let w := centreCol x ![0, 2] slices_S20000x4_S20000x1_0_2
  let h := centreCol x ![0, 3] slices_S20000x4_S20000x1_0_3
  let col := fun v : S20000.Idx → Elt F .f32 => (broadcastInDim S20000x1 ![0] bcast_S20000_S20000x1_0 v : S20000x1.Idx → Elt F .f32)
  concatenate S20000x4 1 [⟨S20000x1, col (subf cx (Host.divf w (every 0x40000000#32)))⟩, ⟨S20000x1, col (subf cy (Host.divf h (every 0x40000000#32)))⟩,
    ⟨S20000x1, col (addf cx (Host.divf w (every 0x40000000#32)))⟩, ⟨S20000x1, col (addf cy (Host.divf h (every 0x40000000#32)))⟩]
    concatenates_S20000x1_S20000x1_S20000x1_S20000x1_S20000x4_d1

/-- The scores. -/
def scores (x : S20000x5.Idx → Elt F .f32) : S20000.Idx → Elt F .f32 :=
  shapeCast S20000 (extractStridedSlice S20000x1 ![0, 4] x slices_S20000x5_S20000x1_0_4) shapeCasts_S20000x1_S20000

/-- The row numbers by descending score. -/
def order (x : S20000x5.Idx → Elt F .f32) : S20000.Idx → Elt F .i32 :=
  (Host.sort2 S20000 0 (comparator_f32_i32_d0 (F := F)) (Host.negf (scores x)) (iotaInDim S20000 32 0)).2

/-- A list of row numbers as the lookup reads it: a negative one counts from the end. -/
def rowList (v : S20000.Idx → Elt F .i32) : S20000x1.Idx → Elt F .i32 :=
  broadcastInDim S20000x1 ![0] bcast_S20000_S20000x1_0
    (select (cmpi .slt v (broadcastInDim S20000 ![] bcast_S_S20000 (constantI S_ 32 0#32)))
      (addi v (broadcastInDim S20000 ![] bcast_S_S20000 (constantI S_ 32 20000#32))) v)

/-- The boxes in order, by their corners. -/
def boxRows (x : S20000x5.Idx → Elt F .f32) : S20000x4.Idx → Elt F .f32 :=
  Host.gather gather_S20000x4_S20000x1_S20000x4_1_0_n_n_0_1_14 (corners x) (rowList (order x))

/-- The scores in order. -/
def scoreRows (x : S20000x5.Idx → Elt F .f32) : S20000.Idx → Elt F .f32 :=
  Host.gather gather_S20000_S20000x1_S20000_n_0_n_n_0_1_1 (scores x) (rowList (order x))

/-- A column of the boxes given by corners. -/
def cornerCol (b : S20000x4.Idx → Elt F .f32) (k : Fin 2 → ℕ) (h : S20000x4.Slices k S20000x1) : S20000.Idx → Elt F .f32 :=
  shapeCast S20000 (extractStridedSlice S20000x1 k b h) shapeCasts_S20000x1_S20000

/-- The boxes' areas. -/
def areas (b : S20000x4.Idx → Elt F .f32) : S20000.Idx → Elt F .f32 :=
  mulf (maximumf (subf (cornerCol b ![0, 2] slices_S20000x4_S20000x1_0_2) (cornerCol b ![0, 0] slices_S20000x4_S20000x1_0_0)) (every 0#32))
    (maximumf (subf (cornerCol b ![0, 3] slices_S20000x4_S20000x1_0_3) (cornerCol b ![0, 1] slices_S20000x4_S20000x1_0_1)) (every 0#32))

/-- The boxes of too low a score. -/
def lowRows (s : S20000.Idx → Elt F .f32) (b : S_.Idx → Elt F .f32) : S20000.Idx → Elt F .i1 :=
  cmpf .ole s (broadcastInDim S20000 ![] bcast_S_S20000 b)

/-- The result, from the boxes and scores in order and the marks of what is left out. -/
def masked (b : S20000x4.Idx → Elt F .f32) (s : S20000.Idx → Elt F .f32) (u : S20000.Idx → Elt F .i1) : S20000x5.Idx → Elt F .f32 :=
  mulf (concatenate S20000x5 1 [⟨S20000x4, b⟩, ⟨S20000x1, broadcastInDim S20000x1 ![0] bcast_S20000_S20000x1_0 s⟩] concatenates_S20000x4_S20000x1_S20000x5_d1)
    (broadcastInDim S20000x5 ![0, 1] bcast_S20000x1_S20000x5_0_1 (uitofp .f32 (broadcastInDim S20000x1 ![0] bcast_S20000_S20000x1_0 (noti u))))

/-- A number, a negative one counting from the end of `n` places. -/
def wrap (i : S_.Idx → Elt F .i32) (n : BitVec 32) : S_.Idx → Elt F .i32 :=
  select (cmpi .slt i (constantI S_ 32 0#32)) (addi i (constantI S_ 32 n)) i

/-- Coordinate `k` of box `i`, at every place. -/
def cornerOf (b : S20000x4.Idx → Elt F .f32) (i : S_.Idx → Elt F .i32) (k : BitVec 32) : S20000.Idx → Elt F .f32 :=
  broadcastInDim S20000 ![] bcast_S_S20000 (shapeCast S_ (Host.dynamicSlice S1x1 b
    (fun q => ((![wrap (F := F) i 20000#32, wrap (F := F) (constantI S_ 32 k) 4#32] : Fin 2 → S_.Idx → Elt F .i32) q (Shape.Idx.first h_S_)).toInt) sliceFits_S20000x4_S1x1) shapeCasts_S1x1_S_)

/-- Place `i` of a list. -/
def placeOf {α : Type} (v : S20000.Idx → α) (i : S_.Idx → Elt F .i32) : S_.Idx → α :=
  shapeCast S_ (Host.dynamicSlice S1 v (fun q => ((![wrap (F := F) i 20000#32] : Fin 1 → S_.Idx → Elt F .i32) q (Shape.Idx.first h_S_)).toInt) sliceFits_S20000_S1) shapeCasts_S1_S_

/-- The overlaps of box `i` with all boxes. -/
def overlaps (b : S20000x4.Idx → Elt F .f32) (i : S_.Idx → Elt F .i32) : S20000.Idx → Elt F .f32 :=
  mulf (maximumf (subf (minimumf (cornerOf b i 2#32) (cornerCol b ![0, 2] slices_S20000x4_S20000x1_0_2)) (maximumf (cornerOf b i 0#32) (cornerCol b ![0, 0] slices_S20000x4_S20000x1_0_0))) (every 0#32))
    (maximumf (subf (minimumf (cornerOf b i 3#32) (cornerCol b ![0, 3] slices_S20000x4_S20000x1_0_3)) (maximumf (cornerOf b i 1#32) (cornerCol b ![0, 1] slices_S20000x4_S20000x1_0_1))) (every 0#32))

/-- The shares of box `i`'s overlaps in the unions. -/
def shares (b : S20000x4.Idx → Elt F .f32) (ar : S20000.Idx → Elt F .f32) (i : S_.Idx → Elt F .i32) : S20000.Idx → Elt F .f32 :=
  Host.divf (overlaps b i) (addf (subf (addf (broadcastInDim S20000 ![] bcast_S_S20000 (placeOf (F := F) ar i)) ar) (overlaps b i)) (every 0x3089705F#32))

/-- One trip on the marks: box `i`, if it has none, gives one to every later box it overlaps too much. -/
def trip (b : S20000x4.Idx → Elt F .f32) (ar : S20000.Idx → Elt F .f32) (t : S_.Idx → Elt F .f32) (l : S20000.Idx → Elt F .i32)
    (i : S_.Idx → Elt F .i32) (u : S20000.Idx → Elt F .i1) : S20000.Idx → Elt F .i1 :=
  ori u (andi (andi (broadcastInDim S20000 ![] bcast_S_S20000 (noti (placeOf (F := F) u i)))
    (cmpf .ogt (shares b ar i) (broadcastInDim S20000 ![] bcast_S_S20000 t))) (cmpi .sgt l (broadcastInDim S20000 ![] bcast_S_S20000 i)))

/-- The marks after `k` trips. -/
def marks (x : S20000x5.Idx → Elt F .f32) (a b : S_.Idx → Elt F .f32) : ℕ → S20000.Idx → Elt F .i1
  | 0 => lowRows (scoreRows x) b
  | k + 1 => trip (boxRows x) (areas (boxRows x)) a (iotaInDim S20000 32 0) (fun _ => BitVec.ofNat 32 k) (marks x a b k)

/-- What the program returns. -/
def resultOf (x : S20000x5.Idx → Elt F .f32) (a b : S_.Idx → Elt F .f32) : S20000x5.Idx → Elt F .f32 :=
  masked (boxRows x) (scoreRows x) (marks x a b 20000)

/-! ## The arrays along the program -/

variable (m : (ℓ : Loc nD τ sig) → Buf (Elt F) ℓ) (ρ : Dev nD → PrngReg)

abbrev boxes (c : Dev nD) : S20000x5.Idx → Elt F .f32 := m ((c.tc : Thread nD τ).loc main_arg0)
abbrev iouThr (c : Dev nD) : S_.Idx → Elt F .f32 := m ((c.tc : Thread nD τ).loc main_arg1)
abbrev scoreThr (c : Dev nD) : S_.Idx → Elt F .f32 := m ((c.tc : Thread nD τ).loc main_arg2)

/-- The arrays where the loop begins. -/
abbrev start (c : Dev nD) : Valuation τ sig (Elt F) := entryContents preI m c

theorem start_eq (c : Dev nD) : start m c = after hostOps0_2 (after hostOps0_1 (after hostOps0 (launchContents m c))) := rfl

section Reads
variable (V : Valuation τ sig (Elt F))

set_option maxHeartbeats 1000000 in
theorem first_corners : after hostOps0 V (Proc.devRef .tc main_v25) = corners (V (Proc.devRef .tc main_arg0)) := by
  after_reads_simp; rfl
theorem first_scores : after hostOps0 V (Proc.devRef .tc main_v27) = scores (V (Proc.devRef .tc main_arg0)) := by
  after_reads_simp; rfl
theorem first_neg : after hostOps0 V (Proc.devRef .tc main_v28) = Host.negf (scores (V (Proc.devRef .tc main_arg0))) := by
  after_reads_simp; rfl

theorem second_order : after hostOps0_1 V (Proc.devRef .tc main_v29)
    = (Host.sort2 S20000 0 (comparator_f32_i32_d0 (F := F)) (V (Proc.devRef .tc main_v28)) (iotaInDim S20000 32 0)).2 := by
  simp only [hostOps0_1, TRef.unary, TRef.binary, TRef.nullary, TRef.toBuf, TRef.ofBuf, cast_eq]; after_results <;> rfl

theorem second_keeps {r : Ref sig .tc} (h : r ∉ [main_call0_v0, main_call0_v1_0, main_v29]) :
    after hostOps0_1 V (Proc.devRef .tc r) = V (Proc.devRef .tc r) := after_unwritten _ rfl h V

set_option maxHeartbeats 1000000 in
theorem third_boxes : after hostOps0_2 V (Proc.devRef .tc main_v36)
    = Host.gather gather_S20000x4_S20000x1_S20000x4_1_0_n_n_0_1_14 (V (Proc.devRef .tc main_v25)) (rowList (F := F) (V (Proc.devRef .tc main_v29))) := by
  after_reads_simp; rfl
set_option maxHeartbeats 1000000 in
theorem third_scores : after hostOps0_2 V (Proc.devRef .tc main_v43)
    = Host.gather gather_S20000_S20000x1_S20000_n_0_n_n_0_1_1 (V (Proc.devRef .tc main_v27)) (rowList (F := F) (V (Proc.devRef .tc main_v29))) := by
  after_reads_simp; rfl
set_option maxHeartbeats 1000000 in
theorem third_0 : after hostOps0_2 V (Proc.devRef .tc main_v62_0)
    = Host.gather gather_S20000x4_S20000x1_S20000x4_1_0_n_n_0_1_14 (V (Proc.devRef .tc main_v25)) (rowList (F := F) (V (Proc.devRef .tc main_v29))) := by
  after_reads_simp; rfl
set_option maxHeartbeats 1000000 in
theorem third_1 : after hostOps0_2 V (Proc.devRef .tc main_v62_1)
    = areas (Host.gather gather_S20000x4_S20000x1_S20000x4_1_0_n_n_0_1_14 (V (Proc.devRef .tc main_v25)) (rowList (F := F) (V (Proc.devRef .tc main_v29)))) := by
  after_reads_simp; rfl
theorem third_2 : after hostOps0_2 V (Proc.devRef .tc main_v62_2) = V (Proc.devRef .tc main_arg1) := by
  after_reads_simp; rfl
theorem third_3 : after hostOps0_2 V (Proc.devRef .tc main_v62_3) = iotaInDim S20000 32 0 := by
  after_reads_simp; rfl
theorem third_5 : after hostOps0_2 V (Proc.devRef .tc main_v62_5) = fun _ => (0#32 : BitVec 32) := by
  after_reads_simp; rfl
set_option maxHeartbeats 1000000 in
theorem third_6 : after hostOps0_2 V (Proc.devRef .tc main_v62_6)
    = lowRows (Host.gather gather_S20000_S20000x1_S20000_n_0_n_n_0_1_1 (V (Proc.devRef .tc main_v27)) (rowList (F := F) (V (Proc.devRef .tc main_v29)))) (V (Proc.devRef .tc main_arg2)) := by
  after_reads_simp; rfl

theorem last_result : after hostOps0_3 V (Proc.devRef .tc main_v69)
    = masked (V (Proc.devRef .tc main_v36)) (V (Proc.devRef .tc main_v43)) (V (Proc.devRef .tc main_v62_6)) := by
  after_reads_simp; rfl

theorem step_marks : step_main_v62_6 V = trip (V (Proc.devRef .tc main_v62_0)) (V (Proc.devRef .tc main_v62_1)) (V (Proc.devRef .tc main_v62_2))
    (V (Proc.devRef .tc main_v62_3)) (V (Proc.devRef .tc main_v62_5)) (V (Proc.devRef .tc main_v62_6)) := rfl

end Reads

/-! ## The arrays where the loop begins -/

theorem start_order (c : Dev nD) : after hostOps0_1 (after hostOps0 (launchContents m c)) (Proc.devRef .tc main_v29) = order (boxes m c) := by
  rw [second_order, first_neg]; rfl
theorem start_corners (c : Dev nD) : after hostOps0_1 (after hostOps0 (launchContents m c)) (Proc.devRef .tc main_v25) = corners (boxes m c) := by
  rw [second_keeps _ (by decide), first_corners]
theorem start_scores (c : Dev nD) : after hostOps0_1 (after hostOps0 (launchContents m c)) (Proc.devRef .tc main_v27) = scores (boxes m c) := by
  rw [second_keeps _ (by decide), first_scores]
theorem start_boxRows (c : Dev nD) : start m c (Proc.devRef .tc main_v36) = boxRows (boxes m c) := by
  rw [start_eq, third_boxes, start_corners, start_order]; rfl
theorem start_scoreRows (c : Dev nD) : start m c (Proc.devRef .tc main_v43) = scoreRows (boxes m c) := by
  rw [start_eq, third_scores, start_scores, start_order]; rfl
theorem start_0 (c : Dev nD) : start m c (Proc.devRef .tc main_v62_0) = boxRows (boxes m c) := by
  rw [start_eq, third_0, start_corners, start_order]; rfl
theorem start_1 (c : Dev nD) : start m c (Proc.devRef .tc main_v62_1) = areas (boxRows (boxes m c)) := by
  rw [start_eq, third_1, start_corners, start_order]; rfl
theorem start_2 (c : Dev nD) : start m c (Proc.devRef .tc main_v62_2) = iouThr m c := by
  rw [start_eq, third_2, second_keeps _ (by decide)]; after_reads_simp
theorem start_3 (c : Dev nD) : start m c (Proc.devRef .tc main_v62_3) = iotaInDim S20000 32 0 := by
  rw [start_eq, third_3]
theorem start_5 (c : Dev nD) : start m c (Proc.devRef .tc main_v62_5) = fun _ => (0#32 : BitVec 32) := by
  rw [start_eq, third_5]
theorem start_6 (c : Dev nD) : start m c (Proc.devRef .tc main_v62_6) = lowRows (scoreRows (boxes m c)) (scoreThr m c) := by
  rw [start_eq, third_6, start_scores, start_order, second_keeps _ (by decide)]
  after_reads_simp; rfl

/-! ## The loop -/

/-- The carried arrays after `k` trips. -/
theorem carried (c : Dev nD) (k : ℕ) :
    let V := STEP^[k] (start m c)
    V (Proc.devRef .tc main_v62_0) = boxRows (boxes m c) ∧ V (Proc.devRef .tc main_v62_1) = areas (boxRows (boxes m c))
      ∧ V (Proc.devRef .tc main_v62_2) = iouThr m c ∧ V (Proc.devRef .tc main_v62_3) = iotaInDim S20000 32 0
      ∧ V (Proc.devRef .tc main_v62_5) = (fun _ => BitVec.ofNat 32 k)
      ∧ V (Proc.devRef .tc main_v62_6) = marks (boxes m c) (iouThr m c) (scoreThr m c) k := by
  induction k with
  | zero => exact ⟨start_0 m c, start_1 m c, start_2 m c, start_3 m c, start_5 m c, start_6 m c⟩
  | succ k ih =>
    obtain ⟨h0, h1, h2, h3, h5, h6⟩ := ih
    intro V
    have e : V = STEP (STEP^[k] (start m c)) := Function.iterate_succ_apply' ..
    rw [e]
    refine ⟨(STEP_main_v62_0 _).trans h0, (STEP_main_v62_1 _).trans h1, (STEP_main_v62_2 _).trans h2, (STEP_main_v62_3 _).trans h3, ?_, ?_⟩
    · rw [STEP_main_v62_5, step_main_v62_5, h5]
      funext i
      show BitVec.ofNat 32 k + 1#32 = BitVec.ofNat 32 (k + 1)
      rw [BitVec.ofNat_add]
    · rw [STEP_main_v62_6, step_marks, h0, h1, h2, h3, h5, h6]; rfl

/-- The arrays a trip leaves alone. -/
theorem atK_keeps (c : Dev nD) {r : Ref sig .tc} (h : r ∉ condOps_W) (h' : r ∉ while0Ops0_W) (k : ℕ) :
    atK m k c (Proc.devRef .tc r) = start m c (Proc.devRef .tc r) := by
  induction k with
  | zero => rfl
  | succ k ih =>
    refine Eq.trans ?_ ih
    show after Gen.while0Ops0 (after condOps (atK m k c)) (Proc.devRef .tc r) = _
    rw [after_of_writes_sub _ _ while0Ops0_writes h', after_of_writes_sub _ _ condOps_writes h]

/-- The arrays where the program ends. -/
abbrev finish (c : Dev nD) : Valuation τ sig (Elt F) := finalContents condOps preI bodyI postI 20000 m c

theorem finish_eq (c : Dev nD) : finish m c = after hostOps0_3 (after condOps (atK m 20000 c)) := rfl

theorem finish_result (c : Dev nD) : finish m c (Proc.devRef .tc main_v69) = resultOf (boxes m c) (iouThr m c) (scoreThr m c) := by
  rw [finish_eq, last_result, after_of_writes_sub _ _ condOps_writes (by decide), after_of_writes_sub _ _ condOps_writes (by decide),
    after_of_writes_sub _ _ condOps_writes (by decide), atK_keeps m c (by decide) (by decide), atK_keeps m c (by decide) (by decide),
    start_boxRows, start_scoreRows, atK_agree m c 20000 main_v62_6 (by decide), (carried m c 20000).2.2.2.2.2]
  rfl

theorem finish_keeps (c : Dev nD) {r : Ref sig .tc} (h : r ∉ condOps_W) (h' : r ∉ while0Ops0_W) (h0 : r ∉ hostOps0_W) (h1 : r ∉ hostOps0_1_W)
    (h2 : r ∉ hostOps0_2_W) (h3 : r ∉ [main_v63, main_v64, main_v65, main_v66, main_v67, main_v68, main_v69]) :
    finish m c (Proc.devRef .tc r) = m ((c.tc : Thread nD τ).loc r) := by
  rw [finish_eq, after_unwritten _ rfl h3, after_of_writes_sub _ _ condOps_writes h, atK_keeps m c h h', start_eq,
    after_of_writes_sub _ _ hostOps0_2_writes h2, after_of_writes_sub _ _ hostOps0_1_writes h1, after_of_writes_sub _ _ hostOps0_writes h0]

/-- The run: the result is `resultOf` of the arguments, and the arguments are unchanged. -/
theorem run : θ_run (defs (F := F)) (onTc (τ := τ) (main (F := F))) ⟨m, fun _ => 0, ρ⟩ fun r => ∀ c : Dev nD,
      r.2.mem ((c.tc : Thread nD τ).loc main_v69) = resultOf (boxes m c) (iouThr m c) (scoreThr m c)
      ∧ r.2.mem ((c.tc : Thread nD τ).loc main_arg0) = boxes m c
      ∧ r.2.mem ((c.tc : Thread nD τ).loc main_arg1) = iouThr m c
      ∧ r.2.mem ((c.tc : Thread nD τ).loc main_arg2) = scoreThr m c :=
  (θ_run defs _ _).mono (fun _ h c => ⟨(h c main_v69 rfl).trans (finish_result m c),
      (h c main_arg0 rfl).trans (finish_keeps m c (by decide) (by decide) (by decide) (by decide) (by decide) (by decide)),
      (h c main_arg1 rfl).trans (finish_keeps m c (by decide) (by decide) (by decide) (by decide) (by decide) (by decide)),
      (h c main_arg2 rfl).trans (finish_keeps m c (by decide) (by decide) (by decide) (by decide) (by decide) (by decide))⟩)
    (run_fold m ρ)

end Cert.Proof.Plain

end
-- ==== Proof.PlainRows.lean ====
/-
  The reference over the extended reals, entry by entry: its boxes and scores in order, what a trip of its loop does to the
  marks, and that the marks after the last trip are those of greedy suppression.
-/
module

public import proofs.«01_k».proof.Proof.Rows
public import proofs.«01_k».proof.Proof.Plain
public import Idealize.ShloMosaic.Lib.DynamicIndex

@[expose] public section

set_option maxRecDepth 16384

noncomputable section

namespace Cert.Proof.Plain

open Cert.ReferenceIdeal Cert.ReferenceIdeal.Facts₀
open Idealize.ShloMosaic
open Cert.Proof.Sc (rc at1 nth)
open Cert.Proof.Read (Bx ofCentre iou ov ind Alive Sup alive_iff)

/-! ## The lookups -/

section Lookup

variable {α : Type}

theorem rows4_apply (x : S20000x4.Idx → α) (l : IVec S20000x1 32) (r : Fin 20000) (c : Fin 4) (n : Fin 20000)
    (hn : min (l (ValueIdx.ix2 r 0)).toInt.toNat 19999 = n.val) :
    Host.gather gather_S20000x4_S20000x1_S20000x4_1_0_n_n_0_1_14 x l (ValueIdx.ix2 r c) = x (ValueIdx.ix2 n c) := by
  unfold Host.gather
  refine congrArg x (funext fun a => Fin.ext ?_)
  show gather_S20000x4_S20000x1_S20000x4_1_0_n_n_0_1_14.start (ValueIdx.ix2 r c) l a + gather_S20000x4_S20000x1_S20000x4_1_0_n_n_0_1_14.batchCoord (ValueIdx.ix2 r c) a
    + gather_S20000x4_S20000x1_S20000x4_1_0_n_n_0_1_14.offCoord (ValueIdx.ix2 r c) a = _
  rw [GatherDims.batchCoord_eq_zero _ _ _ List.not_mem_nil]
  match a with
  | 0 =>
    rw [GatherDims.offCoord_eq_zero _ _ _ (fun h => ((GatherDims.mem_sKept _ _).mp h).1 (List.mem_singleton.mpr rfl))]
    unfold GatherDims.start
    rw [dif_pos (show (0 : Fin 2) ∈ gather_S20000x4_S20000x1_S20000x4_1_0_n_n_0_1_14.startIndexMap from List.mem_singleton.mpr rfl)]
    refine Eq.trans ?_ hn
    refine congrArg (fun q => min (l q).toInt.toNat 19999) (funext fun b => Fin.ext ?_)
    match b with
    | 0 => rfl
    | 1 => rfl
  | 1 =>
    unfold GatherDims.start
    rw [dif_neg (by decide)]
    unfold GatherDims.offCoord
    rw [dif_pos ((GatherDims.mem_sKept _ _).mpr ⟨by decide, List.not_mem_nil⟩)]
    show 0 + 0 + c.val = c.val
    omega

theorem rows1_apply (x : S20000.Idx → α) (l : IVec S20000x1 32) (r : Fin 20000) (n : Fin 20000)
    (hn : min (l (ValueIdx.ix2 r 0)).toInt.toNat 19999 = n.val) :
    Host.gather gather_S20000_S20000x1_S20000_n_0_n_n_0_1_1 x l (ValueIdx.ix1 r) = x (ValueIdx.ix1 n) := by
  unfold Host.gather
  refine congrArg x (funext fun a => Fin.ext ?_)
  show gather_S20000_S20000x1_S20000_n_0_n_n_0_1_1.start (ValueIdx.ix1 r) l a + gather_S20000_S20000x1_S20000_n_0_n_n_0_1_1.batchCoord (ValueIdx.ix1 r) a
    + gather_S20000_S20000x1_S20000_n_0_n_n_0_1_1.offCoord (ValueIdx.ix1 r) a = _
  rw [GatherDims.batchCoord_eq_zero _ _ _ List.not_mem_nil]
  match a with
  | 0 =>
    rw [GatherDims.offCoord_eq_zero _ _ _ (fun h => ((GatherDims.mem_sKept _ _).mp h).1 (List.mem_singleton.mpr rfl))]
    unfold GatherDims.start
    rw [dif_pos (show (0 : Fin 1) ∈ gather_S20000_S20000x1_S20000_n_0_n_n_0_1_1.startIndexMap from List.mem_singleton.mpr rfl)]
    refine Eq.trans ?_ hn
    refine congrArg (fun q => min (l q).toInt.toNat 19999) (funext fun b => Fin.ext ?_)
    match b with
    | 0 => rfl
    | 1 => rfl

theorem word_plain (v : BitVec 32) (h : v.toNat < 20000) :
    min (Scalar.select (IntOp.cmpi .slt v 0#32) (IntOp.addi v 20000#32) v).toInt.toNat 19999 = v.toNat := by
  have hs : IntOp.cmpi .slt v 0#32 = 0#1 := by
    unfold IntOp.cmpi
    simp only [BitVec.slt_eq_decide, BitVec.toInt_eq_toNat_cond, BitVec.toNat_ofNat]
    rw [decide_eq_false (by simp; omega)]; rfl
  rw [hs]
  show min v.toInt.toNat 19999 = v.toNat
  rw [BitVec.toInt_eq_toNat_cond]
  split <;> omega

end Lookup

section Places

variable {F : FTy → Type} [FloatOps F] (x : S20000x5.Idx → Elt F .f32)

theorem list_apply (r : Fin 20000) : min (rowList (F := F) (order x) (ValueIdx.ix2 r 0) : BitVec 32).toInt.toNat 19999 = (nth x r).val := by
  refine Eq.trans ?_ (word_plain (Sc.orderOf x (at1 r)) (Sc.orderOf_lt x _))
  refine congrArg (fun v : BitVec 32 => min v.toInt.toNat 19999) ?_
  unfold rowList broadcastInDim select cmpi addi constantI
  have e : ∀ q : S20000.Idx, (q 0).val = r.val → q = at1 r := fun q h => funext fun a => match a with | 0 => Fin.ext h
  exact (congrArg (fun q => Scalar.select (IntOp.cmpi .slt (Sc.orderOf x q : BitVec 32) 0#32) (IntOp.addi (Sc.orderOf x q : BitVec 32) 20000#32) (Sc.orderOf x q : BitVec 32)) (e _ rfl))

theorem boxRows_apply (r : Fin 20000) (c : Fin 4) : boxRows x (ValueIdx.ix2 r c) = corners x (ValueIdx.ix2 (nth x r) c) :=
  rows4_apply _ _ r c _ (list_apply x r)

theorem scoreRows_apply (r : Fin 20000) : scoreRows x (ValueIdx.ix1 r) = scores x (ValueIdx.ix1 (nth x r)) :=
  rows1_apply _ _ r _ (list_apply x r)

theorem scores_apply (n : Fin 20000) : scores x (ValueIdx.ix1 n) = x (rc n 4) := by
  unfold scores
  pointwise []
  refine congrArg x (funext fun c => Fin.ext ?_)
  match c with
  | 0 => rfl
  | 1 => rfl

theorem centreCol_apply (n : Fin 20000) (k : Fin 4) (h : S20000x4.Slices ![0, k.val] S20000x1) :
    centreCol x ![0, k.val] h (ValueIdx.ix1 n) = x (rc n ⟨k.val, by omega⟩) := by
  unfold centreCol
  pointwise []
  refine congrArg x (funext fun c => Fin.ext ?_)
  match c with
  | 0 => rfl
  | 1 => rfl

end Places

section Ideals

variable (x : S20000x5.Idx → Elt Ideal .f32)

/-- A box by its centre and size. -/
def boxOf (n : Fin 20000) : Bx := ofCentre (x (rc n 0)) (x (rc n 1)) (x (rc n 2)) (x (rc n 3))

theorem corners_apply (n : Fin 20000) : corners x (ValueIdx.ix2 n 0) = (boxOf x n).x1 ∧ corners x (ValueIdx.ix2 n 1) = (boxOf x n).y1
    ∧ corners x (ValueIdx.ix2 n 2) = (boxOf x n).x2 ∧ corners x (ValueIdx.ix2 n 3) = (boxOf x n).y2 := by
  refine ⟨?_, ?_, ?_, ?_⟩
  · unfold corners
    pointwise [every]
    exact congrArg₂ (fun u v => u - Ideal.div v (Ideal.ofBits .f32 0x40000000#32)) (centreCol_apply x n 0 _) (centreCol_apply x n 2 _)
  · unfold corners
    pointwise [every]
    exact congrArg₂ (fun u v => u - Ideal.div v (Ideal.ofBits .f32 0x40000000#32)) (centreCol_apply x n 1 _) (centreCol_apply x n 3 _)
  · unfold corners
    pointwise [every]
    exact congrArg₂ (fun u v => u + Ideal.div v (Ideal.ofBits .f32 0x40000000#32)) (centreCol_apply x n 0 _) (centreCol_apply x n 2 _)
  · unfold corners
    pointwise [every]
    exact congrArg₂ (fun u v => u + Ideal.div v (Ideal.ofBits .f32 0x40000000#32)) (centreCol_apply x n 1 _) (centreCol_apply x n 3 _)

/-- The box in row `r` of the order, by its corners. -/
theorem box_apply (r : Fin 20000) : boxRows x (ValueIdx.ix2 r 0) = (Sc.box x r).x1 ∧ boxRows x (ValueIdx.ix2 r 1) = (Sc.box x r).y1
    ∧ boxRows x (ValueIdx.ix2 r 2) = (Sc.box x r).x2 ∧ boxRows x (ValueIdx.ix2 r 3) = (Sc.box x r).y2 := by
  rw [boxRows_apply, boxRows_apply, boxRows_apply, boxRows_apply]
  exact corners_apply x (nth x r)

theorem score_apply (r : Fin 20000) : scoreRows x (ValueIdx.ix1 r) = x (rc (nth x r) 4) := (scoreRows_apply x r).trans (scores_apply x _)

end Ideals

/-! ## A trip of the loop -/

section Slices

variable {α : Type}

theorem slice2_apply (v : S20000x4.Idx → α) (start : Fin 2 → ℤ) (n : Fin 20000) (k : Fin 4) (h0 : start 0 = n.val) (h1 : start 1 = k.val) (j : S1x1.Idx) :
    Host.dynamicSlice S1x1 v start sliceFits_S20000x4_S1x1 j = v (ValueIdx.ix2 n k) := by
  rw [Host.dynamicSlice_apply]
  refine congrArg v (funext fun a => Fin.ext ?_)
  match a with
  | 0 =>
    have hj : (j 0).val < 1 := (j 0).isLt
    show Host.clampedStart S20000x4 S1x1 _ start 0 + (j 0).val = n.val
    rw [Host.clampedStart_of_le (s := S20000x4) (t := S1x1) rfl start 0 n.val h0 (by show n.val + 1 ≤ 20000; omega)]
    omega
  | 1 =>
    have hj : (j 1).val < 1 := (j 1).isLt
    show Host.clampedStart S20000x4 S1x1 _ start 1 + (j 1).val = k.val
    rw [Host.clampedStart_of_le (s := S20000x4) (t := S1x1) rfl start 1 k.val h1 (by show k.val + 1 ≤ 4; omega)]
    omega

theorem slice1_apply (v : S20000.Idx → α) (start : Fin 1 → ℤ) (n : Fin 20000) (h0 : start 0 = n.val) (j : S1.Idx) :
    Host.dynamicSlice S1 v start sliceFits_S20000_S1 j = v (ValueIdx.ix1 n) := by
  rw [Host.dynamicSlice_apply]
  refine congrArg v (funext fun a => Fin.ext ?_)
  match a with
  | 0 =>
    have hj : (j 0).val < 1 := (j 0).isLt
    show Host.clampedStart S20000 S1 _ start 0 + (j 0).val = n.val
    rw [Host.clampedStart_of_le (s := S20000) (t := S1) rfl start 0 n.val h0 (by show n.val + 1 ≤ 20000; omega)]
    omega

variable {F : FTy → Type} [FloatOps F]

theorem wrap_apply (n : ℕ) (hn : n < 2 ^ 31) (m : BitVec 32) (q : S_.Idx) : (wrap (F := F) (fun _ => BitVec.ofNat 32 n) m q : BitVec 32).toInt = n := by
  have e : IntOp.cmpi .slt (BitVec.ofNat 32 n) 0#32 = 0#1 := by
    unfold IntOp.cmpi
    simp only [BitVec.slt_eq_decide, BitVec.toInt_eq_toNat_cond, BitVec.toNat_ofNat]
    rw [decide_eq_false (by simp; omega)]; rfl
  show (Scalar.select (IntOp.cmpi .slt (BitVec.ofNat 32 n) 0#32) (IntOp.addi (BitVec.ofNat 32 n) m) (BitVec.ofNat 32 n)).toInt = n
  rw [e]
  show (BitVec.ofNat 32 n).toInt = n
  rw [BitVec.toInt_eq_toNat_cond, BitVec.toNat_ofNat, Nat.mod_eq_of_lt (by omega)]
  split <;> omega

theorem cornerOf_apply (b : S20000x4.Idx → Elt F .f32) (n : Fin 20000) (k : Fin 4) (j : S20000.Idx) :
    cornerOf (F := F) b (fun _ => BitVec.ofNat 32 n.val) (BitVec.ofNat 32 k.val) j = b (ValueIdx.ix2 n k) := by
  unfold cornerOf broadcastInDim shapeCast
  exact slice2_apply b _ n k (wrap_apply (F := F) n.val (by omega) _ _) (wrap_apply (F := F) k.val (by omega) _ _) _

theorem placeOf_apply (v : S20000.Idx → α) (n : Fin 20000) (q : S_.Idx) : placeOf (F := F) v (fun _ => BitVec.ofNat 32 n.val) q = v (ValueIdx.ix1 n) := by
  unfold placeOf shapeCast
  exact slice1_apply v _ n (wrap_apply (F := F) n.val (by omega) _ _) _

theorem cornerCol_apply (b : S20000x4.Idx → Elt F .f32) (n : Fin 20000) (k : Fin 4) (h : S20000x4.Slices ![0, k.val] S20000x1) :
    cornerCol b ![0, k.val] h (ValueIdx.ix1 n) = b (ValueIdx.ix2 n k) := by
  unfold cornerCol
  pointwise []
  refine congrArg b (funext fun c => Fin.ext ?_)
  match c with
  | 0 => rfl
  | 1 => rfl

end Slices

section Trip

variable (b : S20000x4.Idx → Elt Ideal .f32) (B : Fin 20000 → Bx)
  (hb : ∀ r, b (ValueIdx.ix2 r 0) = (B r).x1 ∧ b (ValueIdx.ix2 r 1) = (B r).y1 ∧ b (ValueIdx.ix2 r 2) = (B r).x2 ∧ b (ValueIdx.ix2 r 3) = (B r).y2)
  (hg : ∀ r, (B r).Good)

include hb hg in
theorem areas_apply (r : Fin 20000) : areas b (ValueIdx.ix1 r) = (B r).ar := by
  obtain ⟨h0, h1, h2, h3⟩ := hb r
  rw [hg r, ← h0, ← h1, ← h2, ← h3]
  unfold areas
  pointwise [every]
  rw [show cornerCol b ![0, 0] _ _ = _ from cornerCol_apply b r 0 _, show cornerCol b ![0, 1] _ _ = _ from cornerCol_apply b r 1 _,
    show cornerCol b ![0, 2] _ _ = _ from cornerCol_apply b r 2 _, show cornerCol b ![0, 3] _ _ = _ from cornerCol_apply b r 3 _]

include hb in
theorem overlaps_apply (i j : Fin 20000) : overlaps b (fun _ => BitVec.ofNat 32 i.val) (ValueIdx.ix1 j) = ov (B i) (B j) := by
  obtain ⟨h0, h1, h2, h3⟩ := hb i
  obtain ⟨g0, g1, g2, g3⟩ := hb j
  unfold ov
  rw [← h0, ← h1, ← h2, ← h3, ← g0, ← g1, ← g2, ← g3]
  unfold overlaps
  pointwise [every]
  rw [show cornerCol b ![0, 0] _ _ = _ from cornerCol_apply b j 0 _, show cornerCol b ![0, 1] _ _ = _ from cornerCol_apply b j 1 _,
    show cornerCol b ![0, 2] _ _ = _ from cornerCol_apply b j 2 _, show cornerCol b ![0, 3] _ _ = _ from cornerCol_apply b j 3 _,
    show cornerOf b _ 0#32 _ = _ from cornerOf_apply b i 0 _, show cornerOf b _ 1#32 _ = _ from cornerOf_apply b i 1 _,
    show cornerOf b _ 2#32 _ = _ from cornerOf_apply b i 2 _, show cornerOf b _ 3#32 _ = _ from cornerOf_apply b i 3 _]

include hb hg in
theorem shares_apply (i j : Fin 20000) : shares b (areas b) (fun _ => BitVec.ofNat 32 i.val) (ValueIdx.ix1 j) = iou (B i) (B j) := by
  unfold iou
  rw [← overlaps_apply b B hb i j, ← areas_apply b B hb hg i, ← areas_apply b B hb hg j]
  unfold shares
  pointwise [every]
  rw [placeOf_apply]

/-- A bit that is set, or not. -/
theorem bit_or (u v : BitVec 1) (p r : Prop) [Decidable p] [Decidable r] :
    IntOp.ori u (IntOp.andi (IntOp.andi (~~~v) (BitVec.ofBool (decide p))) (BitVec.ofBool (decide r))) = 1#1 ↔ u = 1#1 ∨ (¬v = 1#1 ∧ p ∧ r) := by
  have h : ∀ (u v : BitVec 1) (c d : Bool), (u ||| ((~~~v) &&& BitVec.ofBool c) &&& BitVec.ofBool d) = 1#1 ↔ u = 1#1 ∨ (¬v = 1#1 ∧ c = true ∧ d = true) := by decide
  refine (h u v (decide p) (decide r)).trans ?_
  rw [decide_eq_true_iff, decide_eq_true_iff]

variable (t : S_.Idx → Elt Ideal .f32) (q : S_.Idx)

include hb hg in
theorem trip_apply (i j : Fin 20000) (u : S20000.Idx → Elt Ideal .i1) :
    trip b (areas b) t (iotaInDim S20000 32 0) (fun _ => BitVec.ofNat 32 i.val) u (ValueIdx.ix1 j) = 1#1
      ↔ u (ValueIdx.ix1 j) = 1#1 ∨ (¬u (ValueIdx.ix1 i) = 1#1 ∧ t q < iou (B i) (B j) ∧ i.val < j.val) := by
  rw [← shares_apply b B hb hg i j, ← placeOf_apply (F := Ideal) u i q]
  have eq0 : q = ValueIdx.ix0 := funext fun a => a.elim0
  rw [eq0]
  unfold trip
  pointwise []
  rw [show IntOp.cmpi .sgt (BitVec.ofNat 32 (ValueIdx.ix1 j 0 : Fin 20000).val) (BitVec.ofNat 32 i.val) = BitVec.ofBool (decide (i.val < j.val)) from
    Read.gt_word (by show j.val < _; omega) (by omega)]
  exact bit_or _ _ _ _

end Trip

/-! ## The marks -/

section Marks

variable (x : S20000x5.Idx → Elt Ideal .f32) (a b : S_.Idx → Elt Ideal .f32)

/-- Greedy suppression keeps a row. -/
abbrev Keep (p : ℕ) : Prop := Read.Kept (Sc.bounds a b) (Sc.across x) p

/-- A mark stands at a row after `k` trips when its score is too low or a kept one of the first `k` rows suppresses it. -/
theorem marks_iff (k : ℕ) (hk : k ≤ 20000) (j : Fin 20000) : marks x a b k (ValueIdx.ix1 j) = 1#1
    ↔ Read.low (Sc.bounds a b) (Sc.across x) j.val
      ∨ ∃ i, i < k ∧ i < j.val ∧ Keep x a b i ∧ Sup (Sc.bounds a b (ValueIdx.ix1 0)) (Read.boxAt (Sc.across x)) i j.val := by
  induction k generalizing j with
  | zero =>
    have e : marks x a b 0 (ValueIdx.ix1 j) = BitVec.ofBool (decide (x (rc (nth x j) 4) ≤ b ValueIdx.ix0)) := by
      show lowRows (scoreRows x) b (ValueIdx.ix1 j) = _
      rw [← score_apply x j]
      unfold lowRows
      pointwise []
      rfl
    rw [e]
    have hl : Read.low (Sc.bounds a b) (Sc.across x) j.val ↔ x (rc (nth x j) 4) ≤ b ValueIdx.ix0 := by
      rw [← Sc.bounds_1 a b ValueIdx.ix0, ← Sc.entry_row x 4 j]
      exact Iff.rfl
    rw [hl]
    constructor
    · intro h
      refine Or.inl ?_
      by_contra hn
      rw [decide_eq_false hn] at h
      exact absurd h (by decide)
    · rintro (h | ⟨i, hi, _⟩)
      · rw [decide_eq_true h]; rfl
      · omega
  | succ k ih =>
    have hk' : k < 20000 := by omega
    have e : marks x a b (k + 1) (ValueIdx.ix1 j) = 1#1 ↔ marks x a b k (ValueIdx.ix1 j) = 1#1
        ∨ (¬marks x a b k (ValueIdx.ix1 ⟨k, hk'⟩) = 1#1 ∧ a ValueIdx.ix0 < iou (Sc.box x ⟨k, hk'⟩) (Sc.box x j) ∧ k < j.val) :=
      trip_apply (boxRows x) (Sc.box x) (box_apply x) (fun r => Read.ofCentre_good _ _ _ _) a ValueIdx.ix0 ⟨k, hk'⟩ j _
    have hkeep : ¬marks x a b k (ValueIdx.ix1 ⟨k, hk'⟩) = 1#1 ↔ Keep x a b k := by
      rw [ih (by omega) ⟨k, hk'⟩, Keep, Read.Kept, alive_iff]
      constructor
      · intro h
        exact ⟨fun hl => h (Or.inl hl), fun i hi ha hs => h (Or.inr ⟨i, hi, hi, ha, hs⟩)⟩
      · rintro ⟨h1, h2⟩ (h | ⟨i, hi, _, ha, hs⟩)
        · exact h1 h
        · exact h2 i hi ha hs
    have hsup : a ValueIdx.ix0 < iou (Sc.box x ⟨k, hk'⟩) (Sc.box x j) ↔ Sup (Sc.bounds a b (ValueIdx.ix1 0)) (Read.boxAt (Sc.across x)) k j.val := by
      unfold Sup
      rw [Sc.bounds_0 a b ValueIdx.ix0, ← Sc.box_row x ⟨k, hk'⟩, ← Sc.box_row x j]
    rw [e, ih (by omega) j, hkeep, hsup]
    constructor
    · rintro ((h | ⟨i, hi, hj, ha, hs⟩) | ⟨ha, hs, hj⟩)
      · exact Or.inl h
      · exact Or.inr ⟨i, by omega, hj, ha, hs⟩
      · exact Or.inr ⟨k, by omega, hj, ha, hs⟩
    · rintro (h | ⟨i, hi, hj, ha, hs⟩)
      · exact Or.inl (Or.inl h)
      · rcases Nat.lt_succ_iff_lt_or_eq.mp hi with hi | rfl
        · exact Or.inl (Or.inr ⟨i, hi, hj, ha, hs⟩)
        · exact Or.inr ⟨ha, hs, hj⟩

/-- After the last trip the rows without a mark are those greedy suppression keeps. -/
theorem marks_last (j : Fin 20000) : marks x a b 20000 (ValueIdx.ix1 j) = 1#1 ↔ ¬Keep x a b j.val := by
  rw [marks_iff x a b 20000 le_rfl j, Keep, Read.Kept, alive_iff]
  constructor
  · rintro (h | ⟨i, _, hj, ha, hs⟩) ⟨h1, h2⟩
    · exact h1 h
    · exact h2 i hj ha hs
  · intro h
    by_contra hn
    exact h ⟨fun hl => hn (Or.inl hl), fun i hi ha hs => hn (Or.inr ⟨i, by omega, hi, ha, hs⟩)⟩

theorem mask_apply (v : BitVec 1) (p : Prop) (h : v = 1#1 ↔ ¬p) : FloatOps.uitofp (F := Ideal) .f32 (~~~v) = ind p := by
  by_cases hp : p
  · have e : v = 0#1 := by
      have hv : ∀ v : BitVec 1, ¬v = 1#1 → v = 0#1 := by decide
      exact hv v (fun e => h.mp e hp)
    rw [e, Read.ind_true hp]
    show (((~~~(0#1)).toNat : ℝ) : EReal) = 1
    norm_num
  · rw [h.mpr hp, Read.ind_false hp]
    show (((~~~(1#1)).toNat : ℝ) : EReal) = 0
    norm_num

/-- A row of the result. -/
theorem result_apply (j : Fin 20000) :
    let k := ind (Keep x a b j.val)
    resultOf x a b (ValueIdx.ix2 j 0) = (Sc.box x j).x1 * k ∧ resultOf x a b (ValueIdx.ix2 j 1) = (Sc.box x j).y1 * k
      ∧ resultOf x a b (ValueIdx.ix2 j 2) = (Sc.box x j).x2 * k ∧ resultOf x a b (ValueIdx.ix2 j 3) = (Sc.box x j).y2 * k
      ∧ resultOf x a b (ValueIdx.ix2 j 4) = x (rc (nth x j) 4) * k := by
  obtain ⟨h0, h1, h2, h3⟩ := box_apply x j
  have hm := mask_apply _ _ (marks_last x a b j)
  dsimp only
  rw [← h0, ← h1, ← h2, ← h3, ← score_apply x j, ← hm]
  refine ⟨?_, ?_, ?_, ?_, ?_⟩
  · unfold resultOf masked
    pointwise []
    rfl
  · unfold resultOf masked
    pointwise []
    rfl
  · unfold resultOf masked
    pointwise []
    rfl
  · unfold resultOf masked
    pointwise []
    rfl
  · unfold resultOf masked
    pointwise []
    rfl

end Marks

/-! ## The two agree -/

theorem result_eq (x : S20000x5.Idx → Elt Ideal .f32) (a b : S_.Idx → Elt Ideal .f32) : Sc.resultOf x a b = resultOf x a b := by
  have hrow : ∀ (p : Fin 20000) (c : Fin 5), Sc.resultOf x a b (rc p c) = resultOf x a b (ValueIdx.ix2 p c) := by
    intro p c
    obtain ⟨h0, h1, h2, h3, h4⟩ := Read.out_row (X2 := Sc.down x) (Sc.bounds a b) (Sc.same x) (fun p q => Sc.entry_fall x p q) p.isLt
    obtain ⟨g0, g1, g2, g3, g4⟩ := result_apply x a b p
    have hc : c = 0 ∨ c = 1 ∨ c = 2 ∨ c = 3 ∨ c = 4 := by revert c; decide
    refine (Sc.back_apply _ (rc p c)).trans ?_
    rcases hc with rfl | rfl | rfl | rfl | rfl
    · exact h0.trans ((congrArg (fun B : Bx => B.x1 * _) (Sc.box_row x p)).trans g0.symm)
    · exact h1.trans ((congrArg (fun B : Bx => B.y1 * _) (Sc.box_row x p)).trans g1.symm)
    · exact h2.trans ((congrArg (fun B : Bx => B.x2 * _) (Sc.box_row x p)).trans g2.symm)
    · exact h3.trans ((congrArg (fun B : Bx => B.y2 * _) (Sc.box_row x p)).trans g3.symm)
    · exact h4.trans ((congrArg (fun v : EReal => v * _) (Sc.entry_row x 4 p)).trans g4.symm)
  funext j
  have e1 : j = rc (j 0) (j 1) := funext fun c => by
    match c with
    | 0 => rfl
    | 1 => rfl
  have e2 : j = ValueIdx.ix2 (j 0) (j 1) := funext fun c => by
    match c with
    | 0 => rfl
    | 1 => rfl
  exact (congrArg (Sc.resultOf x a b) e1).trans ((hrow (j 0) (j 1)).trans (congrArg (resultOf x a b) e2.symm))

end Cert.Proof.Plain

end
-- ==== Proof.Printed.Marks.lean ====
/-
  The counts stay within the buffers on bit patterns: every mark is the pattern of zero or of one, so a block's count is
  that of its marked rows.
-/
module

public import proofs.«01_k».proof.Proof.Printed.Model
public import Idealize.ShloMosaic.Lib.Pointwise
public import Idealize.ShloMosaic.Lib.NatWords
public import Idealize.ShloMosaic.Lib.NatWordsOrder
public import Idealize.ShloMosaic.Lib.IndicatorCount
public import Idealize.ShloMosaic.Lib.ClampedCount

@[expose] public section

set_option maxRecDepth 16384

noncomputable section

namespace Cert.Proof.Printed.Marks

open Cert.Kernel Cert.Kernel.Gen
open Idealize.ShloMosaic Idealize.ShloMosaic.Bits
open Cert.Proof.Printed.Model (slab Cols upto chan St)

/-- The pattern of zero or of one. -/
def Mark (x : Bits .f32) : Prop := x = f32OfNat 0 ∨ x = f32OfNat 1

theorem mark_num {x : Bits .f32} (h : Mark x) : ∃ n ≤ 1, x = f32OfNat n := by
  rcases h with rfl | rfl
  · exact ⟨0, by omega, rfl⟩
  · exact ⟨1, by omega, rfl⟩

theorem one_eq : (ofBits .f32 0x3F800000#32 : Bits .f32) = f32OfNat 1 := by
  rw [f32OfNat_eq 1 (by decide)]; decide

theorem mark_bit (b : BitVec 1) : Mark (FloatOps.sitofp (F := Bits) .f32 (b.setWidth 32)) := by
  have h : FloatOps.sitofp (F := Bits) .f32 (b.setWidth 32) = f32OfNat (b.setWidth 32).toNat :=
    sitofp32_eq_f32OfNat (b.setWidth 32) le_rfl (by
      have := b.isLt
      rw [BitVec.toNat_setWidth]
      have := Nat.mod_le b.toNat (2 ^ 32)
      omega)
  rw [h, BitVec.toNat_setWidth]
  have := b.isLt
  rcases (show b.toNat % 2 ^ 32 = 0 ∨ b.toNat % 2 ^ 32 = 1 by omega) with e | e
  · rw [e]; exact Or.inl rfl
  · rw [e]; exact Or.inr rfl

theorem mark_sub {x : Bits .f32} (h : Mark x) : Mark (FloatOps.subf (ofBits .f32 0x3F800000#32 : Bits .f32) x) := by
  rw [one_eq]
  rcases h with rfl | rfl
  · exact Or.inr (subf32_nat 1 0 (by decide) (by decide))
  · exact Or.inl (subf32_nat 1 1 (by decide) (by decide))

theorem mark_mul {x y : Bits .f32} (hx : Mark x) (hy : Mark y) : Mark (FloatOps.mulf x y) := by
  have h : ∀ a b, a ≤ 1 → b ≤ 1 → FloatOps.mulf (f32OfNat a : Bits .f32) (f32OfNat b) = f32OfNat (a * b) := fun a b ha hb =>
    mulf32_nat a b (by omega) (by omega) (lt_of_le_of_lt (Nat.mul_le_mul ha hb) (by decide))
  rcases hx with rfl | rfl <;> rcases hy with rfl | rfl <;> rw [h _ _ (by decide) (by decide)]
  · exact Or.inl rfl
  · exact Or.inl rfl
  · exact Or.inl rfl
  · exact Or.inr rfl

theorem mark_max {x y : Bits .f32} (hx : Mark x) (hy : Mark y) : Mark (FloatOps.maximumf x y) := by
  rcases hx with rfl | rfl <;> rcases hy with rfl | rfl
  · exact Or.inl (maxf32_nat (a := 0) (b := 0) (by decide) (by decide))
  · exact Or.inr (maxf32_nat (a := 0) (b := 1) (by decide) (by decide))
  · exact Or.inr (maxf32_nat (a := 1) (b := 0) (by decide) (by decide))
  · exact Or.inr (maxf32_nat (a := 1) (b := 1) (by decide) (by decide))

/-! ## The block's marks -/

abbrev Marks {s : Shape} (v : FVec Bits s .f32) : Prop := ∀ i, Mark (v i)

variable (M : FVec Bits S1024x1024 .f32) {d a : FVec Bits S1x1024 .f32}

theorem pay6_eq : ∃ b : S1x1024.Idx → BitVec 1, ∀ i, k1_pay6 M d a i
    = FloatOps.maximumf (a i) (FloatOps.mulf (FloatOps.subf (ofBits .f32 0x3F800000#32 : Bits .f32) (d i)) (FloatOps.sitofp .f32 ((b i).setWidth 32))) :=
  ⟨_, fun _ => rfl⟩

theorem marks6 (hd : Marks d) (ha : Marks a) : Marks (k1_pay6 M d a) := fun i => by
  obtain ⟨b, e⟩ := pay6_eq M (d := d) (a := a)
  rw [e]
  exact mark_max (ha i) (mark_mul (mark_sub (hd i)) (mark_bit _))

theorem pay7_eq : ∃ b : S1x1024.Idx → BitVec 1, ∀ i, k1_pay7 M d a i
    = FloatOps.maximumf (d i) (FloatOps.mulf (FloatOps.sitofp .f32 ((b i).setWidth 32)) (FloatOps.subf (ofBits .f32 0x3F800000#32 : Bits .f32) (k1_pay6 M d a i))) :=
  ⟨_, fun _ => rfl⟩

theorem marks7 (hd : Marks d) (ha : Marks a) : Marks (k1_pay7 M d a) := fun i => by
  obtain ⟨b, e⟩ := pay7_eq M (d := d) (a := a)
  rw [e]
  exact mark_max (hd i) (mark_mul (mark_bit _) (mark_sub (marks6 M hd ha i)))

theorem marks_fix : ∀ (m : ℕ) (d a : FVec Bits S1x1024 .f32), Marks d → Marks a → Marks (Model.fixRun M m d a).2
  | 0, _, _, _, ha => ha
  | m + 1, d, a, hd, ha => by
    rw [Model.fixRun]
    split
    · exact marks_fix m _ _ (marks7 M hd ha) (marks6 M hd ha)
    · exact ha

theorem marks0 : Marks (k1_pay42 (F := Bits)) := fun i => by
  show Mark (ofBits .f32 0x00000000#32 : Bits .f32)
  exact Or.inl f32OfNat_zero.symm

theorem dead0_eq (H : FVec Bits S1024x1024 .f32) (h : FVec Bits S1024x1 .f32) (s : FVec Bits S1x1x1024 .f32) : ∃ (b : S1x1024.Idx → BitVec 1)
    (f : S1x1024.Idx → S1x1x1024.Idx), ∀ i, k1_pay41 (k1_pay36 H h) (k1_pay40 s) i = FloatOps.maximumf (s (f i)) (FloatOps.sitofp .f32 ((b i).setWidth 32)) :=
  ⟨_, _, fun _ => rfl⟩

theorem marks_dead0 (thr : Bits .f32) (t : Cols Bits) (c : FVec Bits S5x80x1x256 .f32) (g : ℕ) (s : FVec Bits S1x1x1024 .f32) (hs : Marks s) :
    Marks (Model.dead0 thr t c g s) := fun i => by
  obtain ⟨b, f, e⟩ := dead0_eq (k1_pay117 (F := Bits)) (Model.hits thr t c g) s
  unfold Model.dead0
  rw [e]
  exact mark_max (hs _) (mark_bit _)

theorem pay43_eq (v : FVec Bits S1x1024 .f32) : ∃ f : S1x1x1024.Idx → S1x1024.Idx, ∀ i, k1_pay43 v i
    = FloatOps.subf (ofBits .f32 0x3F800000#32 : Bits .f32) (v (f i)) :=
  ⟨_, fun _ => rfl⟩

theorem start_eq (X0 : FVec Bits S2 .f32) (X1 : FVec Bits S5x20x1x1024 .f32) : ∃ b : S20x1x1024.Idx → BitVec 1, ∀ i, (Model.start X0 X1).sup i
    = FloatOps.sitofp .f32 ((b i).setWidth 32) :=
  ⟨_, fun _ => rfl⟩

variable (thr : Bits .f32) (D : FVec Bits S5x20x1x1024 .f32) (C : FVec Bits S5x1024x128 .f32) (n : BitVec 32) (k : Fin (k1_t1_loop n).trips) {st : St Bits}

theorem marks_alive (hs : Marks st.sup) : Marks (Model.aliveOf thr D C n k st) :=
  marks_fix _ _ _ _ (marks_dead0 _ _ _ _ _ fun _ => hs _) marks0

theorem marks_trip (hs : Marks st.sup) : Marks (Model.trip thr D C n k st).sup := fun i => by
  have ha := marks_alive thr D C n k hs
  show Mark (VecWindow.put st.sup ![k.val, 0, 0] S1x1x1024.size (k1_pay43 (Model.aliveOf thr D C n k st)) i)
  unfold VecWindow.put
  split
  · obtain ⟨f, e⟩ := pay43_eq (Model.aliveOf thr D C n k st)
    rw [e]
    exact mark_sub (ha _)
  · exact hs i

/-! ## The counts -/

theorem count_le {v : FVec Bits S1x1024 .f32} (hv : Marks v) : Model.countOf v ≤ 1024 := by
  obtain ⟨f, hf⟩ : ∃ f : S1x1x1024.Idx → S1x1024.Idx, shapeCast S1x1x1024 v shapeCasts_S1x1024_S1x1x1024 = fun i => v (f i) := ⟨_, rfl⟩
  choose m hm using fun i => mark_num (hv (f i))
  have hcard : (Finset.univ : Finset S1x1x1024.Idx).card ≤ 1024 := by
    have h := Finset.card_le_card_of_injOn (s := (Finset.univ : Finset S1x1x1024.Idx)) (t := Finset.range 1024) (fun x => (x 2).val)
      (fun x _ => by
        have h3 : (x 2).val < 1024 := (x 2).isLt
        simp only [Finset.coe_range, Set.mem_Iio]
        omega)
      (fun x _ y _ e => by
        have e' : (x 2).val = (y 2).val := e
        have h0 : (x 0).val < 1 := (x 0).isLt
        have h0' : (y 0).val < 1 := (y 0).isLt
        have h2 : (x 1).val < 1 := (x 1).isLt
        have h2' : (y 1).val < 1 := (y 1).isLt
        funext a
        refine Fin.ext ?_
        match a with
        | 0 => show (x 0).val = (y 0).val; omega
        | 1 => show (x 1).val = (y 1).val; omega
        | 2 => show (x 2).val = (y 2).val; omega)
    rwa [Finset.card_range] at h
  have hsum : ∀ S : Finset S1x1x1024.Idx, S.sum m ≤ 1024 := fun S => by
    refine (Finset.sum_le_card_nsmul S m 1 fun i _ => (hm i).1).trans ?_
    rw [smul_eq_mul, mul_one]
    exact (Finset.card_le_card (Finset.subset_univ S)).trans hcard
  have e : ∃ j, k1_pay44 v = multiReduction (F := Bits) .add [1, 2] S1 (fun i => v (f i)) 0x00000000#32 reduces_S1x1x1024_S1 (.inl rfl) rfl j := by
    rw [← hf]; exact ⟨_, rfl⟩
  obtain ⟨j, e⟩ := e
  rw [multiReduction_add_nat _ reduces_S1x1x1024_S1 (fun i => v (f i)) j m (fun i _ => by
      show natOfF32? (v (f i)) = some (m i)
      rw [(hm i).2]; exact natOfF32?_f32OfNat _ (by have := (hm i).1; omega))
    (lt_of_le_of_lt (hsum _) (by decide))] at e
  unfold Model.countOf
  rw [e]
  have hlt := hsum (reduceFiber reduces_S1x1x1024_S1 j)
  show (fptosi32 32 (f32OfNat _)).toNat ≤ 1024
  rw [fptosi32_nat _ (lt_of_le_of_lt hlt (by decide)), BitVec.toNat_ofNat]
  exact (Nat.mod_le _ _).trans hlt

theorem above_eq (X0 : FVec Bits S2 .f32) (X1 : FVec Bits S5x20x1x1024 .f32) : ∃ (p : S1x20x1x1024.Idx → BitVec 1) (S : Finset S1x20x1x1024.Idx),
    Model.nAbove X0 X1 = (S.fold IntOp.addi (0#32) fun i => (p i).setWidth 32).toNat := by
  unfold Model.nAbove
  pointwise [k1_pay115]
  exact ⟨fun i => _, _, rfl⟩

theorem above_le (X0 : FVec Bits S2 .f32) (X1 : FVec Bits S5x20x1x1024 .f32) : Model.nAbove X0 X1 ≤ 20480 := by
  obtain ⟨p, S, e⟩ := above_eq X0 X1
  have hcard : (Finset.univ : Finset S1x20x1x1024.Idx).card ≤ 20480 := by
    have h := Finset.card_le_card_of_injOn (s := (Finset.univ : Finset S1x20x1x1024.Idx)) (t := Finset.range 20480) (fun x => 1024 * (x 1).val + (x 3).val)
      (fun x _ => by
        have h1 : (x 1).val < 20 := (x 1).isLt
        have h3 : (x 3).val < 1024 := (x 3).isLt
        simp only [Finset.coe_range, Set.mem_Iio]
        omega)
      (fun x _ y _ e => by
        have e' : 1024 * (x 1).val + (x 3).val = 1024 * (y 1).val + (y 3).val := e
        have h3 : (x 3).val < 1024 := (x 3).isLt
        have h3' : (y 3).val < 1024 := (y 3).isLt
        have h0 : (x 0).val < 1 := (x 0).isLt
        have h0' : (y 0).val < 1 := (y 0).isLt
        have h2 : (x 2).val < 1 := (x 2).isLt
        have h2' : (y 2).val < 1 := (y 2).isLt
        funext a
        refine Fin.ext ?_
        match a with
        | 0 => show (x 0).val = (y 0).val; omega
        | 1 => show (x 1).val = (y 1).val; omega
        | 2 => show (x 2).val = (y 2).val; omega
        | 3 => show (x 3).val = (y 3).val; omega)
    rwa [Finset.card_range] at h
  rw [e, IndicatorCount.fold_addi_setWidth_eq_card, BitVec.toNat_ofNat]
  exact (Nat.mod_le _ _).trans ((Finset.card_filter_le _ _).trans ((Finset.card_le_card (Finset.subset_univ S)).trans hcard))

section Whole
variable (X0 : FVec Bits S2 .f32) (X1 : FVec Bits S5x20x1x1024 .f32) (X2 : FVec Bits S4x1024x128 .f32)

theorem state_marks : ∀ m ≤ (k1_t1_loop (BitVec.ofNat 32 (Model.nBlocks X0 X1))).trips, Marks (Model.state X0 X1 X2 m).sup ∧ (Model.state X0 X1 X2 m).g ≤ 1024 * m
  | 0, _ => by
    obtain ⟨b, e⟩ := start_eq X0 X1
    exact ⟨fun i => by show Mark ((Model.start X0 X1).sup i); rw [e]; exact mark_bit _, Nat.zero_le _⟩
  | m + 1, hm => by
    obtain ⟨ih, hg⟩ := state_marks m (by omega)
    have e : Model.state X0 X1 X2 (m + 1) = Model.trip (Model.thr X0) (Model.boxes X1) (Model.colBoxes X2) _ ⟨m, hm⟩ (Model.state X0 X1 X2 m) :=
      Model.upto_succ _ _ ⟨m, hm⟩
    rw [e]
    refine ⟨marks_trip _ _ _ _ _ ih, ?_⟩
    show (Model.state X0 X1 X2 m).g + Model.countOf (Model.aliveOf _ _ _ _ ⟨m, hm⟩ _) ≤ _
    have := count_le (marks_alive (Model.thr X0) (Model.boxes X1) (Model.colBoxes X2) _ ⟨m, hm⟩ ih)
    omega

/-- The counts stay within the buffers. -/
theorem fits : Model.Fits X0 X1 X2 where
  above := above_le X0 X1
  kept k := by
    have hb : Model.nBlocks X0 X1 ≤ 20 := by
      have := above_le X0 X1
      unfold Model.nBlocks
      omega
    have hk : k.val < Model.nBlocks X0 X1 := lt_of_lt_of_eq k.isLt (Words.t1_trips hb)
    obtain ⟨ih, hg⟩ := state_marks X0 X1 X2 k.val k.isLt.le
    have := count_le (marks_alive (Model.thr X0) (Model.boxes X1) (Model.colBoxes X2) _ k ih)
    omega

end Whole

end Cert.Proof.Printed.Marks

end
-- ==== Proof.Value.lean ====
/-
  The claims: the three frames, and that the kernel returns what the reference's greedy suppression returns.
-/
module

public import proofs.«01_k».proof.Proof.PlainRows
public import proofs.«01_k».proof.Proof.Printed.Main
public import proofs.«01_k».proof.Proof.Printed.Marks
public import proofs.«01_k».proof.Proof.Gen.Kernel
public import proofs.«01_k».proof.Proof.Gen.ReferenceIdeal
public import Idealize.ShloMosaic.Lib.Quiescent

@[expose] public section

noncomputable section

namespace Cert.Proof

open Idealize.ShloMosaic Idealize.SL.Sem

theorem frame_kernelIdeal : Cert.quiescent_KernelIdeal := fun m ρ _ =>
  (θ_run Cert.KernelIdeal.defs _ _).mono (fun _ h => ⟨fun c => (h.1 c).2, h.2⟩) (Sc.run_main (F := Ideal) m ρ fun _ => Sc.fits_ideal _ _ _)

theorem frame_kernel : Cert.quiescent_Kernel := fun m ρ _ =>
  (θ_run Cert.Kernel.defs _ _).mono (fun _ h => ⟨fun c => (h.1 c).2, h.2⟩) (Printed.Sc.run_main (F := Bits) m ρ fun _ => Printed.Marks.fits _ _ _)

theorem frame_reference : Cert.quiescent_ReferenceIdeal := fun m ρ _ =>
  (θ_run Cert.ReferenceIdeal.defs _ _).mono (fun r h => ⟨fun c => (h c).2, sem_eq_zero_of_no_sems rfl r.2⟩)
    (Plain.run (F := Ideal) m ρ)

theorem value : Cert.algebraic_KernelIdeal_ReferenceIdeal := fun m ρ m' ρ' _ hm =>
  ⟨fun c => Sc.resultOf (Sc.boxes m c) (Sc.iouThr m c) (Sc.scoreThr m c),
    (θ_run Cert.KernelIdeal.defs _ _).mono (fun _ h c => h.1 c) (Sc.run_main (F := Ideal) m ρ fun _ => Sc.fits_ideal _ _ _),
    (θ_run Cert.ReferenceIdeal.defs _ _).mono
      (fun r h c => ⟨(h c).1.trans (by
        rw [show Plain.boxes m' c = Sc.boxes m c from (hm c).1, show Plain.iouThr m' c = Sc.iouThr m c from (hm c).2.1,
          show Plain.scoreThr m' c = Sc.scoreThr m c from (hm c).2.2]
        exact (Plain.result_eq _ _ _).symm), (h c).2⟩)
      (Plain.run (F := Ideal) m' ρ')⟩

end Cert.Proof

end
-- ==== Proof.lean ====
/-
  The proof of the certificate's claim: the frames of the kernel, of the kernel at ideal values and of the reference,
  and the agreement of the results of the last two.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Value

@[expose] public section

noncomputable section

namespace Cert.Proof

theorem claim : Cert.Claim :=
  ⟨Cert.Kernel.Gen.facts, Cert.KernelIdeal.Gen.facts, Cert.ReferenceIdeal.Gen.facts,
    frame_kernel, frame_kernelIdeal, frame_reference, trivial, value⟩

end Cert.Proof

end
